-- ==== Defs.lean ====
def Pre_Kernel [hPre_slots_apart : Cert.Pre_slots_apart.Facts] (m : (ℓ : Loc Cert.Kernel.nD Cert.Kernel.τ Cert.Kernel.sig) → Buf (Elt Bits) ℓ) : Prop :=
  ∀ c : Dev Cert.Kernel.nD,
    (Cert.Pre_slots_apart.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_slots_apart : Cert.Pre_slots_apart.Facts] (m : (ℓ : Loc Cert.KernelIdeal.nD Cert.KernelIdeal.τ Cert.KernelIdeal.sig) → Buf (Elt Ideal) ℓ) : Prop :=
  ∀ c : Dev Cert.KernelIdeal.nD,
    (Cert.Pre_slots_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_slots_apart : Cert.Pre_slots_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_slots_apart : Cert.Pre_slots_apart.Facts] (m : (ℓ : Loc Cert.Reference.nD Cert.Reference.τ Cert.Reference.sig) → Buf (Elt Bits) ℓ) : Prop :=
  ∀ c : Dev Cert.Reference.nD,
    (Cert.Pre_slots_apart.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 [hPre_counted : Cert.Pre_counted.Facts] (m : (ℓ : Loc Cert.Kernel2.nD Cert.Kernel2.τ Cert.Kernel2.sig) → Buf (Elt Bits) ℓ) : Prop :=
  ∀ c : Dev Cert.Kernel2.nD,
    (Cert.Pre_counted.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_counted : Cert.Pre_counted.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counted.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_counted : Cert.Pre_counted.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counted.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_slots_named : Cert.Pre_slots_named.Facts] (m : (ℓ : Loc Cert.Kernel4.nD Cert.Kernel4.τ Cert.Kernel4.sig) → Buf (Elt Bits) ℓ) : Prop :=
  ∀ c : Dev Cert.Kernel4.nD,
    (Cert.Pre_slots_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_slots_named : Cert.Pre_slots_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_slots_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal [hPre_slots_named : Cert.Pre_slots_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_slots_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] [hPre_slots_apart : Cert.Pre_slots_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_slots_apart : Cert.Pre_slots_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_slots_apart : Cert.Pre_slots_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_slots_apart : Cert.Pre_slots_apart.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_counted : Cert.Pre_counted.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_counted : Cert.Pre_counted.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_slots_named : Cert.Pre_slots_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_slots_named : Cert.Pre_slots_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] [hPre_slots_named : Cert.Pre_slots_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_apart : Cert.Pre_slots_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_slots_apart : Cert.Pre_slots_apart.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v51)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v51) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] [hPre_slots_named : Cert.Pre_slots_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_slots_apart : Cert.Pre_slots_apart.Facts) (hPre_counted : Cert.Pre_counted.Facts) (hPre_slots_named : Cert.Pre_slots_named.Facts),
    quiescent_Kernel (hKernel := hKernel) (hPre_slots_apart := hPre_slots_apart)
    ∧ quiescent_KernelIdeal (hKernelIdeal := hKernelIdeal) (hPre_slots_apart := hPre_slots_apart)
    ∧ quiescent_ReferenceIdeal (hReferenceIdeal := hReferenceIdeal) (hPre_slots_apart := hPre_slots_apart)
    ∧ quiescent_Reference (hReference := hReference) (hPre_slots_apart := hPre_slots_apart)
    ∧ quiescent_Kernel2 (hKernel2 := hKernel2) (hPre_counted := hPre_counted)
    ∧ quiescent_Kernel2Ideal (hKernel2Ideal := hKernel2Ideal) (hPre_counted := hPre_counted)
    ∧ quiescent_Reference2Ideal (hReference2Ideal := hReference2Ideal) (hPre_counted := hPre_counted)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_slots_named := hPre_slots_named)
    ∧ quiescent_Kernel4Ideal (hKernel4Ideal := hKernel4Ideal) (hPre_slots_named := hPre_slots_named)
    ∧ quiescent_Reference4Ideal (hReference4Ideal := hReference4Ideal) (hPre_slots_named := hPre_slots_named)
    ∧ preserves_Kernel_KernelIdeal
    ∧ algebraic_KernelIdeal_ReferenceIdeal (hKernelIdeal := hKernelIdeal) (hReferenceIdeal := hReferenceIdeal) (hPre_slots_apart := hPre_slots_apart)
    ∧ bitexact_Kernel_Reference (hKernel := hKernel) (hReference := hReference) (hPre_slots_apart := hPre_slots_apart)
    ∧ preserves_Kernel2_Kernel2Ideal
    ∧ algebraic_Kernel2Ideal_Reference2Ideal (hKernel2Ideal := hKernel2Ideal) (hReference2Ideal := hReference2Ideal) (hPre_counted := hPre_counted)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_slots_named := hPre_slots_named)
-- ==== Pre_counted.lean ====
abbrev S32 : Shape := ⟨1, ![32]⟩
abbrev S393216x128 : Shape := ⟨2, ![393216, 128]⟩
abbrev S32x1024x512 : Shape := ⟨3, ![32, 1024, 512]⟩
abbrev S32x512x1024 : Shape := ⟨3, ![32, 512, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S393216x128 .f32) (main_arg2 : FVec F S32x1024x512 .f32) (main_arg3 : FVec F S32x1024x512 .f32) (main_arg4 : FVec F S32x512x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 32768#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg0 main_c_1
  let main_c_2 : IVec S_ 32 := constantI S_ 32 32768#32
  let main_v6 : IVec S_ 1 := cmpi .eq main_v5 main_c_2
  let main_v7 : IVec S32 1 := broadcastInDim S32 ![] bcast_S_S32 main_v6
  let main_v8 : IVec S32 1 := andi main_v4 main_v7
  main_v8
-- ==== Pre_slots_apart.lean ====
abbrev S16384x2 : Shape := ⟨2, ![16384, 2]⟩
abbrev S131072x128 : Shape := ⟨2, ![131072, 128]⟩
abbrev S393216x128 : Shape := ⟨2, ![393216, 128]⟩
abbrev S32768 : Shape := ⟨1, ![32768]⟩
abbrev S_ : Shape := ⟨0, ![]⟩
abbrev S32768x1 : Shape := ⟨2, ![32768, 1]⟩
abbrev S1x32768 : Shape := ⟨2, ![1, 32768]⟩
abbrev S32768x32768 : Shape := ⟨2, ![32768, 32768]⟩

class Facts : Prop where
  shapeCasts_S16384x2_S32768 : S16384x2.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)

variable [Facts]

def fn {F : FTy → Type} [FloatOps F] (main_arg0 : IVec S16384x2 32) (main_arg1 : FVec F S131072x128 .f32) (main_arg2 : FVec F S393216x128 .f32) : IVec S32768x32768 1 :=
  let main_v0 : IVec S32768 32 := shapeCast S32768 main_arg0 shapeCasts_S16384x2_S32768
  let main_c : IVec S_ 32 := constantI S_ 32 0#32
  let main_v1 : IVec S32768 32 := broadcastInDim S32768 ![] bcast_S_S32768 main_c
  let main_v2 : IVec S32768 1 := cmpi .sge main_v0 main_v1
  let main_c_0 : IVec S_ 32 := constantI S_ 32 49152#32
  let main_v3 : IVec S32768 32 := broadcastInDim S32768 ![] bcast_S_S32768 main_c_0
  let main_v4 : IVec S32768 1 := cmpi .slt main_v0 main_v3
  let main_v5 : IVec S32768 1 := andi main_v2 main_v4
  let main_v6 : IVec S32768 32 := iotaInDim S32768 32 0
  let main_v7 : IVec S32768x1 32 := broadcastInDim S32768x1 ![0] bcast_S32768_S32768x1_0 main_v0
  let main_v8 : IVec S1x32768 32 := broadcastInDim S1x32768 ![1] bcast_S32768_S1x32768_1 main_v0
  let main_v9 : IVec S32768x32768 32 := broadcastInDim S32768x32768 ![0, 1] bcast_S32768x1_S32768x32768_0_1 main_v7
  let main_v10 : IVec S32768x32768 32 := broadcastInDim S32768x32768 ![0, 1] bcast_S1x32768_S32768x32768_0_1 main_v8
  let main_v11 : IVec S32768x32768 1 := cmpi .ne main_v9 main_v10
  let main_v12 : IVec S32768x1 32 := broadcastInDim S32768x1 ![0] bcast_S32768_S32768x1_0 main_v6
  let main_v13 : IVec S1x32768 32 := broadcastInDim S1x32768 ![1] bcast_S32768_S1x32768_1 main_v6
  let main_v14 : IVec S32768x32768 32 := broadcastInDim S32768x32768 ![0, 1] bcast_S32768x1_S32768x32768_0_1 main_v12
  let main_v15 : IVec S32768x32768 32 := broadcastInDim S32768x32768 ![0, 1] bcast_S1x32768_S32768x32768_0_1 main_v13
  let main_v16 : IVec S32768x32768 1 := cmpi .eq main_v14 main_v15
  let main_v17 : IVec S32768x32768 1 := ori main_v11 main_v16
  let main_v18 : IVec S32768x1 1 := broadcastInDim S32768x1 ![0] bcast_S32768_S32768x1_0 main_v5
  let main_v19 : IVec S32768x32768 1 := broadcastInDim S32768x32768 ![0, 1] bcast_S32768x1_S32768x32768_0_1 main_v18
  let main_v20 : IVec S32768x32768 1 := andi main_v19 main_v17
  main_v20
-- ==== Pre_slots_named.lean ====
abbrev S16384x2 : Shape := ⟨2, ![16384, 2]⟩
abbrev S16384x128 : Shape := ⟨2, ![16384, 128]⟩
abbrev S16384x1024 : Shape := ⟨2, ![16384, 1024]⟩
abbrev S1024 : Shape := ⟨1, ![1024]⟩
abbrev S393216x128 : Shape := ⟨2, ![393216, 128]⟩
abbrev S_ : Shape := ⟨0, ![]⟩

class Facts : Prop where
  bcast_S_S16384x2 : S_.BroadcastsInDim S16384x2 (![] : Fin 0 → Fin S16384x2.rank)

variable [Facts]

def fn {F : FTy → Type} [FloatOps F] (main_arg0 : IVec S16384x2 32) (main_arg1 : FVec F S16384x128 .f32) (main_arg2 : FVec F S16384x1024 .f32) (main_arg3 : FVec F S1024 .f32) (main_arg4 : FVec F S393216x128 .f32) : IVec S16384x2 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 49152#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  main_v4
-- ==== Kernel.lean ====
abbrev S16384x2 : Shape := ⟨2, ![16384, 2]⟩
abbrev S131072x128 : Shape := ⟨2, ![131072, 128]⟩
abbrev S393216x128 : Shape := ⟨2, ![393216, 128]⟩
abbrev S32768 : Shape := ⟨1, ![32768]⟩
abbrev S1024 : Shape := ⟨1, ![1024]⟩
abbrev S4096x128 : Shape := ⟨2, ![4096, 128]⟩
abbrev S_ : Shape := ⟨0, ![]⟩
abbrev S1 : Shape := ⟨1, ![1]⟩
abbrev S8x128 : Shape := ⟨2, ![8, 128]⟩

abbrev nBuf : Space → Nat
  | .hbm => 5
  | .vmem => 2
  | .smem => 2
  | _ => 0

abbrev bufTy : (tb : Table) → Fin (tcTables nBuf tb) → BufTy
  | .hbm, ⟨0, _⟩ => ⟨S16384x2, .i32⟩
  | .hbm, ⟨1, _⟩ => ⟨S131072x128, .f32⟩
  | .hbm, ⟨2, _⟩ => ⟨S393216x128, .f32⟩
  | .hbm, ⟨3, _⟩ => ⟨S32768, .i32⟩
  | .hbm, ⟨4, _⟩ => ⟨S393216x128, .f32⟩
  | .local _ .vmem, ⟨0, _⟩ => ⟨S4096x128, .f32⟩
  | .local _ .vmem, ⟨1, _⟩ => ⟨S4096x128, .f32⟩
  | .local _ .smem, ⟨0, _⟩ => ⟨S1024, .i32⟩
  | .local _ .smem, ⟨1, _⟩ => ⟨S1024, .i32⟩
  | _, _ => ⟨S16384x2, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 1 → Nat :=
  let c2_i32 : BitVec 32 := 2#32
  let c0_i32 : BitVec 32 := 0#32
  let c1_i32 : BitVec 32 := 1#32
  let arg6 : BitVec 32 := Scf.iv c0_i32 c1_i32 k0_t1
  let v5 : BitVec 32 := Scalar.muli c2_i32 arg6
  let v6 : Index := Scalar.indexCast v5
  ![v6.toNat]
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v8 : BitVec 32 := Scalar.muli arg6 c8_i32
  v8
def k0_mult2 (v7 : BitVec 32) : BitVec 32 :=
  let c8_i32_5 : BitVec 32 := 8#32
  let v10 : BitVec 32 := Scalar.muli v7 c8_i32_5
  v10

def k0_off2 (v7 : BitVec 32) : Fin 2 → Nat :=
  let c8_i32_5 : BitVec 32 := 8#32
  let v10 : BitVec 32 := Scalar.muli v7 c8_i32_5
  let v11 : BitVec 32 := v10
  let c0_i32_6 : BitVec 32 := 0#32
  ![v11.toNat, 0]

def k0_chk1 (v7 : BitVec 32) : Prop :=
  (8 ∣ (k0_mult2 v7).toNat) ∧
  (∀ a, (k0_off2 v7) a + S8x128.size a ≤ S393216x128.size a)
theorem k0_mult2_dvd : ∀ (v7 : BitVec 32) (k0_hw1 : k0_chk1 v7), 8 ∣ (k0_mult2 v7).toNat := fun v7 k0_hw1 => k0_hw1.1
theorem k0_off2_inb : ∀ (v7 : BitVec 32) (k0_hw1 : k0_chk1 v7), ∀ a, (k0_off2 v7) a + S8x128.size a ≤ S393216x128.size a := fun v7 k0_hw1 => k0_hw1.2

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v8 : BitVec 32 := Scalar.muli arg6 c8_i32
  let v9 : BitVec 32 := v8
  let c0_i32_7 : BitVec 32 := 0#32
  ![v9.toNat, 0]
def k0_off4 (k0_t1 : Fin k0_t1_loop.trips) : Fin 1 → Nat :=
  let c2_i32_8 : BitVec 32 := 2#32
  let c0_i32 : BitVec 32 := 0#32
  let c1_i32 : BitVec 32 := 1#32
  let arg6 : BitVec 32 := Scf.iv c0_i32 c1_i32 k0_t1
  let v14 : BitVec 32 := Scalar.muli c2_i32_8 arg6
  let c1_i32_9 : BitVec 32 := 1#32
  let v15 : BitVec 32 := Scalar.addi v14 c1_i32_9
  let v16 : Index := Scalar.indexCast v15
  ![v16.toNat]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_10 : BitVec 32 := 8#32
  let v18 : BitVec 32 := Scalar.muli arg6 c8_i32_10
  v18
def k0_mult4 (v17 : BitVec 32) : BitVec 32 :=
  let c8_i32_11 : BitVec 32 := 8#32
  let v20 : BitVec 32 := Scalar.muli v17 c8_i32_11
  v20

def k0_off5 (v17 : BitVec 32) : Fin 2 → Nat :=
  let c8_i32_11 : BitVec 32 := 8#32
  let v20 : BitVec 32 := Scalar.muli v17 c8_i32_11
  let v21 : BitVec 32 := v20
  let c0_i32_12 : BitVec 32 := 0#32
  ![v21.toNat, 0]

def k0_chk2 (v17 : BitVec 32) : Prop :=
  (8 ∣ (k0_mult4 v17).toNat) ∧
  (∀ a, (k0_off5 v17) a + S8x128.size a ≤ S393216x128.size a)
theorem k0_mult4_dvd : ∀ (v17 : BitVec 32) (k0_hw2 : k0_chk2 v17), 8 ∣ (k0_mult4 v17).toNat := fun v17 k0_hw2 => k0_hw2.1
theorem k0_off5_inb : ∀ (v17 : BitVec 32) (k0_hw2 : k0_chk2 v17), ∀ a, (k0_off5 v17) a + S8x128.size a ≤ S393216x128.size a := fun v17 k0_hw2 => k0_hw2.2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_10 : BitVec 32 := 8#32
  let v18 : BitVec 32 := Scalar.muli arg6 c8_i32_10
  let v19 : BitVec 32 := v18
  let c0_i32_13 : BitVec 32 := 0#32
  ![v19.toNat, 0]
def k0_mult5 : BitVec 32 :=
  let c0_i32_1 : BitVec 32 := 0#32
  c0_i32_1
def k0_mult6 : BitVec 32 :=
  let c0_i32_3 : BitVec 32 := 0#32
  c0_i32_3
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x2 : Shape := ⟨2, ![16384, 2]⟩
abbrev S131072x128 : Shape := ⟨2, ![131072, 128]⟩
abbrev S393216x128 : Shape := ⟨2, ![393216, 128]⟩
abbrev S49152x1024 : Shape := ⟨2, ![49152, 1024]⟩
abbrev S16384x1024 : Shape := ⟨2, ![16384, 1024]⟩
abbrev S16384x1 : Shape := ⟨2, ![16384, 1]⟩
abbrev S16384 : Shape := ⟨1, ![16384]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S131072x128, .f32⟩
  | .hbm, ⟨2, _⟩ => ⟨S393216x128, .f32⟩
  | .hbm, ⟨3, _⟩ => ⟨S49152x1024, .f32⟩
  | .hbm, ⟨4, _⟩ => ⟨S16384x1024, .f32⟩
  | .hbm, ⟨5, _⟩ => ⟨S16384x1, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S49152x1024, .f32⟩
  | .hbm, ⟨16, _⟩ => ⟨S16384x1, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S49152x1024, .f32⟩
  | .hbm, ⟨27, _⟩ => ⟨S393216x128, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S32 : Shape := ⟨1, ![32]⟩
abbrev S393216x128 : Shape := ⟨2, ![393216, 128]⟩
abbrev S32x1024x512 : Shape := ⟨3, ![32, 1024, 512]⟩
abbrev S32x512x1024 : Shape := ⟨3, ![32, 512, 1024]⟩
abbrev S_ : Shape := ⟨0, ![]⟩
abbrev S96 : Shape := ⟨1, ![96]⟩
abbrev S1x32 : Shape := ⟨2, ![1, 32]⟩
abbrev S96x1 : Shape := ⟨2, ![96, 1]⟩
abbrev S96x32 : Shape := ⟨2, ![96, 32]⟩
abbrev S1 : Shape := ⟨1, ![1]⟩
abbrev S95 : Shape := ⟨1, ![95]⟩
abbrev S32x1 : Shape := ⟨2, ![32, 1]⟩
abbrev S32x32 : Shape := ⟨2, ![32, 32]⟩
abbrev S4096x128 : Shape := ⟨2, ![4096, 128]⟩
abbrev S2x1024x512 : Shape := ⟨3, ![2, 1024, 512]⟩
abbrev S2x512x1024 : Shape := ⟨3, ![2, 512, 1024]⟩
abbrev S1024x1024 : Shape := ⟨2, ![1024, 1024]⟩
abbrev S512x1024 : Shape := ⟨2, ![512, 1024]⟩
abbrev S2x3 : Shape := ⟨2, ![2, 3]⟩
abbrev S1x1 : Shape := ⟨2, ![1, 1]⟩
abbrev S1x1024x512 : Shape := ⟨3, ![1, 1024, 512]⟩
abbrev S1024x512 : Shape := ⟨2, ![1024, 512]⟩
abbrev S1x512x1024 : Shape := ⟨3, ![1, 512, 1024]⟩
abbrev S512x128 : Shape := ⟨2, ![512, 128]⟩
abbrev S512x512 : Shape := ⟨2, ![512, 512]⟩

abbrev nBuf : Space → Nat
  | .hbm => 117
  | .vmem => 9
  | .smem => 5
  | _ => 0

abbrev bufTy : (tb : Table) → Fin (tcTables nBuf tb) → BufTy
  | .hbm, ⟨0, _⟩ => ⟨S32, .i32⟩
  | .hbm, ⟨1, _⟩ => ⟨S393216x128, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S96, .i32⟩
  | .hbm, ⟨33, _⟩ => ⟨S1x32, .i32⟩
  | .hbm, ⟨34, _⟩ => ⟨S96x1, .i32⟩
  | .hbm, ⟨35, _⟩ => ⟨S96x32, .i32⟩
  | .hbm, ⟨36, _⟩ => ⟨S96x32, .i32⟩
  | .hbm, ⟨37, _⟩ => ⟨S96x32, .i1⟩
  | .hbm, ⟨38, _⟩ => ⟨S96x32, .i32⟩
  | .hbm, ⟨39, _⟩ => ⟨S_, .i32⟩
  | .hbm, ⟨40, _⟩ => ⟨S96, .i32⟩
  | .hbm, ⟨41, _⟩ => ⟨S_, .i32⟩
  | .hbm, ⟨42, _⟩ => ⟨S96, .i32⟩
  | .hbm, ⟨43, _⟩ => ⟨S_, .i32⟩
  | .hbm, ⟨44, _⟩ => ⟨S96, .i32⟩
  | .hbm, ⟨45, _⟩ => ⟨S96, .i1⟩
  | .hbm, ⟨46, _⟩ => ⟨S1, .i32⟩
  | .hbm, ⟨47, _⟩ => ⟨S95, .i32⟩
  | .hbm, ⟨48, _⟩ => ⟨S96, .i32⟩
  | .hbm, ⟨49, _⟩ => ⟨S96, .i1⟩
  | .hbm, ⟨50, _⟩ => ⟨S96, .i1⟩
  | .hbm, ⟨51, _⟩ => ⟨S_, .i32⟩
  | .hbm, ⟨52, _⟩ => ⟨S_, .i32⟩
  | .hbm, ⟨53, _⟩ => ⟨S96, .i32⟩
  | .hbm, ⟨54, _⟩ => ⟨S_, .i32⟩
  | .hbm, ⟨55, _⟩ => ⟨S96, .i32⟩
  | .hbm, ⟨56, _⟩ => ⟨S96, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S96, .i32⟩
  | .hbm, ⟨64, _⟩ => ⟨S96, .i32⟩
  | .hbm, ⟨65, _⟩ => ⟨S_, .i32⟩
  | .hbm, ⟨66, _⟩ => ⟨S96, .i32⟩
  | .hbm, ⟨67, _⟩ => ⟨S96, .i1⟩
  | .hbm, ⟨68, _⟩ => ⟨S_, .i32⟩
  | .hbm, ⟨69, _⟩ => ⟨S96, .i32⟩
  | .hbm, ⟨70, _⟩ => ⟨S96, .i1⟩
  | .hbm, ⟨71, _⟩ => ⟨S_, .i32⟩
  | .hbm, ⟨72, _⟩ => ⟨S_, .i1⟩
  | .hbm, ⟨73, _⟩ => ⟨S96, .i1⟩
  | .hbm, ⟨74, _⟩ => ⟨S96, .i1⟩
  | .hbm, ⟨75, _⟩ => ⟨S96, .i1⟩
  | .hbm, ⟨76, _⟩ => ⟨S96, .i32⟩
  | .hbm, ⟨77, _⟩ => ⟨S96, .i32⟩
  | .hbm, ⟨78, _⟩ => ⟨S32, .i32⟩
  | .hbm, ⟨79, _⟩ => ⟨S1x32, .i32⟩
  | .hbm, ⟨80, _⟩ => ⟨S32x1, .i32⟩
  | .hbm, ⟨81, _⟩ => ⟨S32x32, .i32⟩
  | .hbm, ⟨82, _⟩ => ⟨S32x32, .i32⟩
  | .hbm, ⟨83, _⟩ => ⟨S32x32, .i1⟩
  | .hbm, ⟨84, _⟩ => ⟨S1x32, .i32⟩
  | .hbm, ⟨85, _⟩ => ⟨S_, .i32⟩
  | .hbm, ⟨86, _⟩ => ⟨S1x32, .i32⟩
  | .hbm, ⟨87, _⟩ => ⟨S1x32, .i1⟩
  | .hbm, ⟨88, _⟩ => ⟨S32x32, .i1⟩
  | .hbm, ⟨89, _⟩ => ⟨S32x32, .i1⟩
  | .hbm, ⟨90, _⟩ => ⟨S_, .i1⟩
  | .hbm, ⟨91, _⟩ => ⟨S32, .i1⟩
  | .hbm, ⟨92, _⟩ => ⟨S1x32, .i32⟩
  | .hbm, ⟨93, _⟩ => ⟨S_, .i32⟩
  | .hbm, ⟨94, _⟩ => ⟨S_, .i32⟩
  | .hbm, ⟨95, _⟩ => ⟨S32x32, .i32⟩
  | .hbm, ⟨96, _⟩ => ⟨S32x32, .i32⟩
  | .hbm, ⟨97, _⟩ => ⟨S32x32, .i32⟩
  | .hbm, ⟨98, _⟩ => ⟨S_, .i32⟩
  | .hbm, ⟨99, _⟩ => ⟨S32, .i32⟩
  | .hbm, ⟨100, _⟩ => ⟨S_, .i32⟩
  | .hbm, ⟨101, _⟩ => ⟨S_, .i32⟩
  | .hbm, ⟨102, _⟩ => ⟨S32, .i32⟩
  | .hbm, ⟨103, _⟩ => ⟨S32, .i32⟩
  | .hbm, ⟨104, _⟩ => ⟨S96x1, .i32⟩
  | .hbm, ⟨105, _⟩ => ⟨S1x32, .i32⟩
  | .hbm, ⟨106, _⟩ => ⟨S96x32, .i32⟩
  | .hbm, ⟨107, _⟩ => ⟨S96x32, .i32⟩
  | .hbm, ⟨108, _⟩ => ⟨S96x32, .i1⟩
  | .hbm, ⟨109, _⟩ => ⟨S1x32, .i32⟩
  | .hbm, ⟨110, _⟩ => ⟨S_, .i32⟩
  | .hbm, ⟨111, _⟩ => ⟨S_, .i32⟩
  | .hbm, ⟨112, _⟩ => ⟨S96x32, .i32⟩
  | .hbm, ⟨113, _⟩ => ⟨S96x32, .i32⟩
  | .hbm, ⟨114, _⟩ => ⟨S96x32, .i32⟩
  | .hbm, ⟨115, _⟩ => ⟨S_, .i32⟩
  | .hbm, ⟨116, _⟩ => ⟨S393216x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S2x1024x512, .f32⟩
  | .local _ .vmem, ⟨5, _⟩ => ⟨S2x1024x512, .f32⟩
  | .local _ .vmem, ⟨6, _⟩ => ⟨S2x512x1024, .f32⟩
  | .local _ .vmem, ⟨7, _⟩ => ⟨S1024x1024, .bf16⟩
  | .local _ .vmem, ⟨8, _⟩ => ⟨S512x1024, .bf16⟩
  | .local _ .smem, ⟨0, _⟩ => ⟨S96, .i32⟩
  | .local _ .smem, ⟨1, _⟩ => ⟨S1, .i32⟩
  | .local _ .smem, ⟨2, _⟩ => ⟨S96, .i32⟩
  | .local _ .smem, ⟨3, _⟩ => ⟨S96, .i32⟩
  | .local _ .smem, ⟨4, _⟩ => ⟨S96, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_call2_v0 : Ref sig .tc := ⟨.hbm, 46, rfl⟩
abbrev main_call2_v1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call3_call0_c : Ref sig .tc := ⟨.hbm, 51, rfl⟩
abbrev main_call3_call0_v0 : Ref sig .tc := ⟨.hbm, 52, rfl⟩
abbrev main_v23 : Ref sig .tc := ⟨.hbm, 53, rfl⟩
abbrev main_c_5 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_call4_v0 : Ref sig .tc := ⟨.hbm, 58, rfl⟩
abbrev main_call4_c : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_c_1 : Ref sig .tc := ⟨.hbm, 65, rfl⟩
abbrev main_call4_v5 : Ref sig .tc := ⟨.hbm, 66, rfl⟩
abbrev main_call4_v6 : Ref sig .tc := ⟨.hbm, 67, rfl⟩
abbrev main_call4_c_2 : Ref sig .tc := ⟨.hbm, 68, rfl⟩
abbrev main_call4_v7 : Ref sig .tc := ⟨.hbm, 69, rfl⟩
abbrev main_call4_v8 : Ref sig .tc := ⟨.hbm, 70, rfl⟩
abbrev main_call4_c_3 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_c_7 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_c_8 : Ref sig .tc := ⟨.hbm, 90, rfl⟩
abbrev main_v38 : Ref sig .tc := ⟨.hbm, 91, rfl⟩
abbrev main_v39 : Ref sig .tc := ⟨.hbm, 92, rfl⟩
abbrev main_c_9 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_v40 : Ref sig .tc := ⟨.hbm, 97, rfl⟩
abbrev main_c_10 : Ref sig .tc := ⟨.hbm, 98, rfl⟩
abbrev main_v41 : Ref sig .tc := ⟨.hbm, 99, rfl⟩
abbrev main_c_11 : Ref sig .tc := ⟨.hbm, 100, rfl⟩
abbrev main_call6_v0 : Ref sig .tc := ⟨.hbm, 101, rfl⟩
abbrev main_call6_v1 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_c_12 : Ref sig .tc := ⟨.hbm, 110, rfl⟩
abbrev main_call7_v0 : Ref sig .tc := ⟨.hbm, 111, rfl⟩
abbrev main_call7_v1 : Ref sig .tc := ⟨.hbm, 112, rfl⟩
abbrev main_call7_v2 : Ref sig .tc := ⟨.hbm, 113, rfl⟩
abbrev main_v49 : Ref sig .tc := ⟨.hbm, 114, rfl⟩
abbrev main_c_13 : Ref sig .tc := ⟨.hbm, 115, rfl⟩
abbrev main_v51 : Ref sig .tc := ⟨.hbm, 116, rfl⟩
abbrev main_v15 : Ref sig .tc := ⟨.smem, 0, rfl⟩
abbrev main_v16 : Ref sig .tc := ⟨.smem, 1, rfl⟩
abbrev main_v22 : Ref sig .tc := ⟨.smem, 2, rfl⟩
abbrev main_v26 : Ref sig .tc := ⟨.smem, 3, rfl⟩
abbrev main_v50 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

abbrev pre0 : Pipeline.Prefetch sig := ⟨5, ![main_v15.idx, main_v16.idx, main_v22.idx, main_v26.idx, main_v50.idx], fun | 0 => main_v15.names | 1 => main_v16.names | 2 => main_v22.names | 3 => main_v26.names | 4 => main_v50.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v8 : Index := Scalar.indexCast arg0
  ![v8.toNat]
def k0_off2 (i : grid0.Coords) : Fin 1 → Nat :=
  let arg0 : BitVec 32 := BitVec.ofNat 32 (i 0).val
  let v55 : Index := Scalar.indexCast arg0
  ![v55.toNat]
def k0_cond3 (i : grid0.Coords) : BitVec 1 :=
  let arg0 : BitVec 32 := BitVec.ofNat 32 (i 0).val
  let c0_i32_36 : BitVec 32 := 0#32
  let v57 : BitVec 1 := Scalar.cmpi .eq arg0 c0_i32_36
  let v58 : BitVec 32 := Scalar.extui v57
  let c0_i32_37 : BitVec 32 := 0#32
  let v59 : BitVec 1 := Scalar.cmpi .ne v58 c0_i32_37
  v59

def k0_off3 (v106 : BitVec 32) : Fin 3 → Nat :=
  let c0_i32_71 : BitVec 32 := 0#32
  let c0_i32_72 : BitVec 32 := 0#32
  ![v106.toNat, 0, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (v9 : BitVec 32) : BitVec 1 :=
  let c1_i32 : BitVec 32 := 1#32
  let v10 : BitVec 1 := Scalar.cmpi .eq v9 c1_i32
  let v11 : BitVec 32 := Scalar.extui v10
  let c0_i32_2 : BitVec 32 := 0#32
  let v12 : BitVec 1 := Scalar.cmpi .ne v11 c0_i32_2
  v12

def k0_off4 (v106 : BitVec 32) : Fin 3 → Nat :=
  let c0_i32_85 : BitVec 32 := 0#32
  let c0_i32_86 : BitVec 32 := 0#32
  ![v106.toNat, 0, 0]

def k0_chk1 (i : grid0.Coords) (v0 : BitVec 32) (v9 : BitVec 32) (v106 : BitVec 32) : Prop :=
  (∀ (k0_h1 : k0_cond1 i v0 = 1#1), ∀ (k0_h2 : k0_cond2 v9 = 1#1), ∀ (k0_h3 : k0_cond3 i = 1#1), ∀ a, (k0_off3 v106) a + S1x1024x512.size a ≤ S32x1024x512.size a) ∧
  (∀ (k0_h1 : k0_cond1 i v0 = 1#1), ∀ (k0_h2 : k0_cond2 v9 = 1#1), ∀ (k0_h3 : k0_cond3 i = 1#1), ∀ a, (k0_off4 v106) a + S1x512x1024.size a ≤ S32x512x1024.size a)
theorem k0_off3_inb : ∀ (i : grid0.Coords) (v0 : BitVec 32) (v9 : BitVec 32) (v106 : BitVec 32) (k0_hw1 : k0_chk1 i v0 v9 v106), ∀ (k0_h1 : k0_cond1 i v0 = 1#1), ∀ (k0_h2 : k0_cond2 v9 = 1#1), ∀ (k0_h3 : k0_cond3 i = 1#1), ∀ a, (k0_off3 v106) a + S1x1024x512.size a ≤ S32x1024x512.size a := fun i v0 v9 v106 k0_hw1 k0_h1 k0_h2 k0_h3 => k0_hw1.1 k0_h1 k0_h2 k0_h3
theorem k0_off4_inb : ∀ (i : grid0.Coords) (v0 : BitVec 32) (v9 : BitVec 32) (v106 : BitVec 32) (k0_hw1 : k0_chk1 i v0 v9 v106), ∀ (k0_h1 : k0_cond1 i v0 = 1#1), ∀ (k0_h2 : k0_cond2 v9 = 1#1), ∀ (k0_h3 : k0_cond3 i = 1#1), ∀ a, (k0_off4 v106) a + S1x512x1024.size a ≤ S32x512x1024.size a := fun i v0 v9 v106 k0_hw1 k0_h1 k0_h2 k0_h3 => k0_hw1.2 k0_h1 k0_h2 k0_h3

def k0_off5 (v56 : BitVec 32) : Fin 2 → Nat :=
  let c0_i32_38 : BitVec 32 := 0#32
  ![v56.toNat, 0]

def k0_off6 (v56 : BitVec 32) : Fin 3 → Nat :=
  let c0_i32_39 : BitVec 32 := 0#32
  let c0_i32_40 : BitVec 32 := 0#32
  ![v56.toNat, 0, 0]
def k0_off7 (v61 : BitVec 32) : Fin 3 → Nat :=
  let c0_i32_41 : BitVec 32 := 0#32
  let c0_i32_42 : BitVec 32 := 0#32
  ![v61.toNat, 0, 0]

def k0_off8 (v56 : BitVec 32) : Fin 2 → Nat :=
  let c1_i32_43 : BitVec 32 := 1#32
  ![v56.toNat, 1]
def k0_off9 (v56 : BitVec 32) : Fin 3 → Nat :=
  let c0_i32_44 : BitVec 32 := 0#32
  let c0_i32_45 : BitVec 32 := 0#32
  ![v56.toNat, 0, 0]
def k0_off10 (v56 : BitVec 32) : Fin 2 → Nat :=
  let c2_i32 : BitVec 32 := 2#32
  ![v56.toNat, 2]
def k0_off11 (v56 : BitVec 32) : Fin 3 → Nat :=
  let c0_i32_48 : BitVec 32 := 0#32
  let c0_i32_49 : BitVec 32 := 0#32
  ![v56.toNat, 0, 0]
def k0_off12 (v61 : BitVec 32) : Fin 3 → Nat :=
  let c0_i32_50 : BitVec 32 := 0#32
  let c0_i32_51 : BitVec 32 := 0#32
  ![v61.toNat, 0, 0]

def k0_chk3 (i : grid0.Coords) (v0 : BitVec 32) (v9 : BitVec 32) (v61 : BitVec 32) : Prop :=
  (∀ (k0_h1 : k0_cond1 i v0 = 1#1), ∀ (k0_h2 : k0_cond2 v9 = 1#1), ∀ a, (k0_off7 v61) a + S1x1024x512.size a ≤ S32x1024x512.size a) ∧
  (∀ (k0_h1 : k0_cond1 i v0 = 1#1), ∀ (k0_h2 : k0_cond2 v9 = 1#1), ∀ a, (k0_off12 v61) a + S1x512x1024.size a ≤ S32x512x1024.size a)
theorem k0_off7_inb : ∀ (i : grid0.Coords) (v0 : BitVec 32) (v9 : BitVec 32) (v61 : BitVec 32) (k0_hw3 : k0_chk3 i v0 v9 v61), ∀ (k0_h1 : k0_cond1 i v0 = 1#1), ∀ (k0_h2 : k0_cond2 v9 = 1#1), ∀ a, (k0_off7 v61) a + S1x1024x512.size a ≤ S32x1024x512.size a := fun i v0 v9 v61 k0_hw3 k0_h1 k0_h2 => k0_hw3.1 k0_h1 k0_h2
theorem k0_off12_inb : ∀ (i : grid0.Coords) (v0 : BitVec 32) (v9 : BitVec 32) (v61 : BitVec 32) (k0_hw3 : k0_chk3 i v0 v9 v61), ∀ (k0_h1 : k0_cond1 i v0 = 1#1), ∀ (k0_h2 : k0_cond2 v9 = 1#1), ∀ a, (k0_off12 v61) a + S1x512x1024.size a ≤ S32x512x1024.size a := fun i v0 v9 v61 k0_hw3 k0_h1 k0_h2 => k0_hw3.2 k0_h1 k0_h2

def k0_off13 (i : grid0.Coords) : Fin 1 → Nat :=
  let arg0 : BitVec 32 := BitVec.ofNat 32 (i 0).val
  let v80 : Index := Scalar.indexCast arg0
  ![v80.toNat]
def k0_off14 (i : grid0.Coords) : Fin 1 → Nat :=
  let arg0 : BitVec 32 := BitVec.ofNat 32 (i 0).val
  let v106 : Index := Scalar.indexCast arg0
  ![v106.toNat]
def k0_off15 (v56 : BitVec 32) : Fin 2 → Nat :=
  let c1_i32_65 : BitVec 32 := 1#32
  let v108 : BitVec 32 := Scalar.subi c1_i32_65 v56
  let c0_i32_66 : BitVec 32 := 0#32
  ![v108.toNat, 0]
def k0_cond4 (v81 : BitVec 32) : BitVec 1 :=
  let c0_i32_52 : BitVec 32 := 0#32
  let v82 : BitVec 1 := Scalar.cmpi .sge v81 c0_i32_52
  let v83 : BitVec 32 := Scalar.extui v82
  let c0_i32_53 : BitVec 32 := 0#32
  let v84 : BitVec 1 := Scalar.cmpi .ne v83 c0_i32_53
  v84

def k0_off16 (v56 : BitVec 32) : Fin 3 → Nat :=
  let c1_i32_65 : BitVec 32 := 1#32
  let v108 : BitVec 32 := Scalar.subi c1_i32_65 v56
  let c0_i32_67 : BitVec 32 := 0#32
  let c0_i32_68 : BitVec 32 := 0#32
  ![v108.toNat, 0, 0]
def k0_off17 (v107 : BitVec 32) : Fin 3 → Nat :=
  let c0_i32_69 : BitVec 32 := 0#32
  let c0_i32_70 : BitVec 32 := 0#32
  ![v107.toNat, 0, 0]

def k0_off18 (v56 : BitVec 32) : Fin 2 → Nat :=
  let c1_i32_65 : BitVec 32 := 1#32
  let v108 : BitVec 32 := Scalar.subi c1_i32_65 v56
  let c1_i32_71 : BitVec 32 := 1#32
  ![v108.toNat, 1]
def k0_off19 (v56 : BitVec 32) : Fin 3 → Nat :=
  let c1_i32_65 : BitVec 32 := 1#32
  let v108 : BitVec 32 := Scalar.subi c1_i32_65 v56
  let c0_i32_72 : BitVec 32 := 0#32
  let c0_i32_73 : BitVec 32 := 0#32
  ![v108.toNat, 0, 0]
def k0_off20 (v56 : BitVec 32) : Fin 2 → Nat :=
  let c1_i32_65 : BitVec 32 := 1#32
  let v108 : BitVec 32 := Scalar.subi c1_i32_65 v56
  let c2_i32_76 : BitVec 32 := 2#32
  ![v108.toNat, 2]
def k0_off21 (v56 : BitVec 32) : Fin 3 → Nat :=
  let c1_i32_65 : BitVec 32 := 1#32
  let v108 : BitVec 32 := Scalar.subi c1_i32_65 v56
  let c0_i32_77 : BitVec 32 := 0#32
  let c0_i32_78 : BitVec 32 := 0#32
  ![v108.toNat, 0, 0]

def k0_chk4 (i : grid0.Coords) (v0 : BitVec 32) (v9 : BitVec 32) (v56 : BitVec 32) (v81 : BitVec 32) : Prop :=
  (∀ (k0_h1 : k0_cond1 i v0 = 1#1), ∀ (k0_h2 : k0_cond2 v9 = 1#1), ∀ (k0_h4 : k0_cond4 v81 = 1#1), ∀ a, (k0_off15 v56) a + S1x1.size a ≤ S2x3.size a) ∧
  (∀ (k0_h1 : k0_cond1 i v0 = 1#1), ∀ (k0_h2 : k0_cond2 v9 = 1#1), ∀ (k0_h4 : k0_cond4 v81 = 1#1), ∀ a, (k0_off16 v56) a + S1x1024x512.size a ≤ S2x1024x512.size a) ∧
  (∀ (k0_h1 : k0_cond1 i v0 = 1#1), ∀ (k0_h2 : k0_cond2 v9 = 1#1), ∀ (k0_h4 : k0_cond4 v81 = 1#1), ∀ a, (k0_off18 v56) a + S1x1.size a ≤ S2x3.size a) ∧
  (∀ (k0_h1 : k0_cond1 i v0 = 1#1), ∀ (k0_h2 : k0_cond2 v9 = 1#1), ∀ (k0_h4 : k0_cond4 v81 = 1#1), ∀ a, (k0_off19 v56) a + S1x1024x512.size a ≤ S2x1024x512.size a) ∧
  (∀ (k0_h1 : k0_cond1 i v0 = 1#1), ∀ (k0_h2 : k0_cond2 v9 = 1#1), ∀ (k0_h4 : k0_cond4 v81 = 1#1), ∀ a, (k0_off20 v56) a + S1x1.size a ≤ S2x3.size a) ∧
  (∀ (k0_h1 : k0_cond1 i v0 = 1#1), ∀ (k0_h2 : k0_cond2 v9 = 1#1), ∀ (k0_h4 : k0_cond4 v81 = 1#1), ∀ a, (k0_off21 v56) a + S1x512x1024.size a ≤ S2x512x1024.size a)
theorem k0_off15_inb : ∀ (i : grid0.Coords) (v0 : BitVec 32) (v9 : BitVec 32) (v56 : BitVec 32) (v81 : BitVec 32) (k0_hw4 : k0_chk4 i v0 v9 v56 v81), ∀ (k0_h1 : k0_cond1 i v0 = 1#1), ∀ (k0_h2 : k0_cond2 v9 = 1#1), ∀ (k0_h4 : k0_cond4 v81 = 1#1), ∀ a, (k0_off15 v56) a + S1x1.size a ≤ S2x3.size a := fun i v0 v9 v56 v81 k0_hw4 k0_h1 k0_h2 k0_h4 => k0_hw4.1 k0_h1 k0_h2 k0_h4
theorem k0_off16_inb : ∀ (i : grid0.Coords) (v0 : BitVec 32) (v9 : BitVec 32) (v56 : BitVec 32) (v81 : BitVec 32) (k0_hw4 : k0_chk4 i v0 v9 v56 v81), ∀ (k0_h1 : k0_cond1 i v0 = 1#1), ∀ (k0_h2 : k0_cond2 v9 = 1#1), ∀ (k0_h4 : k0_cond4 v81 = 1#1), ∀ a, (k0_off16 v56) a + S1x1024x512.size a ≤ S2x1024x512.size a := fun i v0 v9 v56 v81 k0_hw4 k0_h1 k0_h2 k0_h4 => k0_hw4.2.1 k0_h1 k0_h2 k0_h4
theorem k0_off18_inb : ∀ (i : grid0.Coords) (v0 : BitVec 32) (v9 : BitVec 32) (v56 : BitVec 32) (v81 : BitVec 32) (k0_hw4 : k0_chk4 i v0 v9 v56 v81), ∀ (k0_h1 : k0_cond1 i v0 = 1#1), ∀ (k0_h2 : k0_cond2 v9 = 1#1), ∀ (k0_h4 : k0_cond4 v81 = 1#1), ∀ a, (k0_off18 v56) a + S1x1.size a ≤ S2x3.size a := fun i v0 v9 v56 v81 k0_hw4 k0_h1 k0_h2 k0_h4 => k0_hw4.2.2.1 k0_h1 k0_h2 k0_h4
theorem k0_off19_inb : ∀ (i : grid0.Coords) (v0 : BitVec 32) (v9 : BitVec 32) (v56 : BitVec 32) (v81 : BitVec 32) (k0_hw4 : k0_chk4 i v0 v9 v56 v81), ∀ (k0_h1 : k0_cond1 i v0 = 1#1), ∀ (k0_h2 : k0_cond2 v9 = 1#1), ∀ (k0_h4 : k0_cond4 v81 = 1#1), ∀ a, (k0_off19 v56) a + S1x1024x512.size a ≤ S2x1024x512.size a := fun i v0 v9 v56 v81 k0_hw4 k0_h1 k0_h2 k0_h4 => k0_hw4.2.2.2.1 k0_h1 k0_h2 k0_h4
theorem k0_off20_inb : ∀ (i : grid0.Coords) (v0 : BitVec 32) (v9 : BitVec 32) (v56 : BitVec 32) (v81 : BitVec 32) (k0_hw4 : k0_chk4 i v0 v9 v56 v81), ∀ (k0_h1 : k0_cond1 i v0 = 1#1), ∀ (k0_h2 : k0_cond2 v9 = 1#1), ∀ (k0_h4 : k0_cond4 v81 = 1#1), ∀ a, (k0_off20 v56) a + S1x1.size a ≤ S2x3.size a := fun i v0 v9 v56 v81 k0_hw4 k0_h1 k0_h2 k0_h4 => k0_hw4.2.2.2.2.1 k0_h1 k0_h2 k0_h4
theorem k0_off21_inb : ∀ (i : grid0.Coords) (v0 : BitVec 32) (v9 : BitVec 32) (v56 : BitVec 32) (v81 : BitVec 32) (k0_hw4 : k0_chk4 i v0 v9 v56 v81), ∀ (k0_h1 : k0_cond1 i v0 = 1#1), ∀ (k0_h2 : k0_cond2 v9 = 1#1), ∀ (k0_h4 : k0_cond4 v81 = 1#1), ∀ a, (k0_off21 v56) a + S1x512x1024.size a ≤ S2x512x1024.size a := fun i v0 v9 v56 v81 k0_hw4 k0_h1 k0_h2 k0_h4 => k0_hw4.2.2.2.2.2 k0_h1 k0_h2 k0_h4

def k0_off22 (v107 : BitVec 32) : Fin 3 → Nat :=
  let c0_i32_79 : BitVec 32 := 0#32
  let c0_i32_80 : BitVec 32 := 0#32
  ![v107.toNat, 0, 0]

def k0_chk5 (i : grid0.Coords) (v0 : BitVec 32) (v9 : BitVec 32) (v81 : BitVec 32) (v107 : BitVec 32) : Prop :=
  (∀ (k0_h1 : k0_cond1 i v0 = 1#1), ∀ (k0_h2 : k0_cond2 v9 = 1#1), ∀ (k0_h4 : k0_cond4 v81 = 1#1), ∀ a, (k0_off17 v107) a + S1x1024x512.size a ≤ S32x1024x512.size a) ∧
  (∀ (k0_h1 : k0_cond1 i v0 = 1#1), ∀ (k0_h2 : k0_cond2 v9 = 1#1), ∀ (k0_h4 : k0_cond4 v81 = 1#1), ∀ a, (k0_off22 v107) a + S1x512x1024.size a ≤ S32x512x1024.size a)
theorem k0_off17_inb : ∀ (i : grid0.Coords) (v0 : BitVec 32) (v9 : BitVec 32) (v81 : BitVec 32) (v107 : BitVec 32) (k0_hw5 : k0_chk5 i v0 v9 v81 v107), ∀ (k0_h1 : k0_cond1 i v0 = 1#1), ∀ (k0_h2 : k0_cond2 v9 = 1#1), ∀ (k0_h4 : k0_cond4 v81 = 1#1), ∀ a, (k0_off17 v107) a + S1x1024x512.size a ≤ S32x1024x512.size a := fun i v0 v9 v81 v107 k0_hw5 k0_h1 k0_h2 k0_h4 => k0_hw5.1 k0_h1 k0_h2 k0_h4
theorem k0_off22_inb : ∀ (i : grid0.Coords) (v0 : BitVec 32) (v9 : BitVec 32) (v81 : BitVec 32) (v107 : BitVec 32) (k0_hw5 : k0_chk5 i v0 v9 v81 v107), ∀ (k0_h1 : k0_cond1 i v0 = 1#1), ∀ (k0_h2 : k0_cond2 v9 = 1#1), ∀ (k0_h4 : k0_cond4 v81 = 1#1), ∀ a, (k0_off22 v107) a + S1x512x1024.size a ≤ S32x512x1024.size a := fun i v0 v9 v81 v107 k0_hw5 k0_h1 k0_h2 k0_h4 => k0_hw5.2 k0_h1 k0_h2 k0_h4

def k0_off23 (v56 : BitVec 32) : Fin 3 → Nat :=
  let v85 : Index := Scalar.indexCast v56
  let c0_54 : Index := 0#32
  let c0_55 : Index := 0#32
  ![v85.toNat, 0, 0]
def k0_off24 (v56 : BitVec 32) : Fin 3 → Nat :=
  let v99 : Index := Scalar.indexCast v56
  let c0_61 : Index := 0#32
  let c0_62 : Index := 0#32
  ![v99.toNat, 0, 0]

def k0_chk2 (i : grid0.Coords) (v0 : BitVec 32) (v9 : BitVec 32) (v56 : BitVec 32) : Prop :=
  (∀ (k0_h1 : k0_cond1 i v0 = 1#1), ∀ (k0_h2 : k0_cond2 v9 = 1#1), ∀ a, (k0_off5 v56) a + S1x1.size a ≤ S2x3.size a) ∧
  (∀ (k0_h1 : k0_cond1 i v0 = 1#1), ∀ (k0_h2 : k0_cond2 v9 = 1#1), ∀ a, (k0_off6 v56) a + S1x1024x512.size a ≤ S2x1024x512.size a) ∧
  (∀ (k0_h1 : k0_cond1 i v0 = 1#1), ∀ (k0_h2 : k0_cond2 v9 = 1#1), ∀ a, (k0_off8 v56) a + S1x1.size a ≤ S2x3.size a) ∧
  (∀ (k0_h1 : k0_cond1 i v0 = 1#1), ∀ (k0_h2 : k0_cond2 v9 = 1#1), ∀ a, (k0_off9 v56) a + S1x1024x512.size a ≤ S2x1024x512.size a) ∧
  (∀ (k0_h1 : k0_cond1 i v0 = 1#1), ∀ (k0_h2 : k0_cond2 v9 = 1#1), ∀ a, (k0_off10 v56) a + S1x1.size a ≤ S2x3.size a) ∧
  (∀ (k0_h1 : k0_cond1 i v0 = 1#1), ∀ (k0_h2 : k0_cond2 v9 = 1#1), ∀ a, (k0_off11 v56) a + S1x512x1024.size a ≤ S2x512x1024.size a) ∧
  (∀ (k0_h1 : k0_cond1 i v0 = 1#1), ∀ (k0_h2 : k0_cond2 v9 = 1#1), ∀ a, (k0_off23 v56) a + S1x1024x512.size a ≤ S2x1024x512.size a) ∧
  (∀ (k0_h1 : k0_cond1 i v0 = 1#1), ∀ (k0_h2 : k0_cond2 v9 = 1#1), ∀ a, (k0_off24 v56) a + S1x512x1024.size a ≤ S2x512x1024.size a)
theorem k0_off5_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off5 v56) a + S1x1.size a ≤ S2x3.size a := fun i v0 v9 v56 k0_hw2 k0_h1 k0_h2 => k0_hw2.1 k0_h1 k0_h2
theorem k0_off6_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off6 v56) a + S1x1024x512.size a ≤ S2x1024x512.size a := fun i v0 v9 v56 k0_hw2 k0_h1 k0_h2 => k0_hw2.2.1 k0_h1 k0_h2
theorem k0_off8_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off8 v56) a + S1x1.size a ≤ S2x3.size a := fun i v0 v9 v56 k0_hw2 k0_h1 k0_h2 => k0_hw2.2.2.1 k0_h1 k0_h2
theorem k0_off9_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off9 v56) a + S1x1024x512.size a ≤ S2x1024x512.size a := fun i v0 v9 v56 k0_hw2 k0_h1 k0_h2 => k0_hw2.2.2.2.1 k0_h1 k0_h2
theorem k0_off10_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off10 v56) a + S1x1.size a ≤ S2x3.size a := fun i v0 v9 v56 k0_hw2 k0_h1 k0_h2 => k0_hw2.2.2.2.2.1 k0_h1 k0_h2
theorem k0_off11_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off11 v56) a + S1x512x1024.size a ≤ S2x512x1024.size a := fun i v0 v9 v56 k0_hw2 k0_h1 k0_h2 => k0_hw2.2.2.2.2.2.1 k0_h1 k0_h2
theorem k0_off23_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off23 v56) a + S1x1024x512.size a ≤ S2x1024x512.size a := fun i v0 v9 v56 k0_hw2 k0_h1 k0_h2 => k0_hw2.2.2.2.2.2.2.1 k0_h1 k0_h2
theorem k0_off24_inb : ∀ (i : grid0.Coords) (v0 : BitVec 32) (v9 : BitVec 32) (v56 : BitVec 32) (k0_hw2 : k0_chk2 i v0 v9 v56), ∀ (k0_h1 : k0_cond1 i v0 = 1#1), ∀ (k0_h2 : k0_cond2 v9 = 1#1), ∀ a, (k0_off24 v56) a + S1x512x1024.size a ≤ S2x512x1024.size a := fun i v0 v9 v56 k0_hw2 k0_h1 k0_h2 => k0_hw2.2.2.2.2.2.2.2 k0_h1 k0_h2

def k0_cond5 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S32 : Shape := ⟨1, ![32]⟩
abbrev S393216x128 : Shape := ⟨2, ![393216, 128]⟩
abbrev S32x1024x512 : Shape := ⟨3, ![32, 1024, 512]⟩
abbrev S32x512x1024 : Shape := ⟨3, ![32, 512, 1024]⟩
abbrev S49152x1024 : Shape := ⟨2, ![49152, 1024]⟩
abbrev S_ : Shape := ⟨0, ![]⟩
abbrev S49152 : Shape := ⟨1, ![49152]⟩
abbrev S1x49152 : Shape := ⟨2, ![1, 49152]⟩
abbrev S32x1 : Shape := ⟨2, ![32, 1]⟩
abbrev S32x49152 : Shape := ⟨2, ![32, 49152]⟩
abbrev S32x512x49152 : Shape := ⟨3, ![32, 512, 49152]⟩
abbrev S32x49152x512 : Shape := ⟨3, ![32, 49152, 512]⟩
abbrev S32x49152x1024 : Shape := ⟨3, ![32, 49152, 1024]⟩
abbrev S32x49152x1 : Shape := ⟨3, ![32, 49152, 1]⟩

abbrev nBuf : Space → Nat
  | .hbm => 73
  | .vmem => 0
  | .smem => 0
  | _ => 0

abbrev bufTy : (tb : Table) → Fin (tcTables nBuf tb) → BufTy
  | .hbm, ⟨0, _⟩ => ⟨S32, .i32⟩
  | .hbm, ⟨1, _⟩ => ⟨S393216x128, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S49152x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S49152, .i32⟩
  | .hbm, ⟨38, _⟩ => ⟨S1x49152, .i32⟩
  | .hbm, ⟨39, _⟩ => ⟨S32x1, .i32⟩
  | .hbm, ⟨40, _⟩ => ⟨S32x49152, .i32⟩
  | .hbm, ⟨41, _⟩ => ⟨S32x49152, .i32⟩
  | .hbm, ⟨42, _⟩ => ⟨S32x49152, .i1⟩
  | .hbm, ⟨43, _⟩ => ⟨S1x49152, .i32⟩
  | .hbm, ⟨44, _⟩ => ⟨S32x1, .i32⟩
  | .hbm, ⟨45, _⟩ => ⟨S32x49152, .i32⟩
  | .hbm, ⟨46, _⟩ => ⟨S32x49152, .i32⟩
  | .hbm, ⟨47, _⟩ => ⟨S32x49152, .i1⟩
  | .hbm, ⟨48, _⟩ => ⟨S32x49152, .i1⟩
  | .hbm, ⟨49, _⟩ => ⟨S32x512x49152, .f32⟩
  | .hbm, ⟨50, _⟩ => ⟨S32x49152x512, .f32⟩
  | .hbm, ⟨51, _⟩ => ⟨S32x49152x512, .f32⟩
  | .hbm, ⟨52, _⟩ => ⟨S32x49152x512, .f32⟩
  | .hbm, ⟨53, _⟩ => ⟨S_, .f32⟩
  | .hbm, ⟨54, _⟩ => ⟨S32x49152x512, .f32⟩
  | .hbm, ⟨55, _⟩ => ⟨S32x49152x512, .f32⟩
  | .hbm, ⟨56, _⟩ => ⟨S_, .f32⟩
  | .hbm, ⟨57, _⟩ => ⟨S32x49152x512, .f32⟩
  | .hbm, ⟨58, _⟩ => ⟨S32x49152x512, .f32⟩
  | .hbm, ⟨59, _⟩ => ⟨S32x49152x512, .f32⟩
  | .hbm, ⟨60, _⟩ => ⟨S32x512x49152, .f32⟩
  | .hbm, ⟨61, _⟩ => ⟨S32x49152x512, .f32⟩
  | .hbm, ⟨62, _⟩ => ⟨S32x49152x512, .f32⟩
  | .hbm, ⟨63, _⟩ => ⟨S32x49152x1024, .f32⟩
  | .hbm, ⟨64, _⟩ => ⟨S32x49152x1, .i1⟩
  | .hbm, ⟨65, _⟩ => ⟨S_, .f32⟩
  | .hbm, ⟨66, _⟩ => ⟨S_, .f32⟩
  | .hbm, ⟨67, _⟩ => ⟨S32x49152x1024, .i1⟩
  | .hbm, ⟨68, _⟩ => ⟨S32x49152x1024, .f32⟩
  | .hbm, ⟨69, _⟩ => ⟨S32x49152x1024, .f32⟩
  | .hbm, ⟨70, _⟩ => ⟨S_, .f32⟩
  | .hbm, ⟨71, _⟩ => ⟨S49152x1024, .f32⟩
  | .hbm, ⟨72, _⟩ => ⟨S393216x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_call1_call0_c : Ref sig .tc := ⟨.hbm, 33, rfl⟩
abbrev main_call1_call0_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_v32 : Ref sig .tc := ⟨.hbm, 72, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x3840 : Shape := ⟨3, ![1, 1024, 3840]⟩
abbrev S16384x1024 : Shape := ⟨2, ![16384, 1024]⟩
abbrev S1024 : Shape := ⟨1, ![1024]⟩
abbrev S1024x3840 : Shape := ⟨2, ![1024, 3840]⟩
abbrev S16384x1792 : Shape := ⟨2, ![16384, 1792]⟩
abbrev S16384x2048 : Shape := ⟨2, ![16384, 2048]⟩
abbrev S512x1024 : Shape := ⟨2, ![512, 1024]⟩
abbrev S512x1792 : Shape := ⟨2, ![512, 1792]⟩
abbrev S512x2048 : Shape := ⟨2, ![512, 2048]⟩
abbrev S512 : Shape := ⟨1, ![512]⟩
abbrev S512x1 : Shape := ⟨2, ![512, 1]⟩
abbrev S1024x1792 : Shape := ⟨2, ![1024, 1792]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3840, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x3840, .f32⟩
  | .hbm, ⟨7, _⟩ => ⟨S1024x3840, .bf16⟩
  | .hbm, ⟨8, _⟩ => ⟨S16384x1792, .f32⟩
  | .hbm, ⟨9, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x1792, .f32⟩
  | .local _ .vmem, ⟨5, _⟩ => ⟨S512x1792, .f32⟩
  | .local _ .vmem, ⟨6, _⟩ => ⟨S512x2048, .f32⟩
  | .local _ .vmem, ⟨7, _⟩ => ⟨S512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x2048x1024 : Shape := ⟨3, ![8, 2048, 1024]⟩
abbrev S1x1024 : Shape := ⟨2, ![1, 1024]⟩
abbrev S1x1024x3840 : Shape := ⟨3, ![1, 1024, 3840]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x3840 : Shape := ⟨2, ![1024, 3840]⟩
abbrev S8x2048x3840 : Shape := ⟨3, ![8, 2048, 3840]⟩
abbrev S16384x3840 : Shape := ⟨2, ![16384, 3840]⟩
abbrev S16384x1792 : Shape := ⟨2, ![16384, 1792]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3840, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x3840, .f32⟩
  | .hbm, ⟨21, _⟩ => ⟨S8x2048x3840, .f32⟩
  | .hbm, ⟨22, _⟩ => ⟨S16384x3840, .f32⟩
  | .hbm, ⟨23, _⟩ => ⟨S16384x1792, .f32⟩
  | .hbm, ⟨24, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S16384x2 : Shape := ⟨2, ![16384, 2]⟩
abbrev S16384x128 : Shape := ⟨2, ![16384, 128]⟩
abbrev S16384x1024 : Shape := ⟨2, ![16384, 1024]⟩
abbrev S1024 : Shape := ⟨1, ![1024]⟩
abbrev S393216x128 : Shape := ⟨2, ![393216, 128]⟩
abbrev S32768 : Shape := ⟨1, ![32768]⟩
abbrev S1x1024 : Shape := ⟨2, ![1, 1024]⟩
abbrev S512x128 : Shape := ⟨2, ![512, 128]⟩
abbrev S512x1024 : Shape := ⟨2, ![512, 1024]⟩
abbrev S2x2x4096x128 : Shape := ⟨4, ![2, 2, 4096, 128]⟩
abbrev S2 : Shape := ⟨1, ![2]⟩
abbrev S1 : Shape := ⟨1, ![1]⟩
abbrev S_ : Shape := ⟨0, ![]⟩
abbrev S1x1x4096x128 : Shape := ⟨4, ![1, 1, 4096, 128]⟩
abbrev S4096x128 : Shape := ⟨2, ![4096, 128]⟩
abbrev S8x128 : Shape := ⟨2, ![8, 128]⟩
abbrev S512x1 : Shape := ⟨2, ![512, 1]⟩
abbrev S512 : Shape := ⟨1, ![512]⟩

abbrev nBuf : Space → Nat
  | .hbm => 8
  | .vmem => 8
  | .smem => 4
  | _ => 0

abbrev bufTy : (tb : Table) → Fin (tcTables nBuf tb) → BufTy
  | .hbm, ⟨0, _⟩ => ⟨S16384x2, .i32⟩
  | .hbm, ⟨1, _⟩ => ⟨S16384x128, .f32⟩
  | .hbm, ⟨2, _⟩ => ⟨S16384x1024, .f32⟩
  | .hbm, ⟨3, _⟩ => ⟨S1024, .f32⟩
  | .hbm, ⟨4, _⟩ => ⟨S393216x128, .f32⟩
  | .hbm, ⟨5, _⟩ => ⟨S32768, .i32⟩
  | .hbm, ⟨6, _⟩ => ⟨S1x1024, .f32⟩
  | .hbm, ⟨7, _⟩ => ⟨S16384x1024, .f32⟩
  | .local _ .vmem, ⟨0, _⟩ => ⟨S512x128, .f32⟩
  | .local _ .vmem, ⟨1, _⟩ => ⟨S512x128, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2x2x4096x128, .f32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_94 : BitVec 32 := 0#32
  let c512_i32 : BitVec 32 := 512#32
  let v95 : BitVec 32 := Scalar.addi c0_i32_94 c512_i32
  let c1_i32_95 : BitVec 32 := 1#32
  ⟨c0_i32_94, v95, c1_i32_95⟩
def k0_off1 (k0_t1 : Fin k0_t1_loop.trips) : Fin 1 → Nat :=
  let c2_i32_97 : BitVec 32 := 2#32
  let c0_i32_94 : BitVec 32 := 0#32
  let c1_i32_95 : BitVec 32 := 1#32
  let arg10 : BitVec 32 := Scf.iv c0_i32_94 c1_i32_95 k0_t1
  let v96 : BitVec 32 := Scalar.muli c2_i32_97 arg10
  let v97 : Index := Scalar.indexCast v96
  ![v97.toNat]
def k0_mult1 (v98 : BitVec 32) : BitVec 32 :=
  let c8_i32 : BitVec 32 := 8#32
  let v99 : BitVec 32 := Scalar.muli v98 c8_i32
  v99

def k0_mult2 (k0_t1 : Fin k0_t1_loop.trips) : BitVec 32 :=
  let c0_i32_94 : BitVec 32 := 0#32
  let c1_i32_95 : BitVec 32 := 1#32
  let arg10 : BitVec 32 := Scf.iv c0_i32_94 c1_i32_95 k0_t1
  let c8_i32_98 : BitVec 32 := 8#32
  let v101 : BitVec 32 := Scalar.muli arg10 c8_i32_98
  v101
def k0_off2 (k0_t1 : Fin k0_t1_loop.trips) : Fin 2 → Nat :=
  let c0_i32_94 : BitVec 32 := 0#32
  let c1_i32_95 : BitVec 32 := 1#32
  let arg10 : BitVec 32 := Scf.iv c0_i32_94 c1_i32_95 k0_t1
  let c8_i32_98 : BitVec 32 := 8#32
  let v101 : BitVec 32 := Scalar.muli arg10 c8_i32_98
  let v102 : BitVec 32 := v101
  let c0_i32_104 : BitVec 32 := 0#32
  ![v102.toNat, 0]
def k0_off3 (v98 : BitVec 32) : Fin 2 → Nat :=
  let c8_i32 : BitVec 32 := 8#32
  let v99 : BitVec 32 := Scalar.muli v98 c8_i32
  let v100 : BitVec 32 := v99
  let c0_i32_105 : BitVec 32 := 0#32
  ![v100.toNat, 0]

def k0_chk1 (i : grid0.Coords) (v98 : BitVec 32) : Prop :=
  (∀ (k0_h1 : k0_cond1 i = 1#1), 8 ∣ (k0_mult1 v98).toNat) ∧
  (∀ (k0_h1 : k0_cond1 i = 1#1), ∀ a, (k0_off3 v98) a + S8x128.size a ≤ S393216x128.size a)
theorem k0_mult1_dvd : ∀ (i : grid0.Coords) (v98 : BitVec 32) (k0_hw1 : k0_chk1 i v98), ∀ (k0_h1 : k0_cond1 i = 1#1), 8 ∣ (k0_mult1 v98).toNat := fun i v98 k0_hw1 k0_h1 => k0_hw1.1 k0_h1
theorem k0_off3_inb : ∀ (i : grid0.Coords) (v98 : BitVec 32) (k0_hw1 : k0_chk1 i v98), ∀ (k0_h1 : k0_cond1 i = 1#1), ∀ a, (k0_off3 v98) a + S8x128.size a ≤ S393216x128.size a := fun i v98 k0_hw1 k0_h1 => k0_hw1.2 k0_h1

def k0_off4 (k0_t1 : Fin k0_t1_loop.trips) : Fin 1 → Nat :=
  let c2_i32_106 : BitVec 32 := 2#32
  let c0_i32_94 : BitVec 32 := 0#32
  let c1_i32_95 : BitVec 32 := 1#32
  let arg10 : BitVec 32 := Scf.iv c0_i32_94 c1_i32_95 k0_t1
  let v109 : BitVec 32 := Scalar.muli c2_i32_106 arg10
  let c1_i32_107 : BitVec 32 := 1#32
  let v110 : BitVec 32 := Scalar.addi v109 c1_i32_107
  let v111 : Index := Scalar.indexCast v110
  ![v111.toNat]
def k0_mult3 (v112 : BitVec 32) : BitVec 32 :=
  let c8_i32_108 : BitVec 32 := 8#32
  let v113 : BitVec 32 := Scalar.muli v112 c8_i32_108
  v113

def k0_mult4 (k0_t1 : Fin k0_t1_loop.trips) : BitVec 32 :=
  let c0_i32_94 : BitVec 32 := 0#32
  let c1_i32_95 : BitVec 32 := 1#32
  let arg10 : BitVec 32 := Scf.iv c0_i32_94 c1_i32_95 k0_t1
  let c8_i32_109 : BitVec 32 := 8#32
  let v115 : BitVec 32 := Scalar.muli arg10 c8_i32_109
  v115
def k0_off5 (k0_t1 : Fin k0_t1_loop.trips) : Fin 2 → Nat :=
  let c0_i32_94 : BitVec 32 := 0#32
  let c1_i32_95 : BitVec 32 := 1#32
  let arg10 : BitVec 32 := Scf.iv c0_i32_94 c1_i32_95 k0_t1
  let c8_i32_109 : BitVec 32 := 8#32
  let v115 : BitVec 32 := Scalar.muli arg10 c8_i32_109
  let v116 : BitVec 32 := v115
  let c0_i32_115 : BitVec 32 := 0#32
  ![v116.toNat, 0]
def k0_off6 (v112 : BitVec 32) : Fin 2 → Nat :=
  let c8_i32_108 : BitVec 32 := 8#32
  let v113 : BitVec 32 := Scalar.muli v112 c8_i32_108
  let v114 : BitVec 32 := v113
  let c0_i32_116 : BitVec 32 := 0#32
  ![v114.toNat, 0]

def k0_chk2 (i : grid0.Coords) (v112 : BitVec 32) : Prop :=
  (∀ (k0_h1 : k0_cond1 i = 1#1), 8 ∣ (k0_mult3 v112).toNat) ∧
  (∀ (k0_h1 : k0_cond1 i = 1#1), ∀ a, (k0_off6 v112) a + S8x128.size a ≤ S393216x128.size a)
theorem k0_mult3_dvd : ∀ (i : grid0.Coords) (v112 : BitVec 32) (k0_hw2 : k0_chk2 i v112), ∀ (k0_h1 : k0_cond1 i = 1#1), 8 ∣ (k0_mult3 v112).toNat := fun i v112 k0_hw2 k0_h1 => k0_hw2.1 k0_h1
theorem k0_off6_inb : ∀ (i : grid0.Coords) (v112 : BitVec 32) (k0_hw2 : k0_chk2 i v112), ∀ (k0_h1 : k0_cond1 i = 1#1), ∀ a, (k0_off6 v112) a + S8x128.size a ≤ S393216x128.size a := fun i v112 k0_hw2 k0_h1 => k0_hw2.2 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_95 : BitVec 32 := 0#32
  let c512_i32 : BitVec 32 := 512#32
  let v96 : BitVec 32 := Scalar.addi c0_i32_95 c512_i32
  let c1_i32_96 : BitVec 32 := 1#32
  ⟨c0_i32_95, v96, c1_i32_96⟩
def k0_off7 (k0_t2 : Fin k0_t2_loop.trips) : Fin 1 → Nat :=
  let c2_i32_98 : BitVec 32 := 2#32
  let c0_i32_95 : BitVec 32 := 0#32
  let c1_i32_96 : BitVec 32 := 1#32
  let arg10 : BitVec 32 := Scf.iv c0_i32_95 c1_i32_96 k0_t2
  let v97 : BitVec 32 := Scalar.muli c2_i32_98 arg10
  let v98 : Index := Scalar.indexCast v97
  ![v98.toNat]
def k0_mult5 (v99 : BitVec 32) : BitVec 32 :=
  let c8_i32 : BitVec 32 := 8#32
  let v100 : BitVec 32 := Scalar.muli v99 c8_i32
  v100

def k0_mult6 (k0_t2 : Fin k0_t2_loop.trips) : BitVec 32 :=
  let c0_i32_95 : BitVec 32 := 0#32
  let c1_i32_96 : BitVec 32 := 1#32
  let arg10 : BitVec 32 := Scf.iv c0_i32_95 c1_i32_96 k0_t2
  let c8_i32_99 : BitVec 32 := 8#32
  let v102 : BitVec 32 := Scalar.muli arg10 c8_i32_99
  v102
def k0_off8 (i : grid0.Coords) : Fin 1 → Nat :=
  let c1_i32_94 : BitVec 32 := 1#32
  let arg0 : BitVec 32 := BitVec.ofNat 32 (i 0).val
  let c2_i32 : BitVec 32 := 2#32
  let v0 : BitVec 32 := Scalar.remsi arg0 c2_i32
  let v95 : BitVec 32 := Scalar.subi c1_i32_94 v0
  ![v95.toNat]
def k0_off9 (i : grid0.Coords) : Fin 4 → Nat :=
  let c1_i32_94 : BitVec 32 := 1#32
  let arg0 : BitVec 32 := BitVec.ofNat 32 (i 0).val
  let c2_i32 : BitVec 32 := 2#32
  let v0 : BitVec 32 := Scalar.remsi arg0 c2_i32
  let v95 : BitVec 32 := Scalar.subi c1_i32_94 v0
  let c0_i32_100 : BitVec 32 := 0#32
  let c0_i32_101 : BitVec 32 := 0#32
  let c0_i32_102 : BitVec 32 := 0#32
  ![v95.toNat, 0, 0, 0]
def k0_off10 (k0_t2 : Fin k0_t2_loop.trips) : Fin 2 → Nat :=
  let c0_i32_95 : BitVec 32 := 0#32
  let c1_i32_96 : BitVec 32 := 1#32
  let arg10 : BitVec 32 := Scf.iv c0_i32_95 c1_i32_96 k0_t2
  let c8_i32_99 : BitVec 32 := 8#32
  let v102 : BitVec 32 := Scalar.muli arg10 c8_i32_99
  let v103 : BitVec 32 := v102
  let c0_i32_103 : BitVec 32 := 0#32
  ![v103.toNat, 0]
def k0_off11 (v99 : BitVec 32) : Fin 2 → Nat :=
  let c8_i32 : BitVec 32 := 8#32
  let v100 : BitVec 32 := Scalar.muli v99 c8_i32
  let v101 : BitVec 32 := v100
  let c0_i32_104 : BitVec 32 := 0#32
  ![v101.toNat, 0]

def k0_chk3 (i : grid0.Coords) (v99 : BitVec 32) : Prop :=
  (∀ (k0_h2 : k0_cond2 i = 1#1), 8 ∣ (k0_mult5 v99).toNat) ∧
  (∀ (k0_h2 : k0_cond2 i = 1#1), ∀ a, (k0_off11 v99) a + S8x128.size a ≤ S393216x128.size a)
theorem k0_mult5_dvd : ∀ (i : grid0.Coords) (v99 : BitVec 32) (k0_hw3 : k0_chk3 i v99), ∀ (k0_h2 : k0_cond2 i = 1#1), 8 ∣ (k0_mult5 v99).toNat := fun i v99 k0_hw3 k0_h2 => k0_hw3.1 k0_h2
theorem k0_off11_inb : ∀ (i : grid0.Coords) (v99 : BitVec 32) (k0_hw3 : k0_chk3 i v99), ∀ (k0_h2 : k0_cond2 i = 1#1), ∀ a, (k0_off11 v99) a + S8x128.size a ≤ S393216x128.size a := fun i v99 k0_hw3 k0_h2 => k0_hw3.2 k0_h2

def k0_off12 (k0_t2 : Fin k0_t2_loop.trips) : Fin 1 → Nat :=
  let c2_i32_105 : BitVec 32 := 2#32
  let c0_i32_95 : BitVec 32 := 0#32
  let c1_i32_96 : BitVec 32 := 1#32
  let arg10 : BitVec 32 := Scf.iv c0_i32_95 c1_i32_96 k0_t2
  let v110 : BitVec 32 := Scalar.muli c2_i32_105 arg10
  let c1_i32_106 : BitVec 32 := 1#32
  let v111 : BitVec 32 := Scalar.addi v110 c1_i32_106
  let v112 : Index := Scalar.indexCast v111
  ![v112.toNat]
def k0_mult7 (v113 : BitVec 32) : BitVec 32 :=
  let c8_i32_107 : BitVec 32 := 8#32
  let v114 : BitVec 32 := Scalar.muli v113 c8_i32_107
  v114

def k0_mult8 (k0_t2 : Fin k0_t2_loop.trips) : BitVec 32 :=
  let c0_i32_95 : BitVec 32 := 0#32
  let c1_i32_96 : BitVec 32 := 1#32
  let arg10 : BitVec 32 := Scf.iv c0_i32_95 c1_i32_96 k0_t2
  let c8_i32_108 : BitVec 32 := 8#32
  let v116 : BitVec 32 := Scalar.muli arg10 c8_i32_108
  v116
def k0_off13 (i : grid0.Coords) : Fin 1 → Nat :=
  let c1_i32_94 : BitVec 32 := 1#32
  let arg0 : BitVec 32 := BitVec.ofNat 32 (i 0).val
  let c2_i32 : BitVec 32 := 2#32
  let v0 : BitVec 32 := Scalar.remsi arg0 c2_i32
  let v95 : BitVec 32 := Scalar.subi c1_i32_94 v0
  ![v95.toNat]
def k0_off14 (i : grid0.Coords) : Fin 4 → Nat :=
  let c1_i32_94 : BitVec 32 := 1#32
  let arg0 : BitVec 32 := BitVec.ofNat 32 (i 0).val
  let c2_i32 : BitVec 32 := 2#32
  let v0 : BitVec 32 := Scalar.remsi arg0 c2_i32
  let v95 : BitVec 32 := Scalar.subi c1_i32_94 v0
  let c1_i32_109 : BitVec 32 := 1#32
  let c0_i32_110 : BitVec 32 := 0#32
  let c0_i32_111 : BitVec 32 := 0#32
  ![v95.toNat, 1, 0, 0]
def k0_off15 (k0_t2 : Fin k0_t2_loop.trips) : Fin 2 → Nat :=
  let c0_i32_95 : BitVec 32 := 0#32
  let c1_i32_96 : BitVec 32 := 1#32
  let arg10 : BitVec 32 := Scf.iv c0_i32_95 c1_i32_96 k0_t2
  let c8_i32_108 : BitVec 32 := 8#32
  let v116 : BitVec 32 := Scalar.muli arg10 c8_i32_108
  let v117 : BitVec 32 := v116
  let c0_i32_112 : BitVec 32 := 0#32
  ![v117.toNat, 0]
def k0_off16 (v113 : BitVec 32) : Fin 2 → Nat :=
  let c8_i32_107 : BitVec 32 := 8#32
  let v114 : BitVec 32 := Scalar.muli v113 c8_i32_107
  let v115 : BitVec 32 := v114
  let c0_i32_113 : BitVec 32 := 0#32
  ![v115.toNat, 0]

def k0_chk4 (i : grid0.Coords) (v113 : BitVec 32) : Prop :=
  (∀ (k0_h2 : k0_cond2 i = 1#1), 8 ∣ (k0_mult7 v113).toNat) ∧
  (∀ (k0_h2 : k0_cond2 i = 1#1), ∀ a, (k0_off16 v113) a + S8x128.size a ≤ S393216x128.size a)
theorem k0_mult7_dvd : ∀ (i : grid0.Coords) (v113 : BitVec 32) (k0_hw4 : k0_chk4 i v113), ∀ (k0_h2 : k0_cond2 i = 1#1), 8 ∣ (k0_mult7 v113).toNat := fun i v113 k0_hw4 k0_h2 => k0_hw4.1 k0_h2
theorem k0_off16_inb : ∀ (i : grid0.Coords) (v113 : BitVec 32) (k0_hw4 : k0_chk4 i v113), ∀ (k0_h2 : k0_cond2 i = 1#1), ∀ a, (k0_off16 v113) a + S8x128.size a ≤ S393216x128.size a := fun i v113 k0_hw4 k0_h2 => k0_hw4.2 k0_h2

def k0_mult9 : BitVec 32 :=
  let c0_i32_2 : BitVec 32 := 0#32
  c0_i32_2
def k0_off17 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off18 (i : grid0.Coords) : Fin 4 → Nat :=
  let arg0 : BitVec 32 := BitVec.ofNat 32 (i 0).val
  let c2_i32 : BitVec 32 := 2#32
  let v0 : BitVec 32 := Scalar.remsi arg0 c2_i32
  let c0_i32_3 : BitVec 32 := 0#32
  let c0_i32_4 : BitVec 32 := 0#32
  let c0_i32_5 : BitVec 32 := 0#32
  ![v0.toNat, 0, 0, 0]
def k0_mult10 : BitVec 32 :=
  let c0_i32_7 : BitVec 32 := 0#32
  c0_i32_7
def k0_off19 (i : grid0.Coords) : Fin 4 → Nat :=
  let arg0 : BitVec 32 := BitVec.ofNat 32 (i 0).val
  let c2_i32 : BitVec 32 := 2#32
  let v0 : BitVec 32 := Scalar.remsi arg0 c2_i32
  let c1_i32_8 : BitVec 32 := 1#32
  let c0_i32_9 : BitVec 32 := 0#32
  let c0_i32_10 : BitVec 32 := 0#32
  ![v0.toNat, 1, 0, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  ![v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x2 : Shape := ⟨2, ![16384, 2]⟩
abbrev S16384x128 : Shape := ⟨2, ![16384, 128]⟩
abbrev S16384x1024 : Shape := ⟨2, ![16384, 1024]⟩
abbrev S1024 : Shape := ⟨1, ![1024]⟩
abbrev S393216x128 : Shape := ⟨2, ![393216, 128]⟩
abbrev S49152x1024 : Shape := ⟨2, ![49152, 1024]⟩
abbrev S16384x1 : Shape := ⟨2, ![16384, 1]⟩
abbrev S16384 : Shape := ⟨1, ![16384]⟩
abbrev S_ : Shape := ⟨0, ![]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S16384x128, .f32⟩
  | .hbm, ⟨2, _⟩ => ⟨S16384x1024, .f32⟩
  | .hbm, ⟨3, _⟩ => ⟨S1024, .f32⟩
  | .hbm, ⟨4, _⟩ => ⟨S393216x128, .f32⟩
  | .hbm, ⟨5, _⟩ => ⟨S49152x1024, .f32⟩
  | .hbm, ⟨6, _⟩ => ⟨S16384x1, .f32⟩
  | .hbm, ⟨7, _⟩ => ⟨S16384x1, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1, .f32⟩
  | .hbm, ⟨21, _⟩ => ⟨S16384x1, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.DispatchSets.lean ====
/- The elements one copy of the dispatch call moves.

   At one grid point the call copies 512 tokens, each to two slots of the expert buffer: copy `q` takes the eight rows of
   token `q / 2` of the staged block to the eight rows of the slot the block's word `q` names. This module says which
   elements those are, on either side, and that the two sides correspond row by row. -/
module

public import proofs.«01_k».proof.Proof.Gen.KernelIdeal
public import proofs.«01_k».proof.Proof.Gen.KernelIdeal.Skeleton
public import Idealize.ShloMosaic.Lib.Pipeline.Routed
public import Idealize.ShloMosaic.Lib.Batch
public import Idealize.ShloMosaic.Lib.Ring
public import Idealize.ShloMosaic.Lib.Tactic

@[expose] public section

noncomputable section

namespace Cert.KernelIdeal.Dispatch

open Cert.KernelIdeal Cert.KernelIdeal.Gen
open Idealize.ShloMosaic Idealize.ShloMosaic.TcCoe

/-! ## Words -/

/-- The loop runs 512 trips. -/
theorem trips_eq : k0_t1_loop.trips = 512 := by decide

/-- What one grid point needs of its 1024 words: each names a slot, and no two name the same. -/
structure WordsOK (w : ℕ → BitVec 32) : Prop where
  lt : ∀ q, q < 1024 → (w q).toNat < 49152
  inj : ∀ q q', q < 1024 → q' < 1024 → (w q).toNat = (w q').toNat → q = q'

/-- A slot's first row, as the body computes it: eight times the word, which does not wrap. -/
theorem row_toNat (w : BitVec 32) (h : w.toNat < 49152) : (k0_mult2 w).toNat = 8 * w.toNat := by
  show (w * 8#32).toNat = _
  rw [BitVec.toNat_mul]
  simp only [BitVec.toNat_ofNat]
  omega

theorem off2_eq (w : BitVec 32) (h : w.toNat < 49152) : k0_off2 w = ![8 * w.toNat, 0] := by
  have e : k0_off2 w = ![(k0_mult2 w).toNat, 0] := rfl
  rw [e, row_toNat w h]

/-- The rows of a slot lie in the expert buffer: what the body assumes of a word it has read. -/
theorem chk1_of (w : BitVec 32) (h : w.toNat < 49152) : k0_chk1 w := by
  refine ⟨row_toNat w h ▸ Nat.dvd_mul_right 8 _, fun a => ?_⟩
  rw [off2_eq w h]
  fin_cases a
  · show 8 * w.toNat + 8 ≤ 393216; omega
  · show 0 + 128 ≤ 128; omega

theorem chk2_of (w : BitVec 32) (h : w.toNat < 49152) : k0_chk2 w := chk1_of w h

/-! ## Rows -/

/-- The elements of slot `w` of the expert buffer: its eight rows. -/
def slotRows (w : BitVec 32) : Finset S393216x128.Idx := Finset.univ.filter fun i => (i 0).val / 8 = w.toNat

/-- The elements of token `k` of a staged block: its eight rows. -/
def tokenRows (k : ℕ) : Finset S4096x128.Idx := Finset.univ.filter fun i => (i 0).val / 8 = k

theorem mem_slotRows {w : BitVec 32} {i : S393216x128.Idx} : i ∈ slotRows w ↔ (i 0).val / 8 = w.toNat := by
  simp [slotRows]

theorem mem_tokenRows {k : ℕ} {i : S4096x128.Idx} : i ∈ tokenRows k ↔ (i 0).val / 8 = k := by
  simp [tokenRows]

theorem slotRows_disjoint {w w' : BitVec 32} (h : w.toNat ≠ w'.toNat) : Disjoint (slotRows w) (slotRows w') := by
  rw [Finset.disjoint_left]; intro i hi hi'
  rw [mem_slotRows] at hi hi'
  exact h (hi.symm.trans hi')

theorem tokenRows_disjoint {k k' : ℕ} (h : k ≠ k') : Disjoint (tokenRows k) (tokenRows k') := by
  rw [Finset.disjoint_left]; intro i hi hi'
  rw [mem_tokenRows] at hi hi'
  exact h (hi.symm.trans hi')

/-- The rectangle at a slot's first row is the slot's rows; -/
theorem rect_slot (w : BitVec 32) (hw : w.toNat < 49152) (h : ∀ a, k0_off2 w a + S8x128.size a ≤ S393216x128.size a) :
    (Rect.unit (s := S393216x128) (k0_off2 w) S8x128.size h).set = slotRows w := by
  ext i
  rw [Rect.mem_set_unit, mem_slotRows, off2_eq w hw]
  have b1 : (i 1).val < 128 := (i 1).isLt
  constructor
  · intro H; have a0 : 8 * w.toNat ≤ (i 0).val ∧ (i 0).val < 8 * w.toNat + 8 := H 0; omega
  · intro H a; fin_cases a
    · show 8 * w.toNat ≤ (i 0).val ∧ (i 0).val < 8 * w.toNat + 8; omega
    · show 0 ≤ (i 1).val ∧ (i 1).val < 0 + 128; omega

/-- and the rectangle at a token's first row the token's. -/
theorem rect_token (k : Fin k0_t1_loop.trips) (h : ∀ a, k0_off3 k a + S8x128.size a ≤ S4096x128.size a) :
    (Rect.unit (s := S4096x128) (k0_off3 k) S8x128.size h).set = tokenRows k.val := by
  ext i
  rw [Rect.mem_set_unit, mem_tokenRows, k0_off3_eq k]
  have b1 : (i 1).val < 128 := (i 1).isLt
  constructor
  · intro H; have a0 : 8 * k.val ≤ (i 0).val ∧ (i 0).val < 8 * k.val + 8 := H 0; omega
  · intro H a; fin_cases a
    · show 8 * k.val ≤ (i 0).val ∧ (i 0).val < 8 * k.val + 8; omega
    · show 0 ≤ (i 1).val ∧ (i 1).val < 0 + 128; omega

/-- The row of the block copy `q` brings to element `i` of its slot. -/
def fromRow (q : ℕ) (i : S393216x128.Idx) : S4096x128.Idx := fun a => match a with
  | ⟨0, _⟩ => ⟨(8 * (q / 2) + (i 0).val % 8) % 4096, Nat.mod_lt _ (by decide)⟩
  | ⟨1, _⟩ => i 1

/-- Element `x` of the copied rectangle lies, on the slot's side, at `i`, and on the token's side at the row `i` takes. -/
theorem emb_corr (w : BitVec 32) (hw : w.toNat < 49152) (k : Fin k0_t1_loop.trips) (q : ℕ) (hq : q / 2 = k.val)
    (h : ∀ a, k0_off2 w a + S8x128.size a ≤ S393216x128.size a) (h' : ∀ a, k0_off3 k a + S8x128.size a ≤ S4096x128.size a)
    (x : S8x128.Idx) :
    (Rect.unit (s := S4096x128) (k0_off3 k) S8x128.size h').emb x
      = fromRow q ((Rect.unit (s := S393216x128) (k0_off2 w) S8x128.size h).emb x) := by
  have hk : k.val < 512 := trips_eq ▸ k.isLt
  have b0 : (x 0).val < 8 := (x 0).isLt
  funext a
  apply Fin.ext
  fin_cases a
  · show k0_off3 k 0 + 1 * (x 0).val = (8 * (q / 2) + (k0_off2 w 0 + 1 * (x 0).val) % 8) % 4096
    rw [k0_off3_eq k, off2_eq w hw, hq]
    show 8 * k.val + 1 * (x 0).val = (8 * k.val + (8 * w.toNat + 1 * (x 0).val) % 8) % 4096
    omega
  · show k0_off3 k 1 + 1 * (x 1).val = k0_off2 w 1 + 1 * (x 1).val
    rw [k0_off3_eq k, off2_eq w hw]; rfl

end Cert.KernelIdeal.Dispatch

end
-- ==== Proof.DispatchBody.lean ====
/- One grid point of the dispatch call.

   The loop starts 1024 copies on one semaphore, two a trip, and the two waits after it take the credit of 512 copies each.
   The copies are one batch: copy `2k` takes token `k` to the slot of word `2k`, copy `2k + 1` to the slot of word
   `2k + 1`. Two copies read the same token at once, so the staged block is held in two halves, one for the even copies and
   one for the odd; the slots are pairwise apart, so each copy owns the rows it writes.

   `run_point`: the body, from the expert buffer at `fv`, leaves it at any contents `fw` that has each named slot's rows
   from its token and agrees with `fv` elsewhere. -/
module

public import proofs.«01_k».proof.Proof.DispatchSets

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))

/-- The memref of the expert buffer. -/
abbrev slots : Memref sig .tc .hbm S393216x128 .f32 := Memref.whole main_v1

/-- Place `q` of a staged block of words. -/
def place (q : ℕ) : S1024.Idx := fun a => match a with | ⟨0, _⟩ => ⟨q % 1024, Nat.mod_lt q (show 0 < 1024 by decide)⟩

/-- Word `q` of a staged block of words. -/
def word (M1 : Memref sig .tc .smem S1024 .i32) {c : Dev nD} (f1 : Bf (F := F) c M1) (q : ℕ) : BitVec 32 :=
  M1.view.read (Elt F) f1 (place q)

abbrev only : S1.Idx := Shape.Idx.first (s := S1) (numel1_S1.symm ▸ Nat.one_pos)

omit [FloatOps F] in
/-- The word trip `k` reads first, and the word it reads second. -/
theorem word_even (M1 : Memref sig .tc .smem S1024 .i32) {c : Dev nD} (f1 : Bf (F := F) c M1) (k : Fin k0_t1_loop.trips) :
    M1.view.readAt (Elt F) (Rect.unit (s := S1024) (k0_off1 k) S1.size (k0_off1_inb k)).toLoadRect f1 only
      = word M1 f1 (2 * k.val) := by
  have hk : k.val < 512 := trips_eq ▸ k.isLt
  refine congrArg (M1.view.read (Elt F) f1) (funext fun a => Fin.ext ?_)
  fin_cases a
  show k0_off1 k 0 + 1 * (only 0).val = 2 * k.val % 1024
  have b : (only 0).val < 1 := (only 0).isLt
  rw [k0_off1_eq k]
  show 2 * k.val + 1 * (only 0).val = 2 * k.val % 1024
  omega
omit [FloatOps F] in
theorem word_odd (M1 : Memref sig .tc .smem S1024 .i32) {c : Dev nD} (f1 : Bf (F := F) c M1) (k : Fin k0_t1_loop.trips) :
    M1.view.readAt (Elt F) (Rect.unit (s := S1024) (k0_off4 k) S1.size (k0_off4_inb k)).toLoadRect f1 only
      = word M1 f1 (2 * k.val + 1) := by
  have hk : k.val < 512 := trips_eq ▸ k.isLt
  refine congrArg (M1.view.read (Elt F) f1) (funext fun a => Fin.ext ?_)
  fin_cases a
  show k0_off4 k 0 + 1 * (only 0).val = (2 * k.val + 1) % 1024
  have b : (only 0).val < 1 := (only 0).isLt
  rw [k0_off4_eq k]
  show 2 * k.val + 1 + 1 * (only 0).val = (2 * k.val + 1) % 1024
  omega

section Point

variable (c : Dev nD) (M2 : Memref sig .tc .vmem S4096x128 .f32) (w : ℕ → BitVec 32)
  (fv fw : Bf (F := F) c slots) (f2 : Bf (F := F) c M2)

/-- The elements of token `k` in the staged block's buffer. -/
def inBlock (k : ℕ) : Finset (Idx (M2.view.loc (c : Thread nD τ))) := (tokenRows k).map M2.view.emb

/-- Slot `w` of the expert buffer held by its own elements, and a half of token `k`. -/
def slotAt (w : BitVec 32) (g : Bf (F := F) c slots) : sProp 𝕄 :=
  slots.view.loc (c : Thread nD τ) ↦[slotRows w]{fullShare} g
def tokenAt (p : PosShare TreeShare) (k : ℕ) : sProp 𝕄 := M2.view.loc (c : Thread nD τ) ↦[inBlock c M2 k]{p} f2

/-- What copy `2k` gives back, and what copy `2k + 1` does: the slot filled, and the half of the token it read. -/
def evenBack (k : ℕ) : sProp 𝕄 := iprop(slotAt c (w (2 * k)) fw ∗ tokenAt c M2 f2 fullShare.left k)
def oddBack (k : ℕ) : sProp 𝕄 := iprop(slotAt c (w (2 * k + 1)) fw ∗ tokenAt c M2 f2 fullShare.right k)

instance evenBack_storable (k : ℕ) : BI.Storable (upEmb : UEmb _ 𝕄) (evenBack c M2 w fw f2 k) := by
  unfold evenBack slotAt tokenAt; infer_instance
instance oddBack_storable (k : ℕ) : BI.Storable (upEmb : UEmb _ 𝕄) (oddBack c M2 w fw f2 k) := by
  unfold oddBack slotAt tokenAt; infer_instance

/-- The credit of one copy. -/
abbrev NN : ℕ := 128

/-- The 1024 copies of the point, `j` started and `u` credits taken. -/
abbrev batch (j u : ℕ) : sProp 𝕄 :=
  Transfers.Batch countersEmb (c : Thread nD τ) (.dma cc0_scratch0.sem) () NN
    (Ring.interleaved 512 (evenBack c M2 w fw f2) (oddBack c M2 w fw f2)) j u

/-- Each word's slot, in `fw`, has the rows of its token. -/
def Filled : Prop := ∀ q, q < 1024 → ∀ i ∈ slotRows (w q), fw i = M2.view.read (Elt F) f2 (fromRow q i)

variable {c M2 w fv fw f2}

/-- The credit of a copy depends on its shape alone. -/
theorem credit_copy (off : Fin 2 → ℕ) (h : ∀ a, off a + S8x128.size a ≤ S393216x128.size a) :
    (slots.slice (Rect.unit (s := S393216x128) off S8x128.size h) (fun _ => rfl)).view.amount (SemLoc.dma (sig := sig) cc0_scratch0.sem) = NN := by
  show sig.dmaCredit Kind.tc _ _ S8x128 EltTy.f32 = 128
  rfl

omit [FloatOps F] in
/-- A copy as it lands, restated: the slot at `fw`, the half token back. -/
theorem landed (hw : WordsOK w) (hf : Filled c M2 w fw f2) (k : Fin k0_t1_loop.trips) (q : ℕ) (hq : q / 2 = k.val) (hq' : q < 1024)
    (h : ∀ a, k0_off2 (w q) a + S8x128.size a ≤ S393216x128.size a) (h' : ∀ a, k0_off3 k a + S8x128.size a ≤ S4096x128.size a)
    (i : S393216x128.Idx) (hi : i ∈ slotRows (w q)) :
    (slots.slice (Rect.unit (s := S393216x128) (k0_off2 (w q)) S8x128.size h) (fun _ => rfl)).view.write (Elt F) fv
      (ReadAs.same.apply ((M2.slice (Rect.unit (s := S4096x128) (k0_off3 k) S8x128.size h') (fun _ => rfl)).view.read (Elt F) f2)) Finset.univ i
      = fw i := by
  rw [hf q hq' i hi]
  rw [← rect_slot (w q) (hw.lt q hq') h, ← Rect.map_emb_univ] at hi
  obtain ⟨x, -, rfl⟩ := Finset.mem_map.mp hi
  rw [← emb_corr (w q) (hw.lt q hq') k q hq h h' x]
  exact View.write_emb_of_mem (v := (slots.slice (Rect.unit (s := S393216x128) (k0_off2 (w q)) S8x128.size h) (fun _ => rfl)).view)
    fv _ (Finset.mem_univ x)

/-- Copy `q` of the point started: trip `k`'s copy out of token `k`, of the half `p`, into word `q`'s slot; `G` is what the
    batch says it gives back. -/
theorem start_copy (hw : WordsOK w) (hf : Filled c M2 w fw f2) (k : Fin k0_t1_loop.trips) (q : ℕ) (hq : q / 2 = k.val) (hq' : q < 1024)
    (v : BitVec 32) (hv : v = w q) (p : PosShare TreeShare)
    (h : ∀ a, k0_off2 v a + S8x128.size a ≤ S393216x128.size a) (h' : ∀ a, k0_off3 k a + S8x128.size a ≤ S4096x128.size a)
    (hG : Ring.interleaved 512 (evenBack c M2 w fw f2) (oddBack c M2 w fw f2) ⟨q, by omega⟩
      = iprop(slotAt c (w q) fw ∗ tokenAt c M2 f2 p k.val))
    {hsrc : (M2.slice (Rect.unit (s := S4096x128) (k0_off3 k) S8x128.size h') (fun _ => rfl)).view.WordExact}
    {hdst : (slots.slice (Rect.unit (s := S393216x128) (k0_off2 v) S8x128.size h) (fun _ => rfl)).view.WordExact}
    {hsem : DmaTarget.Typed (nD := nD) Space.vmem (SemLoc.dma cc0_scratch0.sem) (.here (p := (Proc.tc : Proc τ)) (slots.slice (Rect.unit (s := S393216x128) (k0_off2 v) S8x128.size h) (fun _ => rfl)))}
    {K : PUnit → Prog (TpuEff nD τ sig (Elt F) Λ₀ .tc) Unit} {Q : Unit → sProp 𝕄} :
    iprop(slotAt c (w q) fv ∗ tokenAt c M2 f2 p k.val ∗ batch c M2 w fw f2 q 0)
      ⊢ iprop((batch c M2 w fw f2 (q + 1) 0 -∗ wp frame (wpE (defs₀ (F := F)) Variants.none (c : Thread nD τ) none) Set.univ (K ⟨⟩) Q)
        -∗ wp frame (wpE (defs₀ (F := F)) Variants.none (c : Thread nD τ) none) Set.univ
            (.op (.enqueueDmaAs (M2.slice (Rect.unit (s := S4096x128) (k0_off3 k) S8x128.size h') (fun _ => rfl))
              (.here (slots.slice (Rect.unit (s := S393216x128) (k0_off2 v) S8x128.size h) (fun _ => rfl))) ReadAs.same
              (SemLoc.dma cc0_scratch0.sem) hsrc hdst hsem) K) Q) := by
  subst hv
  have e1 : (slots.slice (Rect.unit (s := S393216x128) (k0_off2 (w q)) S8x128.size h) (fun _ => rfl)).view.set = slotRows (w q) :=
    (View.set_slice_whole main_v1 _).trans (rect_slot (w q) (hw.lt q hq') h)
  have e2 : (M2.slice (Rect.unit (s := S4096x128) (k0_off3 k) S8x128.size h') (fun _ => rfl)).view.set = inBlock c M2 k.val :=
    (View.set_slice M2.view _).trans (congrArg (Finset.map M2.view.emb) (rect_token k h'))
  iintro ⟨HR, HT, HB⟩
  unfold slotAt tokenAt
  rw [← e2]
  iapply (Transfers.wp_dmaBatch countersEmb Variants.none (c : Thread nD τ) none
    (src := M2.slice (Rect.unit (s := S4096x128) (k0_off3 k) S8x128.size h') (fun _ => rfl))
    (dst := slots.slice (Rect.unit (s := S393216x128) (k0_off2 (w q)) S8x128.size h) (fun _ => rfl))
    (q := p) (fs := f2) (Sd := slotRows (w q)) (fd := fv) (sm := .dma cc0_scratch0.sem)
    (D := Ring.interleaved 512 (evenBack c M2 w fw f2) (oddBack c M2 w fw f2)) (j := q) (u := 0)
    () NN (credit_copy _ h) e1.le (by omega) (Nat.zero_le _) ?_) $$ [HR HT HB]
  · rw [hG]
    unfold slotAt tokenAt
    rw [← e2]
    exact sep_mono (Entails.of_eq (pointsTo_congr fun i hi => landed hw hf k q hq hq' h h' i hi)) .rfl
  · isplitl [HT]; · iexact HT
    isplitl [HR]; · iexact HR
    iexact HB

/-! ## The loop -/

variable (c M2 fv fw f2) in
/-- Before trip `k`: the first `2k` copies started and no credit taken; the slots and the token halves of the copies from
    there on still in hand; the words. -/
def issuing (M1 : Memref sig .tc .smem S1024 .i32) (f1 : Bf (F := F) c M1) (k : ℕ) (_ : Unit) : sProp 𝕄 :=
  iprop(batch c M2 (word M1 f1) fw f2 (2 * k) 0
    ∗ (bigSep (Finset.Ico k 512) fun j => slotAt c (word M1 f1 (2 * j)) fv)
    ∗ (bigSep (Finset.Ico k 512) fun j => slotAt c (word M1 f1 (2 * j + 1)) fv)
    ∗ (bigSep (Finset.Ico k 512) fun j => tokenAt c M2 f2 fullShare.left j)
    ∗ (bigSep (Finset.Ico k 512) fun j => tokenAt c M2 f2 fullShare.right j)
    ∗ M1.view.loc (c : Thread nD τ) ↦{fullShare} f1)

omit [FloatOps F] in
theorem take_first (Φ : ℕ → sProp 𝕄) {k : ℕ} (h : k < 512) :
    bigSep (Finset.Ico k 512) Φ = iprop(Φ k ∗ bigSep (Finset.Ico (k + 1) 512) Φ) := by
  rw [Ring.Ico_eq_insert h, bigSep_insert (by simp)]; rfl

/-- One trip. -/
theorem trip [∀ e, Nonempty (Elt F e)] (i : grid0.Coords) (M1 : Memref sig .tc .smem S1024 .i32) (h1 : M1.IsWhole) (h2 : M2.IsWhole)
    (M3 : Memref sig .tc .hbm S393216x128 .f32) (h3 : M3.IsWhole) (h4 : slots.IsWhole)
    (f1 : Bf (F := F) c M1) (hw : WordsOK (word M1 f1)) (hf : Filled c M2 (word M1 f1) fw f2)
    (k : Fin k0_t1_loop.trips) (acc : Unit) :
    issuing c M2 fv fw f2 M1 f1 k.val acc
      ⊢ wp frame (wpE (defs₀ (F := F)) Variants.none (c : Thread nD τ) none) Set.univ
          (k0_t1_body i M1 h1 M2 h2 M3 h3 slots h4 cc0_scratch0 k acc)
          (issuing c M2 fv fw f2 M1 f1 (k.val + 1)) := by
  have hk : k.val < 512 := trips_eq ▸ k.isLt
  unfold issuing
  rw [take_first _ hk, take_first _ hk, take_first _ hk, take_first _ hk]
  iintro ⟨HB, ⟨HR0, HRs0⟩, ⟨HR1, HRs1⟩, ⟨HT0, HTs0⟩, ⟨HT1, HTs1⟩, H1⟩
  dsimp only [k0_t1_body]
  have c1 : k0_chk1 (M1.view.readAt (Elt F) (Rect.unit (s := S1024) (k0_off1 k) S1.size (k0_off1_inb k)).toLoadRect f1 only) :=
    chk1_of _ (word_even M1 f1 k ▸ hw.lt _ (by omega))
  have c2 : k0_chk2 (M1.view.readAt (Elt F) (Rect.unit (s := S1024) (k0_off4 k) S1.size (k0_off4_inb k)).toLoadRect f1 only) :=
    chk2_of _ (word_odd M1 f1 k ▸ hw.lt _ (by omega))
  sl_exec (disch := first | exact c1 | exact c2)
  iapply (start_copy hw hf k (2 * k.val) (by omega) (by omega) _ (word_even M1 f1 k) fullShare.left _ _
    (Ring.interleaved_even 512 _ _ k.val _)) $$ [HR0 HT0 HB]
  · isplitl [HR0]; · iexact HR0
    isplitl [HT0]; · iexact HT0
    iexact HB
  iintro HB
  sl_exec (disch := first | exact c1 | exact c2)
  iapply (start_copy hw hf k (2 * k.val + 1) (by omega) (by omega) _ (word_odd M1 f1 k) fullShare.right _ _
    (Ring.interleaved_odd 512 _ _ k.val _)) $$ [HR1 HT1 HB]
  · isplitl [HR1]; · iexact HR1
    isplitl [HT1]; · iexact HT1
    iexact HB
  iintro HB
  sl_step
  isplitl [HB]; · iexact HB
  isplitl [HRs0]; · iexact HRs0
  isplitl [HRs1]; · iexact HRs1
  isplitl [HTs0]; · iexact HTs0
  isplitl [HTs1]; · iexact HTs1
  iexact H1

/-! ## The buffers taken apart -/

omit [FloatOps F] in
/-- A buffer at a share is its pairwise disjoint parts beside the rest. -/
theorem apart {ℓ : Loc nD τ sig} (p : PosShare TreeShare) (n : ℕ) (K : ℕ → Finset (Idx ℓ))
    (hd : ∀ t ∈ Finset.range n, ∀ t' ∈ Finset.range n, t ≠ t' → Disjoint (K t) (K t')) (g : Buf (Elt F) ℓ) :
    (ℓ ↦[Finset.univ]{p} g : sProp 𝕄)
      = iprop((bigSep (Finset.range n) fun t => ℓ ↦[K t]{p} g) ∗ ℓ ↦[Finset.univ \ (Finset.range n).biUnion K]{p} g) := by
  rw [← pointsTo_biUnion (Finset.range n) K hd]
  exact BI.equiv_iff.mp ⟨(pointsTo_split_subset (Finset.subset_univ _)).1, (pointsTo_split_subset (Finset.subset_univ _)).2⟩

variable (c w) in
/-- The part of the expert buffer no word names. -/
def others (g : Bf (F := F) c slots) : sProp 𝕄 :=
  slots.view.loc (c : Thread nD τ) ↦[Finset.univ \ (Finset.range (2 * 512)).biUnion fun q => slotRows (w q)]{fullShare} g

omit [FloatOps F] in
theorem slots_apart (hw : WordsOK w) (g : Bf (F := F) c slots) :
    (slots.view.loc (c : Thread nD τ) ↦{fullShare} g : sProp 𝕄)
      = iprop(((bigSep (Finset.range 512) fun j => slotAt c (w (2 * j)) g)
          ∗ (bigSep (Finset.range 512) fun j => slotAt c (w (2 * j + 1)) g)) ∗ others c w g) := by
  refine (apart (ℓ := slots.view.loc (c : Thread nD τ)) fullShare (2 * 512) (fun q => slotRows (w q)) (fun q hq q' hq' hne => ?_) g).trans ?_
  · rw [Finset.mem_range] at hq hq'
    exact slotRows_disjoint fun e => hne (hw.inj q q' (by omega) (by omega) e)
  · rw [Ring.bigSep_range_deinterleave]; rfl

omit [FloatOps F] in
/-- Outside the named slots nothing changes. -/
theorem others_eq (hkeep : ∀ i, (∀ q, q < 1024 → (i 0).val / 8 ≠ (w q).toNat) → fw i = fv i) :
    (others c w fv : sProp 𝕄) = others c w fw :=
  pointsTo_congr fun i hi => (hkeep i fun q hq e => by
    rw [Finset.mem_sdiff] at hi
    have hq2 : q ∈ Finset.range (2 * 512) := by rw [Finset.mem_range]; omega
    refine hi.2 ?_
    rw [Finset.mem_biUnion]
    refine ⟨q, hq2, ?_⟩
    rw [mem_slotRows]; exact e).symm

variable (c M2 f2) in
/-- What is left of the staged block's buffer beside its tokens (nothing, but it need not be known). -/
def blockRest (p : PosShare TreeShare) : sProp 𝕄 :=
  M2.view.loc (c : Thread nD τ) ↦[Finset.univ \ (Finset.range 512).biUnion (inBlock c M2)]{p} f2

omit [FloatOps F] in
theorem block_apart (p : PosShare TreeShare) :
    (M2.view.loc (c : Thread nD τ) ↦[Finset.univ]{p} f2 : sProp 𝕄)
      = iprop((bigSep (Finset.range 512) fun j => tokenAt c M2 f2 p j) ∗ blockRest c M2 f2 p) :=
  apart p 512 (inBlock c M2) (fun t _ t' _ hne => (Finset.disjoint_map _).mpr (tokenRows_disjoint hne)) f2

omit [FloatOps F] in
/-- The staged block in two halves, each by tokens. -/
theorem block_halves :
    (M2.view.loc (c : Thread nD τ) ↦{fullShare} f2 : sProp 𝕄)
      = iprop(((bigSep (Finset.range 512) fun j => tokenAt c M2 f2 fullShare.left j) ∗ blockRest c M2 f2 fullShare.left)
        ∗ ((bigSep (Finset.range 512) fun j => tokenAt c M2 f2 fullShare.right j) ∗ blockRest c M2 f2 fullShare.right)) := by
  rw [← block_apart, ← block_apart]
  have h := pointsTo_share (Val := Elt F) (Ix := Unit) (Name := ℕ) (U := UC sig nD τ) (Lvl := ℕ) (ℓ := M2.view.loc (c : Thread nD τ))
    (I := Finset.univ) (f := f2) (PosShare.mem_left_op_right fullShare)
  exact BI.equiv_iff.mp ⟨h.1, h.2⟩

/-- Every copy's return, sorted into slots and token halves. -/
theorem back :
    (bigSep Finset.univ (Ring.interleaved 512 (evenBack c M2 w fw f2) (oddBack c M2 w fw f2)) : sProp 𝕄)
      ⊢ iprop(((bigSep (Finset.range 512) fun j => slotAt c (w (2 * j)) fw) ∗ (bigSep (Finset.range 512) fun j => tokenAt c M2 f2 fullShare.left j))
        ∗ (bigSep (Finset.range 512) fun j => slotAt c (w (2 * j + 1)) fw) ∗ (bigSep (Finset.range 512) fun j => tokenAt c M2 f2 fullShare.right j)) := by
  rw [Ring.bigSep_interleaved]
  exact BI.sep_mono (Entails.of_eq (BI.bigSep_sep _ _ _)) (Entails.of_eq (BI.bigSep_sep _ _ _))

/-- A wait takes the credit of 512 copies. -/
theorem credit_wait :
    (slots.slice (Rect.unit (s := S393216x128) ![0, 0] S4096x128.size inb_S393216x128_S4096x128_0_0) (fun _ => rfl)).view.dmaCredit = 512 * NN := by
  show sig.dmaCredit Kind.tc _ _ S4096x128 EltTy.f32 = 65536
  rfl

/-- After a statement the next one runs at its value. -/
theorem next {E : Type → Type} {α β : Type} (a : α) (k : α → Prog E β) : (Prog.ret a).bind k = k a := rfl

/-! ## The body -/

set_option maxRecDepth 16384 in
set_option maxHeartbeats 4000000 in
/-- One grid point: the words and the block come back as they were, the expert buffer goes from `fv` to `fw`, the
    semaphore comes back at zero. -/
theorem run_point [∀ e, Nonempty (Elt F e)] (i : grid0.Coords) (M1 : Memref sig .tc .smem S1024 .i32) (h1 : M1.IsWhole) (h2 : M2.IsWhole)
    (M3 : Memref sig .tc .hbm S393216x128 .f32) (h3 : M3.IsWhole) (h4 : slots.IsWhole)
    (f1 : Bf (F := F) c M1) (hw : WordsOK (word M1 f1)) (hf : Filled c M2 (word M1 f1) fw f2)
    (hkeep : ∀ i, (∀ q, q < 1024 → (i 0).val / 8 ≠ (word M1 f1 q).toNat) → fw i = fv i)
    (W : Waits sig Unit) (Q : PUnit → sProp 𝕄) :
    iprop((M1.view.loc (c : Thread nD τ) ↦{fullShare} f1) ∗ (M2.view.loc (c : Thread nD τ) ↦{fullShare} f2)
        ∗ (slots.view.loc (c : Thread nD τ) ↦{fullShare} fv)
        ∗ semVal ((c : Thread nD τ), SemLoc.dma cc0_scratch0.sem) 0 ∗ owes (c : Thread nD τ) 0 W
        ∗ (iprop((M1.view.loc (c : Thread nD τ) ↦{fullShare} f1) ∗ (M2.view.loc (c : Thread nD τ) ↦{fullShare} f2)
            ∗ (slots.view.loc (c : Thread nD τ) ↦{fullShare} fw)
            ∗ semVal ((c : Thread nD τ), SemLoc.dma cc0_scratch0.sem) 0 ∗ ∃ W, owes (c : Thread nD τ) 0 W) -∗ Q ⟨⟩))
      ⊢ wp frame (wpE (defs₀ (F := F)) Variants.none (c : Thread nD τ) none) Set.univ
          (cc0_moe_dispatch i M1 h1 M2 h2 M3 h3 slots h4 cc0_scratch0) Q := by
  rw [slots_apart hw fv, slots_apart hw fw, block_halves]
  iintro ⟨H1, ⟨⟨HT0, HX0⟩, HT1, HX1⟩, ⟨⟨HR0, HR1⟩, HO'⟩, Hc, HO, Hk⟩
  simp only [cc0_moe_dispatch_eq_skeleton]; unfold cc0_moe_dispatch_skel
  imod (Transfers.batch_alloc' (Lvl := ℕ) countersEmb (c : Thread nD τ) () NN
    (Ring.interleaved 512 (evenBack c M2 (word M1 f1) fw f2) (oddBack c M2 (word M1 f1) fw f2)) (sm := .dma cc0_scratch0.sem) (E := Set.univ)) $$ Hc with HB
  sl_for (issuing c M2 fv fw f2 M1 f1) $$ [HB HR0 HR1 HT0 HT1 H1]
  · intro k acc; exact trip i M1 h1 h2 M3 h3 h4 f1 hw hf k acc
  · unfold issuing
    rw [← Finset.range_eq_Ico]
    isplitl [HB]; · iexact HB
    isplitl [HR0]; · iexact HR0
    isplitl [HR1]; · iexact HR1
    isplitl [HT0]; · iexact HT0
    isplitl [HT1]; · iexact HT1
    iexact H1
  iintro %acc HL
  ihave HL' := (show issuing c M2 fv fw f2 M1 f1 k0_t1_loop.trips acc
      ⊢ iprop(batch c M2 (word M1 f1) fw f2 (2 * 512) 0 ∗ M1.view.loc (c : Thread nD τ) ↦{fullShare} f1) from by
    unfold issuing; rw [trips_eq]
    iintro ⟨A, -, -, -, -, B⟩; isplitl [A] <;> iassumption) $$ HL
  icases HL' with ⟨HB, H1⟩
  sl_exec
  iapply (Transfers.wp_waitBatchMul countersEmb Variants.none (c : Thread nD τ) none () (N := NN) 512 credit_wait
    (D := Ring.interleaved 512 (evenBack c M2 (word M1 f1) fw f2) (oddBack c M2 (word M1 f1) fw f2)) (j := 2 * 512) (u := 0) (by decide)) $$ [HB HO]
  · isplitl [HB] <;> iassumption
  iintro ⟨HB, HO⟩
  simp only [next]
  iapply (Transfers.wp_waitBatchAll countersEmb Variants.none (c : Thread nD τ) none () (N := NN) (J := 512 * NN) credit_wait (by decide)
    (D := Ring.interleaved 512 (evenBack c M2 (word M1 f1) fw f2) (oddBack c M2 (word M1 f1) fw f2)) (u := 0 + 512 * NN) (by decide)) $$ [HB HO]
  · isplitl [HB] <;> iassumption
  iintro ⟨HD, Hc, HO⟩
  simp only [next]
  sl_step
  ihave HD' := (back (c := c) (M2 := M2) (w := word M1 f1) (fw := fw) (f2 := f2)) $$ HD
  icases HD' with ⟨⟨HR0, HT0⟩, HR1, HT1⟩
  iapply Hk
  isplitl [H1]; · iexact H1
  isplitl [HT0 HX0 HT1 HX1]
  · isplitl [HT0 HX0]
    · isplitl [HT0] <;> iassumption
    isplitl [HT1] <;> iassumption
  isplitl [HR0 HR1 HO']
  · isplitl [HR0 HR1]
    · isplitl [HR0] <;> iassumption
    iapply (Entails.of_eq (others_eq hkeep)) $$ HO'
  isplitl [Hc]; · iexact Hc
  iexists _; iexact HO

end Point

end Cert.KernelIdeal.Dispatch

end
-- ==== Proof.DispatchFill.lean ====
/- What the expert buffer holds after the first `n` copies of the dispatch call, in closed form, and that one grid point
   takes it 1024 copies further. -/
module

public import proofs.«01_k».proof.Proof.DispatchBody

@[expose] public section

noncomputable section

namespace Cert.KernelIdeal.Dispatch

open Cert.KernelIdeal Cert.KernelIdeal.Gen
open Idealize.ShloMosaic Idealize.ShloMosaic.TcCoe

/-- What the whole call needs of its 32768 words: each names a slot, and no two name the same. -/
structure PosOK (pos : ℕ → BitVec 32) : Prop where
  lt : ∀ q, q < 32768 → (pos q).toNat < 49152
  inj : ∀ q q', q < 32768 → q' < 32768 → (pos q).toNat = (pos q').toNat → q = q'

/-- The 1024 words of point `t`. -/
theorem PosOK.point {pos : ℕ → BitVec 32} (h : PosOK pos) (t : ℕ) (ht : t < 32) (w : ℕ → BitVec 32)
    (hw : ∀ q, q < 1024 → w q = pos (1024 * t + q)) : WordsOK w where
  lt q hq := by rw [hw q hq]; exact h.lt _ (by omega)
  inj q q' hq hq' e := by
    rw [hw q hq, hw q' hq'] at e
    have := h.inj _ _ (by omega) (by omega) e
    omega

/-- The row of the tokens copy `q` of the whole call brings to element `i` of its slot. -/
def tokenRow (q : ℕ) (i : S393216x128.Idx) : S131072x128.Idx := fun a => match a with
  | ⟨0, _⟩ => ⟨(8 * (q / 2) + (i 0).val % 8) % 131072, Nat.mod_lt _ (by decide)⟩
  | ⟨1, _⟩ => i 1

section Fill

variable {α : Type} (pos : ℕ → BitVec 32) (x : S131072x128.Idx → α) (g : S393216x128.Idx → α)

open Classical in
/-- The expert buffer after the first `n` copies: the slot some one of them names has the rows of its token, the others
    what they had. -/
def filled (n : ℕ) : S393216x128.Idx → α := fun i =>
  if h : ∃ q, q < n ∧ (pos q).toNat = (i 0).val / 8 then x (tokenRow h.choose i) else g i

theorem filled_zero : filled pos x g 0 = g :=
  funext fun _ => dif_neg fun ⟨_, h, _⟩ => absurd h (Nat.not_lt_zero _)

theorem filled_miss {n : ℕ} {i : S393216x128.Idx} (h : ∀ q, q < n → (pos q).toNat ≠ (i 0).val / 8) : filled pos x g n i = g i :=
  dif_neg fun ⟨q, hq, e⟩ => h q hq e

variable {pos}

theorem filled_hit (hp : PosOK pos) {n : ℕ} (hn : n ≤ 32768) {q : ℕ} (hq : q < n) {i : S393216x128.Idx}
    (e : (pos q).toNat = (i 0).val / 8) : filled pos x g n i = x (tokenRow q i) := by
  have hex : ∃ q, q < n ∧ (pos q).toNat = (i 0).val / 8 := ⟨q, hq, e⟩
  have he : hex.choose = q :=
    hp.inj _ _ (lt_of_lt_of_le hex.choose_spec.1 hn) (lt_of_lt_of_le hq hn) (hex.choose_spec.2.trans e.symm)
  exact (dif_pos hex).trans (by rw [he])

/-- Slots no word of the next 1024 names keep what they have. -/
theorem filled_keep (hp : PosOK pos) {n : ℕ} (hn : n + 1024 ≤ 32768) {i : S393216x128.Idx}
    (h : ∀ q, q < 1024 → (i 0).val / 8 ≠ (pos (n + q)).toNat) : filled pos x g (n + 1024) i = filled pos x g n i := by
  by_cases hex : ∃ q, q < n ∧ (pos q).toNat = (i 0).val / 8
  · obtain ⟨q, hq, e⟩ := hex
    rw [filled_hit x g hp hn (by omega) e, filled_hit x g hp (by omega) hq e]
  · rw [filled_miss pos x g (n := n) fun q hq e => hex ⟨q, hq, e⟩, filled_miss pos x g fun q hq e => ?_]
    by_cases hqn : q < n
    · exact hex ⟨q, hqn, e⟩
    · refine h (q - n) (by omega) ?_
      rw [show n + (q - n) = q by omega]; exact e.symm

/-- Point `t` reads token `q / 2` of its block at the row the whole call reads token `512 t + q / 2`. -/
theorem tokenRow_point (t : ℕ) (ht : t < 32) (q : ℕ) (hq : q < 1024) (i : S393216x128.Idx) (j : S131072x128.Idx)
    (h0 : (j 0).val = 4096 * t + (fromRow q i 0).val) (h1 : (j 1).val = (fromRow q i 1).val) : tokenRow (1024 * t + q) i = j := by
  have e0 : (fromRow q i 0).val = (8 * (q / 2) + (i 0).val % 8) % 4096 := rfl
  have e1 : (fromRow q i 1).val = (i 1).val := rfl
  funext a; apply Fin.ext; fin_cases a
  · show (8 * ((1024 * t + q) / 2) + (i 0).val % 8) % 131072 = (j 0).val
    omega
  · show (i 1).val = (j 1).val
    omega

end Fill

end Cert.KernelIdeal.Dispatch

end
-- ==== Proof.DispatchLaunch.lean ====
/- The dispatch call's run: 32 grid points over the body's run, the expert buffer carried from point to point.

   Before point `t` the expert buffer holds what the first `1024 t` copies left (`filled`); the staged words and the staged
   block are the point's own parts of the word array and of the token rows. -/
module

public import proofs.«01_k».proof.Proof.DispatchFill
public import proofs.«01_k».proof.Proof.Gen.KernelIdeal.Frame

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost routed_singleton)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## The arrays the call finds -/

/-- Place `q` of the word array. -/
def wordIdx (q : ℕ) : S32768.Idx := fun a => match a with | ⟨0, _⟩ => ⟨q % 32768, Nat.mod_lt q (show 0 < 32768 by decide)⟩

/-- The call's words, its token rows, and the expert buffer as it enters. -/
def pos (c : Dev nD) (q : ℕ) : BitVec 32 := (V m c main_v0 : S32768.Idx → Elt F .i32) (wordIdx q)
def rows (c : Dev nD) : S131072x128.Idx → Elt F .f32 := V m c main_arg1
def entry (c : Dev nD) : S393216x128.Idx → Elt F .f32 := V m c main_v1

/-- On every core the words name slots, all different. -/
def AllOK : Prop := ∀ c : Dev nD, PosOK (pos m c)

/-- The expert buffer after `t` points. -/
def after (c : Dev nD) (t : ℕ) : Buf (Elt F) ((c : Thread nD τ).loc main_v1) := filled (pos m c) (rows m c) (entry m c) (1024 * t)

theorem entry_eq (c : Dev nD) : (entry m c : Buf (Elt F) ((c : Thread nD τ).loc main_v1)) = m ((c : Thread nD τ).loc main_arg2) := by
  unfold entry V; after_results; rfl

/-! ## The staged blocks -/

theorem start0 : ∀ t : Fin cfg0.N, cc0_transform_0 (grid0.coords t) 0 = t.val :=
  (by decide +kernel : ∀ t : Fin grid0.N, cc0_transform_0 (grid0.coords t) 0 = t.val)
theorem start1 : ∀ t : Fin cfg0.N, cc0_transform_1 (grid0.coords t) 0 = t.val ∧ cc0_transform_1 (grid0.coords t) 1 = 0 :=
  (by decide +kernel : ∀ t : Fin grid0.N, cc0_transform_1 (grid0.coords t) 0 = t.val ∧ cc0_transform_1 (grid0.coords t) 1 = 0)

theorem t_lt (t : Fin cfg0.N) : t.val < 32 := lt_of_lt_of_eq t.isLt N_0

/-- Word `q` of point `t`'s staged words is word `1024 t + q` of the call. -/
theorem word_block (c : Dev nD) (t : Fin cfg0.N) (q : ℕ) (hq : q < 1024) :
    (iblk m c 0 t : S1024.Idx → Elt F .i32) (place q)
      = pos m c (1024 * t.val + q) := by
  have ht := t_lt t
  refine congrArg (V m c main_v0 : S32768.Idx → Elt F .i32) (funext fun a => Fin.ext ?_)
  fin_cases a
  show cc0_transform_0 (grid0.coords t) 0 * 1024 + 1 * (q % 1024) = (1024 * t.val + q) % 32768
  rw [start0 t]; omega

/-- Row `j` of point `t`'s staged block is row `4096 t + j` of the token rows. -/
theorem row_block (c : Dev nD) (t : Fin cfg0.N) (q : ℕ) (hq : q < 1024) (i : S393216x128.Idx) :
    (iblk m c 1 t : S4096x128.Idx → Elt F .f32) (fromRow q i) = rows m c (tokenRow (1024 * t.val + q) i) := by
  have ht := t_lt t
  symm
  refine congrArg (V m c main_arg1 : S131072x128.Idx → Elt F .f32) (tokenRow_point t.val ht q hq i _ ?_ ?_)
  · show cc0_transform_1 (grid0.coords t) 0 * 4096 + 1 * (fromRow q i 0).val = _
    rw [(start1 t).1]; omega
  · show cc0_transform_1 (grid0.coords t) 1 * 128 + 1 * (fromRow q i 1).val = _
    rw [(start1 t).2]; omega

/-! ## The proof data -/

/-- The expert buffer at contents `f`, the other buffers as the call finds them. -/
def Y (c : Dev nD) (t : ℕ) : (b : Ref sig .tc) → Buf (Elt F) ((c : Thread nD τ).loc b) :=
  Function.update (V m c) main_v1 (after m c t)

theorem Y_v1 (c : Dev nD) (t : ℕ) : Y m c t main_v1 = after m c t := Function.update_self ..

theorem Y_zero (c : Dev nD) : Y m c 0 = V m c := by
  unfold Y after
  rw [Nat.mul_zero, filled_zero]
  exact Function.update_eq_self ..

abbrev osem : Unit → SemLoc sig := fun _ => .dma cc0_scratch0.sem

/-- The expert buffer is no window's array: it passes through the body's invariant, with the copies' semaphore at zero. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
  Φ t := Ends spec0 osem {main_v1} c (Y m c t.val)
  q _ := fullShare
  owed _ := 0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

omit [FloatOps F] in
theorem ownSems_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

/-- What the invariant holds at either end of a point. -/
theorem ends_eq (c : Dev nD) (W : (b : Ref sig .tc) → Buf (Elt F) ((c : Thread nD τ).loc b)) :
    (Ends spec0 osem {main_v1} c W : sProp 𝕄)
      = iprop((slots.view.loc (c : Thread nD τ) ↦{fullShare} W main_v1)
          ∗ semVal ((c : Thread nD τ), osem ()) 0 ∗ emp ∗ ∃ r, prngReg c r) := by
  unfold Ends; rw [routed_singleton, ownSems_eq, scopedRest0_eq]; rfl

omit [FloatOps F] in
/-- A whole memref owned at contents `X`: its buffer whole, at contents that read `X`. -/
theorem owns_whole (c : Dev nD) {sp : Space} {S : Shape} {e : EltTy} (M : Memref sig .tc sp S e) (h : M.IsWhole) (X : S.Idx → Elt F e) :
    (owns (c : Thread nD τ) M fullShare X : sProp 𝕄)
      = iprop(∃ f, ⌜M.view.read (Elt F) f = X⌝ ∗ (M.view.loc (c : Thread nD τ) ↦{fullShare} f)) := by
  unfold owns; rw [h.set_eq_univ]

set_option maxRecDepth 16384 in
/-- One grid point against the invariant. -/
theorem body_obligation [∀ e, Nonempty (Elt F e)] (hok : AllOK m) (c : Dev nD) :
    BodyObligation (dats m 0 c) (defs₀ (F := F)) Variants.none () Set.univ := fun t => by
  have ht := t_lt t
  have w0 : ((cfg0.win 0).stage (cfg0.slots t 0)).IsWhole := stage_whole0 0 _
  have w1 : ((cfg0.win 1).stage (cfg0.slots t 1)).IsWhole := stage_whole0 1 _
  rw [bigSep_W0, bigSep_W0]
  dsimp only
  rw [show (dats m 0 c).Φ t.castSucc = Ends spec0 osem {main_v1} c (Y m c t.val) from rfl,
    show (dats m 0 c).Φ t.succ = Ends spec0 osem {main_v1} c (Y m c (t.val + 1)) from rfl, ends_eq, ends_eq, Y_v1, Y_v1]
  unfold Dat.owesAt Pipeline.owesWithin
  rw [show (dats m 0 c).owed t.castSucc = 0 from rfl, show (dats m 0 c).owed t.succ = 0 from rfl]
  simp only [before_0, before_1]
  have a0 : (dats m 0 c).after 0 t = iblk m c 0 t := rfl
  have a1 : (dats m 0 c).after 1 t = iblk m c 1 t := rfl
  rw [a0, a1, owns_whole c _ w0, owns_whole c _ w1]
  iintro ⟨⟨Hv, Hs, -, Hp⟩, ⟨%W, %hW, HO⟩, ⟨%d0, %f0, %hf0, H0⟩, ⟨%d1, %f1, %hf1, H1⟩⟩
  have hword : ∀ q, q < 1024 → word (stage0_0 (cfg0.slots t 0)) (c := c) f0 q = pos m c (1024 * t.val + q) := fun q hq => by
    rw [← word_block m c t q hq, ← hf0]; rfl
  have hw := (hok c).point t.val ht _ hword
  have hfill : Filled c (stage0_1 (cfg0.slots t 1)) (word (stage0_0 (cfg0.slots t 0)) (c := c) f0) (after m c (t.val + 1)) f1 := fun q hq i hi => by
    rw [hf1, row_block m c t q hq i]
    rw [mem_slotRows, hword q hq] at hi
    exact filled_hit _ _ (hok c) (by omega) (q := 1024 * t.val + q) (by omega) hi.symm
  have hkeep : ∀ i : S393216x128.Idx, (∀ q, q < 1024 → (i 0).val / 8 ≠ (word (stage0_0 (cfg0.slots t 0)) (c := c) f0 q).toNat) →
      after m c (t.val + 1) i = after m c t.val i := fun i hi =>
    filled_keep (n := 1024 * t.val) _ _ (hok c) (by omega) fun q hq => by rw [← hword q hq]; exact hi q hq
  iapply (run_point (c := c) (fv := after m c t.val) (fw := after m c (t.val + 1)) (f2 := f1) (grid0.coords t)
    (stage0_0 (cfg0.slots t 0)) w0 w1 (Memref.whole main_v1) (Memref.isWhole_whole _) (Memref.isWhole_whole _) f0 hw hfill hkeep W)
  isplitl [H0]; · iexact H0
  isplitl [H1]; · iexact H1
  isplitl [Hv]; · iexact Hv
  isplitl [Hs]; · iexact Hs
  isplitl [HO]; · iexact HO
  iintro ⟨H0, H1, Hv, Hs, ⟨%W', HO⟩⟩
  isplitl [Hv Hs Hp]
  · isplitl [Hv]; · iexact Hv
    isplitl [Hs]; · iexact Hs
    isplitr; · iempintro
    iexact Hp
  isplitl [HO]
  · iexists W'; isplitr; · ipureintro; exact fun _ _ => Or.inl trivial
    iexact HO
  isplitl [H0]
  · iexists f0; isplitr; swap; (· iexact H0); ipureintro; exact hf0
  · iexists f1; isplitr; swap; (· iexact H1); ipureintro; exact hf1

/-! ## The launch -/

theorem ownSemFacts : Pipeline.OwnSemFacts spec0 osem := by decide

/-- From any memory with zero counters whose words name different slots: every weakly fair execution terminates, the expert
    buffer at `after` 32 points, the rest as the call found it, every counter at zero. -/
theorem run_call [∀ e, Nonempty (Elt F e)] (hok : AllOK m) :
    θ_run defs (onTc (τ := τ) (main (F := F))) (s₀ m ρ)
      (fun r => RoutedPost cfgs (dats m) 0 {main_v1} (V m) (fun c => Y m c 32) r ∧ r.2.sem = fun _ => 0) :=
  Pipeline.θ_run_frame_routed cfgs (dats m) 0 launch0 ownSemFacts defs₀ Variants.none m ρ main
    (hbody := fun c => (body_obligation m hok c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := fun _ _ => rfl) (R := {main_v1}) (hR := by decide) (Y := fun c => Y m c 32)
    (hin := fun c => Entails.of_eq (congrArg (Ends spec0 osem {main_v1} c) (Y_zero m c).symm)) (hout := fun _ => .rfl) (Q' := _)

/-- The call's run at the buffers a reader names: the result at `after` 32 points, the arguments as launched. -/
theorem run_main [∀ e, Nonempty (Elt F e)] (hok : AllOK m) :
    θ_run defs (onTc (τ := τ) (main (F := F))) ⟨m, fun _ => 0, ρ⟩ (fun r => (∀ c : Dev nD,
        r.2.mem ((c : Thread nD τ).loc main_v1) = after m c 32
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) := by
  refine (θ_run defs _ _).mono (fun r h => ⟨fun c => ⟨?_, ?_, ?_, ?_⟩, h.2⟩) (run_call m ρ hok)
  · exact ((h.1 c).2.1 main_v1 (by decide)).trans (Y_v1 m c 32)
  · exact ((h.1 c).2.2 main_arg0 (by decide)).trans (V_main_arg0 m c)
  · exact ((h.1 c).1 1).trans (((dats m 0 c).arrAt_in 1 rfl _).trans (V_main_arg1 m c))
  · exact ((h.1 c).2.2 main_arg2 (by decide)).trans (V_main_arg2 m c)

end Cert.KernelIdeal.Dispatch

end
-- ==== Proof.DispatchPre.lean ====
/- The precondition of the dispatch claims, read: if `slots_apart` is all ones of the words, each word names a slot of the
   expert buffer and no two name the same one. -/
module

public import proofs.«01_k».proof.Defs
public import proofs.«01_k».proof.Proof.DispatchLaunch
public import Idealize.ShloMosaic.Lib.Pipeline.Value
public import Idealize.ShloMosaic.Lib.WordCmp

@[expose] public section

noncomputable section

namespace Cert.Pre_slots_apart

open Idealize.ShloMosaic

/-- The side conditions of the precondition's operations. -/
instance sides : Facts where
  shapeCasts_S16384x2_S32768 := by decide
  bcast_S_S32768 := by decide
  bcast_S32768_S32768x1_0 := by decide
  bcast_S32768_S1x32768_1 := by decide
  bcast_S32768x1_S32768x32768_0_1 := by decide
  bcast_S1x32768_S32768x32768_0_1 := by decide

open Facts

section Broadcast

variable {α : Type}

/-- A vector laid along the rows of the square table, at `(q, r)`: its entry `q`. -/
theorem along_rows (x : S32768.Idx → α) (i : S32768x32768.Idx) (k : S32768.Idx) (hk : (k 0).val = (i 0).val) :
    broadcastInDim S32768x32768 ![0, 1] bcast_S32768x1_S32768x32768_0_1 (broadcastInDim S32768x1 ![0] bcast_S32768_S32768x1_0 x) i = x k := by
  let j : S32768x1.Idx := fun a => match a with | ⟨0, _⟩ => ⟨(i 0).val, (i 0).isLt⟩ | ⟨1, _⟩ => ⟨0, Nat.one_pos⟩
  refine (broadcastInDim_apply _ _ _ i j fun a => ?_).trans (broadcastInDim_apply _ _ x j k fun a => ?_)
  · match a with
    | ⟨0, _⟩ => exact (if_neg (show ¬(32768 = 1) by decide)).symm
    | ⟨1, _⟩ => exact (if_pos (show 1 = 1 from rfl)).symm
  · match a with
    | ⟨0, _⟩ => exact hk.trans (if_neg (show ¬(32768 = 1) by decide)).symm

/-- A vector laid along the columns of the square table, at `(q, r)`: its entry `r`. -/
theorem along_cols (x : S32768.Idx → α) (i : S32768x32768.Idx) (k : S32768.Idx) (hk : (k 0).val = (i 1).val) :
    broadcastInDim S32768x32768 ![0, 1] bcast_S1x32768_S32768x32768_0_1 (broadcastInDim S1x32768 ![1] bcast_S32768_S1x32768_1 x) i = x k := by
  let j : S1x32768.Idx := fun a => match a with | ⟨0, _⟩ => ⟨0, Nat.one_pos⟩ | ⟨1, _⟩ => ⟨(i 1).val, (i 1).isLt⟩
  refine (broadcastInDim_apply _ _ _ i j fun a => ?_).trans (broadcastInDim_apply _ _ x j k fun a => ?_)
  · match a with
    | ⟨0, _⟩ => exact (if_pos (show 1 = 1 from rfl)).symm
    | ⟨1, _⟩ => exact (if_neg (show ¬(32768 = 1) by decide)).symm
  · match a with
    | ⟨0, _⟩ => exact hk.trans (if_neg (show ¬(32768 = 1) by decide)).symm

end Broadcast

theorem and_ones {a b : BitVec 1} (h : IntOp.andi a b = 1#1) : a = 1#1 ∧ b = 1#1 := by
  unfold IntOp.andi at h
  revert h; revert a b; decide

theorem or_ones {a b : BitVec 1} (h : IntOp.ori a b = 1#1) : a = 1#1 ∨ b = 1#1 := by
  unfold IntOp.ori at h
  revert h; revert a b; decide

variable {F : FTy → Type} [FloatOps F]

/-- Entry `(q, r)` of the precondition. -/
theorem entry_ones (a : IVec S16384x2 32) (x : FVec F S131072x128 .f32) (g : FVec F S393216x128 .f32) (h : fn a x g = fun _ => 1#1)
    (w : S32768.Idx → BitVec 32) (hw : w = shapeCast S32768 a shapeCasts_S16384x2_S32768) (k l : S32768.Idx) :
    (w k).toNat < 49152 ∧ (w k = w l → k = l) := by
  let i : S32768x32768.Idx := fun b => match b with | ⟨0, _⟩ => ⟨(k 0).val, (k 0).isLt⟩ | ⟨1, _⟩ => ⟨(l 0).val, (l 0).isLt⟩
  have hi := congrFun h i
  unfold fn at hi
  rw [← hw] at hi
  obtain ⟨h1, h2⟩ := and_ones hi
  rw [along_rows _ i k rfl] at h1
  obtain ⟨h3, h4⟩ := and_ones h1
  refine ⟨?_, fun e => ?_⟩
  · change IntOp.cmpi .sge (w k) 0#32 = 1#1 at h3
    change IntOp.cmpi .slt (w k) 49152#32 = 1#1 at h4
    rw [WordCmp.cmpi_sge_zero, WordCmp.ofBool_decide_eq_one_iff] at h3
    rw [WordCmp.cmpi_slt_of_lt h3 (by decide), WordCmp.ofBool_decide_eq_one_iff] at h4
    exact h4
  · rcases or_ones h2 with h5 | h5
    · change IntOp.cmpi .ne (broadcastInDim S32768x32768 ![0, 1] bcast_S32768x1_S32768x32768_0_1 (broadcastInDim S32768x1 ![0] bcast_S32768_S32768x1_0 w) i)
        (broadcastInDim S32768x32768 ![0, 1] bcast_S1x32768_S32768x32768_0_1 (broadcastInDim S1x32768 ![1] bcast_S32768_S1x32768_1 w) i) = 1#1 at h5
      rw [along_rows _ i k rfl, along_cols _ i l rfl, WordCmp.cmpi_ne_eq, WordCmp.ofBool_decide_eq_one_iff] at h5
      exact absurd e h5
    · change IntOp.cmpi .eq (broadcastInDim S32768x32768 ![0, 1] bcast_S32768x1_S32768x32768_0_1 (broadcastInDim S32768x1 ![0] bcast_S32768_S32768x1_0 (iotaInDim S32768 32 0)) i)
        (broadcastInDim S32768x32768 ![0, 1] bcast_S1x32768_S32768x32768_0_1 (broadcastInDim S1x32768 ![1] bcast_S32768_S1x32768_1 (iotaInDim S32768 32 0)) i) = 1#1 at h5
      rw [along_rows _ i k rfl, along_cols _ i l rfl, WordCmp.cmpi_eq_eq, WordCmp.ofBool_decide_eq_one_iff] at h5
      have hk : (k 0).val < 32768 := (k 0).isLt
      have hl : (l 0).val < 32768 := (l 0).isLt
      change BitVec.ofNat 32 (k 0).val = BitVec.ofNat 32 (l 0).val at h5
      have := congrArg BitVec.toNat h5
      rw [BitVec.toNat_ofNat, BitVec.toNat_ofNat, Nat.mod_eq_of_lt (by omega), Nat.mod_eq_of_lt (by omega)] at this
      funext b
      match b with
      | ⟨0, _⟩ => exact Fin.ext this

end Cert.Pre_slots_apart

namespace Cert.KernelIdeal.Dispatch

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The call's words are the word table's entries in row order. -/
theorem pos_eq (c : Dev nD) (q : ℕ) :
    pos m c q = (shapeCast S32768 (m ((c : Thread nD τ).loc main_arg0) : S16384x2.Idx → BitVec 32) shapeCasts_S16384x2_S32768) (wordIdx q) := by
  unfold pos V; after_results; rfl

/-- From the precondition: on every core the words name slots, all different. -/
theorem allOK_of (h : ∀ c : Dev nD, Cert.Pre_slots_apart.fn (F := F) (m ((c : Thread nD τ).loc main_arg0)) (m ((c : Thread nD τ).loc main_arg1))
    (m ((c : Thread nD τ).loc main_arg2)) = fun _ => 1#1) : AllOK m := fun c => by
  have hw := Cert.Pre_slots_apart.entry_ones _ _ _ (h c) _ rfl
  refine ⟨fun q _ => ?_, fun q q' hq hq' e => ?_⟩
  · rw [pos_eq]; exact (hw (wordIdx q) (wordIdx q)).1
  · rw [pos_eq, pos_eq] at e
    have := congrArg Fin.val (congrFun ((hw (wordIdx q) (wordIdx q')).2 (BitVec.eq_of_toNat_eq e)) 0)
    change q % 32768 = q' % 32768 at this
    omega

end Cert.KernelIdeal.Dispatch

end
-- ==== Proof.DispatchLands.lean ====
/- Where the updates of the reference's scatters land: update `(k, l)` at element `(s k, l)` of the slot table, `s k` the
   word of token `k`. -/
module

public import proofs.«01_k».proof.Proof.Gen.ReferenceIdeal.Run
public import Idealize.ShloMosaic.Lib.Pipeline.Value
public import Idealize.ShloMosaic.Lib.WordCmp
public import Idealize.ShloMosaic.Lib.Routing.OpsSet
public import Idealize.ShloMosaic.Lib.Routing.OpsPair

@[expose] public section

noncomputable section

namespace Cert.ReferenceIdeal.Dispatch

open Cert.ReferenceIdeal Cert.ReferenceIdeal.Gen
open Idealize.ShloMosaic

/-- The dimension numbers of both scatters. -/
abbrev D := scatter_S49152x1024_S16384x1_S16384x1024_1_0_0_1

/-- Token `k`'s place in a column of words. -/
def colIdx (k : S16384x1024.Idx) : S16384x1.Idx := fun a => match a with
  | ⟨0, _⟩ => ⟨(k 0).val, (k 0).isLt⟩
  | ⟨1, _⟩ => ⟨0, Nat.one_pos⟩

theorem start_row (k : S16384x1024.Idx) (idx : IVec S16384x1 32) : D.start k idx 0 = (idx (colIdx k)).toInt := by
  have h : (0 : Fin S49152x1024.rank) ∈ D.scatterDimsToOperandDims := by decide
  unfold ScatterDims.start
  rw [dif_pos h]
  refine congrArg (fun z => (idx z).toInt) (funext fun a => Fin.ext ?_)
  match a with
  | ⟨0, _⟩ => rfl
  | ⟨1, _⟩ => rfl

theorem start_col (k : S16384x1024.Idx) (idx : IVec S16384x1 32) : D.start k idx 1 = 0 := by
  have h : (1 : Fin S49152x1024.rank) ∉ D.scatterDimsToOperandDims := by decide
  unfold ScatterDims.start
  rw [dif_neg h]

theorem window_row (k : S16384x1024.Idx) : D.window k 0 = 0 := by
  have h : (0 : Fin S49152x1024.rank) ∉ D.sKept := by decide
  unfold ScatterDims.window
  rw [dif_neg h]

theorem window_col (k : S16384x1024.Idx) : D.window k 1 = (k 1).val := by
  have h : (1 : Fin S49152x1024.rank) ∈ D.sKept := by decide
  unfold ScatterDims.window
  rw [dif_pos h]
  rfl

/-- Update `k` lands at `e` exactly when its word is `e`'s slot and its column `e`'s. -/
theorem lands (k : S16384x1024.Idx) (idx : IVec S16384x1 32) (e : S49152x1024.Idx) (hs : (idx (colIdx k)).toNat < 49152) :
    D.resultIdx? k idx = some e ↔ (idx (colIdx k)).toNat = (e 0).val ∧ (k 1).val = (e 1).val := by
  have hi : (idx (colIdx k)).toInt = ((idx (colIdx k)).toNat : ℤ) := WordCmp.toInt_eq_toNat_of_lt_half (lt_trans hs (by decide))
  rw [Routing.resultIdx?_eq_some]
  constructor
  · intro h
    have h0 := h 0
    have h1 := h 1
    rw [start_row, window_row, hi] at h0
    rw [start_col, window_col] at h1
    omega
  · rintro ⟨h0, h1⟩ a
    match a with
    | ⟨0, _⟩ =>
      show D.start k idx 0 + (D.window k 0 : ℤ) = ((e 0).val : ℤ)
      rw [start_row, window_row, hi]; omega
    | ⟨1, _⟩ =>
      show D.start k idx 1 + (D.window k 1 : ℤ) = ((e 1).val : ℤ)
      rw [start_col, window_col]; omega

section Words

variable (s : S16384.Idx → BitVec 32)

/-- A column of words as both scatters take it: an index below zero counted from the end of the table. -/
abbrev column : IVec S16384x1 32 :=
  broadcastInDim S16384x1 ![0] bcast_S16384_S16384x1_0
    (select (cmpi .slt s (broadcastInDim S16384 ![] bcast_S_S16384 (constantI S_ 32 0#32)))
      (addi s (broadcastInDim S16384 ![] bcast_S_S16384 (constantI S_ 32 49152#32))) s)

/-- A word that names a slot is taken as it is. -/
theorem column_at (k : S16384x1024.Idx) (j : S16384.Idx) (hj : (j 0).val = (k 0).val) (hs : (s j).toNat < 49152) :
    column s (colIdx k) = s j := by
  refine (broadcastInDim_apply _ _ _ (colIdx k) j fun a => ?_).trans ?_
  · match a with
    | ⟨0, _⟩ => exact hj.trans (if_neg (show ¬(16384 = 1) by decide)).symm
  · show Scalar.select (IntOp.cmpi .slt (s j) 0#32) _ (s j) = s j
    exact Routing.wrap_of_lt _ _ (lt_trans hs (by decide))

end Words

end Cert.ReferenceIdeal.Dispatch

end
-- ==== Proof.DispatchValue.lean ====
/- The reference's two scatters and the dispatch call write the same array: slot `s` of the expert buffer has token `q / 2`
   where word `q` names `s`, and what it had where no word does. -/
module

public import proofs.«01_k».proof.Proof.DispatchLands
public import proofs.«01_k».proof.Proof.DispatchLaunch

@[expose] public section

noncomputable section

namespace Cert.ReferenceIdeal.Dispatch

open Cert.ReferenceIdeal Cert.ReferenceIdeal.Gen
open Idealize.ShloMosaic
open Cert.KernelIdeal.Dispatch (PosOK filled filled_hit filled_miss tokenRow wordIdx)

variable {α : Type} (a : S16384x2.Idx → BitVec 32) (x : S131072x128.Idx → α) (g : S393216x128.Idx → α)

/-- The word table in row order. -/
def flat (q : ℕ) : BitVec 32 := (shapeCast Cert.KernelIdeal.S32768 a Cert.KernelIdeal.Gen.shapeCasts_S16384x2_S32768) (wordIdx q)

/-- Every token's first word, and its second. -/
abbrev firsts : S16384.Idx → BitVec 32 := shapeCast S16384 (extractStridedSlice S16384x1 ![0, 0] a slices_S16384x2_S16384x1_0_0) shapeCasts_S16384x1_S16384
abbrev seconds : S16384.Idx → BitVec 32 := shapeCast S16384 (extractStridedSlice S16384x1 ![0, 1] a slices_S16384x2_S16384x1_0_1) shapeCasts_S16384x1_S16384

/-- The expert buffer by slots, and the tokens, one a row. -/
abbrev slotTable : S49152x1024.Idx → α := shapeCast S49152x1024 g shapeCasts_S393216x128_S49152x1024
abbrev tokenTable : S16384x1024.Idx → α := shapeCast S16384x1024 x shapeCasts_S131072x128_S16384x1024

/-- The table after both scatters, laid back out as the expert buffer. -/
abbrev scattered : S393216x128.Idx → α :=
  shapeCast S393216x128
    (Host.scatter D (fun _ b => b) (Host.scatter D (fun _ b => b) (slotTable g) (column (firsts a)) (tokenTable x))
      (column (seconds a)) (tokenTable x)) shapeCasts_S49152x1024_S393216x128

/-! ## Indices -/

/-- Where element `i` of the expert buffer lies in the slot table. -/
def slotIdx (i : S393216x128.Idx) : S49152x1024.Idx := fun b => match b with
  | ⟨0, _⟩ => ⟨(i 0).val / 8, by have h : (i 0).val < 393216 := (i 0).isLt; show _ < 49152; omega⟩
  | ⟨1, _⟩ => ⟨(i 0).val % 8 * 128 + (i 1).val, by have h : (i 1).val < 128 := (i 1).isLt; show _ < 1024; omega⟩

/-- Token `k`'s element of the token table that goes to `i`. -/
def tokenIdx (k : Fin 16384) (i : S393216x128.Idx) : S16384x1024.Idx := fun b => match b with
  | ⟨0, _⟩ => k
  | ⟨1, _⟩ => slotIdx i 1

def tok (k : Fin 16384) : S16384.Idx := fun b => match b with | ⟨0, _⟩ => k

theorem slot_position (i : S393216x128.Idx) : (S49152x1024.rowMajor (slotIdx i)).val = (S393216x128.rowMajor i).val := by
  rw [Shape.rowMajor_val_two, Shape.rowMajor_val_two]
  show (i 0).val / 8 * 1024 + ((i 0).val % 8 * 128 + (i 1).val) = (i 0).val * 128 + (i 1).val
  omega

theorem slotTable_at (i : S393216x128.Idx) : slotTable g (slotIdx i) = g i :=
  shapeCast_apply _ _ _ _ (slot_position i).symm

theorem tokenTable_at (k : Fin 16384) (i : S393216x128.Idx) (q : ℕ) (hq : q / 2 = k.val) :
    tokenTable x (tokenIdx k i) = x (tokenRow q i) := by
  refine shapeCast_apply _ _ _ _ ?_
  rw [Shape.rowMajor_val_two, Shape.rowMajor_val_two]
  have hk := k.isLt
  show (8 * (q / 2) + (i 0).val % 8) % 131072 * 128 + (i 1).val = k.val * 1024 + ((i 0).val % 8 * 128 + (i 1).val)
  rw [hq, Nat.mod_eq_of_lt (by omega)]
  omega

/-- The table's entry in row `k`, column `j`. -/
def entryIdx (k : Fin 16384) (j : Fin 2) : S16384x2.Idx := fun b => match b with
  | ⟨0, _⟩ => k
  | ⟨1, _⟩ => j

theorem flat_at (k : Fin 16384) (j : Fin 2) : flat a (2 * k.val + j.val) = a (entryIdx k j) := by
  refine shapeCast_apply _ _ _ _ ?_
  rw [Shape.rowMajor_val_two, Shape.rowMajor_val_one]
  have hk := k.isLt
  have hj := j.isLt
  show k.val * 2 + j.val = (2 * k.val + j.val) % 32768
  omega

/-- A column of the table, read at token `k`. -/
theorem col_at (off : ℕ) (hoff : off < 2) (h : S16384x2.Slices ![0, off] S16384x1) (k : Fin 16384) :
    shapeCast S16384 (extractStridedSlice S16384x1 ![0, off] a h) shapeCasts_S16384x1_S16384 (tok k) = a (entryIdx k ⟨off, hoff⟩) := by
  let z : S16384x1.Idx := fun b => match b with | ⟨0, _⟩ => k | ⟨1, _⟩ => ⟨0, Nat.one_pos⟩
  refine (shapeCast_apply _ _ _ z ?_).trans (extractStridedSlice_apply _ _ _ z _ fun b => ?_)
  · rw [Shape.rowMajor_val_two, Shape.rowMajor_val_one]
    show k.val * 1 + 0 = k.val
    omega
  · match b with
    | ⟨0, _⟩ => exact (Nat.zero_add _).symm
    | ⟨1, _⟩ => rfl

theorem firsts_at (k : Fin 16384) : firsts a (tok k) = flat a (2 * k.val) :=
  (col_at a 0 (by decide) _ k).trans (flat_at a k 0).symm

theorem seconds_at (k : Fin 16384) : seconds a (tok k) = flat a (2 * k.val + 1) :=
  (col_at a 1 (by decide) _ k).trans (flat_at a k 1).symm

/-! ## One scatter -/

section One

variable (s : S16384.Idx → BitVec 32) (hs : ∀ k, (s (tok k)).toNat < 49152) (y : S49152x1024.Idx → α) (u : S16384x1024.Idx → α)

include hs

/-- Update `k` lands at element `i` of the buffer exactly when token `k 0`'s word names `i`'s slot and the column is `i`'s. -/
theorem lands_at (k : S16384x1024.Idx) (i : S393216x128.Idx) :
    D.resultIdx? k (column s) = some (slotIdx i) ↔ (s (tok (k 0))).toNat = (i 0).val / 8 ∧ k = tokenIdx (k 0) i := by
  have hc : column s (colIdx k) = s (tok (k 0)) := column_at s k (tok (k 0)) rfl (hs (k 0))
  rw [lands k (column s) (slotIdx i) (by rw [hc]; exact hs (k 0)), hc]
  refine and_congr Iff.rfl ⟨fun h => ?_, fun h => congrArg (fun z : S16384x1024.Idx => (z 1).val) h⟩
  funext b
  match b with
  | ⟨0, _⟩ => rfl
  | ⟨1, _⟩ => exact Fin.ext h

theorem scatter_hit (hinj : ∀ k k', (s (tok k)).toNat = (s (tok k')).toNat → k = k') (i : S393216x128.Idx) (k : Fin 16384)
    (h : (s (tok k)).toNat = (i 0).val / 8) : Host.scatter D (fun _ b => b) y (column s) u (slotIdx i) = u (tokenIdx k i) := by
  refine Routing.scatter_set_hit D y (column s) u (slotIdx i) _ (fun k' hk' => ?_) (tokenIdx k i) ?_
  · obtain ⟨h1, h2⟩ := (lands_at s hs k' i).1 hk'
    rw [h2, hinj _ _ (h1.trans h.symm)]
  · exact (lands_at s hs _ i).2 ⟨h, rfl⟩

theorem scatter_miss (i : S393216x128.Idx) (h : ∀ k, (s (tok k)).toNat ≠ (i 0).val / 8) :
    Host.scatter D (fun _ b => b) y (column s) u (slotIdx i) = y (slotIdx i) :=
  Routing.scatter_set_miss D y (column s) u (slotIdx i) fun k' hk' => h (k' 0) ((lands_at s hs k' i).1 hk').1

end One

/-- The two scatters are the dispatch: where no two words are the same and each names a slot. -/
theorem scattered_eq (hp : PosOK (flat a)) : scattered a x g = filled (flat a) x g 32768 := by
  have s1 : ∀ k, (firsts a (tok k)).toNat < 49152 := fun k => by rw [firsts_at]; exact hp.lt _ (by have := k.isLt; omega)
  have s2 : ∀ k, (seconds a (tok k)).toNat < 49152 := fun k => by rw [seconds_at]; exact hp.lt _ (by have := k.isLt; omega)
  have i1 : ∀ k k', (firsts a (tok k)).toNat = (firsts a (tok k')).toNat → k = k' := fun k k' e => by
    rw [firsts_at, firsts_at] at e
    have := hp.inj _ _ (by have := k.isLt; omega) (by have := k'.isLt; omega) e
    exact Fin.ext (by omega)
  have i2 : ∀ k k', (seconds a (tok k)).toNat = (seconds a (tok k')).toNat → k = k' := fun k k' e => by
    rw [seconds_at, seconds_at] at e
    have := hp.inj _ _ (by have := k.isLt; omega) (by have := k'.isLt; omega) e
    exact Fin.ext (by omega)
  funext i
  refine (shapeCast_apply _ _ i (slotIdx i) (slot_position i)).trans ?_
  by_cases h2 : ∃ k, (seconds a (tok k)).toNat = (i 0).val / 8
  · obtain ⟨k, e⟩ := h2
    have hk := k.isLt
    rw [scatter_hit _ s2 _ _ i2 i k e]
    rw [seconds_at] at e
    rw [filled_hit x g hp (le_refl _) (q := 2 * k.val + 1) (by omega) e]
    exact tokenTable_at x k i _ (by omega)
  rw [scatter_miss _ s2 _ _ i fun k e => h2 ⟨k, e⟩]
  by_cases h1 : ∃ k, (firsts a (tok k)).toNat = (i 0).val / 8
  · obtain ⟨k, e⟩ := h1
    have hk := k.isLt
    rw [scatter_hit _ s1 _ _ i1 i k e]
    rw [firsts_at] at e
    rw [filled_hit x g hp (le_refl _) (q := 2 * k.val) (by omega) e]
    exact tokenTable_at x k i _ (by omega)
  rw [scatter_miss _ s1 _ _ i fun k e => h1 ⟨k, e⟩, slotTable_at, filled_miss]
  intro q hq e
  rcases Nat.mod_two_eq_zero_or_one q with hm | hm
  · exact h1 ⟨⟨q / 2, by omega⟩, by rw [firsts_at, show 2 * (q / 2) = q by omega]; exact e⟩
  · exact h2 ⟨⟨q / 2, by omega⟩, by rw [seconds_at, show 2 * (q / 2) + 1 = q by omega]; exact e⟩

end Cert.ReferenceIdeal.Dispatch

end
-- ==== Proof.DispatchClaims.lean ====
/- The dispatch call's claims: both frames from one run, the reference's frame, and the value claims, over the extended
   reals and over the words. -/
module

public import proofs.«01_k».proof.Proof.DispatchPre
public import proofs.«01_k».proof.Proof.DispatchValue
public import proofs.«01_k».proof.Proof.Gen.Kernel
public import proofs.«01_k».proof.Proof.Gen.Reference.Run

@[expose] public section

noncomputable section

namespace Cert.Proof

open Idealize.ShloMosaic Idealize.ShloMosaic.TcCoe Idealize.SL.Sem

/-! ## The two runs, over any float values -/

section Runs

variable {F : FTy → Type} [FloatOps F] [∀ e, Nonempty (Elt F e)]

open Cert.KernelIdeal Cert.KernelIdeal.Dispatch in
/-- The dispatch call, its result as the reference writes it: the two scatters. -/
theorem kernel_run (m : (ℓ : Loc nD τ sig) → Buf (Elt F) ℓ) (ρ : Dev nD → PrngReg)
    (hpre : ∀ c : Dev nD, Cert.Pre_slots_apart.fn (F := F) (m ((c.tc : Thread nD τ).loc main_arg0)) (m ((c.tc : Thread nD τ).loc main_arg1))
      (m ((c.tc : Thread nD τ).loc main_arg2)) = fun _ => 1#1) :
    θ_run defs (onTc (τ := τ) (main (F := F))) ⟨m, fun _ => 0, ρ⟩ (fun r => (∀ c : Dev nD,
        r.2.mem ((c.tc : Thread nD τ).loc main_v1) = Cert.ReferenceIdeal.Dispatch.scattered (m ((c.tc : Thread nD τ).loc main_arg0))
            (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  have hok := allOK_of m hpre
  refine (θ_run defs _ _).mono (fun r h => ⟨fun c => ⟨(h.1 c).1.trans ?_, (h.1 c).2⟩, h.2⟩) (run_main m ρ hok)
  have hpos : pos m c = Cert.ReferenceIdeal.Dispatch.flat (m ((c.tc : Thread nD τ).loc main_arg0)) := funext fun q => pos_eq m c q
  have hrows : rows m c = m ((c.tc : Thread nD τ).loc main_arg1) := Cert.KernelIdeal.Gen.V_main_arg1 m c
  have hp := hok c
  unfold after
  rw [hpos] at hp ⊢
  rw [hrows, entry_eq, Cert.ReferenceIdeal.Dispatch.scattered_eq _ _ _ hp]

open Cert.ReferenceIdeal in
/-- The reference. -/
theorem reference_run (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_v20) = Cert.ReferenceIdeal.Dispatch.scattered (m ((c.tc : Thread nD τ).loc main_arg0))
            (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  Cert.ReferenceIdeal.Value.run m ρ

end Runs

/-! ## The program over the words

`Kernel` and `KernelIdeal` have the same text; their tables of bodies agree label by label. -/

theorem bodies_eq : Cert.Kernel.defs₀ (F := Bits) = Cert.KernelIdeal.defs₀ (F := Bits) := by
  unfold Cert.Kernel.defs₀ Cert.KernelIdeal.defs₀
  refine congrArg _ (funext fun l => funext fun a => ?_)
  match l, a with
  | ⟨0, _⟩, (t, s) => rfl
  | ⟨_ + 1, h⟩, _ => exact absurd h (Nat.not_lt.2 (Nat.le_add_left _ _))

theorem table_eq : Cert.Kernel.defs (F := Bits) = Cert.KernelIdeal.defs (F := Bits) :=
  congrArg (Pipeline.defs Cert.KernelIdeal.pcfgs) bodies_eq

open Cert.Kernel in
/-- The dispatch call's run over the words. -/
theorem kernel_run_bits (m : (ℓ : Loc nD τ sig) → Buf (Elt Bits) ℓ) (ρ : Dev nD → PrngReg) (hpre : Cert.Pre_Kernel m) :
    θ_run defs (onTc (τ := τ) (main (F := Bits))) ⟨m, fun _ => 0, ρ⟩ (fun r => (∀ c : Dev nD,
        r.2.mem ((c.tc : Thread nD τ).loc main_v1) = Cert.ReferenceIdeal.Dispatch.scattered (m ((c.tc : Thread nD τ).loc main_arg0))
            (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  rw [table_eq]
  exact kernel_run (F := Bits) m ρ hpre

/-! ## The frames -/

theorem frame_kernel : Cert.quiescent_Kernel := fun m ρ hpre =>
  (θ_run Cert.Kernel.defs _ _).mono (fun _ h => ⟨fun c => (h.1 c).2, h.2⟩) (kernel_run_bits m ρ hpre)

theorem frame_kernelIdeal : Cert.quiescent_KernelIdeal := fun m ρ hpre =>
  (θ_run Cert.KernelIdeal.defs _ _).mono (fun _ h => ⟨fun c => (h.1 c).2, h.2⟩) (kernel_run (F := Ideal) m ρ hpre)

theorem frame_referenceIdeal : Cert.quiescent_ReferenceIdeal := fun m ρ _ =>
  (θ_run Cert.ReferenceIdeal.defs _ _).mono (fun r h => ⟨fun c => (h c).2, sem_eq_zero_of_no_sems (by decide) r.2⟩)
    (reference_run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The value claims -/

theorem value_ideal : Cert.algebraic_KernelIdeal_ReferenceIdeal := fun m ρ m' ρ' hpre hargs =>
  ⟨fun c => Cert.ReferenceIdeal.Dispatch.scattered (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => h.1 c) (kernel_run (F := Ideal) m ρ hpre),
    (θ_run Cert.ReferenceIdeal.defs _ _).mono (fun _ h c => ⟨(h c).1.trans (by rw [(hargs c).1, (hargs c).2.1, (hargs c).2.2]; rfl), (h c).2⟩)
      (reference_run (F := Ideal) m' ρ')⟩

/-- The reference's result over the words, as the two scatters. -/
theorem reference_bits (m : (ℓ : Loc Cert.Reference.nD Cert.Reference.τ Cert.Reference.sig) → Buf (Elt Bits) ℓ) (ρ : Dev Cert.Reference.nD → PrngReg)
    (a : Cert.ReferenceIdeal.S16384x2.Idx → BitVec 32) (x : Cert.ReferenceIdeal.S131072x128.Idx → Elt Bits .f32)
    (g : Cert.ReferenceIdeal.S393216x128.Idx → Elt Bits .f32) (c : Dev Cert.Reference.nD)
    (ha : m ((c.tc : Thread Cert.Reference.nD Cert.Reference.τ).loc Cert.Reference.main_arg0) = a)
    (hx : m ((c.tc : Thread Cert.Reference.nD Cert.Reference.τ).loc Cert.Reference.main_arg1) = x)
    (hg : m ((c.tc : Thread Cert.Reference.nD Cert.Reference.τ).loc Cert.Reference.main_arg2) = g)
    (v : Buf (Elt Bits) ((c.tc : Thread Cert.Reference.nD Cert.Reference.τ).loc Cert.Reference.main_v20))
    (hv : v = Cert.ReferenceIdeal.Dispatch.scattered (m ((c.tc : Thread Cert.Reference.nD Cert.Reference.τ).loc Cert.Reference.main_arg0))
      (m ((c.tc : Thread Cert.Reference.nD Cert.Reference.τ).loc Cert.Reference.main_arg1))
      (m ((c.tc : Thread Cert.Reference.nD Cert.Reference.τ).loc Cert.Reference.main_arg2))) :
    v = Cert.ReferenceIdeal.Dispatch.scattered a x g := by
  rw [hv, ha, hx, hg]; rfl

theorem value_bits : Cert.bitexact_Kernel_Reference := by
  intro m ρ m' ρ' hpre hargs
  refine ⟨fun c => Cert.ReferenceIdeal.Dispatch.scattered (m ((c.tc : Thread Cert.Kernel.nD Cert.Kernel.τ).loc Cert.Kernel.main_arg0))
      (m ((c.tc : Thread Cert.Kernel.nD Cert.Kernel.τ).loc Cert.Kernel.main_arg1))
      (m ((c.tc : Thread Cert.Kernel.nD Cert.Kernel.τ).loc Cert.Kernel.main_arg2)), ?_, ?_⟩
  · exact (θ_run Cert.Kernel.defs _ _).mono (fun _ h c => h.1 c) (kernel_run_bits m ρ hpre)
  · refine (θ_run Cert.Reference.defs _ _).mono (fun r h c => ⟨?_, (h c).2⟩) (Cert.Reference.Value.run (F := Bits) m' ρ')
    exact reference_bits m' ρ' _ _ _ c (hargs c).1 (hargs c).2.1 (hargs c).2.2 _ (h c).1

end Cert.Proof

end
-- ==== Proof.GmmStream.lean ====
/- One stream of expert weights of the grouped matmul: copies of one expert's slab into one of two slots of a buffer.

   Each of the three weight arrays (gate, up, down) stays in HBM, and the call copies the slab of one expert into slot 0 or
   slot 1 of the array's two-slot buffer, on a semaphore of its own. This module says which elements a slot and a slab are,
   what is held while a copy is in flight (`Lent`), and gives the rules for starting a copy and for waiting for it, for any
   such pair of an array and a buffer. -/
module

public import proofs.«01_k».proof.Proof.Gen.Kernel2Ideal
public import proofs.«01_k».proof.Proof.Gen.Kernel2Ideal.Skeleton
public import Idealize.ShloMosaic.Lib.Pipeline.Frame
public import Idealize.ShloMosaic.Lib.Tactic

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## Slots and slabs -/

/-- The shape of `n` slabs of `P` by `Q`, and of one slab with its leading axis dropped. -/
abbrev slabs (n P Q : ℕ) : Shape := ⟨3, ![n, P, Q]⟩
abbrev flat (P Q : ℕ) : Shape := ⟨2, ![P, Q]⟩

variable {n P Q : ℕ}

/-- The elements of slab `k`. -/
def layer (n P Q k : ℕ) : Finset (slabs n P Q).Idx := Finset.univ.filter fun i => (i 0).val = k

theorem mem_layer {k : ℕ} {i : (slabs n P Q).Idx} : i ∈ layer n P Q k ↔ (i 0).val = k := by simp [layer]

/-- The rectangle one slab big at slab `k` is the slab. -/
theorem rect_layer {k : ℕ} {off : Fin 3 → ℕ} (e : off = ![k, 0, 0])
    (h : ∀ a, off a + (slabs 1 P Q).size a ≤ (slabs n P Q).size a) :
    (Rect.unit (s := slabs n P Q) off (slabs 1 P Q).size h).set = layer n P Q k := by
  subst e
  ext i
  rw [Rect.mem_set_unit, mem_layer]
  have b1 : (i 1).val < P := (i 1).isLt
  have b2 : (i 2).val < Q := (i 2).isLt
  constructor
  · intro H; have a0 : k ≤ (i 0).val ∧ (i 0).val < k + 1 := H 0; omega
  · intro H a; fin_cases a
    · show k ≤ (i 0).val ∧ (i 0).val < k + 1; omega
    · show 0 ≤ (i 1).val ∧ (i 1).val < 0 + P; omega
    · show 0 ≤ (i 2).val ∧ (i 2).val < 0 + Q; omega

/-- Place `(j, k)` of slab `e` of an array of 32 slabs. -/
def inSlab (e : ℕ) (j : Fin P) (k : Fin Q) : (slabs 32 P Q).Idx := fun a => match a with
  | ⟨0, _⟩ => ⟨e % 32, Nat.mod_lt _ (show 0 < 32 by decide)⟩
  | ⟨1, _⟩ => j
  | ⟨2, _⟩ => k

/-- Slab `e` of the array, read by the places of any slot. -/
def slabOf {T : Type} (X : (slabs 32 P Q).Idx → T) (e : ℕ) : (slabs n P Q).Idx → T := fun z => X (inSlab e (z 1) (z 2))

section Stream

variable (c : Dev nD) (B : Memref sig .tc .vmem (slabs 2 P Q) .f32) (H : Memref sig .tc .hbm (slabs 32 P Q) .f32)
  (W : Buf (Elt F) (H.view.loc (c : Thread nD τ)))

/-- The elements of slot `s` in the buffer, and of slab `e` in the array. -/
def slotSet (s : ℕ) : Finset (Idx (B.view.loc (c : Thread nD τ))) := (layer 2 P Q s).map B.view.emb
def slabSet (e : ℕ) : Finset (Idx (H.view.loc (c : Thread nD τ))) := (layer 32 P Q e).map H.view.emb

/-- Slot `s` at some contents; -/
def slotAny (s : ℕ) : sProp 𝕄 := iprop(∃ f : Buf (Elt F) (B.view.loc (c : Thread nD τ)), B.view.loc (c : Thread nD τ) ↦[slotSet c B s]{fullShare} f)

/-- at slab `e` of the array. -/
def slotAt (s e : ℕ) : sProp 𝕄 :=
  iprop(∃ f : Buf (Elt F) (B.view.loc (c : Thread nD τ)),
    ⌜∀ z, (z 0).val = s → B.view.read (Elt F) f z = slabOf (H.view.read (Elt F) W) e z⌝
      ∗ (B.view.loc (c : Thread nD τ) ↦[slotSet c B s]{fullShare} f))

/-- The credit of one slab's copy. -/
abbrev NN : ℕ := 65536

/-- A copy of slab `e` into slot `s` in flight on `sem`, and the rest of the array. -/
def Lent (sem : DmaSem sig) (s e : ℕ) : sProp 𝕄 :=
  iprop(Transfers.Flight countersEmb (c : Thread nD τ) (.dma sem) () NN
      iprop(slotAt c B H W s e ∗ (H.view.loc (c : Thread nD τ) ↦[slabSet c H e]{fullShare} W))
    ∗ (H.view.loc (c : Thread nD τ) ↦[Finset.univ \ slabSet c H e]{fullShare} W))

variable {c B H W}

omit [FloatOps F] in
theorem slotAt_any {s e : ℕ} : (slotAt c B H W s e : sProp 𝕄) ⊢ slotAny c B s := by
  unfold slotAt slotAny
  iintro ⟨%f, -, H⟩
  iexists f; iexact H

/-- Where element `y` of a slab lands: both rectangles carry it to the same place of their slab. -/
theorem slab_corr {s e : ℕ} (he : e < 32) (h : ∀ a, (![s, 0, 0] : Fin 3 → ℕ) a + (slabs 1 P Q).size a ≤ (slabs 2 P Q).size a)
    (h' : ∀ a, (![e, 0, 0] : Fin 3 → ℕ) a + (slabs 1 P Q).size a ≤ (slabs 32 P Q).size a) (y : (slabs 1 P Q).Idx) :
    (Rect.unit (s := slabs 32 P Q) ![e, 0, 0] (slabs 1 P Q).size h').emb y
      = inSlab e ((Rect.unit (s := slabs 2 P Q) ![s, 0, 0] (slabs 1 P Q).size h).emb y 1)
          ((Rect.unit (s := slabs 2 P Q) ![s, 0, 0] (slabs 1 P Q).size h).emb y 2) := by
  have b0 : (y 0).val < 1 := (y 0).isLt
  funext a
  apply Fin.ext
  fin_cases a
  · show e + 1 * (y 0).val = e % 32; omega
  · rfl
  · rfl

/-- A copy of slab `e` into slot `s` started. -/
theorem start_copy [∀ e, Nonempty (Elt F e)] {s e : ℕ} (he : e < 32) {off offE : Fin 3 → ℕ} (hoff : off = ![s, 0, 0]) (hoffE : offE = ![e, 0, 0])
    (h : ∀ a, off a + (slabs 1 P Q).size a ≤ (slabs 2 P Q).size a) (h' : ∀ a, offE a + (slabs 1 P Q).size a ≤ (slabs 32 P Q).size a)
    (hq : (slabs 1 P Q).Squeezes (flat P Q)) (sem : DmaSem sig)
    (hN : ((B.slice (Rect.unit (s := slabs 2 P Q) off (slabs 1 P Q).size h) (fun _ => rfl)).squeeze (flat P Q) hq).view.amount (SemLoc.dma (sig := sig) sem) = NN)
    {hsrc : ((H.slice (Rect.unit (s := slabs 32 P Q) offE (slabs 1 P Q).size h') (fun _ => rfl)).squeeze (flat P Q) hq).view.WordExact}
    {hdst : ((B.slice (Rect.unit (s := slabs 2 P Q) off (slabs 1 P Q).size h) (fun _ => rfl)).squeeze (flat P Q) hq).view.WordExact}
    {hsem : DmaTarget.Typed (nD := nD) Space.hbm (SemLoc.dma sem) (.here (p := (Proc.tc : Proc τ)) ((B.slice (Rect.unit (s := slabs 2 P Q) off (slabs 1 P Q).size h) (fun _ => rfl)).squeeze (flat P Q) hq))}
    {α : Type} {K : PUnit → Prog (TpuEff nD τ sig (Elt F) Λ₀ .tc) α} {R : α → sProp 𝕄} :
    iprop(slotAny c B s ∗ (H.view.loc (c : Thread nD τ) ↦{fullShare} W) ∗ semVal ((c : Thread nD τ), SemLoc.dma sem) 0)
      ⊢ iprop((Lent c B H W sem s e -∗ wp frame (wpE (defs₀ (F := F)) Variants.none (c : Thread nD τ) none) Set.univ (K ⟨⟩) R)
        -∗ wp frame (wpE (defs₀ (F := F)) Variants.none (c : Thread nD τ) none) Set.univ
            (.op (.enqueueDmaAs ((H.slice (Rect.unit (s := slabs 32 P Q) offE (slabs 1 P Q).size h') (fun _ => rfl)).squeeze (flat P Q) hq)
              (.here ((B.slice (Rect.unit (s := slabs 2 P Q) off (slabs 1 P Q).size h) (fun _ => rfl)).squeeze (flat P Q) hq)) ReadAs.same
              (SemLoc.dma sem) hsrc hdst hsem) K) R) := by
  have e1 : ((B.slice (Rect.unit (s := slabs 2 P Q) off (slabs 1 P Q).size h) (fun _ => rfl)).squeeze (flat P Q) hq).view.set = slotSet c B s :=
    (View.set_reshape _ _).trans ((View.set_slice B.view _).trans (congrArg (Finset.map B.view.emb) (rect_layer hoff h)))
  have e2 : ((H.slice (Rect.unit (s := slabs 32 P Q) offE (slabs 1 P Q).size h') (fun _ => rfl)).squeeze (flat P Q) hq).view.set = slabSet c H e :=
    (View.set_reshape _ _).trans ((View.set_slice H.view _).trans (congrArg (Finset.map H.view.emb) (rect_layer hoffE h')))
  unfold slotAny Lent
  iintro ⟨⟨%fd, HB⟩, HH, HS⟩ Hk
  ihave HH' := (pointsTo_split_subset (Finset.subset_univ (slabSet c H e))).1 $$ HH
  icases HH' with ⟨HH, HR⟩
  rw [← e2]
  iapply (Transfers.wp_dmaLocal countersEmb Variants.none (c : Thread nD τ) none
    (src := (H.slice (Rect.unit (s := slabs 32 P Q) offE (slabs 1 P Q).size h') (fun _ => rfl)).squeeze (flat P Q) hq)
    (dst := (B.slice (Rect.unit (s := slabs 2 P Q) off (slabs 1 P Q).size h) (fun _ => rfl)).squeeze (flat P Q) hq)
    (q := fullShare) (fs := W) (Sd := slotSet c B s) (fd := fd) (sm := .dma sem) () NN hN (by decide) e1.le) $$ [HH HB HS]
  · isplitl [HH]; · iexact HH
    isplitl [HB]; · iexact HB
    iexact HS
  iintro HF
  iapply Hk
  isplitl [HF]; swap; · iexact HR
  iapply (Transfers.Flight_mono countersEmb (c : Thread nD τ) ?_) $$ HF
  refine sep_mono ?_ .rfl
  unfold slotAt
  iintro HB
  iexists _
  isplitr; swap; · iexact HB
  ipureintro
  intro z hz
  subst hoff; subst hoffE
  have hz' : z ∈ layer 2 P Q s := mem_layer.mpr hz
  rw [← rect_layer rfl h, ← Rect.map_emb_univ] at hz'
  obtain ⟨y, -, rfl⟩ := Finset.mem_map.mp hz'
  obtain ⟨x, rfl⟩ := (Shape.reshapeEquiv hq.numel_eq).surjective y
  rw [View.read_apply]
  show cast _ (View.write (Elt F) ((B.slice (Rect.unit (s := slabs 2 P Q) ![s, 0, 0] (slabs 1 P Q).size h) (fun _ => rfl)).squeeze (flat P Q) hq).view fd _ Finset.univ
    (((B.slice (Rect.unit (s := slabs 2 P Q) ![s, 0, 0] (slabs 1 P Q).size h) (fun _ => rfl)).squeeze (flat P Q) hq).view.emb x)) = _
  rw [View.write_emb_of_mem _ _ (Finset.mem_univ x), cast_cast, cast_eq]
  show H.view.read (Elt F) W ((Rect.unit (s := slabs 32 P Q) ![e, 0, 0] (slabs 1 P Q).size h').emb (Shape.reshapeEquiv hq.numel_eq x)) = _
  rw [slab_corr he h h']
  rfl

/-- The copy in flight waited for: the slot at the slab, the array whole, the semaphore back at zero. -/
theorem wait_copy {s e : ℕ} (sem : DmaSem sig) {sp sp' : Space} {S S' : Shape} {E E' : EltTy}
    {srcw : Memref sig .tc sp' S' E'} {dstw : Memref sig .tc sp S E} (hN : dstw.view.dmaCredit = NN)
    {hsrc : srcw.view.WordExact} {hdst : dstw.view.WordExact} {w : Waits sig Unit}
    {α : Type} {K : PUnit → Prog (TpuEff nD τ sig (Elt F) Λ₀ .tc) α} {R : α → sProp 𝕄} :
    iprop(Lent c B H W sem s e ∗ owes (c : Thread nD τ) 0 w)
      ⊢ iprop((iprop(slotAt c B H W s e ∗ (H.view.loc (c : Thread nD τ) ↦{fullShare} W) ∗ semVal ((c : Thread nD τ), SemLoc.dma sem) 0
            ∗ owes (c : Thread nD τ) 0 (insert (SemLoc.dma sem, ()) w))
          -∗ wp frame (wpE (defs₀ (F := F)) Variants.none (c : Thread nD τ) none) Set.univ (K ⟨⟩) R)
        -∗ wp frame (wpE (defs₀ (F := F)) Variants.none (c : Thread nD τ) none) Set.univ (.op (.waitDma2 sem srcw dstw hsrc hdst) K) R) := by
  unfold Lent
  iintro ⟨⟨HF, HR⟩, HO⟩ Hk
  iapply (Transfers.wp_waitLocal countersEmb Variants.none (c : Thread nD τ) none (srcw := srcw) (dstw := dstw) () hN) $$ [HF HO]
  · isplitl [HF]; · iexact HF
    iexact HO
  iintro ⟨⟨HB, HH⟩, HS, HO⟩
  iapply Hk
  isplitl [HB]; · iexact HB
  isplitl [HH HR]
  · iapply (pointsTo_split_subset (Finset.subset_univ (slabSet c H e))).2
    isplitl [HH]; · iexact HH
    iexact HR
  isplitl [HS]; · iexact HS
  iexact HO

end Stream

end Cert.Kernel2Ideal.Gmm

end
-- ==== Proof.GmmStreams.lean ====
/- The copies of one grid point: the slab of a new expert waited for, and the next expert's copy started.

   The three weight streams together (`SlotsAny`, `SlotsAt`, `Arrays`, `Sems`, `LentAll`), and the rule for the part of the
   body that runs when a row block opens a new expert: at point 0 it first starts the first expert's copy, then it waits
   for the expert's three slabs, and where another expert follows it starts that one's copies into the other slot. -/
module

public import proofs.«01_k».proof.Proof.GmmStream
public import Idealize.ShloMosaic.Lib.Tactic

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

abbrev Bf (c : Dev nD) {sp s e} (M : Memref sig .tc sp s e) := Buf (Elt F) (M.view.loc (c : Thread nD τ))

/-- The rights spent by waits so far, kept folded while a run goes. -/
def Owed (c : Dev nD) (w : Waits sig Unit) : sProp 𝕄 := owes (c : Thread nD τ) 0 w

/-! ## Semaphores and offsets -/

/-- The semaphore of stream `k` and slot `s`. -/
def cell (s k : ℕ) : DmaSem sig :=
  ((cc0_scratch5.slice (Rect.unit (s := S2x3) ![s % 2, k % 3] S1x1.size (fun a => by
    fin_cases a
    · show s % 2 + 1 ≤ 2; omega
    · show k % 3 + 1 ≤ 3; omega))).squeeze S_ squeezes_S1x1_S_).sem

theorem sem_cell {A : DmaSems sig S2x3} (hA : A = cc0_scratch5) {s k : ℕ} {off : Fin 2 → ℕ} (e : off = ![s, k]) (hs : s < 2) (hk : k < 3) (h : ∀ a, off a + S1x1.size a ≤ S2x3.size a) :
    ((A.slice (Rect.unit (s := S2x3) off S1x1.size h)).squeeze S_ squeezes_S1x1_S_).sem = cell s k := by
  subst e; subst hA
  have a : s % 2 = s := Nat.mod_eq_of_lt hs
  have b : k % 3 = k := Nat.mod_eq_of_lt hk
  have g : ∀ s' k' (h' : ∀ a, (![s', k'] : Fin 2 → ℕ) a + S1x1.size a ≤ S2x3.size a), s' = s → k' = k →
      ((cc0_scratch5.slice (Rect.unit (s := S2x3) ![s', k'] S1x1.size h')).squeeze S_ squeezes_S1x1_S_).sem
        = ((cc0_scratch5.slice (Rect.unit (s := S2x3) ![s, k] S1x1.size h)).squeeze S_ squeezes_S1x1_S_).sem := by
    intro s' k' h' es ek; subst es; subst ek; rfl
  exact (g _ _ _ a b).symm

/-- The other slot's number as the body computes it. -/
theorem other_toNat {v : BitVec 32} (h : v.toNat < 2) : (Scalar.subi 1#32 v).toNat = 1 - v.toNat := by
  show (1#32 - v).toNat = 1 - v.toNat
  rw [BitVec.toNat_sub]
  have : (1#32 : BitVec 32).toNat = 1 := rfl
  rw [this]; omega

theorem cell_fits {s k : ℕ} (hs : s < 2) (hk : k < 3) (a : Fin 2) : (![s, k] : Fin 2 → ℕ) a + S1x1.size a ≤ S2x3.size a := by
  fin_cases a
  · show s + 1 ≤ 2; omega
  · show k + 1 ≤ 3; omega
theorem slab_fits {n k P Q : ℕ} (h : k < n) (a : Fin 3) : (![k, 0, 0] : Fin 3 → ℕ) a + (slabs 1 P Q).size a ≤ (slabs n P Q).size a := by
  fin_cases a
  · show k + 1 ≤ n; omega
  · show 0 + P ≤ P; omega
  · show 0 + Q ≤ Q; omega

/-- `wait_copy` over the folded rights, on the semaphore of a slot and a stream. -/
theorem wait_at {P Q : ℕ} {c : Dev nD} {B : Memref sig .tc .vmem (slabs 2 P Q) .f32} {H : Memref sig .tc .hbm (slabs 32 P Q) .f32} {W : Bf (F := F) c H}
    {s e : ℕ} (k : ℕ) {sem : DmaSem sig} (hsem : sem = cell s k) {sp sp' : Space} {S S' : Shape} {E E' : EltTy}
    {srcw : Memref sig .tc sp' S' E'} {dstw : Memref sig .tc sp S E} (hN : dstw.view.dmaCredit = NN)
    {hsrc : srcw.view.WordExact} {hdst : dstw.view.WordExact} {w : Waits sig Unit}
    {α : Type} {K : PUnit → Prog (TpuEff nD τ sig (Elt F) Λ₀ .tc) α} {R : α → sProp 𝕄} :
    iprop(Lent c B H W (cell s k) s e ∗ Owed c w)
      ⊢ iprop((iprop(slotAt c B H W s e ∗ (H.view.loc (c : Thread nD τ) ↦{fullShare} W) ∗ semVal ((c : Thread nD τ), SemLoc.dma (cell s k)) 0
            ∗ Owed c (insert (SemLoc.dma (cell s k), ()) w))
          -∗ wp frame (wpE (defs₀ (F := F)) Variants.none (c : Thread nD τ) none) Set.univ (K ⟨⟩) R)
        -∗ wp frame (wpE (defs₀ (F := F)) Variants.none (c : Thread nD τ) none) Set.univ (.op (.waitDma2 sem srcw dstw hsrc hdst) K) R) := by
  subst hsem
  exact wait_copy (cell s k) hN

/-- `start_copy` on the semaphore of a slot and a stream. -/
theorem start_at [∀ e, Nonempty (Elt F e)] {P Q : ℕ} {c : Dev nD} {B : Memref sig .tc .vmem (slabs 2 P Q) .f32} {H : Memref sig .tc .hbm (slabs 32 P Q) .f32} {W : Bf (F := F) c H}
    {s e : ℕ} (k : ℕ) (he : e < 32) {off offE : Fin 3 → ℕ} (hoff : off = ![s, 0, 0]) (hoffE : offE = ![e, 0, 0])
    {h : ∀ a, off a + (slabs 1 P Q).size a ≤ (slabs 2 P Q).size a} {h' : ∀ a, offE a + (slabs 1 P Q).size a ≤ (slabs 32 P Q).size a}
    (hq : (slabs 1 P Q).Squeezes (flat P Q)) {sem : DmaSem sig} (hsem : sem = cell s k)
    (hN : ((B.slice (Rect.unit (s := slabs 2 P Q) off (slabs 1 P Q).size h) (fun _ => rfl)).squeeze (flat P Q) hq).view.amount (SemLoc.dma (sig := sig) sem) = NN)
    {hsrc : ((H.slice (Rect.unit (s := slabs 32 P Q) offE (slabs 1 P Q).size h') (fun _ => rfl)).squeeze (flat P Q) hq).view.WordExact}
    {hdst : ((B.slice (Rect.unit (s := slabs 2 P Q) off (slabs 1 P Q).size h) (fun _ => rfl)).squeeze (flat P Q) hq).view.WordExact}
    {ht : DmaTarget.Typed (nD := nD) Space.hbm (SemLoc.dma sem) (.here (p := (Proc.tc : Proc τ)) ((B.slice (Rect.unit (s := slabs 2 P Q) off (slabs 1 P Q).size h) (fun _ => rfl)).squeeze (flat P Q) hq))}
    {α : Type} {K : PUnit → Prog (TpuEff nD τ sig (Elt F) Λ₀ .tc) α} {R : α → sProp 𝕄} :
    iprop(slotAny c B s ∗ (H.view.loc (c : Thread nD τ) ↦{fullShare} W) ∗ semVal ((c : Thread nD τ), SemLoc.dma (cell s k)) 0)
      ⊢ iprop((Lent c B H W (cell s k) s e -∗ wp frame (wpE (defs₀ (F := F)) Variants.none (c : Thread nD τ) none) Set.univ (K ⟨⟩) R)
        -∗ wp frame (wpE (defs₀ (F := F)) Variants.none (c : Thread nD τ) none) Set.univ
            (.op (.enqueueDmaAs ((H.slice (Rect.unit (s := slabs 32 P Q) offE (slabs 1 P Q).size h') (fun _ => rfl)).squeeze (flat P Q) hq)
              (.here ((B.slice (Rect.unit (s := slabs 2 P Q) off (slabs 1 P Q).size h) (fun _ => rfl)).squeeze (flat P Q) hq)) ReadAs.same
              (SemLoc.dma sem) hsrc hdst ht) K) R) := by
  subst hsem
  exact start_copy he hoff hoffE h h' hq (cell s k) hN

/-! ## The words of a table -/

/-- Place `t` of a table. -/
def place (t : ℕ) : S96.Idx := fun a => match a with | ⟨0, _⟩ => ⟨t % 96, Nat.mod_lt t (show 0 < 96 by decide)⟩

/-- Word `t` of a table. -/
def word (M : Memref sig .tc .smem S96 .i32) {c : Dev nD} (f : Bf (F := F) c M) (t : ℕ) : BitVec 32 := M.view.read (Elt F) f (place t)

abbrev only : S1.Idx := Shape.Idx.first (s := S1) (numel1_S1.symm ▸ Nat.one_pos)

theorem point_lt (i : grid0.Coords) : (i 0).val < 96 := (i 0).isLt

omit [FloatOps F] in
/-- The word a scalar read of a table brings. -/
theorem read_word (M : Memref sig .tc .smem S96 .i32) {c : Dev nD} (f : Bf (F := F) c M) {off : Fin 1 → ℕ} {t : ℕ} (e : off = ![t]) (ht : t < 96)
    (h : ∀ a, off a + S1.size a ≤ S96.size a) :
    M.view.readAt (Elt F) (Rect.unit (s := S96) off S1.size h).toLoadRect f only = word M f t := by
  subst e
  refine congrArg (M.view.read (Elt F) f) (funext fun a => Fin.ext ?_)
  fin_cases a
  show t + 1 * (only 0).val = t % 96
  have b : (only 0).val < 1 := (only 0).isLt
  omega

theorem off2_eq (i : grid0.Coords) : k0_off2 i = ![(i 0).val] := k0_off2_eq i

/-! ## The streams together -/

section Streams

variable (c : Dev nD) (B1 B2 : Memref sig .tc .vmem S2x1024x512 .f32) (B3 : Memref sig .tc .vmem S2x512x1024 .f32)
  (H1 H2 : Memref sig .tc .hbm S32x1024x512 .f32) (H3 : Memref sig .tc .hbm S32x512x1024 .f32)
  (W1 : Bf (F := F) c H1) (W2 : Bf (F := F) c H2) (W3 : Bf (F := F) c H3)

def SlotsAny (s : ℕ) : sProp 𝕄 := iprop(slotAny c B1 s ∗ slotAny c B2 s ∗ slotAny c B3 s)
def SlotsAt (s e : ℕ) : sProp 𝕄 := iprop(slotAt c B1 H1 W1 s e ∗ slotAt c B2 H2 W2 s e ∗ slotAt c B3 H3 W3 s e)
def Arrays : sProp 𝕄 :=
  iprop((H1.view.loc (c : Thread nD τ) ↦{fullShare} W1) ∗ (H2.view.loc (c : Thread nD τ) ↦{fullShare} W2)
    ∗ (H3.view.loc (c : Thread nD τ) ↦{fullShare} W3))
def Sems (s : ℕ) : sProp 𝕄 :=
  iprop(semVal ((c : Thread nD τ), SemLoc.dma (cell s 0)) 0 ∗ semVal ((c : Thread nD τ), SemLoc.dma (cell s 1)) 0
    ∗ semVal ((c : Thread nD τ), SemLoc.dma (cell s 2)) 0)
def LentAll (s e : ℕ) : sProp 𝕄 :=
  iprop(Lent c B1 H1 W1 (cell s 0) s e ∗ Lent c B2 H2 W2 (cell s 1) s e ∗ Lent c B3 H3 W3 (cell s 2) s e)

/-- Nothing in flight. -/
def Idle : sProp 𝕄 :=
  iprop(SlotsAny c B1 B2 B3 0 ∗ SlotsAny c B1 B2 B3 1 ∗ Arrays c H1 H2 H3 W1 W2 W3 ∗ Sems c 0 ∗ Sems c 1)

/-- Slab `e` in flight to slot `s`. -/
def Pending (s e : ℕ) : sProp 𝕄 :=
  iprop(LentAll c B1 B2 B3 H1 H2 H3 W1 W2 W3 s e ∗ SlotsAny c B1 B2 B3 (1 - s) ∗ Sems c (1 - s))

/-- What a point that opens an expert leaves of the other slot: a copy in flight to it, or not. -/
def After (s : ℕ) (n : BitVec 32) : sProp 𝕄 :=
  if k0_cond4 n = 1#1 then LentAll c B1 B2 B3 H1 H2 H3 W1 W2 W3 (1 - s) n.toNat
  else iprop(SlotsAny c B1 B2 B3 (1 - s) ∗ Arrays c H1 H2 H3 W1 W2 W3 ∗ Sems c (1 - s))

end Streams

theorem credit_slot1 (B : Memref sig .tc .vmem S2x1024x512 .f32) (off : Fin 3 → ℕ) (h : ∀ a, off a + S1x1024x512.size a ≤ S2x1024x512.size a) (sem : DmaSem sig) :
    ((B.slice (Rect.unit (s := S2x1024x512) off S1x1024x512.size h) (fun _ => rfl)).squeeze S1024x512 squeezes_S1x1024x512_S1024x512).view.amount (SemLoc.dma (sig := sig) sem) = NN := by
  show sig.dmaCredit Kind.tc _ _ S1024x512 EltTy.f32 = 65536
  rfl
theorem credit_slot2 (B : Memref sig .tc .vmem S2x512x1024 .f32) (off : Fin 3 → ℕ) (h : ∀ a, off a + S1x512x1024.size a ≤ S2x512x1024.size a) (sem : DmaSem sig) :
    ((B.slice (Rect.unit (s := S2x512x1024) off S1x512x1024.size h) (fun _ => rfl)).squeeze S512x1024 squeezes_S1x512x1024_S512x1024).view.amount (SemLoc.dma (sig := sig) sem) = NN := by
  show sig.dmaCredit Kind.tc _ _ S512x1024 EltTy.f32 = 65536
  rfl
theorem credit_wait1 (B : Memref sig .tc .vmem S2x1024x512 .f32) (off : Fin 3 → ℕ) (h : ∀ a, off a + S1x1024x512.size a ≤ S2x1024x512.size a) :
    ((B.slice (Rect.unit (s := S2x1024x512) off S1x1024x512.size h) (fun _ => rfl)).squeeze S1024x512 squeezes_S1x1024x512_S1024x512).view.dmaCredit = NN := by
  show sig.dmaCredit Kind.tc _ _ S1024x512 EltTy.f32 = 65536
  rfl
theorem credit_wait2 (B : Memref sig .tc .vmem S2x512x1024 .f32) (off : Fin 3 → ℕ) (h : ∀ a, off a + S1x512x1024.size a ≤ S2x512x1024.size a) :
    ((B.slice (Rect.unit (s := S2x512x1024) off S1x512x1024.size h) (fun _ => rfl)).squeeze S512x1024 squeezes_S1x512x1024_S512x1024).view.dmaCredit = NN := by
  show sig.dmaCredit Kind.tc _ _ S512x1024 EltTy.f32 = 65536
  rfl

/-- After a statement the next one runs at its value. -/
theorem next {E : Type → Type} {α β : Type} (a : α) (k : α → Prog E β) : (Prog.ret a).bind k = k a := rfl

end Cert.Kernel2Ideal.Gmm

end
-- ==== Proof.GmmFetch.lean ====
/- The part of the body that runs when a row block opens a new expert.

   At point 0 it starts the first expert's three copies into slot 0; at every point it then waits for the three slabs, and
   where another expert follows it starts that one's copies into the other slot. -/
module

public import proofs.«01_k».proof.Proof.GmmStreams
public import Idealize.ShloMosaic.Lib.Tactic

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

set_option maxRecDepth 16384 in
set_option maxHeartbeats 4000000 in
/-- After point 0, where the expert's copies are in flight already. -/
theorem fetch_later [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f4 : Bf (F := F) c M4) (f5 : Bf (F := F) c M5) (W1 : Bf (F := F) c M7) (W2 : Bf (F := F) c M8) (W3 : Bf (F := F) c M9)
    (q1 q4 q5 : PosShare TreeShare) (A : DmaSems sig S2x3) (hA : A = cc0_scratch5) (arg0 v0 : BitVec 32) (k1 : k0_cond1 i v0 = 1#1) (v9 : BitVec 32) (k2 : k0_cond2 v9 = 1#1)
    {s e : ℕ} (hs' : (word M4 f4 (i 0).val).toNat = s) (he' : (word M1 f1 (i 0).val).toNat = e) (hs : s < 2) (he : e < 32)
    (hn : k0_cond4 (word M5 f5 (i 0).val) = 1#1 → (word M5 f5 (i 0).val).toNat < 32)
    (k3 : ¬ k0_cond3 i = 1#1)
    (w : Waits sig Unit) (Q : (Σ' (v56 : Elt F .i32), k0_chk2 i v0 v9 v56) → sProp 𝕄) :
    iprop((M1.view.loc (c : Thread nD τ) ↦{q1} f1) ∗ (M4.view.loc (c : Thread nD τ) ↦{q4} f4) ∗ (M5.view.loc (c : Thread nD τ) ↦{q5} f5)
        ∗ Pending c M11 M12 M13 M7 M8 M9 W1 W2 W3 s e ∗ Owed c w
        ∗ (∀ v h, ⌜v = word M4 f4 (i 0).val⌝ -∗ iprop((M1.view.loc (c : Thread nD τ) ↦{q1} f1) ∗ (M4.view.loc (c : Thread nD τ) ↦{q4} f4) ∗ (M5.view.loc (c : Thread nD τ) ↦{q5} f5)
            ∗ SlotsAt c M11 M12 M13 M7 M8 M9 W1 W2 W3 s e ∗ Sems c s
            ∗ After c M11 M12 M13 M7 M8 M9 W1 W2 W3 s (word M5 f5 (i 0).val) ∗ ∃ w, Owed c w) -∗ Q ⟨v, h⟩))
      ⊢ wp frame (wpE (defs₀ (F := F)) Variants.none (c : Thread nD τ) none) Set.univ
          (k0_part1 i M1 h1 M2 h2 M3 h3 M4 h4 M5 h5 M6 h6 M7 h7 M8 h8 M9 h9 M10 h10 M11 h11 M12 h12 M13 h13 M14 h14 M15 h15 A arg0 v0 k1 v9 k2) Q := by
  have hi : (i 0).val < 96 := point_lt i
  have r4 := read_word M4 f4 (off2_eq i) hi (k0_off2_inb i)
  have r1 := read_word M1 f1 (off2_eq i) hi (k0_off2_inb i)
  have r5 := read_word M5 f5 (k0_off13_eq i) hi (k0_off13_inb i)
  have r5' := read_word M5 f5 (k0_off14_eq i) hi (k0_off14_inb i)
  have hs4 : (M4.view.readAt (Elt F) (Rect.unit (s := S96) (k0_off2 i) S1.size (k0_off2_inb i)).toLoadRect f4 only).toNat < 2 := by rw [r4]; omega
  have ho4 := other_toNat hs4
  have hv : (M4.view.readAt (Elt F) (Rect.unit (s := S96) (k0_off2 i) S1.size (k0_off2_inb i)).toLoadRect f4 only).toNat = s := by rw [r4]; exact hs'
  have hv' := ho4.trans (congrArg (fun n => 1 - n) hv)
  have g5 : k0_off5 (M4.view.readAt (Elt F) (Rect.unit (s := S96) (k0_off2 i) S1.size (k0_off2_inb i)).toLoadRect f4 only) = ![s, 0] := congrArg (fun n => ![n, 0]) hv
  have g8 : k0_off8 (M4.view.readAt (Elt F) (Rect.unit (s := S96) (k0_off2 i) S1.size (k0_off2_inb i)).toLoadRect f4 only) = ![s, 1] := congrArg (fun n => ![n, 1]) hv
  have g10 : k0_off10 (M4.view.readAt (Elt F) (Rect.unit (s := S96) (k0_off2 i) S1.size (k0_off2_inb i)).toLoadRect f4 only) = ![s, 2] := congrArg (fun n => ![n, 2]) hv
  have g15 : k0_off15 (M4.view.readAt (Elt F) (Rect.unit (s := S96) (k0_off2 i) S1.size (k0_off2_inb i)).toLoadRect f4 only) = ![1 - s, 0] := congrArg (fun n => ![n, 0]) hv'
  have g18 : k0_off18 (M4.view.readAt (Elt F) (Rect.unit (s := S96) (k0_off2 i) S1.size (k0_off2_inb i)).toLoadRect f4 only) = ![1 - s, 1] := congrArg (fun n => ![n, 1]) hv'
  have g20 : k0_off20 (M4.view.readAt (Elt F) (Rect.unit (s := S96) (k0_off2 i) S1.size (k0_off2_inb i)).toLoadRect f4 only) = ![1 - s, 2] := congrArg (fun n => ![n, 2]) hv'
  have g16 : k0_off16 (M4.view.readAt (Elt F) (Rect.unit (s := S96) (k0_off2 i) S1.size (k0_off2_inb i)).toLoadRect f4 only) = ![1 - s, 0, 0] := congrArg (fun n => ![n, 0, 0]) hv'
  have g19 : k0_off19 (M4.view.readAt (Elt F) (Rect.unit (s := S96) (k0_off2 i) S1.size (k0_off2_inb i)).toLoadRect f4 only) = ![1 - s, 0, 0] := congrArg (fun n => ![n, 0, 0]) hv'
  have g21 : k0_off21 (M4.view.readAt (Elt F) (Rect.unit (s := S96) (k0_off2 i) S1.size (k0_off2_inb i)).toLoadRect f4 only) = ![1 - s, 0, 0] := congrArg (fun n => ![n, 0, 0]) hv'
  have c2 : k0_chk2 i v0 v9 (M4.view.readAt (Elt F) (Rect.unit (s := S96) (k0_off2 i) S1.size (k0_off2_inb i)).toLoadRect f4 only) :=
    ⟨fun _ _ => cell_fits hs4 (by decide), fun _ _ => slab_fits hs4, fun _ _ => cell_fits hs4 (by decide), fun _ _ => slab_fits hs4,
      fun _ _ => cell_fits hs4 (by decide), fun _ _ => slab_fits hs4, fun _ _ => slab_fits hs4, fun _ _ => slab_fits hs4⟩
  have he1 : (M1.view.readAt (Elt F) (Rect.unit (s := S96) (k0_off2 i) S1.size (k0_off2_inb i)).toLoadRect f1 only).toNat < 32 := by rw [r1]; omega
  have c3 : k0_chk3 i v0 v9 (M1.view.readAt (Elt F) (Rect.unit (s := S96) (k0_off2 i) S1.size (k0_off2_inb i)).toLoadRect f1 only) := ⟨fun _ _ => slab_fits he1, fun _ _ => slab_fits he1⟩
  have c4 : k0_chk4 i v0 v9 (M4.view.readAt (Elt F) (Rect.unit (s := S96) (k0_off2 i) S1.size (k0_off2_inb i)).toLoadRect f4 only) (M5.view.readAt (Elt F) (Rect.unit (s := S96) (k0_off13 i) S1.size (k0_off13_inb i)).toLoadRect f5 only) :=
    ⟨fun _ _ _ => cell_fits (by rw [ho4]; omega) (by decide), fun _ _ _ => slab_fits (by rw [ho4]; omega), fun _ _ _ => cell_fits (by rw [ho4]; omega) (by decide),
      fun _ _ _ => slab_fits (by rw [ho4]; omega), fun _ _ _ => cell_fits (by rw [ho4]; omega) (by decide), fun _ _ _ => slab_fits (by rw [ho4]; omega)⟩
  unfold Pending SlotsAt Sems After LentAll SlotsAny Arrays
  iintro ⟨H1, H4, H5, ⟨⟨HL1, HL2, HL3⟩, ⟨HC1, HC2, HC3⟩, ⟨HT1, HT2, HT3⟩⟩, HO, Hk⟩
  simp only [k0_part1_eq_skeleton]; unfold k0_part1_skel
  sl_exec (disch := first | sl_exact c2 | sl_exact c3 | sl_exact c4 | sl_exact c5 | sl_exact c1)
  by_cases h4 : k0_cond4 (M5.view.readAt (Elt F) (Rect.unit (s := S96) (k0_off13 i) S1.size (k0_off13_inb i)).toLoadRect f5 only) = 1#1
  · have hn5 : (word M5 f5 (i 0).val).toNat < 32 := hn (r5 ▸ h4)
    have hn5' : (M5.view.readAt (Elt F) (Rect.unit (s := S96) (k0_off14 i) S1.size (k0_off14_inb i)).toLoadRect f5 only).toNat < 32 := by rw [r5']; exact hn5
    have g17 : k0_off17 (M5.view.readAt (Elt F) (Rect.unit (s := S96) (k0_off14 i) S1.size (k0_off14_inb i)).toLoadRect f5 only) = ![(word M5 f5 (i 0).val).toNat, 0, 0] := congrArg (fun v : BitVec 32 => ![v.toNat, 0, 0]) r5'
    have g22 : k0_off22 (M5.view.readAt (Elt F) (Rect.unit (s := S96) (k0_off14 i) S1.size (k0_off14_inb i)).toLoadRect f5 only) = ![(word M5 f5 (i 0).val).toNat, 0, 0] := congrArg (fun v : BitVec 32 => ![v.toNat, 0, 0]) r5'
    have c5 : k0_chk5 i v0 v9 (M5.view.readAt (Elt F) (Rect.unit (s := S96) (k0_off13 i) S1.size (k0_off13_inb i)).toLoadRect f5 only) (M5.view.readAt (Elt F) (Rect.unit (s := S96) (k0_off14 i) S1.size (k0_off14_inb i)).toLoadRect f5 only) := ⟨fun _ _ _ => slab_fits hn5', fun _ _ _ => slab_fits hn5'⟩
    iapply (wait_at (c := c) (B := M11) (H := M7) (W := W1) (s := s) (e := e) 0 ?hs (credit_wait1 M11 _ _)) $$ [HL1 HO]
    case hs => exact sem_cell hA g5 hs (by decide) _
    · isplitl [HL1]; · iexact HL1
      iexact HO
    iintro ⟨HB1, HA1, HS1, HO⟩
    sl_exec (disch := first | sl_exact c2 | sl_exact c3 | sl_exact c4 | sl_exact c5 | sl_exact c1)
    iapply (wait_at (c := c) (B := M12) (H := M8) (W := W2) (s := s) (e := e) 1 ?hs (credit_wait1 M12 _ _)) $$ [HL2 HO]
    case hs => exact sem_cell hA g8 hs (by decide) _
    · isplitl [HL2]; · iexact HL2
      iexact HO
    iintro ⟨HB2, HA2, HS2, HO⟩
    sl_exec (disch := first | sl_exact c2 | sl_exact c3 | sl_exact c4 | sl_exact c5 | sl_exact c1)
    iapply (wait_at (c := c) (B := M13) (H := M9) (W := W3) (s := s) (e := e) 2 ?hs (credit_wait2 M13 _ _)) $$ [HL3 HO]
    case hs => exact sem_cell hA g10 hs (by decide) _
    · isplitl [HL3]; · iexact HL3
      iexact HO
    iintro ⟨HB3, HA3, HS3, HO⟩
    sl_exec (disch := first | sl_exact c2 | sl_exact c3 | sl_exact c4 | sl_exact c5 | sl_exact c1)
    iapply (start_at (c := c) (B := M11) (H := M7) (W := W1) (s := 1 - s) (e := (word M5 f5 (i 0).val).toNat) 0 hn5 ?ho ?he
      squeezes_S1x1024x512_S1024x512 ?hs (credit_slot1 M11 _ _ _)) $$ [HC1 HA1 HT1]
    case ho => exact g16
    case he => exact g17
    case hs => exact sem_cell hA g15 (by omega) (by decide) _
    · isplitl [HC1]; · iexact HC1
      isplitl [HA1]; · iexact HA1
      iexact HT1
    iintro HN1
    sl_exec (disch := first | sl_exact c2 | sl_exact c3 | sl_exact c4 | sl_exact c5 | sl_exact c1)
    iapply (start_at (c := c) (B := M12) (H := M8) (W := W2) (s := 1 - s) (e := (word M5 f5 (i 0).val).toNat) 1 hn5 ?ho ?he
      squeezes_S1x1024x512_S1024x512 ?hs (credit_slot1 M12 _ _ _)) $$ [HC2 HA2 HT2]
    case ho => exact g19
    case he => exact g17
    case hs => exact sem_cell hA g18 (by omega) (by decide) _
    · isplitl [HC2]; · iexact HC2
      isplitl [HA2]; · iexact HA2
      iexact HT2
    iintro HN2
    sl_exec (disch := first | sl_exact c2 | sl_exact c3 | sl_exact c4 | sl_exact c5 | sl_exact c1)
    iapply (start_at (c := c) (B := M13) (H := M9) (W := W3) (s := 1 - s) (e := (word M5 f5 (i 0).val).toNat) 2 hn5 ?ho ?he
      squeezes_S1x512x1024_S512x1024 ?hs (credit_slot2 M13 _ _ _)) $$ [HC3 HA3 HT3]
    case ho => exact g21
    case he => exact g22
    case hs => exact sem_cell hA g20 (by omega) (by decide) _
    · isplitl [HC3]; · iexact HC3
      isplitl [HA3]; · iexact HA3
      iexact HT3
    iintro HN3
    sl_exec (disch := first | sl_exact c2 | sl_exact c3 | sl_exact c4 | sl_exact c5 | sl_exact c1)
    sl_step
    ispecialize Hk $$ %(fetch_later.sl.r c i M4 f4) %c2 %r4
    iapply Hk
    isplitl [H1]; · iexact H1
    isplitl [H4]; · iexact H4
    isplitl [H5]; · iexact H5
    isplitl [HB1 HB2 HB3]
    · isplitl [HB1]; · iexact HB1
      isplitl [HB2]; · iexact HB2
      iexact HB3
    isplitl [HS1 HS2 HS3]
    · isplitl [HS1]; · iexact HS1
      isplitl [HS2]; · iexact HS2
      iexact HS3
    isplitl [HN1 HN2 HN3]
    · rw [if_pos (r5 ▸ h4)]
      isplitl [HN1]; · iexact HN1
      isplitl [HN2]; · iexact HN2
      iexact HN3
    iexists _; iexact HO
  · skip
    iapply (wait_at (c := c) (B := M11) (H := M7) (W := W1) (s := s) (e := e) 0 ?hs (credit_wait1 M11 _ _)) $$ [HL1 HO]
    case hs => exact sem_cell hA g5 hs (by decide) _
    · isplitl [HL1]; · iexact HL1
      iexact HO
    iintro ⟨HB1, HA1, HS1, HO⟩
    sl_exec (disch := first | sl_exact c2 | sl_exact c3 | sl_exact c4 | sl_exact c5 | sl_exact c1)
    iapply (wait_at (c := c) (B := M12) (H := M8) (W := W2) (s := s) (e := e) 1 ?hs (credit_wait1 M12 _ _)) $$ [HL2 HO]
    case hs => exact sem_cell hA g8 hs (by decide) _
    · isplitl [HL2]; · iexact HL2
      iexact HO
    iintro ⟨HB2, HA2, HS2, HO⟩
    sl_exec (disch := first | sl_exact c2 | sl_exact c3 | sl_exact c4 | sl_exact c5 | sl_exact c1)
    iapply (wait_at (c := c) (B := M13) (H := M9) (W := W3) (s := s) (e := e) 2 ?hs (credit_wait2 M13 _ _)) $$ [HL3 HO]
    case hs => exact sem_cell hA g10 hs (by decide) _
    · isplitl [HL3]; · iexact HL3
      iexact HO
    iintro ⟨HB3, HA3, HS3, HO⟩
    sl_exec (disch := first | sl_exact c2 | sl_exact c3 | sl_exact c4 | sl_exact c5 | sl_exact c1)
    sl_step
    ispecialize Hk $$ %(fetch_later.sl.r c i M4 f4) %c2 %r4
    iapply Hk
    isplitl [H1]; · iexact H1
    isplitl [H4]; · iexact H4
    isplitl [H5]; · iexact H5
    isplitl [HB1 HB2 HB3]
    · isplitl [HB1]; · iexact HB1
      isplitl [HB2]; · iexact HB2
      iexact HB3
    isplitl [HS1 HS2 HS3]
    · isplitl [HS1]; · iexact HS1
      isplitl [HS2]; · iexact HS2
      iexact HS3
    isplitr [HO]
    · rw [if_neg (r5 ▸ h4)]
      isplitl [HC1 HC2 HC3]
      · isplitl [HC1]; · iexact HC1
        isplitl [HC2]; · iexact HC2
        iexact HC3
      isplitl [HA1 HA2 HA3]
      · isplitl [HA1]; · iexact HA1
        isplitl [HA2]; · iexact HA2
        iexact HA3
      unfold Sems
      isplitl [HT1]; · iexact HT1
      isplitl [HT2]; · iexact HT2
      iexact HT3
    iexists _; iexact HO

set_option maxRecDepth 16384 in
set_option maxHeartbeats 4000000 in
/-- At point 0, where nothing is in flight. -/
theorem fetch_first [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f4 : Bf (F := F) c M4) (f5 : Bf (F := F) c M5) (W1 : Bf (F := F) c M7) (W2 : Bf (F := F) c M8) (W3 : Bf (F := F) c M9)
    (q1 q4 q5 : PosShare TreeShare) (A : DmaSems sig S2x3) (hA : A = cc0_scratch5) (arg0 v0 : BitVec 32) (k1 : k0_cond1 i v0 = 1#1) (v9 : BitVec 32) (k2 : k0_cond2 v9 = 1#1)
    {s e : ℕ} (hs' : (word M4 f4 (i 0).val).toNat = s) (he' : (word M1 f1 (i 0).val).toNat = e) (hs : s < 2) (he : e < 32)
    (hn : k0_cond4 (word M5 f5 (i 0).val) = 1#1 → (word M5 f5 (i 0).val).toNat < 32)
    (k3 : k0_cond3 i = 1#1) (h0 : (i 0).val = 0) (s0 : s = 0)
    (w : Waits sig Unit) (Q : (Σ' (v56 : Elt F .i32), k0_chk2 i v0 v9 v56) → sProp 𝕄) :
    iprop((M1.view.loc (c : Thread nD τ) ↦{q1} f1) ∗ (M4.view.loc (c : Thread nD τ) ↦{q4} f4) ∗ (M5.view.loc (c : Thread nD τ) ↦{q5} f5)
        ∗ Idle c M11 M12 M13 M7 M8 M9 W1 W2 W3 ∗ Owed c w
        ∗ (∀ v h, ⌜v = word M4 f4 (i 0).val⌝ -∗ iprop((M1.view.loc (c : Thread nD τ) ↦{q1} f1) ∗ (M4.view.loc (c : Thread nD τ) ↦{q4} f4) ∗ (M5.view.loc (c : Thread nD τ) ↦{q5} f5)
            ∗ SlotsAt c M11 M12 M13 M7 M8 M9 W1 W2 W3 s e ∗ Sems c s
            ∗ After c M11 M12 M13 M7 M8 M9 W1 W2 W3 s (word M5 f5 (i 0).val) ∗ ∃ w, Owed c w) -∗ Q ⟨v, h⟩))
      ⊢ wp frame (wpE (defs₀ (F := F)) Variants.none (c : Thread nD τ) none) Set.univ
          (k0_part1 i M1 h1 M2 h2 M3 h3 M4 h4 M5 h5 M6 h6 M7 h7 M8 h8 M9 h9 M10 h10 M11 h11 M12 h12 M13 h13 M14 h14 M15 h15 A arg0 v0 k1 v9 k2) Q := by
  have hi : (i 0).val < 96 := point_lt i
  have r4 := read_word M4 f4 (off2_eq i) hi (k0_off2_inb i)
  have r1 := read_word M1 f1 (off2_eq i) hi (k0_off2_inb i)
  have r5 := read_word M5 f5 (k0_off13_eq i) hi (k0_off13_inb i)
  have r5' := read_word M5 f5 (k0_off14_eq i) hi (k0_off14_inb i)
  have hs4 : (M4.view.readAt (Elt F) (Rect.unit (s := S96) (k0_off2 i) S1.size (k0_off2_inb i)).toLoadRect f4 only).toNat < 2 := by rw [r4]; omega
  have ho4 := other_toNat hs4
  have hv : (M4.view.readAt (Elt F) (Rect.unit (s := S96) (k0_off2 i) S1.size (k0_off2_inb i)).toLoadRect f4 only).toNat = s := by rw [r4]; exact hs'
  have hv' := ho4.trans (congrArg (fun n => 1 - n) hv)
  have g5 : k0_off5 (M4.view.readAt (Elt F) (Rect.unit (s := S96) (k0_off2 i) S1.size (k0_off2_inb i)).toLoadRect f4 only) = ![s, 0] := congrArg (fun n => ![n, 0]) hv
  have g8 : k0_off8 (M4.view.readAt (Elt F) (Rect.unit (s := S96) (k0_off2 i) S1.size (k0_off2_inb i)).toLoadRect f4 only) = ![s, 1] := congrArg (fun n => ![n, 1]) hv
  have g10 : k0_off10 (M4.view.readAt (Elt F) (Rect.unit (s := S96) (k0_off2 i) S1.size (k0_off2_inb i)).toLoadRect f4 only) = ![s, 2] := congrArg (fun n => ![n, 2]) hv
  have g15 : k0_off15 (M4.view.readAt (Elt F) (Rect.unit (s := S96) (k0_off2 i) S1.size (k0_off2_inb i)).toLoadRect f4 only) = ![1 - s, 0] := congrArg (fun n => ![n, 0]) hv'
  have g18 : k0_off18 (M4.view.readAt (Elt F) (Rect.unit (s := S96) (k0_off2 i) S1.size (k0_off2_inb i)).toLoadRect f4 only) = ![1 - s, 1] := congrArg (fun n => ![n, 1]) hv'
  have g20 : k0_off20 (M4.view.readAt (Elt F) (Rect.unit (s := S96) (k0_off2 i) S1.size (k0_off2_inb i)).toLoadRect f4 only) = ![1 - s, 2] := congrArg (fun n => ![n, 2]) hv'
  have g16 : k0_off16 (M4.view.readAt (Elt F) (Rect.unit (s := S96) (k0_off2 i) S1.size (k0_off2_inb i)).toLoadRect f4 only) = ![1 - s, 0, 0] := congrArg (fun n => ![n, 0, 0]) hv'
  have g19 : k0_off19 (M4.view.readAt (Elt F) (Rect.unit (s := S96) (k0_off2 i) S1.size (k0_off2_inb i)).toLoadRect f4 only) = ![1 - s, 0, 0] := congrArg (fun n => ![n, 0, 0]) hv'
  have g21 : k0_off21 (M4.view.readAt (Elt F) (Rect.unit (s := S96) (k0_off2 i) S1.size (k0_off2_inb i)).toLoadRect f4 only) = ![1 - s, 0, 0] := congrArg (fun n => ![n, 0, 0]) hv'
  have c2 : k0_chk2 i v0 v9 (M4.view.readAt (Elt F) (Rect.unit (s := S96) (k0_off2 i) S1.size (k0_off2_inb i)).toLoadRect f4 only) :=
    ⟨fun _ _ => cell_fits hs4 (by decide), fun _ _ => slab_fits hs4, fun _ _ => cell_fits hs4 (by decide), fun _ _ => slab_fits hs4,
      fun _ _ => cell_fits hs4 (by decide), fun _ _ => slab_fits hs4, fun _ _ => slab_fits hs4, fun _ _ => slab_fits hs4⟩
  have he1 : (M1.view.readAt (Elt F) (Rect.unit (s := S96) (k0_off2 i) S1.size (k0_off2_inb i)).toLoadRect f1 only).toNat < 32 := by rw [r1]; omega
  have c3 : k0_chk3 i v0 v9 (M1.view.readAt (Elt F) (Rect.unit (s := S96) (k0_off2 i) S1.size (k0_off2_inb i)).toLoadRect f1 only) := ⟨fun _ _ => slab_fits he1, fun _ _ => slab_fits he1⟩
  have c4 : k0_chk4 i v0 v9 (M4.view.readAt (Elt F) (Rect.unit (s := S96) (k0_off2 i) S1.size (k0_off2_inb i)).toLoadRect f4 only) (M5.view.readAt (Elt F) (Rect.unit (s := S96) (k0_off13 i) S1.size (k0_off13_inb i)).toLoadRect f5 only) :=
    ⟨fun _ _ _ => cell_fits (by rw [ho4]; omega) (by decide), fun _ _ _ => slab_fits (by rw [ho4]; omega), fun _ _ _ => cell_fits (by rw [ho4]; omega) (by decide),
      fun _ _ _ => slab_fits (by rw [ho4]; omega), fun _ _ _ => cell_fits (by rw [ho4]; omega) (by decide), fun _ _ _ => slab_fits (by rw [ho4]; omega)⟩
  have r10 := read_word M1 f1 (off := ![0]) (t := 0) rfl (by decide) inb_S96_S1_0
  have he0 : (M1.view.readAt (Elt F) (Rect.unit (s := S96) ![0] S1.size inb_S96_S1_0).toLoadRect f1 only).toNat = e := by rw [r10, ← he', h0]
  have ge1 : k0_off3 (M1.view.readAt (Elt F) (Rect.unit (s := S96) ![0] S1.size inb_S96_S1_0).toLoadRect f1 only) = ![e, 0, 0] := congrArg (fun n => ![n, 0, 0]) he0
  have ge2 : k0_off4 (M1.view.readAt (Elt F) (Rect.unit (s := S96) ![0] S1.size inb_S96_S1_0).toLoadRect f1 only) = ![e, 0, 0] := congrArg (fun n => ![n, 0, 0]) he0
  have he0' : (M1.view.readAt (Elt F) (Rect.unit (s := S96) ![0] S1.size inb_S96_S1_0).toLoadRect f1 only).toNat < 32 := by omega
  have c1 : k0_chk1 i v0 v9 (M1.view.readAt (Elt F) (Rect.unit (s := S96) ![0] S1.size inb_S96_S1_0).toLoadRect f1 only) :=
    ⟨fun _ _ _ => slab_fits he0', fun _ _ _ => slab_fits he0'⟩
  subst s0
  unfold Idle SlotsAt Sems After LentAll SlotsAny Arrays
  iintro ⟨H1, H4, H5, ⟨⟨HB1, HB2, HB3⟩, ⟨HC1, HC2, HC3⟩, ⟨HA1, HA2, HA3⟩, ⟨HS1, HS2, HS3⟩, ⟨HT1, HT2, HT3⟩⟩, HO, Hk⟩
  simp only [k0_part1_eq_skeleton]; unfold k0_part1_skel
  sl_exec (disch := first | sl_exact c2 | sl_exact c3 | sl_exact c4 | sl_exact c5 | sl_exact c1)
  iapply (start_at (c := c) (B := M11) (H := M7) (W := W1) (s := 0) (e := e) 0 he ?ho ?he
    squeezes_S1x1024x512_S1024x512 ?hs (credit_slot1 M11 _ _ _)) $$ [HB1 HA1 HS1]
  case ho => exact rfl
  case he => exact ge1
  case hs => exact sem_cell hA rfl (by decide) (by decide) _
  · isplitl [HB1]; · iexact HB1
    isplitl [HA1]; · iexact HA1
    iexact HS1
  iintro HL1
  sl_exec (disch := first | sl_exact c2 | sl_exact c3 | sl_exact c4 | sl_exact c5 | sl_exact c1)
  iapply (start_at (c := c) (B := M12) (H := M8) (W := W2) (s := 0) (e := e) 1 he ?ho ?he
    squeezes_S1x1024x512_S1024x512 ?hs (credit_slot1 M12 _ _ _)) $$ [HB2 HA2 HS2]
  case ho => exact rfl
  case he => exact ge1
  case hs => exact sem_cell hA rfl (by decide) (by decide) _
  · isplitl [HB2]; · iexact HB2
    isplitl [HA2]; · iexact HA2
    iexact HS2
  iintro HL2
  sl_exec (disch := first | sl_exact c2 | sl_exact c3 | sl_exact c4 | sl_exact c5 | sl_exact c1)
  iapply (start_at (c := c) (B := M13) (H := M9) (W := W3) (s := 0) (e := e) 2 he ?ho ?he
    squeezes_S1x512x1024_S512x1024 ?hs (credit_slot2 M13 _ _ _)) $$ [HB3 HA3 HS3]
  case ho => exact rfl
  case he => exact ge2
  case hs => exact sem_cell hA rfl (by decide) (by decide) _
  · isplitl [HB3]; · iexact HB3
    isplitl [HA3]; · iexact HA3
    iexact HS3
  iintro HL3
  sl_exec (disch := first | sl_exact c2 | sl_exact c3 | sl_exact c4 | sl_exact c5 | sl_exact c1)
  by_cases h4 : k0_cond4 (M5.view.readAt (Elt F) (Rect.unit (s := S96) (k0_off13 i) S1.size (k0_off13_inb i)).toLoadRect f5 only) = 1#1
  · have hn5 : (word M5 f5 (i 0).val).toNat < 32 := hn (r5 ▸ h4)
    have hn5' : (M5.view.readAt (Elt F) (Rect.unit (s := S96) (k0_off14 i) S1.size (k0_off14_inb i)).toLoadRect f5 only).toNat < 32 := by rw [r5']; exact hn5
    have g17 : k0_off17 (M5.view.readAt (Elt F) (Rect.unit (s := S96) (k0_off14 i) S1.size (k0_off14_inb i)).toLoadRect f5 only) = ![(word M5 f5 (i 0).val).toNat, 0, 0] := congrArg (fun v : BitVec 32 => ![v.toNat, 0, 0]) r5'
    have g22 : k0_off22 (M5.view.readAt (Elt F) (Rect.unit (s := S96) (k0_off14 i) S1.size (k0_off14_inb i)).toLoadRect f5 only) = ![(word M5 f5 (i 0).val).toNat, 0, 0] := congrArg (fun v : BitVec 32 => ![v.toNat, 0, 0]) r5'
    have c5 : k0_chk5 i v0 v9 (M5.view.readAt (Elt F) (Rect.unit (s := S96) (k0_off13 i) S1.size (k0_off13_inb i)).toLoadRect f5 only) (M5.view.readAt (Elt F) (Rect.unit (s := S96) (k0_off14 i) S1.size (k0_off14_inb i)).toLoadRect f5 only) := ⟨fun _ _ _ => slab_fits hn5', fun _ _ _ => slab_fits hn5'⟩
    iapply (wait_at (c := c) (B := M11) (H := M7) (W := W1) (s := 0) (e := e) 0 ?hs (credit_wait1 M11 _ _)) $$ [HL1 HO]
    case hs => exact sem_cell hA g5 hs (by decide) _
    · isplitl [HL1]; · iexact HL1
      iexact HO
    iintro ⟨HB1, HA1, HS1, HO⟩
    sl_exec (disch := first | sl_exact c2 | sl_exact c3 | sl_exact c4 | sl_exact c5 | sl_exact c1)
    iapply (wait_at (c := c) (B := M12) (H := M8) (W := W2) (s := 0) (e := e) 1 ?hs (credit_wait1 M12 _ _)) $$ [HL2 HO]
    case hs => exact sem_cell hA g8 hs (by decide) _
    · isplitl [HL2]; · iexact HL2
      iexact HO
    iintro ⟨HB2, HA2, HS2, HO⟩
    sl_exec (disch := first | sl_exact c2 | sl_exact c3 | sl_exact c4 | sl_exact c5 | sl_exact c1)
    iapply (wait_at (c := c) (B := M13) (H := M9) (W := W3) (s := 0) (e := e) 2 ?hs (credit_wait2 M13 _ _)) $$ [HL3 HO]
    case hs => exact sem_cell hA g10 hs (by decide) _
    · isplitl [HL3]; · iexact HL3
      iexact HO
    iintro ⟨HB3, HA3, HS3, HO⟩
    sl_exec (disch := first | sl_exact c2 | sl_exact c3 | sl_exact c4 | sl_exact c5 | sl_exact c1)
    iapply (start_at (c := c) (B := M11) (H := M7) (W := W1) (s := 1 - 0) (e := (word M5 f5 (i 0).val).toNat) 0 hn5 ?ho ?he
      squeezes_S1x1024x512_S1024x512 ?hs (credit_slot1 M11 _ _ _)) $$ [HC1 HA1 HT1]
    case ho => exact g16
    case he => exact g17
    case hs => exact sem_cell hA g15 (by omega) (by decide) _
    · isplitl [HC1]; · iexact HC1
      isplitl [HA1]; · iexact HA1
      iexact HT1
    iintro HN1
    sl_exec (disch := first | sl_exact c2 | sl_exact c3 | sl_exact c4 | sl_exact c5 | sl_exact c1)
    iapply (start_at (c := c) (B := M12) (H := M8) (W := W2) (s := 1 - 0) (e := (word M5 f5 (i 0).val).toNat) 1 hn5 ?ho ?he
      squeezes_S1x1024x512_S1024x512 ?hs (credit_slot1 M12 _ _ _)) $$ [HC2 HA2 HT2]
    case ho => exact g19
    case he => exact g17
    case hs => exact sem_cell hA g18 (by omega) (by decide) _
    · isplitl [HC2]; · iexact HC2
      isplitl [HA2]; · iexact HA2
      iexact HT2
    iintro HN2
    sl_exec (disch := first | sl_exact c2 | sl_exact c3 | sl_exact c4 | sl_exact c5 | sl_exact c1)
    iapply (start_at (c := c) (B := M13) (H := M9) (W := W3) (s := 1 - 0) (e := (word M5 f5 (i 0).val).toNat) 2 hn5 ?ho ?he
      squeezes_S1x512x1024_S512x1024 ?hs (credit_slot2 M13 _ _ _)) $$ [HC3 HA3 HT3]
    case ho => exact g21
    case he => exact g22
    case hs => exact sem_cell hA g20 (by omega) (by decide) _
    · isplitl [HC3]; · iexact HC3
      isplitl [HA3]; · iexact HA3
      iexact HT3
    iintro HN3
    sl_exec (disch := first | sl_exact c2 | sl_exact c3 | sl_exact c4 | sl_exact c5 | sl_exact c1)
    sl_step
    ispecialize Hk $$ %(fetch_first.sl.r c i M4 f4) %c2 %r4
    iapply Hk
    isplitl [H1]; · iexact H1
    isplitl [H4]; · iexact H4
    isplitl [H5]; · iexact H5
    isplitl [HB1 HB2 HB3]
    · isplitl [HB1]; · iexact HB1
      isplitl [HB2]; · iexact HB2
      iexact HB3
    isplitl [HS1 HS2 HS3]
    · isplitl [HS1]; · iexact HS1
      isplitl [HS2]; · iexact HS2
      iexact HS3
    isplitl [HN1 HN2 HN3]
    · rw [if_pos (r5 ▸ h4)]
      isplitl [HN1]; · iexact HN1
      isplitl [HN2]; · iexact HN2
      iexact HN3
    iexists _; iexact HO
  · skip
    iapply (wait_at (c := c) (B := M11) (H := M7) (W := W1) (s := 0) (e := e) 0 ?hs (credit_wait1 M11 _ _)) $$ [HL1 HO]
    case hs => exact sem_cell hA g5 hs (by decide) _
    · isplitl [HL1]; · iexact HL1
      iexact HO
    iintro ⟨HB1, HA1, HS1, HO⟩
    sl_exec (disch := first | sl_exact c2 | sl_exact c3 | sl_exact c4 | sl_exact c5 | sl_exact c1)
    iapply (wait_at (c := c) (B := M12) (H := M8) (W := W2) (s := 0) (e := e) 1 ?hs (credit_wait1 M12 _ _)) $$ [HL2 HO]
    case hs => exact sem_cell hA g8 hs (by decide) _
    · isplitl [HL2]; · iexact HL2
      iexact HO
    iintro ⟨HB2, HA2, HS2, HO⟩
    sl_exec (disch := first | sl_exact c2 | sl_exact c3 | sl_exact c4 | sl_exact c5 | sl_exact c1)
    iapply (wait_at (c := c) (B := M13) (H := M9) (W := W3) (s := 0) (e := e) 2 ?hs (credit_wait2 M13 _ _)) $$ [HL3 HO]
    case hs => exact sem_cell hA g10 hs (by decide) _
    · isplitl [HL3]; · iexact HL3
      iexact HO
    iintro ⟨HB3, HA3, HS3, HO⟩
    sl_exec (disch := first | sl_exact c2 | sl_exact c3 | sl_exact c4 | sl_exact c5 | sl_exact c1)
    sl_step
    ispecialize Hk $$ %(fetch_first.sl.r c i M4 f4) %c2 %r4
    iapply Hk
    isplitl [H1]; · iexact H1
    isplitl [H4]; · iexact H4
    isplitl [H5]; · iexact H5
    isplitl [HB1 HB2 HB3]
    · isplitl [HB1]; · iexact HB1
      isplitl [HB2]; · iexact HB2
      iexact HB3
    isplitl [HS1 HS2 HS3]
    · isplitl [HS1]; · iexact HS1
      isplitl [HS2]; · iexact HS2
      iexact HS3
    isplitr [HO]
    · rw [if_neg (r5 ▸ h4)]
      isplitl [HC1 HC2 HC3]
      · isplitl [HC1]; · iexact HC1
        isplitl [HC2]; · iexact HC2
        iexact HC3
      isplitl [HA1 HA2 HA3]
      · isplitl [HA1]; · iexact HA1
        isplitl [HA2]; · iexact HA2
        iexact HA3
      unfold Sems
      isplitl [HT1]; · iexact HT1
      isplitl [HT2]; · iexact HT2
      iexact HT3
    iexists _; iexact HO

end Cert.Kernel2Ideal.Gmm

end
-- ==== Proof.GmmExpert.lean ====
/- The part of the body that makes the two weight matrices of a new expert and computes the row block's product.

   A new expert's gate and up slabs, rounded, go side by side into one scratch matrix, and its down slab into another
   (`cast14`, `cast15`); a row block of the same expert finds them there. The row block's product is then `k0_pay12` of the
   eight strided reads of the block and the two matrices. -/
module

public import proofs.«01_k».proof.Proof.GmmFetch
public import Idealize.ShloMosaic.Lib.Tactic

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The slot loaded: slab `e`. -/
theorem load_slot {P Q : ℕ} {c : Dev nD} {B : Memref sig .tc .vmem (slabs 2 P Q) .f32} {H : Memref sig .tc .hbm (slabs 32 P Q) .f32} {W : Bf (F := F) c H}
    {s e : ℕ} {off : Fin 3 → ℕ} (hoff : off = ![s, 0, 0]) {h : ∀ a, off a + (slabs 1 P Q).size a ≤ (slabs 2 P Q).size a}
    {hl : B.view.LoadsAt (Rect.unit (s := slabs 2 P Q) off (slabs 1 P Q).size h).toLoadRect}
    {α : Type} {K : ((slabs 1 P Q).Idx → Elt F .f32) → Prog (TpuEff nD τ sig (Elt F) Λ₀ .tc) α} {R : α → sProp 𝕄} :
    slotAt c B H W s e
      ⊢ iprop((slotAt c B H W s e -∗ wp frame (wpE (defs₀ (F := F)) Variants.none (c : Thread nD τ) none) Set.univ (K (slabOf (n := 1) (H.view.read (Elt F) W) e)) R)
        -∗ wp frame (wpE (defs₀ (F := F)) Variants.none (c : Thread nD τ) none) Set.univ
            (.op (.load B (Rect.unit (s := slabs 2 P Q) off (slabs 1 P Q).size h).toLoadRect hl) K) R) := by
  unfold slotAt
  iintro ⟨%f, %hf, HB⟩ Hk
  have hS : B.view.setOn (Rect.unit (s := slabs 2 P Q) off (slabs 1 P Q).size h).set ⊆ slotSet c B s := by
    rw [rect_layer hoff h]; exact subset_rfl
  have e0 : B.view.readAt (Elt F) (Rect.unit (s := slabs 2 P Q) off (slabs 1 P Q).size h).toLoadRect f
      = slabOf (n := 1) (H.view.read (Elt F) W) e := by
    funext y
    have b0 : (y 0).val < 1 := (y 0).isLt
    refine (hf ((Rect.unit (s := slabs 2 P Q) off (slabs 1 P Q).size h).emb y) ?_).trans ?_
    · subst hoff; show s + 1 * (y 0).val = s; omega
    · subst hoff
      refine congrArg (H.view.read (Elt F) W) (funext fun a => Fin.ext ?_)
      fin_cases a
      · rfl
      · show 0 + 1 * (y 1).val = (y 1).val; omega
      · show 0 + 1 * (y 2).val = (y 2).val; omega
  iapply (wp_load Variants.none (c : Thread nD τ) none Set.univ (S := slotSet c B s) hS) $$ HB
  iintro HB
  rw [e0]
  iapply Hk
  iexists f
  isplitr; · ipureintro; exact hf
  iexact HB

/-! ## The two matrices -/

section Cast

variable (X1 X2 : (slabs 32 1024 512).Idx → Elt F .f32) (X3 : (slabs 32 512 1024).Idx → Elt F .f32)

/-- A place of half of the first matrix. -/
def half (j : Fin 1024) (k : ℕ) : S1024x512.Idx := fun a => match a with
  | ⟨0, _⟩ => j
  | ⟨1, _⟩ => ⟨k % 512, Nat.mod_lt _ (show 0 < 512 by decide)⟩

/-- Expert `e`'s gate and up weights, rounded, side by side. -/
def cast14 (e : ℕ) : S1024x1024.Idx → Elt F .bf16 := fun z =>
  if (z 1).val < 512 then k0_pay9 (slabOf (n := 1) X1 e) (half (z 0) (z 1).val) else k0_pay10 (slabOf (n := 1) X2 e) (half (z 0) ((z 1).val - 512))

/-- Expert `e`'s down weights, rounded. -/
def cast15 (e : ℕ) : S512x1024.Idx → Elt F .bf16 := k0_pay11 (slabOf (n := 1) X3 e)

/-- Row `8 y + s` of a row block. -/
def strided (s : ℕ) (y : S512x128.Idx) : S4096x128.Idx := fun a => match a with
  | ⟨0, _⟩ => ⟨(s + 8 * (y 0).val) % 4096, Nat.mod_lt _ (show 0 < 4096 by decide)⟩
  | ⟨1, _⟩ => y 1

/-- The rows `s`, `s + 8`, … of a row block. -/
def rowsOf {T : Type} (X : S4096x128.Idx → T) (s : ℕ) : S512x128.Idx → T := fun y => X (strided s y)

/-- A row block's product with expert `e`. -/
def tileOf (X : S4096x128.Idx → Elt F .f32) (e : ℕ) : FVec F S512x1024 .f32 :=
  k0_pay12 (rowsOf X 0) (rowsOf X 1) (rowsOf X 2) (rowsOf X 3) (rowsOf X 4) (rowsOf X 5) (rowsOf X 6) (rowsOf X 7)
    (cast14 X1 X2 e) (cast15 X3 e)
def tileOf0 (X : S4096x128.Idx → Elt F .f32) (e : ℕ) : FVec F S512x128 .f32 :=
  k0_pay13 (rowsOf X 0) (rowsOf X 1) (rowsOf X 2) (rowsOf X 3) (rowsOf X 4) (rowsOf X 5) (rowsOf X 6) (rowsOf X 7)
    (cast14 X1 X2 e) (cast15 X3 e)

end Cast

omit [FloatOps F] in
theorem read_strided {c : Dev nD} (M : Memref sig .tc .vmem S4096x128 .f32) (f : Bf (F := F) c M) (s : ℕ) (hs : s < 8) (h) :
    M.view.readAt (Elt F) (⟨![s, 0], S512x128.size, ![8, 1], h⟩ : LoadRect S4096x128) f = rowsOf (M.view.read (Elt F) f) s := by
  funext y
  rw [View.readAt_apply]
  refine congrArg (M.view.read (Elt F) f) (funext fun a => Fin.ext ?_)
  have b0 : (y 0).val < 512 := (y 0).isLt
  rw [LoadRect.idx_apply]
  fin_cases a
  · show s + 8 * (y 0).val = (s + 8 * (y 0).val) % 4096; omega
  · show 0 + 1 * (y 1).val = (y 1).val; omega

omit [FloatOps F] in
theorem read_all2 {c : Dev nD} {m n : ℕ} {e : EltTy} (M : Memref sig .tc .vmem (⟨2, ![m, n]⟩ : Shape) e) (f : Bf (F := F) c M) (h) :
    M.view.readAt (Elt F) (Rect.unit (s := (⟨2, ![m, n]⟩ : Shape)) ![0, 0] (⟨2, ![m, n]⟩ : Shape).size h).toLoadRect f = M.view.read (Elt F) f := by
  funext y
  rw [View.readAt_apply]
  refine congrArg (M.view.read (Elt F) f) (funext fun a => Fin.ext ?_)
  rw [LoadRect.idx_apply]
  fin_cases a
  · show 0 + 1 * (y 0).val = (y 0).val; omega
  · show 0 + 1 * (y 1).val = (y 1).val; omega

/-- The two halves stored make the first matrix, -/
theorem made14 {c : Dev nD} (M : Memref sig .tc .vmem S1024x1024 .bf16) (f : Bf (F := F) c M) (X1 X2 : (slabs 32 1024 512).Idx → Elt F .f32) (e : ℕ) :
    M.view.read (Elt F) (M.view.writes (Elt F) f
      [⟨Rect.unit (s := S1024x1024) ![0, 512] S1024x512.size inb_S1024x1024_S1024x512_0_512, k0_pay10 (slabOf (n := 1) X2 e)⟩,
        ⟨Rect.unit (s := S1024x1024) ![0, 0] S1024x512.size inb_S1024x1024_S1024x512_0_0, k0_pay9 (slabOf (n := 1) X1 e)⟩]) = cast14 X1 X2 e := by
  funext z
  have b0 : (z 0).val < 1024 := (z 0).isLt
  have b1 : (z 1).val < 1024 := (z 1).isLt
  unfold cast14
  by_cases h : (z 1).val < 512
  · rw [if_pos h]
    have hz : (Rect.unit (s := S1024x1024) ![0, 0] S1024x512.size inb_S1024x1024_S1024x512_0_0).emb (half (z 0) (z 1).val) = z := by
      funext a; apply Fin.ext
      fin_cases a
      · show 0 + 1 * (z 0).val = (z 0).val; omega
      · show 0 + 1 * ((z 1).val % 512) = (z 1).val; omega
    refine (View.read_slice_write_of_not_mem (v := M.view) (Rect.unit (s := S1024x1024) ![0, 512] S1024x512.size inb_S1024x1024_S1024x512_0_512) _ _ Finset.univ ?_).trans ?_
    · intro hm
      obtain ⟨x, -, hx⟩ := Finset.mem_map.mp hm
      have h1 : 512 + 1 * (x 1).val = (z 1).val := congrArg (fun i : S1024x1024.Idx => (i 1).val) hx
      omega
    · conv_lhs => rw [← hz]
      exact View.read_slice_write_emb (v := M.view) (Rect.unit (s := S1024x1024) ![0, 0] S1024x512.size inb_S1024x1024_S1024x512_0_0) _ _ (Finset.mem_univ _)
  · rw [if_neg h]
    have hz : (Rect.unit (s := S1024x1024) ![0, 512] S1024x512.size inb_S1024x1024_S1024x512_0_512).emb (half (z 0) ((z 1).val - 512)) = z := by
      funext a; apply Fin.ext
      fin_cases a
      · show 0 + 1 * (z 0).val = (z 0).val; omega
      · show 512 + 1 * (((z 1).val - 512) % 512) = (z 1).val; omega
    conv_lhs => rw [← hz]
    exact View.read_slice_write_emb (v := M.view) (Rect.unit (s := S1024x1024) ![0, 512] S1024x512.size inb_S1024x1024_S1024x512_0_512) _ _ (Finset.mem_univ _)

/-- and the one store the second. -/
theorem made15 {c : Dev nD} (M : Memref sig .tc .vmem S512x1024 .bf16) (f : Bf (F := F) c M) (X3 : (slabs 32 512 1024).Idx → Elt F .f32) (e : ℕ) :
    M.view.read (Elt F) (M.view.writes (Elt F) f
      [⟨Rect.unit (s := S512x1024) ![0, 0] S512x1024.size inb_S512x1024_S512x1024_0_0, k0_pay11 (slabOf (n := 1) X3 e)⟩]) = cast15 X3 e := by
  funext z
  have hz : (Rect.unit (s := S512x1024) ![0, 0] S512x1024.size inb_S512x1024_S512x1024_0_0).emb z = z := by
    funext a; apply Fin.ext
    fin_cases a
    · show 0 + 1 * (z 0).val = (z 0).val; omega
    · show 0 + 1 * (z 1).val = (z 1).val; omega
  conv_lhs => rw [← hz]
  exact View.read_slice_write_emb (v := M.view) (Rect.unit (s := S512x1024) ![0, 0] S512x1024.size inb_S512x1024_S512x1024_0_0) _ _ (Finset.mem_univ _)

section Scratch

variable (c : Dev nD) (M14 : Memref sig .tc .vmem S1024x1024 .bf16) (M15 : Memref sig .tc .vmem S512x1024 .bf16)
  (X1 X2 : (slabs 32 1024 512).Idx → Elt F .f32) (X3 : (slabs 32 512 1024).Idx → Elt F .f32)

/-- The two scratch matrices at expert `e`, and at anything. -/
def Scr (e : ℕ) : sProp 𝕄 :=
  iprop((∃ f : Bf (F := F) c M14, ⌜M14.view.read (Elt F) f = cast14 X1 X2 e⌝ ∗ (M14.view.loc (c : Thread nD τ) ↦{fullShare} f))
    ∗ (∃ f : Bf (F := F) c M15, ⌜M15.view.read (Elt F) f = cast15 X3 e⌝ ∗ (M15.view.loc (c : Thread nD τ) ↦{fullShare} f)))
def ScrAny : sProp 𝕄 :=
  iprop((∃ f : Bf (F := F) c M14, M14.view.loc (c : Thread nD τ) ↦{fullShare} f) ∗ (∃ f : Bf (F := F) c M15, M15.view.loc (c : Thread nD τ) ↦{fullShare} f))

theorem scr_any {e : ℕ} : (Scr c M14 M15 X1 X2 X3 e : sProp 𝕄) ⊢ ScrAny c M14 M15 := by
  unfold Scr ScrAny
  iintro ⟨⟨%f, -, H⟩, ⟨%g, -, H'⟩⟩
  isplitl [H]
  · iexists f; iexact H
  iexists g; iexact H'

end Scratch

set_option maxRecDepth 16384 in
set_option maxHeartbeats 4000000 in
/-- A row block of the expert whose matrices are at hand. -/
theorem same_expert [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f3 : Bf (F := F) c M3) (f4 : Bf (F := F) c M4) (f5 : Bf (F := F) c M5) (f6 : Bf (F := F) c M6) (W1 : Bf (F := F) c M7) (W2 : Bf (F := F) c M8) (W3 : Bf (F := F) c M9)
    (q1 q3 q4 q5 q6 : PosShare TreeShare) (A : DmaSems sig S2x3) (hA : A = cc0_scratch5) (arg0 v0 : BitVec 32) (k1 : k0_cond1 i v0 = 1#1)
    {e : ℕ} (k2 : ¬ k0_cond2 (word M3 f3 (i 0).val) = 1#1)
    (Q : (Σ' (v38 : FVec F S512x1024 .f32), FVec F S512x128 .f32) → sProp 𝕄) :
    iprop((M3.view.loc (c : Thread nD τ) ↦{q3} f3) ∗ (M6.view.loc (c : Thread nD τ) ↦{q6} f6) ∗ Scr c M14 M15 (M7.view.read (Elt F) W1) (M8.view.read (Elt F) W2) (M9.view.read (Elt F) W3) e
        ∗ (iprop((M3.view.loc (c : Thread nD τ) ↦{q3} f3) ∗ (M6.view.loc (c : Thread nD τ) ↦{q6} f6) ∗ Scr c M14 M15 (M7.view.read (Elt F) W1) (M8.view.read (Elt F) W2) (M9.view.read (Elt F) W3) e) -∗ Q ⟨(tileOf (M7.view.read (Elt F) W1) (M8.view.read (Elt F) W2) (M9.view.read (Elt F) W3) (M6.view.read (Elt F) f6) e), (tileOf0 (M7.view.read (Elt F) W1) (M8.view.read (Elt F) W2) (M9.view.read (Elt F) W3) (M6.view.read (Elt F) f6) e)⟩))
      ⊢ wp frame (wpE (defs₀ (F := F)) Variants.none (c : Thread nD τ) none) Set.univ
          (k0_part2 i M1 h1 M2 h2 M3 h3 M4 h4 M5 h5 M6 h6 M7 h7 M8 h8 M9 h9 M10 h10 M11 h11 M12 h12 M13 h13 M14 h14 M15 h15 A arg0 v0 k1) Q := by
  have hi : (i 0).val < 96 := point_lt i
  have r3 := read_word M3 f3 (k0_off1_eq i) hi (k0_off1_inb i)
  have k2' : ¬ k0_cond2 (M3.view.readAt (Elt F) (Rect.unit (s := S96) (k0_off1 i) S1.size (k0_off1_inb i)).toLoadRect f3 only) = 1#1 := by rw [r3]; exact k2
  unfold Scr
  iintro ⟨H3, H6, ⟨⟨%f14, %e14, H14⟩, %f15, %e15, H15⟩, Hk⟩
  simp only [k0_part2_eq_skeleton]; unfold k0_part2_skel
  sl_exec (disch := first | sl_exact k2')
  sl_step
  unfold tileOf tileOf0
  rw [← read_strided M6 f6 0 (by decide) inb_S4096x128_S512x128_0_0_s_8_1, ← read_strided M6 f6 1 (by decide) inb_S4096x128_S512x128_1_0_s_8_1,
    ← read_strided M6 f6 2 (by decide) inb_S4096x128_S512x128_2_0_s_8_1, ← read_strided M6 f6 3 (by decide) inb_S4096x128_S512x128_3_0_s_8_1,
    ← read_strided M6 f6 4 (by decide) inb_S4096x128_S512x128_4_0_s_8_1, ← read_strided M6 f6 5 (by decide) inb_S4096x128_S512x128_5_0_s_8_1,
    ← read_strided M6 f6 6 (by decide) inb_S4096x128_S512x128_6_0_s_8_1, ← read_strided M6 f6 7 (by decide) inb_S4096x128_S512x128_7_0_s_8_1,
    ← e14, ← e15, ← read_all2 M14 f14 inb_S1024x1024_S1024x1024_0_0, ← read_all2 M15 f15 inb_S512x1024_S512x1024_0_0]
  iapply Hk
  isplitl [H3]; · iexact H3
  isplitl [H6]; · iexact H6
  isplitl [H14]
  · iexists f14
    isplitr; · ipureintro; exact (read_all2 M14 f14 inb_S1024x1024_S1024x1024_0_0).symm
    iexact H14
  iexists f15
  isplitr; · ipureintro; exact (read_all2 M15 f15 inb_S512x1024_S512x1024_0_0).symm
  iexact H15

open Classical in
/-- What is in flight before a point that opens expert `e` in slot `s`: nothing at point 0, the expert's copies after it. -/
def Before (c : Dev nD) (i : grid0.Coords) (B1 B2 : Memref sig .tc .vmem S2x1024x512 .f32) (B3 : Memref sig .tc .vmem S2x512x1024 .f32)
    (H1 H2 : Memref sig .tc .hbm S32x1024x512 .f32) (H3 : Memref sig .tc .hbm S32x512x1024 .f32)
    (W1 : Bf (F := F) c H1) (W2 : Bf (F := F) c H2) (W3 : Bf (F := F) c H3) (s e : ℕ) : sProp 𝕄 :=
  if k0_cond3 i = 1#1 then Idle c B1 B2 B3 H1 H2 H3 W1 W2 W3 else Pending c B1 B2 B3 H1 H2 H3 W1 W2 W3 s e

theorem cond3_zero {i : grid0.Coords} (h : k0_cond3 i = 1#1) : (i 0).val = 0 := by
  have hi := point_lt i
  have key : ∀ n : Fin 96, Scalar.cmpi .ne (Scalar.extui (Scalar.cmpi .eq (BitVec.ofNat 32 n.val) 0#32)) 0#32 = 1#1 → n.val = 0 := by decide
  exact key ⟨(i 0).val, hi⟩ h

/-- The copies of a point, from either start. -/
theorem fetch [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f4 : Bf (F := F) c M4) (f5 : Bf (F := F) c M5) (W1 : Bf (F := F) c M7) (W2 : Bf (F := F) c M8) (W3 : Bf (F := F) c M9)
    (q1 q4 q5 : PosShare TreeShare) (A : DmaSems sig S2x3) (hA : A = cc0_scratch5) (arg0 v0 : BitVec 32) (k1 : k0_cond1 i v0 = 1#1) (v9 : BitVec 32) (k2 : k0_cond2 v9 = 1#1)
    {s e : ℕ} (hs' : (word M4 f4 (i 0).val).toNat = s) (he' : (word M1 f1 (i 0).val).toNat = e) (hs : s < 2) (he : e < 32) (h0 : (i 0).val = 0 → s = 0)
    (hn : k0_cond4 (word M5 f5 (i 0).val) = 1#1 → (word M5 f5 (i 0).val).toNat < 32)
    (w : Waits sig Unit) (Q : (Σ' (v56 : Elt F .i32), k0_chk2 i v0 v9 v56) → sProp 𝕄) :
    iprop((M1.view.loc (c : Thread nD τ) ↦{q1} f1) ∗ (M4.view.loc (c : Thread nD τ) ↦{q4} f4) ∗ (M5.view.loc (c : Thread nD τ) ↦{q5} f5)
        ∗ Before c i M11 M12 M13 M7 M8 M9 W1 W2 W3 s e ∗ Owed c w
        ∗ (∀ v h, ⌜v = word M4 f4 (i 0).val⌝ -∗ iprop((M1.view.loc (c : Thread nD τ) ↦{q1} f1) ∗ (M4.view.loc (c : Thread nD τ) ↦{q4} f4) ∗ (M5.view.loc (c : Thread nD τ) ↦{q5} f5)
            ∗ SlotsAt c M11 M12 M13 M7 M8 M9 W1 W2 W3 s e ∗ Sems c s
            ∗ After c M11 M12 M13 M7 M8 M9 W1 W2 W3 s (word M5 f5 (i 0).val) ∗ ∃ w, Owed c w) -∗ Q ⟨v, h⟩))
      ⊢ wp frame (wpE (defs₀ (F := F)) Variants.none (c : Thread nD τ) none) Set.univ
          (k0_part1 i M1 h1 M2 h2 M3 h3 M4 h4 M5 h5 M6 h6 M7 h7 M8 h8 M9 h9 M10 h10 M11 h11 M12 h12 M13 h13 M14 h14 M15 h15 A arg0 v0 k1 v9 k2) Q := by
  unfold Before
  by_cases k3 : k0_cond3 i = 1#1
  · rw [if_pos k3]
    exact fetch_first c i M1 h1 M2 h2 M3 h3 M4 h4 M5 h5 M6 h6 M7 h7 M8 h8 M9 h9 M10 h10 M11 h11 M12 h12 M13 h13 M14 h14 M15 h15 f1 f4 f5 W1 W2 W3 q1 q4 q5 A hA arg0 v0 k1 _ k2 hs' he' hs he hn k3 (cond3_zero k3) (h0 (cond3_zero k3)) w Q
  · rw [if_neg k3]
    exact fetch_later c i M1 h1 M2 h2 M3 h3 M4 h4 M5 h5 M6 h6 M7 h7 M8 h8 M9 h9 M10 h10 M11 h11 M12 h12 M13 h13 M14 h14 M15 h15 f1 f4 f5 W1 W2 W3 q1 q4 q5 A hA arg0 v0 k1 _ k2 hs' he' hs he hn k3 w Q

set_option maxRecDepth 16384 in
set_option maxHeartbeats 8000000 in
/-- A row block that opens expert `e` in slot `s`. -/
theorem new_expert [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f3 : Bf (F := F) c M3) (f4 : Bf (F := F) c M4) (f5 : Bf (F := F) c M5) (f6 : Bf (F := F) c M6) (W1 : Bf (F := F) c M7) (W2 : Bf (F := F) c M8) (W3 : Bf (F := F) c M9)
    (q1 q3 q4 q5 q6 : PosShare TreeShare) (A : DmaSems sig S2x3) (hA : A = cc0_scratch5) (arg0 v0 : BitVec 32) (k1 : k0_cond1 i v0 = 1#1)
    {e : ℕ} {s : ℕ} (k2 : k0_cond2 (word M3 f3 (i 0).val) = 1#1)
    (hs' : (word M4 f4 (i 0).val).toNat = s) (he' : (word M1 f1 (i 0).val).toNat = e) (hs : s < 2) (he : e < 32) (h0 : (i 0).val = 0 → s = 0)
    (hn : k0_cond4 (word M5 f5 (i 0).val) = 1#1 → (word M5 f5 (i 0).val).toNat < 32) (w : Waits sig Unit)
    (Q : (Σ' (v38 : FVec F S512x1024 .f32), FVec F S512x128 .f32) → sProp 𝕄) :
    iprop((M1.view.loc (c : Thread nD τ) ↦{q1} f1) ∗ (M3.view.loc (c : Thread nD τ) ↦{q3} f3) ∗ (M4.view.loc (c : Thread nD τ) ↦{q4} f4) ∗ (M5.view.loc (c : Thread nD τ) ↦{q5} f5) ∗ (M6.view.loc (c : Thread nD τ) ↦{q6} f6) ∗ ScrAny c M14 M15
        ∗ Before c i M11 M12 M13 M7 M8 M9 W1 W2 W3 s e ∗ Owed c w
        ∗ (iprop((M1.view.loc (c : Thread nD τ) ↦{q1} f1) ∗ (M3.view.loc (c : Thread nD τ) ↦{q3} f3) ∗ (M4.view.loc (c : Thread nD τ) ↦{q4} f4) ∗ (M5.view.loc (c : Thread nD τ) ↦{q5} f5) ∗ (M6.view.loc (c : Thread nD τ) ↦{q6} f6) ∗ Scr c M14 M15 (M7.view.read (Elt F) W1) (M8.view.read (Elt F) W2) (M9.view.read (Elt F) W3) e
            ∗ SlotsAny c M11 M12 M13 s ∗ Sems c s ∗ After c M11 M12 M13 M7 M8 M9 W1 W2 W3 s (word M5 f5 (i 0).val) ∗ ∃ w, Owed c w) -∗ Q ⟨(tileOf (M7.view.read (Elt F) W1) (M8.view.read (Elt F) W2) (M9.view.read (Elt F) W3) (M6.view.read (Elt F) f6) e), (tileOf0 (M7.view.read (Elt F) W1) (M8.view.read (Elt F) W2) (M9.view.read (Elt F) W3) (M6.view.read (Elt F) f6) e)⟩))
      ⊢ wp frame (wpE (defs₀ (F := F)) Variants.none (c : Thread nD τ) none) Set.univ
          (k0_part2 i M1 h1 M2 h2 M3 h3 M4 h4 M5 h5 M6 h6 M7 h7 M8 h8 M9 h9 M10 h10 M11 h11 M12 h12 M13 h13 M14 h14 M15 h15 A arg0 v0 k1) Q := by
  have hi : (i 0).val < 96 := point_lt i
  have r3 := read_word M3 f3 (k0_off1_eq i) hi (k0_off1_inb i)
  have k2' : k0_cond2 (M3.view.readAt (Elt F) (Rect.unit (s := S96) (k0_off1 i) S1.size (k0_off1_inb i)).toLoadRect f3 only) = 1#1 := by rw [r3]; exact k2
  unfold ScrAny
  iintro ⟨H1, H3, H4, H5, H6, ⟨⟨%f14, H14⟩, %f15, H15⟩, HB, HO, Hk⟩
  simp only [k0_part2_eq_skeleton]; unfold k0_part2_skel
  generalize hP : @k0_part1 F _ = P1
  sl_exec (disch := first | sl_exact k2')
  subst hP
  rw [Sem.wp_bind]
  iapply (fetch c i M1 h1 M2 h2 M3 h3 M4 h4 M5 h5 M6 h6 M7 h7 M8 h8 M9 h9 M10 h10 M11 h11 M12 h12 M13 h13 M14 h14 M15 h15 f1 f4 f5 W1 W2 W3 q1 q4 q5 A hA arg0 v0 k1 (new_expert.sl.r c i M3 f3) k2' hs' he' hs he h0 hn w)
  isplitl [H1]; · iexact H1
  isplitl [H4]; · iexact H4
  isplitl [H5]; · iexact H5
  isplitl [HB]; · iexact HB
  isplitl [HO]; · iexact HO
  iintro %v %h %hv ⟨H1, H4, H5, HX, HS, HN, HO⟩
  unfold SlotsAt
  icases HX with ⟨HX1, HX2, HX3⟩
  have hv' : v.toNat = s := by rw [hv]; exact hs'
  have g23 : k0_off23 v = ![s, 0, 0] := congrArg (fun n => ![n, 0, 0]) hv'
  have g24 : k0_off24 v = ![s, 0, 0] := congrArg (fun n => ![n, 0, 0]) hv'
  iapply (load_slot (c := c) (B := M11) (H := M7) (W := W1) g23) $$ HX1
  iintro HX1
  rw [next]
  sl_exec
  iapply (load_slot (c := c) (B := M12) (H := M8) (W := W2) g23) $$ HX2
  iintro HX2
  sl_exec
  iapply (load_slot (c := c) (B := M13) (H := M9) (W := W3) g24) $$ HX3
  iintro HX3
  sl_exec
  sl_step
  have e23 : new_expert.sl.v23 c M7 M8 M14 W1 W2 = cast14 (M7.view.read (Elt F) W1) (M8.view.read (Elt F) W2) e :=
    (read_all2 (c := c) M14 _ inb_S1024x1024_S1024x1024_0_0).trans (made14 (c := c) M14 _ _ _ _)
  have e37 : new_expert.sl.v37 c M9 M15 W3 = cast15 (M9.view.read (Elt F) W3) e :=
    (read_all2 (c := c) M15 _ inb_S512x1024_S512x1024_0_0).trans (made15 (c := c) M15 _ _ _)
  unfold tileOf tileOf0
  rw [e23, e37, ← read_strided M6 f6 0 (by decide) inb_S4096x128_S512x128_0_0_s_8_1, ← read_strided M6 f6 1 (by decide) inb_S4096x128_S512x128_1_0_s_8_1,
    ← read_strided M6 f6 2 (by decide) inb_S4096x128_S512x128_2_0_s_8_1, ← read_strided M6 f6 3 (by decide) inb_S4096x128_S512x128_3_0_s_8_1,
    ← read_strided M6 f6 4 (by decide) inb_S4096x128_S512x128_4_0_s_8_1, ← read_strided M6 f6 5 (by decide) inb_S4096x128_S512x128_5_0_s_8_1,
    ← read_strided M6 f6 6 (by decide) inb_S4096x128_S512x128_6_0_s_8_1, ← read_strided M6 f6 7 (by decide) inb_S4096x128_S512x128_7_0_s_8_1]
  iapply Hk
  isplitl [H1]; · iexact H1
  isplitl [H3]; · iexact H3
  isplitl [H4]; · iexact H4
  isplitl [H5]; · iexact H5
  isplitl [H6]; · iexact H6
  isplitl [H14 H15]
  · unfold Scr
    isplitl [H14]
    · iexists _
      isplitr; swap; · iexact H14
      ipureintro; exact made14 M14 f14 _ _ _
    iexists _
    isplitr; swap; · iexact H15
    ipureintro; exact made15 M15 f15 _ _
  isplitl [HX1 HX2 HX3]
  · unfold SlotsAny
    isplitl [HX1]; · iapply slotAt_any $$ HX1
    isplitl [HX2]; · iapply slotAt_any $$ HX2
    iapply slotAt_any $$ HX3
  isplitl [HS]; · iexact HS
  isplitl [HN]; · iexact HN
  iexact HO

end Cert.Kernel2Ideal.Gmm

end
-- ==== Proof.GmmBody.lean ====
/- One row block of the expert call.

   A block of a live expert ends with eight strided stores: store `k` puts columns `128 k` to `128 k + 127` of the computed tile
   at the rows `8 q + k` of the staged block, so the staged block holds the tile row by row (`outOf`). A block past the live
   ones is filled with zeros. -/
module

public import proofs.«01_k».proof.Proof.GmmExpert

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- Place `(q, l)` of a tile, and place `(q, j)` of a strided part. -/
def tileIdx (q l : ℕ) : S512x1024.Idx := fun a => match a with
  | ⟨0, _⟩ => ⟨q % 512, Nat.mod_lt q (show 0 < 512 by decide)⟩ | ⟨1, _⟩ => ⟨l % 1024, Nat.mod_lt l (show 0 < 1024 by decide)⟩
def partIdx (q j : ℕ) : S512x128.Idx := fun a => match a with
  | ⟨0, _⟩ => ⟨q % 512, Nat.mod_lt q (show 0 < 512 by decide)⟩ | ⟨1, _⟩ => ⟨j % 128, Nat.mod_lt j (show 0 < 128 by decide)⟩

/-- A tile laid out as a staged block. -/
def outOf (v : FVec F S512x1024 .f32) : S4096x128.Idx → Elt F .f32 := fun z => v (tileIdx ((z 0).val / 8) ((z 0).val % 8 * 128 + (z 1).val))

omit [FloatOps F] in
/-- A strided store read at one place. -/
theorem read_store {c : Dev nD} (M : Memref sig .tc .vmem S4096x128 .f32) (f : Bf (F := F) c M) (s : ℕ) (hs : s < 8) (h)
    (w : S512x128.Idx → Elt F .f32) (L : List (View.Piece (Elt F) S4096x128 .f32)) (z : S4096x128.Idx) :
    M.view.read (Elt F) (M.view.writes (Elt F) f (⟨⟨(⟨![s, 0], S512x128.size, ![8, 1], h⟩ : LoadRect S4096x128), spos_8_1⟩, w⟩ :: L)) z
      = if (z 0).val % 8 = s then w (partIdx ((z 0).val / 8) (z 1).val) else M.view.read (Elt F) (M.view.writes (Elt F) f L) z := by
  have b0 : (z 0).val < 4096 := (z 0).isLt
  have b1 : (z 1).val < 128 := (z 1).isLt
  by_cases hz : (z 0).val % 8 = s
  · rw [if_pos hz]
    have hz' : (⟨(⟨![s, 0], S512x128.size, ![8, 1], h⟩ : LoadRect S4096x128), spos_8_1⟩ : Rect S4096x128).emb (partIdx ((z 0).val / 8) (z 1).val) = z := by
      funext a; apply Fin.ext
      fin_cases a
      · show s + 8 * ((z 0).val / 8 % 512) = (z 0).val; omega
      · show 0 + 1 * ((z 1).val % 128) = (z 1).val; omega
    conv_lhs => rw [← hz']
    exact View.read_slice_write_emb (v := M.view) (⟨(⟨![s, 0], S512x128.size, ![8, 1], h⟩ : LoadRect S4096x128), spos_8_1⟩ : Rect S4096x128) _ _ (Finset.mem_univ _)
  · rw [if_neg hz]
    refine View.read_slice_write_of_not_mem (v := M.view) (⟨(⟨![s, 0], S512x128.size, ![8, 1], h⟩ : LoadRect S4096x128), spos_8_1⟩ : Rect S4096x128) _ _ Finset.univ ?_
    intro hm
    obtain ⟨x, -, hx⟩ := Finset.mem_map.mp hm
    have h1 : s + 8 * (x 0).val = (z 0).val := congrArg (fun i : S4096x128.Idx => (i 0).val) hx
    omega

omit [FloatOps F] in
/-- A part of a tile: columns `o` to `o + 127`. -/
theorem part_apply (v : S512x1024.Idx → F .f32) (o : ℕ) (h) (q j : ℕ) (hq : q < 512) (hj : j < 128) (ho : o + 128 ≤ 1024) :
    extractStridedSlice S512x128 ![0, o] v h (partIdx q j) = v (tileIdx q (o + j)) := by

  refine congrArg v (funext fun a => Fin.ext ?_)
  fin_cases a
  · show 0 + q % 512 = q % 512; omega
  · show o + j % 128 = (o + j) % 1024; omega

/-- The eight strided stores leave the tile laid out. -/
theorem read_out {c : Dev nD} (M : Memref sig .tc .vmem S4096x128 .f32) (f : Bf (F := F) c M) (v : FVec F S512x1024 .f32) (v0 : FVec F S512x128 .f32)
    (h0 : v0 = extractStridedSlice S512x128 ![0, 0] v slices_S512x1024_o0_0_S512x128) :
    M.view.read (Elt F) (M.view.writes (Elt F) f [
      ⟨⟨(⟨![7, 0], S512x128.size, ![8, 1], inb_S4096x128_S512x128_7_0_s_8_1⟩ : LoadRect S4096x128), spos_8_1⟩, k0_pay7 v⟩,
      ⟨⟨(⟨![6, 0], S512x128.size, ![8, 1], inb_S4096x128_S512x128_6_0_s_8_1⟩ : LoadRect S4096x128), spos_8_1⟩, k0_pay6 v⟩,
      ⟨⟨(⟨![5, 0], S512x128.size, ![8, 1], inb_S4096x128_S512x128_5_0_s_8_1⟩ : LoadRect S4096x128), spos_8_1⟩, k0_pay5 v⟩,
      ⟨⟨(⟨![4, 0], S512x128.size, ![8, 1], inb_S4096x128_S512x128_4_0_s_8_1⟩ : LoadRect S4096x128), spos_8_1⟩, k0_pay4 v⟩,
      ⟨⟨(⟨![3, 0], S512x128.size, ![8, 1], inb_S4096x128_S512x128_3_0_s_8_1⟩ : LoadRect S4096x128), spos_8_1⟩, k0_pay3 v⟩,
      ⟨⟨(⟨![2, 0], S512x128.size, ![8, 1], inb_S4096x128_S512x128_2_0_s_8_1⟩ : LoadRect S4096x128), spos_8_1⟩, k0_pay2 v⟩,
      ⟨⟨(⟨![1, 0], S512x128.size, ![8, 1], inb_S4096x128_S512x128_1_0_s_8_1⟩ : LoadRect S4096x128), spos_8_1⟩, k0_pay1 v⟩,
      ⟨⟨(⟨![0, 0], S512x128.size, ![8, 1], inb_S4096x128_S512x128_0_0_s_8_1⟩ : LoadRect S4096x128), spos_8_1⟩, v0⟩
      ]) = outOf v := by
  subst h0
  funext z
  have b0 : (z 0).val < 4096 := (z 0).isLt
  have b1 : (z 1).val < 128 := (z 1).isLt
  have hq : (z 0).val / 8 < 512 := by omega
  rw [read_store M f 7 (by decide), read_store M f 6 (by decide), read_store M f 5 (by decide), read_store M f 4 (by decide),
    read_store M f 3 (by decide), read_store M f 2 (by decide), read_store M f 1 (by decide), read_store M f 0 (by decide)]
  unfold outOf
  have h8 : (z 0).val % 8 < 8 := Nat.mod_lt _ (by decide)
  generalize hk : (z 0).val % 8 = k at h8
  have hc : k = 0 ∨ k = 1 ∨ k = 2 ∨ k = 3 ∨ k = 4 ∨ k = 5 ∨ k = 6 ∨ k = 7 := by omega
  rcases hc with rfl | rfl | rfl | rfl | rfl | rfl | rfl | rfl
  · exact part_apply v 0 slices_S512x1024_o0_0_S512x128 _ _ hq b1 (by decide)
  · exact part_apply v 128 slices_S512x1024_o0_128_S512x128 _ _ hq b1 (by decide)
  · exact part_apply v 256 slices_S512x1024_o0_256_S512x128 _ _ hq b1 (by decide)
  · exact part_apply v 384 slices_S512x1024_o0_384_S512x128 _ _ hq b1 (by decide)
  · exact part_apply v 512 slices_S512x1024_o0_512_S512x128 _ _ hq b1 (by decide)
  · exact part_apply v 640 slices_S512x1024_o0_640_S512x128 _ _ hq b1 (by decide)
  · exact part_apply v 768 slices_S512x1024_o0_768_S512x128 _ _ hq b1 (by decide)
  · exact part_apply v 896 slices_S512x1024_o0_896_S512x128 _ _ hq b1 (by decide)

omit [FloatOps F] in
/-- The number of live blocks, as the body reads it. -/
theorem read_nu {c : Dev nD} (M : Memref sig .tc .smem S1 .i32) (f : Bf (F := F) c M) :
    M.view.readAt (Elt F) (Rect.unit (s := S1) ![0] S1.size inb_S1_S1_0).toLoadRect f only = M.view.read (Elt F) f only := by
  rw [View.readAt_apply]
  refine congrArg (M.view.read (Elt F) f) (funext fun a => Fin.ext ?_)
  rw [LoadRect.idx_apply]
  fin_cases a
  show 0 + 1 * (only 0).val = (only 0).val
  omega

omit [FloatOps F] in
/-- A whole staged block stored. -/
theorem read_fill {c : Dev nD} (M : Memref sig .tc .vmem S4096x128 .f32) (f : Bf (F := F) c M) (w : S4096x128.Idx → Elt F .f32) :
    M.view.read (Elt F) (M.view.writes (Elt F) f [⟨Rect.unit (s := S4096x128) ![0, 0] S4096x128.size inb_S4096x128_S4096x128_0_0, w⟩]) = w := by
  funext z
  have hz : (Rect.unit (s := S4096x128) ![0, 0] S4096x128.size inb_S4096x128_S4096x128_0_0).emb z = z := by
    funext a; apply Fin.ext
    fin_cases a
    · show 0 + 1 * (z 0).val = (z 0).val; omega
    · show 0 + 1 * (z 1).val = (z 1).val; omega
  conv_lhs => rw [← hz]
  exact View.read_slice_write_emb (v := M.view) (Rect.unit (s := S4096x128) ![0, 0] S4096x128.size inb_S4096x128_S4096x128_0_0) _ _ (Finset.mem_univ _)

set_option maxRecDepth 16384 in
set_option maxHeartbeats 4000000 in
/-- A block past the live ones. -/
theorem dead_point [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (W1 : Bf (F := F) c M7) (W2 : Bf (F := F) c M8) (W3 : Bf (F := F) c M9)
    (f10 : Bf (F := F) c M10) (q1 q2 q3 q4 q5 q6 : PosShare TreeShare) (A : DmaSems sig S2x3) (hA : A = cc0_scratch5)
    (k1 : ¬ k0_cond1 i (M2.view.read (Elt F) f2 only) = 1#1) (k5 : k0_cond5 i (M2.view.read (Elt F) f2 only) = 1#1)
    (Q : PUnit → sProp 𝕄) :
    iprop((M2.view.loc (c : Thread nD τ) ↦{q2} f2) ∗ (M10.view.loc (c : Thread nD τ) ↦{fullShare} f10) ∗ (iprop((M2.view.loc (c : Thread nD τ) ↦{q2} f2) ∗ (∃ f : Bf (F := F) c M10, ⌜M10.view.read (Elt F) f = k0_pay8⌝ ∗ (M10.view.loc (c : Thread nD τ) ↦{fullShare} f))) -∗ Q ⟨⟩))
      ⊢ wp frame (wpE (defs₀ (F := F)) Variants.none (c : Thread nD τ) none) Set.univ
          (cc0_moe_gmm i M1 h1 M2 h2 M3 h3 M4 h4 M5 h5 M6 h6 M7 h7 M8 h8 M9 h9 M10 h10 M11 h11 M12 h12 M13 h13 M14 h14 M15 h15 A) Q := by
  have k1' : ¬ k0_cond1 i (M2.view.readAt (Elt F) (Rect.unit (s := S1) ![0] S1.size inb_S1_S1_0).toLoadRect f2 only) = 1#1 := by rw [read_nu]; exact k1
  have k5' : k0_cond5 i (M2.view.readAt (Elt F) (Rect.unit (s := S1) ![0] S1.size inb_S1_S1_0).toLoadRect f2 only) = 1#1 := by rw [read_nu]; exact k5
  iintro ⟨H2, H10, Hk⟩
  simp only [cc0_moe_gmm_eq_skeleton]; unfold cc0_moe_gmm_skel
  sl_exec (disch := first | sl_exact k1' | sl_exact k5')
  sl_step
  iapply Hk
  isplitl [H2]; · iexact H2
  iexists _
  isplitr; swap; · iexact H10
  ipureintro; exact read_fill M10 f10 _

set_option maxRecDepth 16384 in
set_option maxHeartbeats 4000000 in
/-- A live block of the expert whose matrices are at hand. -/
theorem same_point [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (W1 : Bf (F := F) c M7) (W2 : Bf (F := F) c M8) (W3 : Bf (F := F) c M9)
    (f10 : Bf (F := F) c M10) (q1 q2 q3 q4 q5 q6 : PosShare TreeShare) (A : DmaSems sig S2x3) (hA : A = cc0_scratch5)
    (k1 : k0_cond1 i (M2.view.read (Elt F) f2 only) = 1#1) (k5 : ¬ k0_cond5 i (M2.view.read (Elt F) f2 only) = 1#1)
    {e : ℕ} (k2 : ¬ k0_cond2 (word M3 f3 (i 0).val) = 1#1)
    (Q : PUnit → sProp 𝕄) :
    iprop((M2.view.loc (c : Thread nD τ) ↦{q2} f2) ∗ (M3.view.loc (c : Thread nD τ) ↦{q3} f3) ∗ (M6.view.loc (c : Thread nD τ) ↦{q6} f6) ∗ (M10.view.loc (c : Thread nD τ) ↦{fullShare} f10) ∗ Scr c M14 M15 (M7.view.read (Elt F) W1) (M8.view.read (Elt F) W2) (M9.view.read (Elt F) W3) e
        ∗ (iprop((M2.view.loc (c : Thread nD τ) ↦{q2} f2) ∗ (M3.view.loc (c : Thread nD τ) ↦{q3} f3) ∗ (M6.view.loc (c : Thread nD τ) ↦{q6} f6) ∗ (∃ f : Bf (F := F) c M10, ⌜M10.view.read (Elt F) f = outOf (tileOf (M7.view.read (Elt F) W1) (M8.view.read (Elt F) W2) (M9.view.read (Elt F) W3) (M6.view.read (Elt F) f6) e)⌝ ∗ (M10.view.loc (c : Thread nD τ) ↦{fullShare} f)) ∗ Scr c M14 M15 (M7.view.read (Elt F) W1) (M8.view.read (Elt F) W2) (M9.view.read (Elt F) W3) e) -∗ Q ⟨⟩))
      ⊢ wp frame (wpE (defs₀ (F := F)) Variants.none (c : Thread nD τ) none) Set.univ
          (cc0_moe_gmm i M1 h1 M2 h2 M3 h3 M4 h4 M5 h5 M6 h6 M7 h7 M8 h8 M9 h9 M10 h10 M11 h11 M12 h12 M13 h13 M14 h14 M15 h15 A) Q := by
  have k1' : k0_cond1 i (M2.view.readAt (Elt F) (Rect.unit (s := S1) ![0] S1.size inb_S1_S1_0).toLoadRect f2 only) = 1#1 := by rw [read_nu]; exact k1
  have k5' : ¬ k0_cond5 i (M2.view.readAt (Elt F) (Rect.unit (s := S1) ![0] S1.size inb_S1_S1_0).toLoadRect f2 only) = 1#1 := by rw [read_nu]; exact k5
  iintro ⟨H2, H3, H6, H10, HX, Hk⟩
  simp only [cc0_moe_gmm_eq_skeleton]; unfold cc0_moe_gmm_skel
  generalize hP : @k0_part2 F _ = P2
  sl_exec (disch := first | sl_exact k1' | sl_exact k5')
  subst hP
  rw [Sem.wp_bind]
  iapply (same_expert c i M1 h1 M2 h2 M3 h3 M4 h4 M5 h5 M6 h6 M7 h7 M8 h8 M9 h9 M10 h10 M11 h11 M12 h12 M13 h13 M14 h14 M15 h15 f1 f3 f4 f5 f6 W1 W2 W3 q1 q3 q4 q5 q6 A hA _ _ k1' (e := e) k2)
  isplitl [H3]; · iexact H3
  isplitl [H6]; · iexact H6
  isplitl [HX]; · iexact HX
  iintro ⟨H3, H6, HX⟩
  dsimp only
  sl_exec (disch := first | sl_exact k1' | sl_exact k5')
  sl_step
  iapply Hk
  isplitl [H2]; · iexact H2
  isplitl [H3]; · iexact H3
  isplitl [H6]; · iexact H6
  isplitl [H10]
  · iexists _
    isplitr; swap; · iexact H10
    ipureintro; exact read_out M10 f10 _ _ rfl
  iexact HX

set_option maxRecDepth 16384 in
set_option maxHeartbeats 4000000 in
/-- A live block that opens expert `e` in slot `s`. -/
theorem new_point [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (W1 : Bf (F := F) c M7) (W2 : Bf (F := F) c M8) (W3 : Bf (F := F) c M9)
    (f10 : Bf (F := F) c M10) (q1 q2 q3 q4 q5 q6 : PosShare TreeShare) (A : DmaSems sig S2x3) (hA : A = cc0_scratch5)
    (k1 : k0_cond1 i (M2.view.read (Elt F) f2 only) = 1#1) (k5 : ¬ k0_cond5 i (M2.view.read (Elt F) f2 only) = 1#1)
    {e s : ℕ} (k2 : k0_cond2 (word M3 f3 (i 0).val) = 1#1) (hs' : (word M4 f4 (i 0).val).toNat = s) (he' : (word M1 f1 (i 0).val).toNat = e) (hs : s < 2) (he : e < 32) (h0 : (i 0).val = 0 → s = 0)
    (hn : k0_cond4 (word M5 f5 (i 0).val) = 1#1 → (word M5 f5 (i 0).val).toNat < 32) (w : Waits sig Unit)
    (Q : PUnit → sProp 𝕄) :
    iprop((M1.view.loc (c : Thread nD τ) ↦{q1} f1) ∗ (M2.view.loc (c : Thread nD τ) ↦{q2} f2) ∗ (M3.view.loc (c : Thread nD τ) ↦{q3} f3) ∗ (M4.view.loc (c : Thread nD τ) ↦{q4} f4) ∗ (M5.view.loc (c : Thread nD τ) ↦{q5} f5) ∗ (M6.view.loc (c : Thread nD τ) ↦{q6} f6) ∗ (M10.view.loc (c : Thread nD τ) ↦{fullShare} f10) ∗ ScrAny c M14 M15 ∗ Before c i M11 M12 M13 M7 M8 M9 W1 W2 W3 s e ∗ Owed c w
        ∗ (iprop((M1.view.loc (c : Thread nD τ) ↦{q1} f1) ∗ (M2.view.loc (c : Thread nD τ) ↦{q2} f2) ∗ (M3.view.loc (c : Thread nD τ) ↦{q3} f3) ∗ (M4.view.loc (c : Thread nD τ) ↦{q4} f4) ∗ (M5.view.loc (c : Thread nD τ) ↦{q5} f5) ∗ (M6.view.loc (c : Thread nD τ) ↦{q6} f6) ∗ (∃ f : Bf (F := F) c M10, ⌜M10.view.read (Elt F) f = outOf (tileOf (M7.view.read (Elt F) W1) (M8.view.read (Elt F) W2) (M9.view.read (Elt F) W3) (M6.view.read (Elt F) f6) e)⌝ ∗ (M10.view.loc (c : Thread nD τ) ↦{fullShare} f)) ∗ Scr c M14 M15 (M7.view.read (Elt F) W1) (M8.view.read (Elt F) W2) (M9.view.read (Elt F) W3) e
          ∗ SlotsAny c M11 M12 M13 s ∗ Sems c s ∗ After c M11 M12 M13 M7 M8 M9 W1 W2 W3 s (word M5 f5 (i 0).val) ∗ ∃ w, Owed c w) -∗ Q ⟨⟩))
      ⊢ wp frame (wpE (defs₀ (F := F)) Variants.none (c : Thread nD τ) none) Set.univ
          (cc0_moe_gmm i M1 h1 M2 h2 M3 h3 M4 h4 M5 h5 M6 h6 M7 h7 M8 h8 M9 h9 M10 h10 M11 h11 M12 h12 M13 h13 M14 h14 M15 h15 A) Q := by
  have k1' : k0_cond1 i (M2.view.readAt (Elt F) (Rect.unit (s := S1) ![0] S1.size inb_S1_S1_0).toLoadRect f2 only) = 1#1 := by rw [read_nu]; exact k1
  have k5' : ¬ k0_cond5 i (M2.view.readAt (Elt F) (Rect.unit (s := S1) ![0] S1.size inb_S1_S1_0).toLoadRect f2 only) = 1#1 := by rw [read_nu]; exact k5
  iintro ⟨H1, H2, H3, H4, H5, H6, H10, HX, HB, HO, Hk⟩
  simp only [cc0_moe_gmm_eq_skeleton]; unfold cc0_moe_gmm_skel
  generalize hP : @k0_part2 F _ = P2
  sl_exec (disch := first | sl_exact k1' | sl_exact k5')
  subst hP
  rw [Sem.wp_bind]
  iapply (new_expert c i M1 h1 M2 h2 M3 h3 M4 h4 M5 h5 M6 h6 M7 h7 M8 h8 M9 h9 M10 h10 M11 h11 M12 h12 M13 h13 M14 h14 M15 h15 f1 f3 f4 f5 f6 W1 W2 W3 q1 q3 q4 q5 q6 A hA _ _ k1' k2 hs' he' hs he h0 hn w)
  isplitl [H1]; · iexact H1
  isplitl [H3]; · iexact H3
  isplitl [H4]; · iexact H4
  isplitl [H5]; · iexact H5
  isplitl [H6]; · iexact H6
  isplitl [HX]; · iexact HX
  isplitl [HB]; · iexact HB
  isplitl [HO]; · iexact HO
  iintro ⟨H1, H3, H4, H5, H6, HX, HS, HM, HN, HO⟩
  dsimp only
  sl_exec (disch := first | sl_exact k1' | sl_exact k5')
  sl_step
  iapply Hk
  isplitl [H1]; · iexact H1
  isplitl [H2]; · iexact H2
  isplitl [H3]; · iexact H3
  isplitl [H4]; · iexact H4
  isplitl [H5]; · iexact H5
  isplitl [H6]; · iexact H6
  isplitl [H10]
  · iexists _
    isplitr; swap; · iexact H10
    ipureintro; exact read_out M10 f10 _ _ rfl
  isplitl [HX]; · iexact HX
  isplitl [HS]; · iexact HS
  isplitl [HM]; · iexact HM
  isplitl [HN]; · iexact HN
  iexact HO

end Cert.Kernel2Ideal.Gmm

end
-- ==== Proof.GmmPlan.lean ====
/- The state of the expert call between row blocks, and one row block against it.

   The tables say of block `t` its expert `be`, whether it opens that expert `fs`, the slot `sl` the expert's matrices are
   copied to, and the next expert `nx` (negative when there is none). `Good` is what the call needs of them. Between blocks the
   next expert's copies may be in flight (`Streams`), and the scratch matrices are those of the block before (`Held`). -/
module

public import proofs.«01_k».proof.Proof.GmmBody
public import proofs.«01_k».proof.Proof.Gen.Kernel2Ideal.Launch

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## What the tables must say -/

/-- Tables whose first `U` entries describe a run of experts. -/
structure Good (be fs sl nx : ℕ → BitVec 32) (U : ℕ) : Prop where
  le : U ≤ 96
  be_lt : ∀ t, t < U → (be t).toNat < 32
  sl_lt : ∀ t, t < U → (sl t).toNat < 2
  next_lt : ∀ t, t < U → k0_cond4 (nx t) = 1#1 → (nx t).toNat < 32
  first : 0 < U → k0_cond2 (fs 0) = 1#1
  slot : 0 < U → (sl 0).toNat = 0
  opens : ∀ t, t + 1 < U → k0_cond2 (fs (t + 1)) = 1#1 → k0_cond4 (nx t) = 1#1 ∧ (nx t).toNat = (be (t + 1)).toNat ∧ (sl (t + 1)).toNat = 1 - (sl t).toNat
  stays : ∀ t, t + 1 < U → ¬ k0_cond2 (fs (t + 1)) = 1#1 → be (t + 1) = be t ∧ sl (t + 1) = sl t ∧ nx (t + 1) = nx t
  last : ∀ t, t + 1 = U → ¬ k0_cond4 (nx t) = 1#1

/-- The slot and the expert in flight before block `t`. -/
def inFlight (sl nx : ℕ → BitVec 32) (U t : ℕ) : Option (ℕ × ℕ) :=
  if t = 0 ∨ U ≤ t then none else if k0_cond4 (nx (t - 1)) = 1#1 then some (1 - (sl (t - 1)).toNat, (nx (t - 1)).toNat) else none

/-- The expert whose matrices are at hand before block `t`. -/
def atHand (be : ℕ → BitVec 32) (U t : ℕ) : Option ℕ := if t = 0 ∨ U < t then none else some (be (t - 1)).toNat

section Plan

variable {be fs sl nx : ℕ → BitVec 32} {U : ℕ} (g : Good be fs sl nx U)
include g

theorem inFlight_dead {t : ℕ} (h : U ≤ t) : inFlight sl nx U (t + 1) = none ∧ inFlight sl nx U t = none := by
  unfold inFlight
  exact ⟨if_pos (Or.inr (by omega)), if_pos (Or.inr h)⟩

theorem inFlight_opens {t : ℕ} (h : t < U) (ht : t ≠ 0) (h2 : k0_cond2 (fs t) = 1#1) : inFlight sl nx U t = some ((sl t).toNat, (be t).toNat) := by
  obtain ⟨k, rfl⟩ := Nat.exists_eq_succ_of_ne_zero ht
  obtain ⟨a, b, d⟩ := g.opens k h h2
  unfold inFlight
  rw [if_neg (by omega)]
  show (if k0_cond4 (nx k) = 1#1 then some (1 - (sl k).toNat, (nx k).toNat) else none) = _
  rw [if_pos a, b, ← d]

theorem inFlight_next {t : ℕ} (h : t < U) : inFlight sl nx U (t + 1) = if k0_cond4 (nx t) = 1#1 then some (1 - (sl t).toNat, (nx t).toNat) else none := by
  unfold inFlight
  by_cases hu : t + 1 = U
  · rw [if_pos (Or.inr (by omega)), if_neg (g.last t hu)]
  · rw [if_neg (by omega)]; rfl

theorem inFlight_stays {t : ℕ} (h : t < U) (ht : t ≠ 0) (h2 : ¬ k0_cond2 (fs t) = 1#1) : inFlight sl nx U t = inFlight sl nx U (t + 1) := by
  rw [inFlight_next g h]
  obtain ⟨k, rfl⟩ := Nat.exists_eq_succ_of_ne_zero ht
  obtain ⟨-, b, d⟩ := g.stays k h h2
  show inFlight sl nx U (k + 1) = _
  rw [inFlight_next g (show k < U by omega)]
  show _ = if k0_cond4 (nx (k + 1)) = 1#1 then some (1 - (sl (k + 1)).toNat, (nx (k + 1)).toNat) else none
  rw [b, d]

theorem atHand_stays {t : ℕ} (h : t < U) (ht : t ≠ 0) (h2 : ¬ k0_cond2 (fs t) = 1#1) : atHand be U t = some (be t).toNat := by
  obtain ⟨k, rfl⟩ := Nat.exists_eq_succ_of_ne_zero ht
  obtain ⟨a, -, -⟩ := g.stays k h h2
  unfold atHand
  rw [if_neg (by omega)]
  show some (be k).toNat = some (be (k + 1)).toNat
  rw [a]

omit g in
theorem atHand_next {t : ℕ} (h : t < U) : atHand be U (t + 1) = some (be t).toNat := by
  unfold atHand
  rw [if_neg (by omega)]; rfl

omit g in
theorem atHand_dead {t : ℕ} (h : U ≤ t) : atHand be U (t + 1) = none := by
  unfold atHand
  exact if_pos (Or.inr (by omega))

end Plan

/-! ## The state between blocks -/

section State

variable (c : Dev nD) (B1 B2 : Memref sig .tc .vmem S2x1024x512 .f32) (B3 : Memref sig .tc .vmem S2x512x1024 .f32)
  (H1 H2 : Memref sig .tc .hbm S32x1024x512 .f32) (H3 : Memref sig .tc .hbm S32x512x1024 .f32)
  (W1 : Bf (F := F) c H1) (W2 : Bf (F := F) c H2) (W3 : Bf (F := F) c H3)
  (M14 : Memref sig .tc .vmem S1024x1024 .bf16) (M15 : Memref sig .tc .vmem S512x1024 .bf16)

/-- The copies in flight. -/
def Streams (o : Option (ℕ × ℕ)) : sProp 𝕄 := match o with
  | none => Idle c B1 B2 B3 H1 H2 H3 W1 W2 W3
  | some (s, e) => Pending c B1 B2 B3 H1 H2 H3 W1 W2 W3 s e

/-- The scratch matrices. -/
def Held (o : Option ℕ) : sProp 𝕄 := match o with
  | none => ScrAny c M14 M15
  | some e => Scr c M14 M15 (H1.view.read (Elt F) W1) (H2.view.read (Elt F) W2) (H3.view.read (Elt F) W3) e

theorem held_some (e : ℕ) : (Held c H1 H2 H3 W1 W2 W3 M14 M15 (some e) : sProp 𝕄)
    = Scr c M14 M15 (H1.view.read (Elt F) W1) (H2.view.read (Elt F) W2) (H3.view.read (Elt F) W3) e := rfl

theorem held_none : (Held c H1 H2 H3 W1 W2 W3 M14 M15 none : sProp 𝕄) = ScrAny c M14 M15 := rfl

theorem streams_none : (Streams c B1 B2 B3 H1 H2 H3 W1 W2 W3 none : sProp 𝕄) = Idle c B1 B2 B3 H1 H2 H3 W1 W2 W3 := rfl

theorem streams_some (s e : ℕ) : (Streams c B1 B2 B3 H1 H2 H3 W1 W2 W3 (some (s, e)) : sProp 𝕄)
    = Pending c B1 B2 B3 H1 H2 H3 W1 W2 W3 s e := rfl

theorem held_any (o : Option ℕ) : (Held c H1 H2 H3 W1 W2 W3 M14 M15 o : sProp 𝕄) ⊢ ScrAny c M14 M15 := by
  cases o with
  | none => exact .rfl
  | some e => exact scr_any _ _ _ _ _ _

/-- What a block that opens an expert in slot `s` leaves is the state with the next expert `n` in flight. -/
theorem streams_after (s : ℕ) (hs : s < 2) (n : BitVec 32) :
    iprop(SlotsAny c B1 B2 B3 s ∗ Sems c s ∗ After c B1 B2 B3 H1 H2 H3 W1 W2 W3 s n)
      ⊢ (Streams c B1 B2 B3 H1 H2 H3 W1 W2 W3 (if k0_cond4 n = 1#1 then some (1 - s, n.toNat) else none) : sProp 𝕄) := by
  unfold After Streams
  by_cases h : k0_cond4 n = 1#1
  · rw [if_pos h, if_pos h]
    dsimp only
    unfold Pending
    rw [show 1 - (1 - s) = s by omega]
    iintro ⟨HS, HM, HL⟩
    isplitl [HL]; · iexact HL
    isplitl [HS]; · iexact HS
    iexact HM
  · rw [if_neg h, if_neg h]
    dsimp only
    unfold Idle
    have hc : s = 0 ∨ s = 1 := by omega
    rcases hc with rfl | rfl
    · iintro ⟨HS, HM, HS', HA, HM'⟩
      isplitl [HS]; · iexact HS
      isplitl [HS']; · iexact HS'
      isplitl [HA]; · iexact HA
      isplitl [HM]; · iexact HM
      iexact HM'
    · iintro ⟨HS, HM, HS', HA, HM'⟩
      isplitl [HS']; · iexact HS'
      isplitl [HS]; · iexact HS
      isplitl [HA]; · iexact HA
      isplitl [HM']; · iexact HM'
      iexact HM

end State

/-! ## The conditions at a block -/

theorem cond3_pos {i : grid0.Coords} (h : (i 0).val = 0) : k0_cond3 i = 1#1 := by
  unfold k0_cond3; rw [h]; decide

theorem cond1_iff : ∀ (t : Fin 96) (u : Fin 97),
    (Scalar.cmpi .ne (Scalar.extui (Scalar.cmpi .slt (BitVec.ofNat 32 t.val) (BitVec.ofNat 32 u.val)) : BitVec 32) 0#32 = 1#1) ↔ t.val < u.val := by decide +kernel
theorem cond5_iff : ∀ (t : Fin 96) (u : Fin 97),
    (Scalar.cmpi .ne (Scalar.extui (Scalar.cmpi .sge (BitVec.ofNat 32 t.val) (BitVec.ofNat 32 u.val)) : BitVec 32) 0#32 = 1#1) ↔ u.val ≤ t.val := by decide +kernel

/-- A block is live when it is below the number of live blocks. -/
theorem live_iff (i : grid0.Coords) (v : BitVec 32) (U : ℕ) (hv : v.toNat = U) (hU : U ≤ 96) : k0_cond1 i v = 1#1 ↔ (i 0).val < U := by
  have e : v = BitVec.ofNat 32 U := by rw [← hv]; simp
  subst e
  exact cond1_iff ⟨(i 0).val, point_lt i⟩ ⟨U, by omega⟩
theorem dead_iff (i : grid0.Coords) (v : BitVec 32) (U : ℕ) (hv : v.toNat = U) (hU : U ≤ 96) : k0_cond5 i v = 1#1 ↔ U ≤ (i 0).val := by
  have e : v = BitVec.ofNat 32 U := by rw [← hv]; simp
  subst e
  exact cond5_iff ⟨(i 0).val, point_lt i⟩ ⟨U, by omega⟩

/-- What block `t` leaves: the computed tile laid out, or zeros past the live blocks. -/
def blockOut (X1 X2 : (slabs 32 1024 512).Idx → Elt F .f32) (X3 : (slabs 32 512 1024).Idx → Elt F .f32) (X : S4096x128.Idx → Elt F .f32)
    (be : ℕ → BitVec 32) (U t : ℕ) : S4096x128.Idx → Elt F .f32 :=
  if t < U then outOf (tileOf X1 X2 X3 X (be t).toNat) else k0_pay8

set_option maxHeartbeats 1000000 in
/-- One block against the state. -/
theorem run_point [∀ e, Nonempty (Elt F e)] (c : Dev nD) (i : grid0.Coords) (M1 : Memref sig .tc .smem S96 .i32) (h1 : M1.IsWhole) (M2 : Memref sig .tc .smem S1 .i32) (h2 : M2.IsWhole) (M3 : Memref sig .tc .smem S96 .i32) (h3 : M3.IsWhole) (M4 : Memref sig .tc .smem S96 .i32) (h4 : M4.IsWhole) (M5 : Memref sig .tc .smem S96 .i32) (h5 : M5.IsWhole) (M6 : Memref sig .tc .vmem S4096x128 .f32) (h6 : M6.IsWhole) (M7 : Memref sig .tc .hbm S32x1024x512 .f32) (h7 : M7.IsWhole) (M8 : Memref sig .tc .hbm S32x1024x512 .f32) (h8 : M8.IsWhole) (M9 : Memref sig .tc .hbm S32x512x1024 .f32) (h9 : M9.IsWhole) (M10 : Memref sig .tc .vmem S4096x128 .f32) (h10 : M10.IsWhole) (M11 : Memref sig .tc .vmem S2x1024x512 .f32) (h11 : M11.IsWhole) (M12 : Memref sig .tc .vmem S2x1024x512 .f32) (h12 : M12.IsWhole) (M13 : Memref sig .tc .vmem S2x512x1024 .f32) (h13 : M13.IsWhole) (M14 : Memref sig .tc .vmem S1024x1024 .bf16) (h14 : M14.IsWhole) (M15 : Memref sig .tc .vmem S512x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (W1 : Bf (F := F) c M7) (W2 : Bf (F := F) c M8) (W3 : Bf (F := F) c M9)
    (f10 : Bf (F := F) c M10) (q1 q2 q3 q4 q5 q6 : PosShare TreeShare) (A : DmaSems sig S2x3) (hA : A = cc0_scratch5)
    {U : ℕ} (hU : (M2.view.read (Elt F) f2 only).toNat = U) (g : Good (word M1 f1) (word M3 f3) (word M4 f4) (word M5 f5) U)
    (w : Waits sig Unit) (Q : PUnit → sProp 𝕄) :
    iprop((M1.view.loc (c : Thread nD τ) ↦{q1} f1) ∗ (M2.view.loc (c : Thread nD τ) ↦{q2} f2) ∗ (M3.view.loc (c : Thread nD τ) ↦{q3} f3) ∗ (M4.view.loc (c : Thread nD τ) ↦{q4} f4) ∗ (M5.view.loc (c : Thread nD τ) ↦{q5} f5) ∗ (M6.view.loc (c : Thread nD τ) ↦{q6} f6) ∗ (M10.view.loc (c : Thread nD τ) ↦{fullShare} f10) ∗ Streams c M11 M12 M13 M7 M8 M9 W1 W2 W3 (inFlight (word M4 f4) (word M5 f5) U (i 0).val) ∗ Held c M7 M8 M9 W1 W2 W3 M14 M15 (atHand (word M1 f1) U (i 0).val) ∗ Owed c w
        ∗ (iprop((M1.view.loc (c : Thread nD τ) ↦{q1} f1) ∗ (M2.view.loc (c : Thread nD τ) ↦{q2} f2) ∗ (M3.view.loc (c : Thread nD τ) ↦{q3} f3) ∗ (M4.view.loc (c : Thread nD τ) ↦{q4} f4) ∗ (M5.view.loc (c : Thread nD τ) ↦{q5} f5) ∗ (M6.view.loc (c : Thread nD τ) ↦{q6} f6) ∗ (∃ f : Bf (F := F) c M10, ⌜M10.view.read (Elt F) f = (blockOut (M7.view.read (Elt F) W1) (M8.view.read (Elt F) W2) (M9.view.read (Elt F) W3) (M6.view.read (Elt F) f6) (word M1 f1) U (i 0).val)⌝ ∗ (M10.view.loc (c : Thread nD τ) ↦{fullShare} f)) ∗ Streams c M11 M12 M13 M7 M8 M9 W1 W2 W3 (inFlight (word M4 f4) (word M5 f5) U ((i 0).val + 1)) ∗ Held c M7 M8 M9 W1 W2 W3 M14 M15 (atHand (word M1 f1) U ((i 0).val + 1)) ∗ ∃ w, Owed c w) -∗ Q ⟨⟩))
      ⊢ wp frame (wpE (defs₀ (F := F)) Variants.none (c : Thread nD τ) none) Set.univ
          (cc0_moe_gmm i M1 h1 M2 h2 M3 h3 M4 h4 M5 h5 M6 h6 M7 h7 M8 h8 M9 h9 M10 h10 M11 h11 M12 h12 M13 h13 M14 h14 M15 h15 A) Q := by
  iintro ⟨H1, H2, H3, H4, H5, H6, H10, HS, HX, HO, Hk⟩
  by_cases hl : (i 0).val < U
  · have k1 : k0_cond1 i (M2.view.read (Elt F) f2 only) = 1#1 := (live_iff i _ U hU g.le).mpr hl
    have k5 : ¬ k0_cond5 i (M2.view.read (Elt F) f2 only) = 1#1 := fun h => by have := (dead_iff i _ U hU g.le).mp h; omega
    have hres : (blockOut (M7.view.read (Elt F) W1) (M8.view.read (Elt F) W2) (M9.view.read (Elt F) W3) (M6.view.read (Elt F) f6) (word M1 f1) U (i 0).val) = outOf (tileOf (M7.view.read (Elt F) W1) (M8.view.read (Elt F) W2) (M9.view.read (Elt F) W3) (M6.view.read (Elt F) f6) (word M1 f1 (i 0).val).toNat) := if_pos hl
    rw [hres]
    by_cases k2 : k0_cond2 (word M3 f3 (i 0).val) = 1#1
    · iapply (new_point c i M1 h1 M2 h2 M3 h3 M4 h4 M5 h5 M6 h6 M7 h7 M8 h8 M9 h9 M10 h10 M11 h11 M12 h12 M13 h13 M14 h14 M15 h15 f1 f2 f3 f4 f5 f6 W1 W2 W3 f10 q1 q2 q3 q4 q5 q6 A hA k1 k5 k2 rfl rfl (g.sl_lt _ hl) (g.be_lt _ hl) (fun h => by rw [h]; exact g.slot (by omega)) (g.next_lt _ hl) w)
      isplitl [H1]; · iexact H1
      isplitl [H2]; · iexact H2
      isplitl [H3]; · iexact H3
      isplitl [H4]; · iexact H4
      isplitl [H5]; · iexact H5
      isplitl [H6]; · iexact H6
      isplitl [H10]; · iexact H10
      isplitl [HX]; · iapply held_any $$ HX
      isplitl [HS]
      · unfold Before
        by_cases h0 : (i 0).val = 0
        · rw [if_pos (cond3_pos h0), show inFlight (word M4 f4) (word M5 f5) U (i 0).val = none from if_pos (Or.inl h0)]
          iapply (Entails.of_eq (streams_none c M11 M12 M13 M7 M8 M9 W1 W2 W3)) $$ HS
        · rw [if_neg (fun h => h0 (cond3_zero h)), inFlight_opens g hl h0 k2]
          iapply (Entails.of_eq (streams_some c M11 M12 M13 M7 M8 M9 W1 W2 W3 _ _)) $$ HS
      isplitl [HO]; · iexact HO
      iintro ⟨H1, H2, H3, H4, H5, H6, H10, HX, HS, HM, HN, HO⟩
      iapply Hk
      rw [inFlight_next g hl, atHand_next hl]
      isplitl [H1]; · iexact H1
      isplitl [H2]; · iexact H2
      isplitl [H3]; · iexact H3
      isplitl [H4]; · iexact H4
      isplitl [H5]; · iexact H5
      isplitl [H6]; · iexact H6
      isplitl [H10]; · iexact H10
      isplitl [HS HM HN]
      · iapply (streams_after c M11 M12 M13 M7 M8 M9 W1 W2 W3 _ (g.sl_lt _ hl) _)
        isplitl [HS]; · iexact HS
        isplitl [HM]; · iexact HM
        iexact HN
      isplitl [HX]; · iapply (Entails.of_eq (held_some c M7 M8 M9 W1 W2 W3 M14 M15 _).symm) $$ HX
      iexact HO
    · have h0 : (i 0).val ≠ 0 := fun h => k2 (by rw [h]; exact g.first (by omega))
      rw [atHand_stays g hl h0 k2]
      iapply (same_point c i M1 h1 M2 h2 M3 h3 M4 h4 M5 h5 M6 h6 M7 h7 M8 h8 M9 h9 M10 h10 M11 h11 M12 h12 M13 h13 M14 h14 M15 h15 f1 f2 f3 f4 f5 f6 W1 W2 W3 f10 q1 q2 q3 q4 q5 q6 A hA k1 k5 (e := (word M1 f1 (i 0).val).toNat) k2)
      isplitl [H2]; · iexact H2
      isplitl [H3]; · iexact H3
      isplitl [H6]; · iexact H6
      isplitl [H10]; · iexact H10
      isplitl [HX]; · iapply (Entails.of_eq (held_some c M7 M8 M9 W1 W2 W3 M14 M15 _)) $$ HX
      iintro ⟨H2, H3, H6, H10, HX⟩
      iapply Hk
      rw [← inFlight_stays g hl h0 k2, atHand_next hl]
      isplitl [H1]; · iexact H1
      isplitl [H2]; · iexact H2
      isplitl [H3]; · iexact H3
      isplitl [H4]; · iexact H4
      isplitl [H5]; · iexact H5
      isplitl [H6]; · iexact H6
      isplitl [H10]; · iexact H10
      isplitl [HS]; · iexact HS
      isplitl [HX]; · iapply (Entails.of_eq (held_some c M7 M8 M9 W1 W2 W3 M14 M15 _).symm) $$ HX
      iexists w; iexact HO
  · have k1 : ¬ k0_cond1 i (M2.view.read (Elt F) f2 only) = 1#1 := fun h => hl ((live_iff i _ U hU g.le).mp h)
    have k5 : k0_cond5 i (M2.view.read (Elt F) f2 only) = 1#1 := (dead_iff i _ U hU g.le).mpr (by omega)
    have hres : (blockOut (M7.view.read (Elt F) W1) (M8.view.read (Elt F) W2) (M9.view.read (Elt F) W3) (M6.view.read (Elt F) f6) (word M1 f1) U (i 0).val) = k0_pay8 := if_neg hl
    rw [hres]
    iapply (dead_point c i M1 h1 M2 h2 M3 h3 M4 h4 M5 h5 M6 h6 M7 h7 M8 h8 M9 h9 M10 h10 M11 h11 M12 h12 M13 h13 M14 h14 M15 h15 f1 f2 f3 f4 f5 f6 W1 W2 W3 f10 q1 q2 q3 q4 q5 q6 A hA k1 k5)
    isplitl [H2]; · iexact H2
    isplitl [H10]; · iexact H10
    iintro ⟨H2, H10⟩
    iapply Hk
    rw [(inFlight_dead g (show U ≤ (i 0).val by omega)).1, (inFlight_dead g (show U ≤ (i 0).val by omega)).2, atHand_dead (show U ≤ (i 0).val by omega)]
    isplitl [H1]; · iexact H1
    isplitl [H2]; · iexact H2
    isplitl [H3]; · iexact H3
    isplitl [H4]; · iexact H4
    isplitl [H5]; · iexact H5
    isplitl [H6]; · iexact H6
    isplitl [H10]; · iexact H10
    isplitl [HS]; · iexact HS
    isplitl [HX]; · iapply ((held_any c M7 M8 M9 W1 W2 W3 M14 M15 _).trans (Entails.of_eq (held_none c M7 M8 M9 W1 W2 W3 M14 M15).symm)) $$ HX
    iexists w; iexact HO

end Cert.Kernel2Ideal.Gmm

end
-- ==== Proof.GmmWhole.lean ====
/- The slot buffers and semaphores of the expert call, taken apart by slot and put together again.

   A slot buffer is its two slots; the six semaphores are those of slot 0 and those of slot 1. -/
module

public import proofs.«01_k».proof.Proof.GmmPlan
public import Idealize.ShloMosaic.Lib.Pipeline.Frame

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## A slot buffer is its two slots -/

section Slots

variable {P Q : ℕ} (c : Dev nD) (B : Memref sig .tc .vmem (slabs 2 P Q) .f32) (hB : B.IsWhole)

omit [FloatOps F] in
theorem slots_disjoint : Disjoint (slotSet c B 0) (slotSet c B 1) := by
  unfold slotSet
  rw [Finset.disjoint_map, Finset.disjoint_left]
  intro i h0 h1
  rw [mem_layer] at h0 h1
  omega

omit [FloatOps F] in
include hB in
theorem slots_union : slotSet c B 0 ∪ slotSet c B 1 = Finset.univ := by
  unfold slotSet
  rw [← Finset.map_union, ← hB.set_eq_univ]
  refine congrArg (Finset.map B.view.emb) (Finset.eq_univ_of_forall fun i => ?_)
  have h : (i 0).val < 2 := (i 0).isLt
  rw [Finset.mem_union, mem_layer, mem_layer]
  omega

omit [FloatOps F] in
include hB in
theorem take_apart : iprop(∃ f : Bf (F := F) c B, B.view.loc (c : Thread nD τ) ↦{fullShare} f) ⊢ (iprop(slotAny c B 0 ∗ slotAny c B 1) : sProp 𝕄) := by
  unfold slotAny
  iintro ⟨%f, H⟩
  have e : (B.view.loc (c : Thread nD τ) ↦{fullShare} f : sProp 𝕄) ⊢ iprop((B.view.loc (c : Thread nD τ) ↦[slotSet c B 0]{fullShare} f) ∗ B.view.loc (c : Thread nD τ) ↦[slotSet c B 1]{fullShare} f) := by
    rw [← slots_union c B hB]
    exact (pointsTo_union (slots_disjoint c B)).1
  ihave H := e $$ H
  icases H with ⟨H0, H1⟩
  isplitl [H0]
  · iexists f; iexact H0
  · iexists f; iexact H1

omit [FloatOps F] in
include hB in
theorem put_together : (iprop(slotAny c B 0 ∗ slotAny c B 1) : sProp 𝕄) ⊢ iprop(∃ f : Bf (F := F) c B, B.view.loc (c : Thread nD τ) ↦{fullShare} f) := by
  unfold slotAny
  iintro ⟨⟨%f, H0⟩, ⟨%g, H1⟩⟩
  iexists ((slotSet c B 1).piecewise g f)
  have e : (iprop((B.view.loc (c : Thread nD τ) ↦[slotSet c B 0]{fullShare} f) ∗ B.view.loc (c : Thread nD τ) ↦[slotSet c B 1]{fullShare} g) : sProp 𝕄)
      ⊢ B.view.loc (c : Thread nD τ) ↦{fullShare} ((slotSet c B 1).piecewise g f) := by
    rw [← slots_union c B hB]
    exact pointsTo_join (slots_disjoint c B)
  iapply e
  isplitl [H0]; · iexact H0
  iexact H1

end Slots

/-! ## The six semaphores -/

/-- The call's own semaphores, slot by slot. -/
def osem : Fin 6 → SemLoc sig := fun k => SemLoc.dma (cell (k.val / 3) (k.val % 3))

omit [FloatOps F] in
theorem ownSemFacts : Pipeline.OwnSemFacts spec0 osem := by decide

omit [FloatOps F] in
theorem sems_eq (c : Dev nD) :
    (Pipeline.ownSems0 (Ix := Unit) (Name := ℕ) (U := UD sig nD τ) (Lvl := ℕ) (Val := Elt F) (τ := τ) osem c : sProp 𝕄)
      = iprop(semVal ((c : Thread nD τ), SemLoc.dma (cell 0 0)) 0 ∗ semVal ((c : Thread nD τ), SemLoc.dma (cell 0 1)) 0 ∗ semVal ((c : Thread nD τ), SemLoc.dma (cell 0 2)) 0
        ∗ semVal ((c : Thread nD τ), SemLoc.dma (cell 1 0)) 0 ∗ semVal ((c : Thread nD τ), SemLoc.dma (cell 1 1)) 0 ∗ semVal ((c : Thread nD τ), SemLoc.dma (cell 1 2)) 0) :=
  Pipeline.ownSems0_eq_of_list c osem [0, 1, 2, 3, 4, 5] (by decide) (by decide)

omit [FloatOps F] in
theorem held_three (c : Dev nD) (V : (c : Dev nD) → (b : Ref sig .tc) → Buf (Elt F) ((c : Thread nD τ).loc b)) :
    (bigSep ({main_arg2, main_arg3, main_arg4} : Finset (Ref sig .tc)) (fun b => ((c : Thread nD τ).loc b) ↦{fullShare} V c b) : sProp 𝕄)
      = iprop((((c : Thread nD τ).loc main_arg2) ↦{fullShare} V c main_arg2) ∗ (((c : Thread nD τ).loc main_arg3) ↦{fullShare} V c main_arg3)
        ∗ (((c : Thread nD τ).loc main_arg4) ↦{fullShare} V c main_arg4)) :=
  bigSep_eq_bigSepL_of_eq [main_arg2, main_arg3, main_arg4] (by decide) (by decide) _

/-! ## The state before the first block and after the last -/

section EndsOf

variable (c : Dev nD) (V : (c : Dev nD) → (b : Ref sig .tc) → Buf (Elt F) ((c : Thread nD τ).loc b))

/-- Nothing in flight, the scratch matrices at any contents. -/
def Rest : sProp 𝕄 :=
  iprop(Idle c (Memref.whole cc0_scratch0) (Memref.whole cc0_scratch1) (Memref.whole cc0_scratch2) (Memref.whole main_arg2) (Memref.whole main_arg3) (Memref.whole main_arg4)
      (V c main_arg2) (V c main_arg3) (V c main_arg4)
    ∗ ScrAny c (Memref.whole cc0_scratch3) (Memref.whole cc0_scratch4))

theorem ends_open : (Pipeline.ΦD osem spec0 {main_arg2, main_arg3, main_arg4} V c : sProp 𝕄) ⊢ iprop(Rest c V ∗ ∃ r, prngReg c r) := by
  rw [Pipeline.ΦD_eq, scopedRest0_eq, sems_eq, held_three]
  unfold Rest Idle SlotsAny Arrays Sems ScrAny
  iintro ⟨⟨B0, B1, B2, B3, B4⟩, Hp, ⟨S0, S1, S2, S3, S4, S5⟩, A0, A1, A2⟩
  ihave B0 := (take_apart (F := F) c (Memref.whole cc0_scratch0) (Memref.isWhole_whole _)) $$ B0
  ihave B1 := (take_apart (F := F) c (Memref.whole cc0_scratch1) (Memref.isWhole_whole _)) $$ B1
  ihave B2 := (take_apart (F := F) c (Memref.whole cc0_scratch2) (Memref.isWhole_whole _)) $$ B2
  icases B0 with ⟨B00, B01⟩
  icases B1 with ⟨B10, B11⟩
  icases B2 with ⟨B20, B21⟩
  isplitr [Hp]; swap; · iexact Hp
  isplitr [B3 B4]
  · isplitl [B00 B10 B20]
    · isplitl [B00]; · iexact B00
      isplitl [B10]; · iexact B10
      iexact B20
    isplitl [B01 B11 B21]
    · isplitl [B01]; · iexact B01
      isplitl [B11]; · iexact B11
      iexact B21
    isplitl [A0 A1 A2]
    · isplitl [A0]; · iexact A0
      isplitl [A1]; · iexact A1
      iexact A2
    isplitl [S0 S1 S2]
    · isplitl [S0]; · iexact S0
      isplitl [S1]; · iexact S1
      iexact S2
    isplitl [S3]; · iexact S3
    isplitl [S4]; · iexact S4
    iexact S5
  · isplitl [B3]; · iexact B3
    iexact B4

theorem ends_close : (iprop(Rest c V ∗ ∃ r, prngReg c r) : sProp 𝕄) ⊢ Pipeline.ΦD osem spec0 {main_arg2, main_arg3, main_arg4} V c := by
  rw [Pipeline.ΦD_eq, scopedRest0_eq, sems_eq, held_three]
  unfold Rest Idle SlotsAny Arrays Sems ScrAny
  iintro ⟨⟨⟨⟨B00, B10, B20⟩, ⟨B01, B11, B21⟩, ⟨A0, A1, A2⟩, ⟨S0, S1, S2⟩, S3, S4, S5⟩, B3, B4⟩, Hp⟩
  isplitl [B00 B10 B20 B01 B11 B21 B3 B4]
  · isplitl [B00 B01]
    · iapply (put_together (F := F) c (Memref.whole cc0_scratch0) (Memref.isWhole_whole _))
      isplitl [B00]; · iexact B00
      iexact B01
    isplitl [B10 B11]
    · iapply (put_together (F := F) c (Memref.whole cc0_scratch1) (Memref.isWhole_whole _))
      isplitl [B10]; · iexact B10
      iexact B11
    isplitl [B20 B21]
    · iapply (put_together (F := F) c (Memref.whole cc0_scratch2) (Memref.isWhole_whole _))
      isplitl [B20]; · iexact B20
      iexact B21
    isplitl [B3]; · iexact B3
    iexact B4
  isplitl [Hp]; · iexact Hp
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [A0]; · iexact A0
  isplitl [A1]; · iexact A1
  iexact A2

end EndsOf

end Cert.Kernel2Ideal.Gmm

end
-- ==== Proof.GmmLaunch.lean ====
/- The expert call's run: 96 grid points over the block's run, from the tables the host operations leave.

   `tables` are the five tables as the call finds them; the run is stated for tables that are `Good`. -/
module

public import proofs.«01_k».proof.Proof.GmmWhole
public import Idealize.ShloMosaic.Lib.Pipeline.FrameBody

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Pipeline (Dat BodyObligation)

variable {F : FTy → Type} [FloatOps F]

local notation "𝕄" => MT nD τ sig Unit (Elt F) ℕ (UD sig nD τ) ℕ

/- The buffers as the call finds them. -/
variable (V : (c : Dev nD) → (b : Ref sig .tc) → Buf (Elt F) ((c : Thread nD τ).loc b))

/-! ## The tables the call finds -/

/-- The five tables. -/
def tables : pre0.Contents (Elt F) := fun k => V 0 (pre0.ref k)

def be (t : ℕ) : BitVec 32 := (V 0 main_v15 : S96.Idx → Elt F .i32) (place t)
def nu : BitVec 32 := (V 0 main_v16 : S1.Idx → Elt F .i32) only
def fs (t : ℕ) : BitVec 32 := (V 0 main_v22 : S96.Idx → Elt F .i32) (place t)
def sl (t : ℕ) : BitVec 32 := (V 0 main_v26 : S96.Idx → Elt F .i32) (place t)
def nx (t : ℕ) : BitVec 32 := (V 0 main_v50 : S96.Idx → Elt F .i32) (place t)

/-- The tables as the call finds them describe a run of experts. -/
def Ready : Prop := Good (be V) (fs V) (sl V) (nx V) (nu V).toNat

/-! ## The fetched blocks are inside the array -/

theorem clamp_le (t : ℕ) (ht : t < 96) (v : BitVec 32) : (Scalar.maxsi (Scalar.minsi (BitVec.ofNat 32 t) v) 0#32).toNat ≤ 95 := by
  have e : (BitVec.ofNat 32 t).toNat = t := by rw [BitVec.toNat_ofNat]; omega
  have hz : (0#32 : BitVec 32).toInt = 0 := rfl
  have z : (BitVec.ofNat 32 t).toInt = t := by rw [BitVec.toInt_eq_toNat_cond, e]; split <;> omega
  have mx : ∀ w : BitVec 32, Scalar.maxsi w 0#32 = if (0#32 : BitVec 32).slt w = true then w else 0#32 := fun _ => rfl
  have mn : Scalar.minsi (BitVec.ofNat 32 t) v = if (BitVec.ofNat 32 t).slt v = true then BitVec.ofNat 32 t else v := rfl
  rw [mx, mn]
  simp only [BitVec.slt_iff_toInt_lt]
  have hv := BitVec.toInt_eq_toNat_cond (x := v)
  have hlt := v.isLt
  rw [hz, z]
  by_cases h2 : (t : ℤ) < v.toInt
  · rw [if_pos h2]; split
    · rw [e]; omega
    · simp
  · rw [if_neg h2]; split
    · split at hv <;> omega
    · simp

theorem ok_tables : ok0 (tables V) := fun i => by
  refine ⟨fun a => ?_, Or.inl rfl⟩
  have h := clamp_le (i 0).val (point_lt i) (Scalar.subi ((tables V).at 1 (Rect.unit (s := S1) ![0] S1.size inb_S1_S1_0) numel1_S1) 1#32)
  fin_cases a
  · show ((Scalar.maxsi (Scalar.minsi (BitVec.ofNat 32 (i 0).val) (Scalar.subi ((tables V).at 1 (Rect.unit (s := S1) ![0] S1.size inb_S1_S1_0) numel1_S1) 1#32)) 0#32).toNat + 1) * 4096 ≤ 393216
    omega
  · show (0 + 1) * 128 ≤ 128
    omega

/-- The tables, with the blocks they name inside the array. -/
def adm : (pcfg0 (F := F)).Adm := ⟨tables V, ok_tables V⟩

/-! ## The proof data -/

/-- Point `t`'s staged block of window `w`. -/
def iblk (c : Dev nD) (w : Fin 2) (t : Fin (cfg0 (adm V)).N) : ((cfg0 (adm V)).win w).block.Idx → Elt F ((cfg0 (adm V)).win w).elt :=
  (((cfg0 (adm V)).win w).blk t).view.read (Elt F) (V c (Pipeline.arrRef spec0 w))

/-- The block point `t` leaves. -/
def outBlock (c : Dev nD) (t : Fin (cfg0 (adm V)).N) : S4096x128.Idx → Elt F .f32 :=
  blockOut (V c main_arg2) (V c main_arg3) (V c main_arg4) (iblk V c 0 t) (be V) (nu V).toNat t.val

/-- What passes from point to point. -/
def Inv (c : Dev nD) (t : ℕ) : sProp 𝕄 :=
  iprop(Streams c (Memref.whole cc0_scratch0) (Memref.whole cc0_scratch1) (Memref.whole cc0_scratch2) (Memref.whole main_arg2) (Memref.whole main_arg3) (Memref.whole main_arg4)
      (V c main_arg2) (V c main_arg3) (V c main_arg4) (inFlight (sl V) (nx V) (nu V).toNat t)
    ∗ Held c (Memref.whole main_arg2) (Memref.whole main_arg3) (Memref.whole main_arg4) (V c main_arg2) (V c main_arg3) (V c main_arg4)
      (Memref.whole cc0_scratch3) (Memref.whole cc0_scratch4) (atHand (be V) (nu V).toNat t)
    ∗ Pipeline.ΦT pre0 (tables V) c ∗ ∃ r, prngReg c r)

def dats (_ : Fin 1) (c : Dev nD) : Dat τ (Elt F) Unit ℕ (UD sig nD τ) ℕ (cfg0 (adm V)) c where
  A w := V c (Pipeline.arrRef spec0 w)
  after w t := match w with
    | ⟨0, _⟩ => iblk V c 0 t
    | ⟨1, _⟩ => outBlock V c t
  Φ t := Inv V c t.val
  q _ := fullShare
  owed _ := 0

theorem before_0 (c : Dev nD) (t : Fin (cfg0 (adm V)).N) (d) : (dats V 0 c).before 0 t d = iblk V c 0 t :=
  ((dats V 0 c).before_in_eq_fetched 0 rfl (fun _ => rfl) (fun _ _ _ => rfl) (fun _ => rfl) t d).trans rfl

omit [FloatOps F] in
/-- A whole memref owned at contents `X`: its buffer whole, at contents that read `X`. -/
theorem owned_whole (c : Dev nD) {sp : Space} {S : Shape} {e : EltTy} (M : Memref sig .tc sp S e) (h : M.IsWhole) (X : S.Idx → Elt F e) :
    (owns (c : Thread nD τ) M fullShare X : sProp 𝕄)
      = iprop(∃ f, ⌜M.view.read (Elt F) f = X⌝ ∗ (M.view.loc (c : Thread nD τ) ↦{fullShare} f)) := by
  unfold owns; rw [h.set_eq_univ]

theorem tables_eq :
    (Pipeline.ΦT pre0 (tables V) 0 : sProp 𝕄)
      = iprop((((0 : Dev nD) : Thread nD τ).loc main_v15 ↦{fullShare.right} V 0 main_v15) ∗ (((0 : Dev nD) : Thread nD τ).loc main_v16 ↦{fullShare.right} V 0 main_v16)
        ∗ (((0 : Dev nD) : Thread nD τ).loc main_v22 ↦{fullShare.right} V 0 main_v22) ∗ (((0 : Dev nD) : Thread nD τ).loc main_v26 ↦{fullShare.right} V 0 main_v26)
        ∗ (((0 : Dev nD) : Thread nD τ).loc main_v50 ↦{fullShare.right} V 0 main_v50)) :=
  bigSep_univ_eq_bigSepL [(0 : Fin 5), 1, 2, 3, 4] (by decide) (by decide) _

theorem coord_0 : ∀ t : Fin grid0.N, (grid0.coords t 0).val = t.val := by decide +kernel

theorem t_lt (t : Fin (cfg0 (adm V)).N) : t.val < 96 := lt_of_lt_of_eq t.isLt N_0

theorem only_eq (i : S1.Idx) : i = only := funext fun a => Fin.ext (by
  fin_cases a
  have h : (i 0).val < 1 := (i 0).isLt
  have h' : (only 0).val < 1 := (only 0).isLt
  show (i 0).val = (only 0).val
  omega)

/-- Every point stores its block. -/
theorem stores (hr : Ready V) (i : grid0.Coords) : idle0 (tables V) 1 i = false := by
  have e : (tables V).atD 1 ![0] = nu V := by
    unfold Pipeline.Prefetch.Contents.atD
    refine (dif_pos (show ∀ a : Fin 1, (![0] : Fin 1 → ℕ) a + 1 ≤ S1.size a by decide)).trans ?_
    exact congrArg (V 0 main_v16 : S1.Idx → Elt F .i32) (only_eq _)
  show (!(k0_cond1 i ((tables V).atD 1 ![0]) == 1#1) && !(k0_cond5 i ((tables V).atD 1 ![0]) == 1#1)) = false
  rw [e]
  by_cases h : (i 0).val < (nu V).toNat
  · rw [(live_iff i (nu V) _ rfl hr.le).mpr h]; rfl
  · rw [(dead_iff i (nu V) _ rfl hr.le).mpr (by omega), Bool.and_comm]; rfl

set_option maxRecDepth 16384 in
set_option maxHeartbeats 1000000 in
/-- One grid point against the invariant, its staged blocks named. -/
theorem point_step [∀ e, Nonempty (Elt F e)] (hr : Ready V) (t : Fin (cfg0 (adm V)).N)
    (M : Memref sig .tc .vmem S4096x128 .f32) (w0 : M.IsWhole) (M' : Memref sig .tc .vmem S4096x128 .f32) (w1 : M'.IsWhole) {T : Type} (X : T → S4096x128.Idx → Elt F .f32) (hX : ∀ d, X d = iblk V 0 0 t) {T' : Type} (Y : T' → S4096x128.Idx → Elt F .f32) :
    iprop(Inv V 0 t.val ∗ (dats V 0 0).owesAt () t.castSucc ∗ (∃ d, owns ((0 : Dev nD) : Thread nD τ) M fullShare (X d)) ∗ (∃ d, owns ((0 : Dev nD) : Thread nD τ) M' fullShare (Y d)))
      ⊢ wp frame (wpE (defs₀ (F := F)) Variants.none ((0 : Dev nD) : Thread nD τ) none) Set.univ
          (cc0_moe_gmm (grid0.coords t) (Memref.whole main_v15) (Memref.isWhole_whole _) (Memref.whole main_v16) (Memref.isWhole_whole _) (Memref.whole main_v22) (Memref.isWhole_whole _) (Memref.whole main_v26) (Memref.isWhole_whole _) (Memref.whole main_v50) (Memref.isWhole_whole _)
    M w0 (Memref.whole main_arg2) (Memref.isWhole_whole _) (Memref.whole main_arg3) (Memref.isWhole_whole _) (Memref.whole main_arg4) (Memref.isWhole_whole _)
    M' w1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
          fun _ => iprop(Inv V 0 (t.val + 1) ∗ (dats V 0 0).owesAt () t.succ ∗ owns ((0 : Dev nD) : Thread nD τ) M fullShare (iblk V 0 0 t) ∗ owns ((0 : Dev nD) : Thread nD τ) M' fullShare (outBlock V 0 t)) := by
  have ht := t_lt V t
  unfold Dat.owesAt Pipeline.owesWithin Inv
  rw [show (dats V 0 0).owed t.castSucc = 0 from rfl, show (dats V 0 0).owed t.succ = 0 from rfl, tables_eq]
  simp only [owned_whole _ _ w0, owned_whole _ _ w1]
  iintro ⟨⟨HS, HH, ⟨T0, T1, T2, T3, T4⟩, Hp⟩, ⟨%W, %hW, HO⟩, ⟨%d0, %f0, %hf0, H0⟩, ⟨%d1, %f1, %hf1, H1⟩⟩
  rw [hX d0] at hf0
  have hp := run_point (F := F) 0 (grid0.coords t) (Memref.whole main_v15) (Memref.isWhole_whole _) (Memref.whole main_v16) (Memref.isWhole_whole _) (Memref.whole main_v22) (Memref.isWhole_whole _) (Memref.whole main_v26) (Memref.isWhole_whole _) (Memref.whole main_v50) (Memref.isWhole_whole _)
    M w0 (Memref.whole main_arg2) (Memref.isWhole_whole _) (Memref.whole main_arg3) (Memref.isWhole_whole _) (Memref.whole main_arg4) (Memref.isWhole_whole _)
    M' w1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (V 0 main_v15) (V 0 main_v16) (V 0 main_v22) (V 0 main_v26) (V 0 main_v50) f0 (V 0 main_arg2) (V 0 main_arg3) (V 0 main_arg4) f1
    fullShare.right fullShare.right fullShare.right fullShare.right fullShare.right fullShare cc0_scratch5 rfl
    (U := (nu V).toNat) rfl hr W
  rw [coord_0 t] at hp
  rw [show word (Memref.whole main_v15) (c := 0) (V 0 main_v15) = be V from rfl, show word (Memref.whole main_v26) (c := 0) (V 0 main_v26) = sl V from rfl,
    show word (Memref.whole main_v50) (c := 0) (V 0 main_v50) = nx V from rfl] at hp
  iapply (hp _)
  isplitl [T0]; · iexact T0
  isplitl [T1]; · iexact T1
  isplitl [T2]; · iexact T2
  isplitl [T3]; · iexact T3
  isplitl [T4]; · iexact T4
  isplitl [H0]; · iexact H0
  isplitl [H1]; · iexact H1
  isplitl [HS]; · iexact HS
  isplitl [HH]; · iexact HH
  isplitl [HO]; · iapply (Entails.of_eq (show (owes ((0 : Dev nD) : Thread nD τ) 0 W : sProp 𝕄) = Owed 0 W from rfl)) $$ HO
  iintro ⟨T0, T1, T2, T3, T4, H0, ⟨%f', %hf', H1⟩, HS, HH, ⟨%W', HO⟩⟩
  isplitl [HS HH T0 T1 T2 T3 T4 Hp]
  · isplitl [HS]; · iexact HS
    isplitl [HH]; · iexact HH
    isplitl [T0 T1 T2 T3 T4]
    · isplitl [T0]; · iexact T0
      isplitl [T1]; · iexact T1
      isplitl [T2]; · iexact T2
      isplitl [T3]; · iexact T3
      iexact T4
    iexact Hp
  isplitl [HO]
  · iexists W'; isplitr; · ipureintro; exact fun _ _ => Or.inl trivial
    iapply (Entails.of_eq (show (Owed 0 W' : sProp 𝕄) = owes ((0 : Dev nD) : Thread nD τ) 0 W' from rfl)) $$ HO
  isplitl [H0]
  · iexists f0; isplitr; swap; (· iexact H0); ipureintro; exact hf0
  · iexists f'; isplitr; swap; (· iexact H1); ipureintro
    refine hf'.trans ?_
    rw [hf0]; rfl

set_option maxRecDepth 16384 in
/-- Every grid point against the invariant. -/
theorem body_obligation [∀ e, Nonempty (Elt F e)] (hr : Ready V) (c : Dev nD) :
    BodyObligation (dats V 0 c) (defs₀ (F := F)) Variants.none () Set.univ := fun t => by
  obtain rfl : c = 0 := Subsingleton.elim _ _
  have hi : (cfg0 (adm V)).idle 1 ((cfg0 (adm V)).grid.coords t) = false := stores V hr _
  rw [bigSep_W0, bigSep_W0]
  erw [hi]
  exact point_step V hr t _ (stage_whole0 0 _) _ (stage_whole0 1 _) _ (before_0 V 0 t) _

/-! ## The invariant's ends -/

theorem inv_first (c : Dev nD) : iprop(Pipeline.ΦD osem spec0 {main_arg2, main_arg3, main_arg4} V c ∗ Pipeline.ΦT pre0 (tables V) c) ⊢ (Inv V c 0 : sProp 𝕄) := by
  unfold Inv
  rw [show inFlight (sl V) (nx V) (nu V).toNat 0 = none from if_pos (Or.inl rfl), show atHand (be V) (nu V).toNat 0 = none from if_pos (Or.inl rfl)]
  iintro ⟨HD, HT⟩
  ihave HD := (ends_open c V) $$ HD
  unfold Rest
  icases HD with ⟨⟨HI, HA⟩, Hp⟩
  isplitl [HI]; · iapply (Entails.of_eq (streams_none c _ _ _ _ _ _ _ _ _).symm) $$ HI
  isplitl [HA]; · iapply (Entails.of_eq (held_none c _ _ _ _ _ _ _ _).symm) $$ HA
  isplitl [HT]; · iexact HT
  iexact Hp

theorem inv_last (hr : Ready V) (c : Dev nD) : (Inv V c 96 : sProp 𝕄) ⊢ Pipeline.ΦD osem spec0 {main_arg2, main_arg3, main_arg4} V c := by
  have hle := hr.le
  unfold Inv
  rw [show inFlight (sl V) (nx V) (nu V).toNat 96 = none from if_pos (Or.inr hle)]
  iintro ⟨HS, HH, -, Hp⟩
  iapply (ends_close c V)
  unfold Rest
  isplitr [Hp]; swap; · iexact Hp
  isplitl [HS]; · iapply (Entails.of_eq (streams_none c _ _ _ _ _ _ _ _ _)) $$ HS
  iapply (held_any c _ _ _ _ _ _ _ _ _) $$ HH

/-! ## The launch -/

theorem read_rest : ({main_arg2, main_arg3, main_arg4} : Finset (Ref sig .tc)) ⊆ Pipeline.restRefsP sig pre0 spec0 := by decide

/-- From any memory with zero counters whose tables describe a run of experts: every weakly fair execution terminates, the
    result at its blocks, the rest as the call found it, every counter at zero. -/
theorem run_call [∀ e, Nonempty (Elt F e)] (hr : Ready V) (m : (ℓ : Loc nD τ sig) → Buf (Elt F) ℓ) (ρ : Dev nD → PrngReg)
    (hmain : Pipeline.HMainP (Ix := Unit) (Name := ℕ) (U := UD sig nD τ) (Lvl := ℕ) pcfgs 0 (defs₀ (F := F)) Variants.none m main V) :
    θ_run defs (onTc (τ := τ) (main (F := F))) (s₀ m ρ)
      (fun r => Pipeline.FramePost (Pipeline.pin pcfgs fun _ => adm V) (dats V) 0 V r ∧ r.2.sem = fun _ => 0) :=
  Pipeline.θ_run_frameP_dma pcfgs (fun _ => adm V) (dats V) 0 launch0 osem defs₀ Variants.none ownSemFacts {main_arg2, main_arg3, main_arg4} read_rest m ρ main
    (hbody := fun c => (body_obligation V hr c).loose) (hshare := fun c => (dats V 0 c).share_full fun _ => rfl)
    (howed := fun _ _ => rfl) (V := V) (hmain := hmain)
    (hA := fun _ _ => rfl) (hpf := fun c k => by rw [Subsingleton.elim c 0]; rfl)
    (hin := fun c => inv_first V c) (hout := fun c => inv_last V hr c) (Q' := _)

theorem rest_of (b : Ref sig .tc) (hs : b.isScoped = false) (h : ∀ w : Fin 2, (spec0 w).arr.view.ref ≠ b) : b ∈ Pipeline.restRefs sig spec0 :=
  Pipeline.mem_restRefs_of b hs h

/-- The call's run at the buffers a reader names. -/
theorem run_named [∀ e, Nonempty (Elt F e)] (hr : Ready V) (m : (ℓ : Loc nD τ sig) → Buf (Elt F) ℓ) (ρ : Dev nD → PrngReg)
    (hmain : Pipeline.HMainP (Ix := Unit) (Name := ℕ) (U := UD sig nD τ) (Lvl := ℕ) pcfgs 0 (defs₀ (F := F)) Variants.none m main V) :
    θ_run defs (onTc (τ := τ) (main (F := F))) (s₀ m ρ) (fun r => (∀ c : Dev nD,
        r.2.mem ((c : Thread nD τ).loc main_v51) = (dats V 0 c).arrAt 1 (cfg0 (adm V)).N
        ∧ r.2.mem ((c : Thread nD τ).loc main_arg0) = V c main_arg0
        ∧ r.2.mem ((c : Thread nD τ).loc main_arg1) = V c main_arg1
        ∧ r.2.mem ((c : Thread nD τ).loc main_arg2) = V c main_arg2
        ∧ r.2.mem ((c : Thread nD τ).loc main_arg3) = V c main_arg3
        ∧ r.2.mem ((c : Thread nD τ).loc main_arg4) = V c main_arg4) ∧ r.2.sem = fun _ => 0) := by
  refine (θ_run defs _ _).mono (fun r h => ⟨fun c => ⟨?_, ?_, ?_, ?_, ?_, ?_⟩, h.2⟩) (run_call V hr m ρ hmain)
  · exact (h.1 c).1 1
  · exact (h.1 c).2 main_arg0 (rest_of main_arg0 (by decide) (by decide))
  · exact ((h.1 c).1 0).trans ((dats V 0 c).arrAt_in 0 rfl _)
  · exact (h.1 c).2 main_arg2 (rest_of main_arg2 (by decide) (by decide))
  · exact (h.1 c).2 main_arg3 (rest_of main_arg3 (by decide) (by decide))
  · exact (h.1 c).2 main_arg4 (rest_of main_arg4 (by decide) (by decide))

end Cert.Kernel2Ideal.Gmm

end
-- ==== Proof.GmmHost.lean ====
/- The host operations before the expert call: what the call finds, and the arguments it finds as launched. -/
module

public import proofs.«01_k».proof.Proof.GmmLaunch

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The operations before the call, part by part. -/
abbrev hostParts : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- The buffers as the call finds them. -/
def V (c : Dev nD) (b : Ref sig .tc) : Buf (Elt F) ((c : Thread nD τ).loc b) := StableHlo.after (hostParts (F := F)).flatten (fun b => m (c, b)) b

theorem fresh_0 : (hostOps0 : List (HloOp τ sig (Elt F))).Forall fun op => op.fresh = ∅ := by simp only [List.Forall]; repeat' constructor
theorem fresh_1 : (hostOps0_1 : List (HloOp τ sig (Elt F))).Forall fun op => op.fresh = ∅ := by simp only [List.Forall]; repeat' constructor
theorem fresh_2 : (hostOps0_2 : List (HloOp τ sig (Elt F))).Forall fun op => op.fresh = ∅ := by simp only [List.Forall]; repeat' constructor
theorem fresh_3 : (hostOps0_3 : List (HloOp τ sig (Elt F))).Forall fun op => op.fresh = ∅ := by simp only [List.Forall]; repeat' constructor
theorem fresh_4 : (hostOps0_4 : List (HloOp τ sig (Elt F))).Forall fun op => op.fresh = ∅ := by simp only [List.Forall]; repeat' constructor
theorem fresh_5 : (hostOps0_5 : List (HloOp τ sig (Elt F))).Forall fun op => op.fresh = ∅ := by simp only [List.Forall]; repeat' constructor
theorem fresh_6 : (hostOps0_6 : List (HloOp τ sig (Elt F))).Forall fun op => op.fresh = ∅ := by simp only [List.Forall]; repeat' constructor
theorem fresh_7 : (hostOps0_7 : List (HloOp τ sig (Elt F))).Forall fun op => op.fresh = ∅ := by simp only [List.Forall]; repeat' constructor
theorem fresh_8 : (hostOps0_8 : List (HloOp τ sig (Elt F))).Forall fun op => op.fresh = ∅ := by simp only [List.Forall]; repeat' constructor
theorem fresh_9 : (hostOps0_9 : List (HloOp τ sig (Elt F))).Forall fun op => op.fresh = ∅ := by simp only [List.Forall]; repeat' constructor
theorem fresh_10 : (hostOps0_10 : List (HloOp τ sig (Elt F))).Forall fun op => op.fresh = ∅ := by simp only [List.Forall]; repeat' constructor
theorem fresh_11 : (hostOps0_11 : List (HloOp τ sig (Elt F))).Forall fun op => op.fresh = ∅ := by simp only [List.Forall]; repeat' constructor
theorem fresh_12 : (hostOps0_12 : List (HloOp τ sig (Elt F))).Forall fun op => op.fresh = ∅ := by simp only [List.Forall]; repeat' constructor
theorem fresh_13 : (hostOps0_13 : List (HloOp τ sig (Elt F))).Forall fun op => op.fresh = ∅ := by simp only [List.Forall]; repeat' constructor
theorem fresh_14 : (hostOps0_14 : List (HloOp τ sig (Elt F))).Forall fun op => op.fresh = ∅ := by simp only [List.Forall]; repeat' constructor
theorem fresh_15 : (hostOps0_15 : List (HloOp τ sig (Elt F))).Forall fun op => op.fresh = ∅ := by simp only [List.Forall]; repeat' constructor

theorem main_run : Pipeline.HMainP (Ix := Unit) (Name := ℕ) (U := UD sig nD τ) (Lvl := ℕ) pcfgs 0 (defs₀ (F := F)) Variants.none m main (V m) :=
  Pipeline.hmainP_prefixes pcfgs 0 defs₀ Variants.none m main hostParts ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩ ⟨fresh_0, fresh_1, fresh_2, fresh_3, fresh_4, fresh_5, fresh_6, fresh_7, fresh_8, fresh_9, fresh_10, fresh_11, fresh_12, fresh_13, fresh_14, fresh_15⟩ main_chain

/-! ## The arguments are as launched -/

theorem V_of_not_written (c : Dev nD) (b : Ref sig .tc) (h : ∀ op ∈ (hostParts (F := F)).flatten, Proc.devRef .tc b ∉ op.writes) :
    V m c b = m ((c : Thread nD τ).loc b) := StableHlo.after_of_forall_not_mem (b := Proc.devRef .tc b) _ _ h

theorem V_main_arg0 (c : Dev nD) : V m c main_arg0 = m ((c : Thread nD τ).loc main_arg0) :=
  V_of_not_written m c main_arg0 (List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  V_of_not_written m c main_arg1 (List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  V_of_not_written m c main_arg2 (List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  V_of_not_written m c main_arg3 (List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  V_of_not_written m c main_arg4 (List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel2Ideal.Gmm

end
-- ==== Proof.GmmReads.lean ====
/- Each part of the table-making code before the expert call, read by itself: what it leaves in the buffers later parts use, over any contents it starts from. -/
module

public import proofs.«01_k».proof.Proof.GmmHost
public import Idealize.ShloMosaic.Lib.StableHlo.RunRead
public import Idealize.ShloMosaic.Lib.Routing.Model

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Routing (pyDiv pyRem)

variable {F : FTy → Type} [FloatOps F]

local notation "𝕄" => MT nD τ sig Unit (Elt F) ℕ (UD sig nD τ) ℕ

variable (W : Valuation τ sig (Elt F))

/-- Counts plus 511. -/
theorem read_v3 : (StableHlo.after (hostOps0 (F := F)) W (Proc.devRef .tc main_v3) : IVec S32 32) = subi (addi (W (Proc.devRef .tc main_arg0)) (broadcastInDim S32 ![] bcast_S_S32 (constantI S_ 32 512#32))) (broadcastInDim S32 ![] bcast_S_S32 (constantI S_ 32 1#32)) := by
  after_reads_simp
  try simp only [StableHlo.TRef.ofBuf, StableHlo.TRef.toBuf, cast_eq, id_eq]
  try rfl

/-- The block size. -/
theorem read_c_1 : (StableHlo.after (hostOps0 (F := F)) W (Proc.devRef .tc main_c_1) : IVec S_ 32) = (constantI S_ 32 512#32) := by
  after_reads_simp
  try simp only [StableHlo.TRef.ofBuf, StableHlo.TRef.toBuf, cast_eq, id_eq]
  try rfl

/-- Blocks per expert: a floor division. -/
theorem read_v4 : (StableHlo.after (hostOps0_1 (F := F)) W (Proc.devRef .tc main_v4) : IVec S32 32) = pyDiv bcast_S_S32 (W (Proc.devRef .tc main_v3)) (W (Proc.devRef .tc main_c_1)) := by
  after_reads_simp
  try simp only [StableHlo.TRef.ofBuf, StableHlo.TRef.toBuf, cast_eq, id_eq]
  try rfl

/-- The first block past each expert: a running sum. -/
theorem read_v5 : (StableHlo.after (hostOps0_2 (F := F)) W (Proc.devRef .tc main_v5) : IVec S32 32) = Host.reduceWindow IntOp.addi ![32] ![1] ![31] ![0] (W (Proc.devRef .tc main_v4)) (broadcastInDim S_ ![] bcast_S_S_ (constantI S_ 32 0#32)) reduceWindows_S32_S32_w32s1p31_0 h_S_ := by
  after_reads_simp
  try simp only [StableHlo.TRef.ofBuf, StableHlo.TRef.toBuf, cast_eq, id_eq]
  try rfl

/-- Block numbers. -/
theorem read_v6 : (StableHlo.after (hostOps0_3 (F := F)) W (Proc.devRef .tc main_v6) : IVec S96 32) = iotaInDim S96 32 0 := by
  after_reads_simp
  try simp only [StableHlo.TRef.ofBuf, StableHlo.TRef.toBuf, cast_eq, id_eq]
  try rfl

/-- Each block's expert: the experts that end at or before it, counted, at most 31. -/
theorem read_v15 : (StableHlo.after (hostOps0_3 (F := F)) W (Proc.devRef .tc main_v15) : IVec S96 32) = minsi (Host.reduce IntOp.addi (extui 32 (cmpi .sle (broadcastInDim S96x32 ![0, 1] bcast_S1x32_S96x32_0_1 (broadcastInDim S1x32 ![1] bcast_S32_S1x32_1 (W (Proc.devRef .tc main_v5) : IVec S32 32))) (broadcastInDim S96x32 ![0, 1] bcast_S96x1_S96x32_0_1 (broadcastInDim S96x1 ![0] bcast_S96_S96x1_0 (iotaInDim S96 32 0)))) natLt_1_32) (constantI S_ 32 0#32) reducesTo_S96x32_S96_d1 h_S_) (broadcastInDim S96 ![] bcast_S_S96 (constantI S_ 32 31#32)) := by
  after_reads_simp
  try simp only [StableHlo.TRef.ofBuf, StableHlo.TRef.toBuf, cast_eq, id_eq]
  try rfl

/-- The blocks in all. -/
theorem read_v16 : (StableHlo.after (hostOps0_3 (F := F)) W (Proc.devRef .tc main_v16) : IVec S1 32) = extractStridedSlice S1 ![31] (W (Proc.devRef .tc main_v5) : IVec S32 32) slices_S32_S1_31 := by
  after_reads_simp
  try simp only [StableHlo.TRef.ofBuf, StableHlo.TRef.toBuf, cast_eq, id_eq]
  try rfl

/-- Whether a block is block 0. -/
theorem read_v18 : (StableHlo.after (hostOps0_3 (F := F)) W (Proc.devRef .tc main_v18) : IVec S96 1) = cmpi .eq (iotaInDim S96 32 0) (broadcastInDim S96 ![] bcast_S_S96 (constantI S_ 32 0#32)) := by
  after_reads_simp
  try simp only [StableHlo.TRef.ofBuf, StableHlo.TRef.toBuf, cast_eq, id_eq]
  try rfl

/-- The experts of the blocks, rolled by one. -/
theorem read_v19 : (StableHlo.after (hostOps0_4 (F := F)) W (Proc.devRef .tc main_v19) : IVec S96 32) = concatenate S96 0 [⟨S1, extractStridedSlice S1 ![95] (W (Proc.devRef .tc main_v15) : IVec S96 32) slices_S96_S1_95⟩, ⟨S95, extractStridedSlice S95 ![0] (W (Proc.devRef .tc main_v15) : IVec S96 32) slices_S96_S95_0⟩] concatenates_S1_S95_S96_d0 := by
  after_reads_simp
  try simp only [StableHlo.TRef.ofBuf, StableHlo.TRef.toBuf, cast_eq, id_eq]
  try rfl

/-- Whether a block is the first of its expert. -/
theorem read_v22 : (StableHlo.after (hostOps0_5 (F := F)) W (Proc.devRef .tc main_v22) : IVec S96 32) = extui 32 (ori (W (Proc.devRef .tc main_v18)) (cmpi .ne (W (Proc.devRef .tc main_v15) : IVec S96 32) (W (Proc.devRef .tc main_v19)))) natLt_1_32 := by
  after_reads_simp
  try simp only [StableHlo.TRef.ofBuf, StableHlo.TRef.toBuf, cast_eq, id_eq]
  try rfl

/-- Experts opened up to each block. -/
theorem read_v23 : (StableHlo.after (hostOps0_6 (F := F)) W (Proc.devRef .tc main_v23) : IVec S96 32) = Host.reduceWindow IntOp.addi ![96] ![1] ![95] ![0] (W (Proc.devRef .tc main_v22)) (broadcastInDim S_ ![] bcast_S_S_ (constantI S_ 32 0#32)) reduceWindows_S96_S96_w96s1p95_0 h_S_ := by
  after_reads_simp
  try simp only [StableHlo.TRef.ofBuf, StableHlo.TRef.toBuf, cast_eq, id_eq]
  try rfl

/-- The same less one. -/
theorem read_v25 : (StableHlo.after (hostOps0_7 (F := F)) W (Proc.devRef .tc main_v25) : IVec S96 32) = subi (W (Proc.devRef .tc main_v23)) (broadcastInDim S96 ![] bcast_S_S96 (constantI S_ 32 1#32)) := by
  after_reads_simp
  try simp only [StableHlo.TRef.ofBuf, StableHlo.TRef.toBuf, cast_eq, id_eq]
  try rfl

/-- The number of slots. -/
theorem read_c_6 : (StableHlo.after (hostOps0_7 (F := F)) W (Proc.devRef .tc main_c_6) : IVec S_ 32) = (constantI S_ 32 2#32) := by
  after_reads_simp
  try simp only [StableHlo.TRef.ofBuf, StableHlo.TRef.toBuf, cast_eq, id_eq]
  try rfl

/-- The slot of each block: a remainder. -/
theorem read_v26 : (StableHlo.after (hostOps0_8 (F := F)) W (Proc.devRef .tc main_v26) : IVec S96 32) = pyRem bcast_S_S96 (W (Proc.devRef .tc main_v25)) (W (Proc.devRef .tc main_c_6)) := by
  after_reads_simp
  try simp only [StableHlo.TRef.ofBuf, StableHlo.TRef.toBuf, cast_eq, id_eq]
  try rfl

/-- Expert numbers. -/
theorem read_v27 : (StableHlo.after (hostOps0_9 (F := F)) W (Proc.devRef .tc main_v27) : IVec S32 32) = iotaInDim S32 32 0 := by
  after_reads_simp
  try simp only [StableHlo.TRef.ofBuf, StableHlo.TRef.toBuf, cast_eq, id_eq]
  try rfl

/-- Whether the expert of the column is later than that of the row and has a block. -/
theorem read_v37 : (StableHlo.after (hostOps0_9 (F := F)) W (Proc.devRef .tc main_v37) : IVec S32x32 1) = andi (cmpi .sgt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![0, 1] bcast_S1x32_S32x32_0_1 (cmpi .sgt (broadcastInDim S1x32 ![1] bcast_S32_S1x32_1 (W (Proc.devRef .tc main_v4) : IVec S32 32)) (broadcastInDim S1x32 ![] bcast_S_S1x32 (constantI S_ 32 0#32)))) := by
  after_reads_simp
  try simp only [StableHlo.TRef.ofBuf, StableHlo.TRef.toBuf, cast_eq, id_eq]
  try rfl

/-- Whether there is such an expert. -/
theorem read_v38 : (StableHlo.after (hostOps0_9 (F := F)) W (Proc.devRef .tc main_v38) : IVec S32 1) = Host.reduce IntOp.ori (andi (cmpi .sgt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![0, 1] bcast_S1x32_S32x32_0_1 (cmpi .sgt (broadcastInDim S1x32 ![1] bcast_S32_S1x32_1 (W (Proc.devRef .tc main_v4) : IVec S32 32)) (broadcastInDim S1x32 ![] bcast_S_S1x32 (constantI S_ 32 0#32))))) (constantI S_ 1 0#1) reducesTo_S32x32_S32_d1 h_S_ := by
  after_reads_simp
  try simp only [StableHlo.TRef.ofBuf, StableHlo.TRef.toBuf, cast_eq, id_eq]
  try rfl

/-- Expert numbers as a row. -/
theorem read_v39 : (StableHlo.after (hostOps0_9 (F := F)) W (Proc.devRef .tc main_v39) : IVec S1x32 32) = broadcastInDim S1x32 ![1] bcast_S32_S1x32_1 (iotaInDim S32 32 0) := by
  after_reads_simp
  try simp only [StableHlo.TRef.ofBuf, StableHlo.TRef.toBuf, cast_eq, id_eq]
  try rfl

/-- One past the last expert. -/
theorem read_c_9 : (StableHlo.after (hostOps0_9 (F := F)) W (Proc.devRef .tc main_c_9) : IVec S_ 32) = (constantI S_ 32 32#32) := by
  after_reads_simp
  try simp only [StableHlo.TRef.ofBuf, StableHlo.TRef.toBuf, cast_eq, id_eq]
  try rfl

/-- The number of such an expert, 32 elsewhere. -/
theorem read_v40 : (StableHlo.after (hostOps0_10 (F := F)) W (Proc.devRef .tc main_v40) : IVec S32x32 32) = select (W (Proc.devRef .tc main_v37)) (broadcastInDim S32x32 ![0, 1] bcast_S1x32_S32x32_0_1 (W (Proc.devRef .tc main_v39))) (broadcastInDim S32x32 ![] bcast_S_S32x32 (W (Proc.devRef .tc main_c_9))) := by
  after_reads_simp
  try simp only [StableHlo.TRef.ofBuf, StableHlo.TRef.toBuf, cast_eq, id_eq]
  try rfl

/-- The least of them. -/
theorem read_v41 : (StableHlo.after (hostOps0_11 (F := F)) W (Proc.devRef .tc main_v41) : IVec S32 32) = Host.reduce IntOp.minsi (W (Proc.devRef .tc main_v40)) (constantI S_ 32 2147483647#32) reducesTo_S32x32_S32_d1 h_S_ := by
  after_reads_simp
  try simp only [StableHlo.TRef.ofBuf, StableHlo.TRef.toBuf, cast_eq, id_eq]
  try rfl

/-- Minus one. -/
theorem read_c_11 : (StableHlo.after (hostOps0_11 (F := F)) W (Proc.devRef .tc main_c_11) : IVec S_ 32) = (constantI S_ 32 4294967295#32) := by
  after_reads_simp
  try simp only [StableHlo.TRef.ofBuf, StableHlo.TRef.toBuf, cast_eq, id_eq]
  try rfl

/-- The next expert with a block, or minus one. -/
theorem read_v42 : (StableHlo.after (hostOps0_12 (F := F)) W (Proc.devRef .tc main_v42) : IVec S32 32) = select (W (Proc.devRef .tc main_v38)) (W (Proc.devRef .tc main_v41)) (broadcastInDim S32 ![] bcast_S_S32 (W (Proc.devRef .tc main_c_11))) := by
  after_reads_simp
  try simp only [StableHlo.TRef.ofBuf, StableHlo.TRef.toBuf, cast_eq, id_eq]
  try rfl

/-- Whether the column is the block's expert. -/
theorem read_v47 : (StableHlo.after (hostOps0_13 (F := F)) W (Proc.devRef .tc main_v47) : IVec S96x32 1) = cmpi .eq (broadcastInDim S96x32 ![0, 1] bcast_S96x1_S96x32_0_1 (broadcastInDim S96x1 ![0] bcast_S96_S96x1_0 (W (Proc.devRef .tc main_v15) : IVec S96 32))) (broadcastInDim S96x32 ![0, 1] bcast_S1x32_S96x32_0_1 (broadcastInDim S1x32 ![1] bcast_S32_S1x32_1 (W (Proc.devRef .tc main_v27)))) := by
  after_reads_simp
  try simp only [StableHlo.TRef.ofBuf, StableHlo.TRef.toBuf, cast_eq, id_eq]
  try rfl

/-- The next experts as a row. -/
theorem read_v48 : (StableHlo.after (hostOps0_13 (F := F)) W (Proc.devRef .tc main_v48) : IVec S1x32 32) = broadcastInDim S1x32 ![1] bcast_S32_S1x32_1 (W (Proc.devRef .tc main_v42) : IVec S32 32) := by
  after_reads_simp
  try simp only [StableHlo.TRef.ofBuf, StableHlo.TRef.toBuf, cast_eq, id_eq]
  try rfl

/-- Zero. -/
theorem read_c_12 : (StableHlo.after (hostOps0_13 (F := F)) W (Proc.devRef .tc main_c_12) : IVec S_ 32) = (constantI S_ 32 0#32) := by
  after_reads_simp
  try simp only [StableHlo.TRef.ofBuf, StableHlo.TRef.toBuf, cast_eq, id_eq]
  try rfl

/-- The next expert in the block's own column, zero elsewhere. -/
theorem read_v49 : (StableHlo.after (hostOps0_14 (F := F)) W (Proc.devRef .tc main_v49) : IVec S96x32 32) = select (W (Proc.devRef .tc main_v47)) (broadcastInDim S96x32 ![0, 1] bcast_S1x32_S96x32_0_1 (W (Proc.devRef .tc main_v48))) (broadcastInDim S96x32 ![] bcast_S_S96x32 (W (Proc.devRef .tc main_c_12))) := by
  after_reads_simp
  try simp only [StableHlo.TRef.ofBuf, StableHlo.TRef.toBuf, cast_eq, id_eq]
  try rfl

/-- The next expert of each block. -/
theorem read_v50 : (StableHlo.after (hostOps0_15 (F := F)) W (Proc.devRef .tc main_v50) : IVec S96 32) = Host.reduce IntOp.addi (W (Proc.devRef .tc main_v49)) (constantI S_ 32 0#32) reducesTo_S96x32_S96_d1 h_S_ := by
  after_reads_simp
  try simp only [StableHlo.TRef.ofBuf, StableHlo.TRef.toBuf, cast_eq, id_eq]
  try rfl

end Cert.Kernel2Ideal.Gmm

end
-- ==== Proof.GmmStages.lean ====
/- The tables the expert call reads, each as the operation that made it over the tables before it. -/
module

public import proofs.«01_k».proof.Proof.GmmReads

@[expose] public section

noncomputable section

namespace Cert.Kernel2Ideal.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Routing (pyDiv pyRem)

variable {F : FTy → Type} [FloatOps F]

local notation "𝕄" => MT nD τ sig Unit (Elt F) ℕ (UD sig nD τ) ℕ

variable (m : (ℓ : Loc nD τ sig) → Buf (Elt F) ℓ) (c : Dev nD)

/-- The buffers after the first `k` parts. -/
def St (k : ℕ) : Valuation τ sig (Elt F) := StableHlo.after ((hostParts (F := F)).take k).flatten (fun b => m (c, b))

theorem St_succ (k : ℕ) (h : k < 16) : St m c (k + 1) = StableHlo.after ((hostParts (F := F))[k]'h) (St m c k) := by
  unfold St
  rw [List.take_succ_eq_append_getElem (show k < (hostParts (F := F)).length from h), List.flatten_append, StableHlo.after_append]
  simp only [List.flatten_cons, List.flatten_nil, List.append_nil]

/-- No part from the `k`-th on writes the buffer. -/
def Done (F : FTy → Type) [FloatOps F] (k : ℕ) (b : Ref sig .tc) : Prop := ∀ op ∈ ((hostParts (F := F)).drop k).flatten, Proc.devRef .tc b ∉ op.writes

/-- A buffer no later part writes holds, from then on, what the call finds. -/
theorem at_stage {k : ℕ} {b : Ref sig .tc} (h : Done F k b) (k' : ℕ) (hk : k ≤ k') : St m c k' (Proc.devRef .tc b) = V m c b := by
  unfold V St
  conv_rhs => rw [← List.take_append_drop k' (hostParts (F := F)), List.flatten_append, StableHlo.after_append]
  refine (StableHlo.after_of_forall_not_mem (b := Proc.devRef .tc b) _ _ fun op hop => h op ?_).symm
  obtain ⟨l, hl, ho⟩ := List.mem_flatten.1 hop
  refine List.mem_flatten.2 ⟨l, ?_, ho⟩
  rw [show k' = k + (k' - k) by omega, ← List.drop_drop] at hl
  exact List.mem_of_mem_drop hl

theorem done_v3 : Done F 1 main_v3 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_c_1 : Done F 1 main_c_1 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v4 : Done F 2 main_v4 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v5 : Done F 3 main_v5 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v15 : Done F 4 main_v15 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v16 : Done F 4 main_v16 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v18 : Done F 4 main_v18 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v19 : Done F 5 main_v19 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v22 : Done F 6 main_v22 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v23 : Done F 7 main_v23 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v25 : Done F 8 main_v25 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_c_6 : Done F 8 main_c_6 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v26 : Done F 9 main_v26 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v27 : Done F 10 main_v27 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v37 : Done F 10 main_v37 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v38 : Done F 10 main_v38 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v39 : Done F 10 main_v39 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_c_9 : Done F 10 main_c_9 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v40 : Done F 11 main_v40 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v41 : Done F 12 main_v41 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_c_11 : Done F 12 main_c_11 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v42 : Done F 13 main_v42 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v47 : Done F 14 main_v47 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v48 : Done F 14 main_v48 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_c_12 : Done F 14 main_c_12 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v49 : Done F 15 main_v49 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

theorem done_v50 : Done F 16 main_v50 := List.forall_iff_forall_mem.mp (by
    simp only [hostParts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.drop_succ_cons, List.drop_zero, List.drop_nil, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    try repeat' apply And.intro
    all_goals first | trivial | exact StableHlo.devRef_ne_of_ne (by decide))

/-- Counts plus 511. -/
theorem V_v3 : (V m c main_v3 : IVec S32 32) = subi (addi (V m c main_arg0) (broadcastInDim S32 ![] bcast_S_S32 (constantI S_ 32 512#32))) (broadcastInDim S32 ![] bcast_S_S32 (constantI S_ 32 1#32)) := by
  have h := read_v3 (St m c 0)
  rw [show St m c 0 (Proc.devRef .tc main_arg0) = V m c main_arg0 from (V_main_arg0 m c).symm] at h
  exact ((at_stage m c done_v3 1 (by decide)).symm.trans (congrFun (St_succ m c 0 (by decide)) _)).trans h

/-- The block size. -/
theorem V_c_1 : (V m c main_c_1 : IVec S_ 32) = (constantI S_ 32 512#32) := by
  have h := read_c_1 (St m c 0)
  exact ((at_stage m c done_c_1 1 (by decide)).symm.trans (congrFun (St_succ m c 0 (by decide)) _)).trans h

/-- Blocks per expert: a floor division. -/
theorem V_v4 : (V m c main_v4 : IVec S32 32) = pyDiv bcast_S_S32 (V m c main_v3) (V m c main_c_1) := by
  have h := read_v4 (St m c 1)
  rw [at_stage m c done_c_1 1 (by decide)] at h
  rw [at_stage m c done_v3 1 (by decide)] at h
  exact ((at_stage m c done_v4 2 (by decide)).symm.trans (congrFun (St_succ m c 1 (by decide)) _)).trans h

/-- The first block past each expert: a running sum. -/
theorem V_v5 : (V m c main_v5 : IVec S32 32) = Host.reduceWindow IntOp.addi ![32] ![1] ![31] ![0] (V m c main_v4) (broadcastInDim S_ ![] bcast_S_S_ (constantI S_ 32 0#32)) reduceWindows_S32_S32_w32s1p31_0 h_S_ := by
  have h := read_v5 (St m c 2)
  rw [at_stage m c done_v4 2 (by decide)] at h
  exact ((at_stage m c done_v5 3 (by decide)).symm.trans (congrFun (St_succ m c 2 (by decide)) _)).trans h

/-- Each block's expert: the experts that end at or before it, counted, at most 31. -/
theorem V_v15 : (V m c main_v15 : IVec S96 32) = minsi (Host.reduce IntOp.addi (extui 32 (cmpi .sle (broadcastInDim S96x32 ![0, 1] bcast_S1x32_S96x32_0_1 (broadcastInDim S1x32 ![1] bcast_S32_S1x32_1 (V m c main_v5 : IVec S32 32))) (broadcastInDim S96x32 ![0, 1] bcast_S96x1_S96x32_0_1 (broadcastInDim S96x1 ![0] bcast_S96_S96x1_0 (iotaInDim S96 32 0)))) natLt_1_32) (constantI S_ 32 0#32) reducesTo_S96x32_S96_d1 h_S_) (broadcastInDim S96 ![] bcast_S_S96 (constantI S_ 32 31#32)) := by
  have h := read_v15 (St m c 3)
  rw [at_stage m c done_v5 3 (by decide)] at h
  exact ((at_stage m c done_v15 4 (by decide)).symm.trans (congrFun (St_succ m c 3 (by decide)) _)).trans h

/-- The blocks in all. -/
theorem V_v16 : (V m c main_v16 : IVec S1 32) = extractStridedSlice S1 ![31] (V m c main_v5 : IVec S32 32) slices_S32_S1_31 := by
  have h := read_v16 (St m c 3)
  rw [at_stage m c done_v5 3 (by decide)] at h
  exact ((at_stage m c done_v16 4 (by decide)).symm.trans (congrFun (St_succ m c 3 (by decide)) _)).trans h

/-- Whether a block is block 0. -/
theorem V_v18 : (V m c main_v18 : IVec S96 1) = cmpi .eq (iotaInDim S96 32 0) (broadcastInDim S96 ![] bcast_S_S96 (constantI S_ 32 0#32)) := by
  have h := read_v18 (St m c 3)
  exact ((at_stage m c done_v18 4 (by decide)).symm.trans (congrFun (St_succ m c 3 (by decide)) _)).trans h

/-- The experts of the blocks, rolled by one. -/
theorem V_v19 : (V m c main_v19 : IVec S96 32) = concatenate S96 0 [⟨S1, extractStridedSlice S1 ![95] (V m c main_v15 : IVec S96 32) slices_S96_S1_95⟩, ⟨S95, extractStridedSlice S95 ![0] (V m c main_v15 : IVec S96 32) slices_S96_S95_0⟩] concatenates_S1_S95_S96_d0 := by
  have h := read_v19 (St m c 4)
  rw [at_stage m c done_v15 4 (by decide)] at h
  exact ((at_stage m c done_v19 5 (by decide)).symm.trans (congrFun (St_succ m c 4 (by decide)) _)).trans h

/-- Whether a block is the first of its expert. -/
theorem V_v22 : (V m c main_v22 : IVec S96 32) = extui 32 (ori (V m c main_v18) (cmpi .ne (V m c main_v15 : IVec S96 32) (V m c main_v19))) natLt_1_32 := by
  have h := read_v22 (St m c 5)
  rw [at_stage m c done_v15 5 (by decide)] at h
  rw [at_stage m c done_v18 5 (by decide)] at h
  rw [at_stage m c done_v19 5 (by decide)] at h
  exact ((at_stage m c done_v22 6 (by decide)).symm.trans (congrFun (St_succ m c 5 (by decide)) _)).trans h

/-- Experts opened up to each block. -/
theorem V_v23 : (V m c main_v23 : IVec S96 32) = Host.reduceWindow IntOp.addi ![96] ![1] ![95] ![0] (V m c main_v22) (broadcastInDim S_ ![] bcast_S_S_ (constantI S_ 32 0#32)) reduceWindows_S96_S96_w96s1p95_0 h_S_ := by
  have h := read_v23 (St m c 6)
  rw [at_stage m c done_v22 6 (by decide)] at h
  exact ((at_stage m c done_v23 7 (by decide)).symm.trans (congrFun (St_succ m c 6 (by decide)) _)).trans h

/-- The same less one. -/
theorem V_v25 : (V m c main_v25 : IVec S96 32) = subi (V m c main_v23) (broadcastInDim S96 ![] bcast_S_S96 (constantI S_ 32 1#32)) := by
  have h := read_v25 (St m c 7)
  rw [at_stage m c done_v23 7 (by decide)] at h
  exact ((at_stage m c done_v25 8 (by decide)).symm.trans (congrFun (St_succ m c 7 (by decide)) _)).trans h

/-- The number of slots. -/
theorem V_c_6 : (V m c main_c_6 : IVec S_ 32) = (constantI S_ 32 2#32) := by
  have h := read_c_6 (St m c 7)
  exact ((at_stage m c done_c_6 8 (by decide)).symm.trans (congrFun (St_succ m c 7 (by decide)) _)).trans h

/-- The slot of each block: a remainder. -/
theorem V_v26 : (V m c main_v26 : IVec S96 32) = pyRem bcast_S_S96 (V m c main_v25) (V m c main_c_6) := by
  have h := read_v26 (St m c 8)
  rw [at_stage m c done_c_6 8 (by decide)] at h
  rw [at_stage m c done_v25 8 (by decide)] at h
  exact ((at_stage m c done_v26 9 (by decide)).symm.trans (congrFun (St_succ m c 8 (by decide)) _)).trans h

/-- Expert numbers. -/
theorem V_v27 : (V m c main_v27 : IVec S32 32) = iotaInDim S32 32 0 := by
  have h := read_v27 (St m c 9)
  exact ((at_stage m c done_v27 10 (by decide)).symm.trans (congrFun (St_succ m c 9 (by decide)) _)).trans h

/-- Whether the expert of the column is later than that of the row and has a block. -/
theorem V_v37 : (V m c main_v37 : IVec S32x32 1) = andi (cmpi .sgt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![0, 1] bcast_S1x32_S32x32_0_1 (cmpi .sgt (broadcastInDim S1x32 ![1] bcast_S32_S1x32_1 (V m c main_v4 : IVec S32 32)) (broadcastInDim S1x32 ![] bcast_S_S1x32 (constantI S_ 32 0#32)))) := by
  have h := read_v37 (St m c 9)
  rw [at_stage m c done_v4 9 (by decide)] at h
  exact ((at_stage m c done_v37 10 (by decide)).symm.trans (congrFun (St_succ m c 9 (by decide)) _)).trans h

/-- Whether there is such an expert. -/
theorem V_v38 : (V m c main_v38 : IVec S32 1) = Host.reduce IntOp.ori (andi (cmpi .sgt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![0, 1] bcast_S1x32_S32x32_0_1 (cmpi .sgt (broadcastInDim S1x32 ![1] bcast_S32_S1x32_1 (V m c main_v4 : IVec S32 32)) (broadcastInDim S1x32 ![] bcast_S_S1x32 (constantI S_ 32 0#32))))) (constantI S_ 1 0#1) reducesTo_S32x32_S32_d1 h_S_ := by
  have h := read_v38 (St m c 9)
  rw [at_stage m c done_v4 9 (by decide)] at h
  exact ((at_stage m c done_v38 10 (by decide)).symm.trans (congrFun (St_succ m c 9 (by decide)) _)).trans h

/-- Expert numbers as a row. -/
theorem V_v39 : (V m c main_v39 : IVec S1x32 32) = broadcastInDim S1x32 ![1] bcast_S32_S1x32_1 (iotaInDim S32 32 0) := by
  have h := read_v39 (St m c 9)
  exact ((at_stage m c done_v39 10 (by decide)).symm.trans (congrFun (St_succ m c 9 (by decide)) _)).trans h

/-- One past the last expert. -/
theorem V_c_9 : (V m c main_c_9 : IVec S_ 32) = (constantI S_ 32 32#32) := by
  have h := read_c_9 (St m c 9)
  exact ((at_stage m c done_c_9 10 (by decide)).symm.trans (congrFun (St_succ m c 9 (by decide)) _)).trans h

/-- The number of such an expert, 32 elsewhere. -/
theorem V_v40 : (V m c main_v40 : IVec S32x32 32) = select (V m c main_v37) (broadcastInDim S32x32 ![0, 1] bcast_S1x32_S32x32_0_1 (V m c main_v39)) (broadcastInDim S32x32 ![] bcast_S_S32x32 (V m c main_c_9)) := by
  have h := read_v40 (St m c 10)
  rw [at_stage m c done_c_9 10 (by decide)] at h
  rw [at_stage m c done_v37 10 (by decide)] at h
  rw [at_stage m c done_v39 10 (by decide)] at h
  exact ((at_stage m c done_v40 11 (by decide)).symm.trans (congrFun (St_succ m c 10 (by decide)) _)).trans h

/-- The least of them. -/
theorem V_v41 : (V m c main_v41 : IVec S32 32) = Host.reduce IntOp.minsi (V m c main_v40) (constantI S_ 32 2147483647#32) reducesTo_S32x32_S32_d1 h_S_ := by
  have h := read_v41 (St m c 11)
  rw [at_stage m c done_v40 11 (by decide)] at h
  exact ((at_stage m c done_v41 12 (by decide)).symm.trans (congrFun (St_succ m c 11 (by decide)) _)).trans h

/-- Minus one. -/
theorem V_c_11 : (V m c main_c_11 : IVec S_ 32) = (constantI S_ 32 4294967295#32) := by
  have h := read_c_11 (St m c 11)
  exact ((at_stage m c done_c_11 12 (by decide)).symm.trans (congrFun (St_succ m c 11 (by decide)) _)).trans h

/-- The next expert with a block, or minus one. -/
theorem V_v42 : (V m c main_v42 : IVec S32 32) = select (V m c main_v38) (V m c main_v41) (broadcastInDim S32 ![] bcast_S_S32 (V m c main_c_11)) := by
  have h := read_v42 (St m c 12)
  rw [at_stage m c done_c_11 12 (by decide)] at h
  rw [at_stage m c done_v38 12 (by decide)] at h
  rw [at_stage m c done_v41 12 (by decide)] at h
  exact ((at_stage m c done_v42 13 (by decide)).symm.trans (congrFun (St_succ m c 12 (by decide)) _)).trans h

/-- Whether the column is the block's expert. -/
theorem V_v47 : (V m c main_v47 : IVec S96x32 1) = cmpi .eq (broadcastInDim S96x32 ![0, 1] bcast_S96x1_S96x32_0_1 (broadcastInDim S96x1 ![0] bcast_S96_S96x1_0 (V m c main_v15 : IVec S96 32))) (broadcastInDim S96x32 ![0, 1] bcast_S1x32_S96x32_0_1 (broadcastInDim S1x32 ![1] bcast_S32_S1x32_1 (V m c main_v27))) := by
  have h := read_v47 (St m c 13)
  rw [at_stage m c done_v15 13 (by decide)] at h
  rw [at_stage m c done_v27 13 (by decide)] at h
  exact ((at_stage m c done_v47 14 (by decide)).symm.trans (congrFun (St_succ m c 13 (by decide)) _)).trans h

/-- The next experts as a row. -/
theorem V_v48 : (V m c main_v48 : IVec S1x32 32) = broadcastInDim S1x32 ![1] bcast_S32_S1x32_1 (V m c main_v42 : IVec S32 32) := by
  have h := read_v48 (St m c 13)
  rw [at_stage m c done_v42 13 (by decide)] at h
  exact ((at_stage m c done_v48 14 (by decide)).symm.trans (congrFun (St_succ m c 13 (by decide)) _)).trans h

/-- Zero. -/
theorem V_c_12 : (V m c main_c_12 : IVec S_ 32) = (constantI S_ 32 0#32) := by
  have h := read_c_12 (St m c 13)
  exact ((at_stage m c done_c_12 14 (by decide)).symm.trans (congrFun (St_succ m c 13 (by decide)) _)).trans h

/-- The next expert in the block's own column, zero elsewhere. -/
theorem V_v49 : (V m c main_v49 : IVec S96x32 32) = select (V m c main_v47) (broadcastInDim S96x32 ![0, 1] bcast_S1x32_S96x32_0_1 (V m c main_v48)) (broadcastInDim S96x32 ![] bcast_S_S96x32 (V m c main_c_12)) := by
  have h := read_v49 (St m c 14)
  rw [at_stage m c done_c_12 14 (by decide)] at h
  rw [at_stage m c done_v47 14 (by decide)] at h
  rw [at_stage m c done_v48 14 (by decide)] at h
  exact ((at_stage m c done_v49 15 (by decide)).symm.trans (congrFun (St_succ m c 14 (by decide)) _)).trans h

/-- The next expert of each block. -/
theorem V_v50 : (V m c main_v50 : IVec S96 32) = Host.reduce IntOp.addi (V m c main_v49) (constantI S_ 32 0#32) reducesTo_S96x32_S96_d1 h_S_ := by
  have h := read_v50 (St m c 15)
  rw [at_stage m c done_v49 15 (by decide)] at h
  exact ((at_stage m c done_v50 16 (by decide)).symm.trans (congrFun (St_succ m c 15 (by decide)) _)).trans h

end Cert.Kernel2Ideal.Gmm

end
-- ==== Proof.GmmCounts.lean ====
/- Blocks of 512 rows handed out to experts in order, as natural numbers: the expert of a block, where an expert begins, and which expert comes next. -/
module

public import Idealize.ShloMosaic.Lib.Routing.Ops

@[expose] public section

namespace Cert.Kernel2Ideal.Gmm

variable (cn : ℕ → ℕ)

/-- Blocks of an expert with `cn e` rows. -/
def nb (e : ℕ) : ℕ := (cn e + 511) / 512

/-- The first block past expert `e`. -/
def en (e : ℕ) : ℕ := ((List.range (e + 1)).map (nb cn)).sum

/-- The expert of block `t`. -/
def ex (t : ℕ) : ℕ := min 31 (Nat.count (fun e => en cn e ≤ t) 32)

/-- 1 where block `t` is the first of its expert. -/
def opn (t : ℕ) : ℕ := if t = 0 ∨ ex cn t ≠ ex cn (t - 1) then 1 else 0

/-- Experts opened up to block `t`. -/
def opened (t : ℕ) : ℕ := ((List.range (t + 1)).map (opn cn)).sum

theorem sum_range_succ' (f : ℕ → ℕ) (e : ℕ) : ((List.range (e + 1 + 1)).map f).sum = ((List.range (e + 1)).map f).sum + f (e + 1) := by
  rw [List.range_succ (n := e + 1), List.map_append, List.sum_append]
  simp

theorem en_succ (e : ℕ) : en cn (e + 1) = en cn e + nb cn (e + 1) := sum_range_succ' _ _

theorem en_zero : en cn 0 = nb cn 0 := by simp [en]

theorem opened_succ (t : ℕ) : opened cn (t + 1) = opened cn t + opn cn (t + 1) := sum_range_succ' _ _

theorem opened_zero : opened cn 0 = 1 := by simp [opened, opn]

theorem opn_le (t : ℕ) : opn cn t ≤ 1 := by unfold opn; split <;> omega

theorem opened_pos (t : ℕ) : 1 ≤ opened cn t ∧ opened cn t ≤ t + 1 := by
  induction t with
  | zero => rw [opened_zero]; omega
  | succ t ih => rw [opened_succ]; have := opn_le cn (t + 1); omega

theorem en_mono {a b : ℕ} (h : a ≤ b) : en cn a ≤ en cn b := by
  induction b, h using Nat.le_induction with
  | base => exact le_refl _
  | succ b _ ih => rw [en_succ]; omega

/-- Where everything up to a place that has a property has it, the count of the places that have it is the first that has not. -/
theorem count_spec (p : ℕ → Prop) [DecidablePred p] (hp : ∀ a b, a ≤ b → p b → p a) (n : ℕ) :
    (∀ e, e < Nat.count p n → p e) ∧ (Nat.count p n < n → ¬ p (Nat.count p n)) := by
  induction n with
  | zero => exact ⟨fun e h => absurd h (by simp), fun h => absurd h (by simp)⟩
  | succ n ih =>
    have hle := Nat.count_le (p := p) (n := n)
    rw [Nat.count_succ]
    by_cases h : p n
    · have hc : Nat.count p n = n := by
        by_contra hne
        exact ih.2 (by omega) (hp _ n (by omega) h)
      rw [if_pos h, hc]
      exact ⟨fun e he => hp e n (by omega) h, fun h' => absurd h' (by omega)⟩
    · rw [if_neg h]
      refine ⟨fun e he => ih.1 e (by simpa using he), fun _ => ?_⟩
      by_cases hc : Nat.count p n < n
      · simpa using ih.2 hc
      · have : Nat.count p n = n := by omega
        simpa [this] using h

/-- A block below the last expert's end lies in its expert's run. -/
theorem ex_spec (t : ℕ) (ht : t < en cn 31) : ex cn t ≤ 31 ∧ t < en cn (ex cn t) ∧ ∀ e, e < ex cn t → en cn e ≤ t := by
  have h := count_spec (fun e => en cn e ≤ t) (fun a b hab hb => le_trans (en_mono cn hab) hb) 32
  have hc : Nat.count (fun e => en cn e ≤ t) 32 ≤ 31 := by
    by_contra hne
    have := h.1 31 (by omega)
    omega
  have he : ex cn t = Nat.count (fun e => en cn e ≤ t) 32 := by unfold ex; omega
  rw [he]
  exact ⟨hc, by have := h.2 (by omega); omega, h.1⟩

theorem ex_le (t : ℕ) : ex cn t ≤ 31 := by unfold ex; omega

/-- Two blocks of which the later begins another expert: the experts between have no block. -/
theorem ex_next (t : ℕ) (ht : t + 1 < en cn 31) (hne : ex cn (t + 1) ≠ ex cn t) :
    ex cn t < ex cn (t + 1) ∧ 0 < nb cn (ex cn (t + 1)) ∧ ∀ e, ex cn t < e → e < ex cn (t + 1) → nb cn e = 0 := by
  obtain ⟨h1, h2, h3⟩ := ex_spec cn t (by omega)
  obtain ⟨k1, k2, k3⟩ := ex_spec cn (t + 1) ht
  have hlt : ex cn t < ex cn (t + 1) := by
    by_contra hge
    have := h3 (ex cn (t + 1)) (by omega)
    omega
  refine ⟨hlt, ?_, fun e he he' => ?_⟩
  · obtain ⟨e, he⟩ : ∃ e, ex cn (t + 1) = e + 1 := ⟨ex cn (t + 1) - 1, by omega⟩
    have := k3 e (by omega)
    rw [he] at k2 ⊢
    rw [en_succ] at k2
    omega
  · obtain ⟨a, rfl⟩ : ∃ a, e = a + 1 := ⟨e - 1, by omega⟩
    have u1 := k3 (a + 1) he'
    have u2 := en_mono cn (show ex cn t ≤ a by omega)
    rw [en_succ] at u1
    omega

/-- After the last block's expert no expert has a block. -/
theorem ex_last (t : ℕ) (ht : t + 1 = en cn 31) : ∀ e, ex cn t < e → e < 32 → nb cn e = 0 := by
  obtain ⟨h1, h2, h3⟩ := ex_spec cn t (by omega)
  intro e he he'
  obtain ⟨a, rfl⟩ : ∃ a, e = a + 1 := ⟨e - 1, by omega⟩
  have u1 := en_mono cn (show a + 1 ≤ 31 by omega)
  have u2 := en_mono cn (show ex cn t ≤ a by omega)
  rw [en_succ] at u1
  omega

theorem en_bounds (e : ℕ) : 512 * en cn e ≤ ((List.range (e + 1)).map cn).sum + 511 * (e + 1) ∧ ((List.range (e + 1)).map cn).sum ≤ 512 * en cn e := by
  induction e with
  | zero =>
    rw [en_zero]
    simp only [zero_add, List.range_one, List.map_cons, List.map_nil, List.sum_cons, List.sum_nil, add_zero]
    unfold nb
    omega
  | succ e ih =>
    rw [en_succ, sum_range_succ']
    have : nb cn (e + 1) = (cn (e + 1) + 511) / 512 := rfl
    omega

/-- The blocks of an expert: from the end of the one before to its own end. -/
theorem ex_iff (t e : ℕ) (ht : t < en cn 31) (he : e < 32) : ex cn t = e ↔ en cn e - nb cn e ≤ t ∧ t < en cn e := by
  obtain ⟨h1, h2, h3⟩ := ex_spec cn t ht
  have hen : ∀ e, en cn e = (if e = 0 then 0 else en cn (e - 1)) + nb cn e := by
    intro e
    cases e with
    | zero => rw [en_zero]; simp
    | succ a => rw [en_succ]; simp
  constructor
  · rintro rfl
    refine ⟨?_, h2⟩
    have := hen (ex cn t)
    by_cases h0 : ex cn t = 0
    · rw [if_pos h0] at this; omega
    · rw [if_neg h0] at this
      have := h3 (ex cn t - 1) (by omega)
      omega
  · rintro ⟨ha, hb⟩
    rcases Nat.lt_trichotomy (ex cn t) e with h | h | h
    · have := hen e
      rw [if_neg (by omega)] at this
      have := en_mono cn (show ex cn t ≤ e - 1 by omega)
      omega
    · exact h
    · have := h3 e h
      omega

end Cert.Kernel2Ideal.Gmm
-- ==== Proof.GmmTables.lean ====
/- The tables the expert call finds, entry by entry, as natural numbers made of the counts; and that they describe a run of experts. -/
module

public import proofs.«01_k».proof.Proof.GmmStages
public import proofs.«01_k».proof.Proof.GmmCounts
public import Idealize.ShloMosaic.Lib.Routing.Words
public import Idealize.ShloMosaic.Lib.PlanTiles.Rows
public import Idealize.ShloMosaic.Lib.Pointwise.SelectCore

@[expose] public section

noncomputable section

namespace Cert.Kernel2Ideal.Gmm

open Cert.Kernel2Ideal Cert.Kernel2Ideal.Gen
open Idealize.ShloMosaic hiding ix1 ix2 ix3 eq_ix1 eq_ix2
open Idealize.ShloMosaic.TcCoe
open Idealize.ShloMosaic.Routing Idealize.ShloMosaic.ValueIdx

variable {F : FTy → Type} [FloatOps F]

/-! ## Folds along the second axis -/

/-- A reduction along the second axis, at a row, is the fold over that row. -/
theorem reduce_row {α : Type} {n k : ℕ} (f : α → α → α) [Std.Commutative f] [Std.Associative f] (x : (⟨2, ![n, k]⟩ : Shape).Idx → α)
    (init : S_.Idx → α) (h : (⟨2, ![n, k]⟩ : Shape).ReducesTo [1] ⟨1, ![n]⟩) (hu : 0 < S_.numel) (i : Fin n) :
    Host.reduce f x init h hu (ix1 i) = (Finset.univ : Finset (Fin k)).fold f (init (Shape.Idx.first hu)) (fun q => x (ix2 i q)) := by
  classical
  rw [Host.reduce_eq_fold]
  have hdrop : ∀ j : (⟨2, ![n, k]⟩ : Shape).Idx, h.drop j = ix1 i ↔ j 0 = i := by
    intro j
    have hv : (h.drop j 0 : ℕ) = j 0 := Shape.ReducesTo.drop_apply_val h j 0
    constructor
    · intro e; rw [e] at hv; exact Fin.ext hv.symm
    · intro e; funext b; have hb : b = 0 := Subsingleton.elim _ _; subst hb; exact Fin.ext (hv.trans (congrArg Fin.val e))
  have hset : (Finset.univ.filter fun j : (⟨2, ![n, k]⟩ : Shape).Idx => h.drop j = ix1 i)
      = (Finset.univ : Finset (Fin k)).map ⟨fun q => ix2 i q, fun a b e => show a = b from congrFun e (1 : Fin 2)⟩ := by
    ext j
    rw [Finset.mem_filter, Finset.mem_map, hdrop]
    constructor
    · rintro ⟨-, e⟩
      refine ⟨j 1, Finset.mem_univ _, ?_⟩
      show ix2 i (j 1) = j
      rw [← e]
      exact (eq_ix2 j).symm
    · rintro ⟨q, -, rfl⟩
      exact ⟨Finset.mem_univ _, rfl⟩
  rw [hset, Finset.fold_map]
  rfl

theorem fold_ori {ι : Type} (S : Finset ι) (p : ι → BitVec 1) : S.fold IntOp.ori 0#1 p = 1#1 ↔ ∃ q ∈ S, p q = 1#1 := by
  classical
  induction S using Finset.induction_on with
  | empty => simp
  | insert a S ha ih =>
    rw [Finset.fold_insert ha, Finset.exists_mem_insert, ← ih]
    generalize S.fold IntOp.ori 0#1 p = y
    generalize p a = z
    revert y z
    decide

theorem fold_minsi {ι : Type} (S : Finset ι) (f : ι → ℕ) (hf : ∀ q, f q < 2 ^ 31) (z : ℕ) (hz : z < 2 ^ 31) :
    S.fold IntOp.minsi (BitVec.ofNat 32 z) (fun q => BitVec.ofNat 32 (f q)) = BitVec.ofNat 32 (S.fold min z f) ∧ S.fold min z f < 2 ^ 31 := by
  classical
  induction S using Finset.induction_on with
  | empty => exact ⟨rfl, hz⟩
  | insert a S ha ih =>
    rw [Finset.fold_insert ha, Finset.fold_insert ha, ih.1, PlanTiles.minsi_word (hf a) ih.2, Nat.min_comm]
    exact ⟨rfl, lt_of_le_of_lt (Nat.min_le_left _ _) (hf a)⟩

theorem fold_addi_one {ι : Type} [DecidableEq ι] (S : Finset ι) (a : ι) (ha : a ∈ S) (f : ι → BitVec 32) (hf : ∀ q, q ≠ a → f q = 0#32) :
    S.fold IntOp.addi 0#32 f = f a := by
  have key : ∀ S : Finset ι, a ∉ S → S.fold IntOp.addi 0#32 f = 0#32 := by
    intro S
    induction S using Finset.induction_on with
    | empty => intro _; rfl
    | insert b S hb ih =>
      intro h
      rw [Finset.fold_insert hb, ih fun hh => h (Finset.mem_insert_of_mem hh), hf b fun e => h (e ▸ Finset.mem_insert_self ..)]
      rfl
  rw [← Finset.insert_erase ha, Finset.fold_insert (Finset.notMem_erase a S), key _ (Finset.notMem_erase a S)]
  exact BitVec.add_zero _

/-! ## The tables -/

variable (m : (ℓ : Loc nD τ sig) → Buf (Elt F) ℓ) (c : Dev nD)

/-- The counts the call is given are `cn`, none above 32768, in all 32768. -/
structure Counted (cn : ℕ → ℕ) : Prop where
  word : ∀ e : Fin 32, (m ((c : Thread nD τ).loc main_arg0) : IVec S32 32) (ix1 e) = BitVec.ofNat 32 (cn e.val)
  le : ∀ e, cn e ≤ 32768
  total : ((List.range 32).map cn).sum = 32768

variable {m} {c} {cn : ℕ → ℕ} (hc : Counted m c cn)

include hc

theorem en_31 : en cn 31 ≤ 95 ∧ 64 ≤ en cn 31 := by
  have h := en_bounds cn 31
  rw [hc.total] at h
  omega

theorem en_le (e : ℕ) (he : e < 32) : en cn e ≤ 95 := le_trans (en_mono cn (by omega)) (en_31 hc).1

theorem word_v4 (e : Fin 32) : (V m c main_v4 : IVec S32 32) (ix1 e) = BitVec.ofNat 32 (nb cn e.val) := by
  rw [V_v4]
  have hle := hc.le e.val
  refine pyDiv_ap _ _ _ _ (a := cn e.val + 511) (b := 512) ?_ ?_ (by omega) (by decide) (by decide)
  · rw [V_v3]
    show (show BitVec 32 from (V m c main_arg0 : IVec S32 32) (ix1 e)) + 512#32 - 1#32 = _
    rw [V_main_arg0, hc.word e, show (512#32 : BitVec 32) = BitVec.ofNat 32 512 from rfl, BitVec.ofNat_add_ofNat,
      show (1#32 : BitVec 32) = BitVec.ofNat 32 1 from rfl, ofNat32_sub (by omega)]
    rfl
  · rw [V_c_1]
    rfl

theorem word_v5 (e : Fin 32) : (V m c main_v5 : IVec S32 32) (ix1 e) = BitVec.ofNat 32 (en cn e.val) := by
  rw [V_v5]
  exact cumsum1 (N := 32) (Nm1 := 31) rfl _ (nb cn) (word_v4 hc) _ rfl _ _ e

theorem word_v15 (t : Fin 96) : (V m c main_v15 : IVec S96 32) (ix1 t) = BitVec.ofNat 32 (ex cn t.val) := by
  rw [V_v15]
  show IntOp.minsi (Host.reduce IntOp.addi _ _ _ _ (ix1 t)) 31#32 = _
  rw [reduce_count (by decide) _ _ _ _ t (fun e => en cn e ≤ t.val) fun q => ?_]
  · have := Nat.count_le (p := fun e => en cn e ≤ t.val) (n := 32)
    rw [show (31#32 : BitVec 32) = BitVec.ofNat 32 31 from rfl, PlanTiles.minsi_word (by omega) (by decide)]
    rfl
  · show IntOp.cmpi .sle (broadcastInDim S96x32 _ _ _ (ix2 t q)) (broadcastInDim S96x32 _ _ _ (ix2 t q)) = 1#1 ↔ _
    have e1 := bcCols bcast_S32_S1x32_1 bcast_S1x32_S96x32_0_1 (V m c main_v5 : IVec S32 32) t q
    have e2 := bcRows bcast_S96_S96x1_0 bcast_S96x1_S96x32_0_1 (iotaInDim S96 32 0) t q
    have := en_le hc q.val q.isLt
    have := t.isLt
    refine Iff.trans (Eq.to_iff (congrArg₂ (fun a b => IntOp.cmpi .sle a b = 1#1) (e1.trans (word_v5 hc q)) (e2.trans (iota1_ap t)))) ?_
    show IntOp.cmpi .sle (BitVec.ofNat 32 _) (BitVec.ofNat 32 _) = 1#1 ↔ _
    rw [WordCmp.cmpi_sle_ofNat (w := 32) (by omega) (by omega)]
    by_cases h : en cn q.val ≤ t.val <;> simp [h]

theorem word_v16 : (V m c main_v16 : IVec S1 32) only = BitVec.ofNat 32 (en cn 31) := by
  rw [V_v16, eq_ix1 only]
  have := slice1 (m := 32) (n := 1) 31 (V m c main_v5 : IVec S32 32) slices_S32_S1_31 (only 0) (by have : (only 0).val < 1 := (only 0).isLt; omega)
  refine this.trans ((congrArg (fun q => (V m c main_v5 : IVec S32 32) (ix1 q)) (Fin.ext ?_)).trans (word_v5 hc ⟨31, by decide⟩))
  have h : (only 0).val < 1 := (only 0).isLt
  show 31 + (only 0).val = 31
  omega

theorem word_v19 (t : Fin 96) (h0 : t.val ≠ 0) : (V m c main_v19 : IVec S96 32) (ix1 t) = BitVec.ofNat 32 (ex cn (t.val - 1)) := by
  have ht := t.isLt
  rw [V_v19, concatenate_pair_apply, dif_neg (by show ¬ t.val < 1; omega)]
  refine (congrArg _ (eq_ix1 _)).trans ?_
  refine (slice1 (m := 96) (n := 95) 0 (V m c main_v15 : IVec S96 32) slices_S96_S95_0 _ (by show 0 + (t.val - 1) < 96; omega)).trans ?_
  refine (congrArg (fun q => (V m c main_v15 : IVec S96 32) (ix1 q)) (Fin.ext ?_)).trans (word_v15 hc ⟨t.val - 1, by omega⟩)
  show 0 + (t.val - 1) = t.val - 1
  omega

theorem word_v22 (t : Fin 96) : (V m c main_v22 : IVec S96 32) (ix1 t) = BitVec.ofNat 32 (opn cn t.val) := by
  have ht := t.isLt
  rw [V_v22, V_v18]
  show (IntOp.ori (IntOp.cmpi .eq (BitVec.ofNat 32 t.val) 0#32) (IntOp.cmpi .ne ((V m c main_v15 : IVec S96 32) (ix1 t)) ((V m c main_v19 : IVec S96 32) (ix1 t)))).setWidth 32 = _
  rw [show (0#32 : BitVec 32) = BitVec.ofNat 32 0 from rfl, WordCmp.cmpi_eq_ofNat (w := 32) (by omega) (by decide), word_v15 hc]
  by_cases h0 : t.val = 0
  · rw [opn, if_pos (Or.inl h0)]
    generalize IntOp.cmpi .ne _ _ = y
    rw [h0]
    revert y
    decide
  · have h1 := ex_le cn t.val
    have h2 := ex_le cn (t.val - 1)
    rw [word_v19 hc t h0, WordCmp.cmpi_ne_ofNat (w := 32) (by omega) (by omega), opn]
    by_cases h : ex cn t.val = ex cn (t.val - 1)
    · rw [if_neg (by simp [h0, h])]
      simp [h0, h]
      decide
    · rw [if_pos (Or.inr h)]
      simp [h0, h]
      decide

theorem word_v23 (t : Fin 96) : (V m c main_v23 : IVec S96 32) (ix1 t) = BitVec.ofNat 32 (opened cn t.val) := by
  rw [V_v23]
  exact cumsum1 (N := 96) (Nm1 := 95) rfl _ (opn cn) (word_v22 hc) _ rfl _ _ t

theorem word_v26 (t : Fin 96) : (V m c main_v26 : IVec S96 32) (ix1 t) = BitVec.ofNat 32 ((opened cn t.val - 1) % 2) := by
  have ht := t.isLt
  have ho := opened_pos cn t.val
  rw [V_v26]
  refine pyRem_ap _ _ _ _ (a := opened cn t.val - 1) (b := 2) ?_ ?_ (by omega) (by decide) (by decide)
  · rw [V_v25]
    show (show BitVec 32 from (V m c main_v23 : IVec S96 32) (ix1 t)) - 1#32 = _
    rw [word_v23 hc, show (1#32 : BitVec 32) = BitVec.ofNat 32 1 from rfl, ofNat32_sub ho.1]
  · rw [V_c_6]
    rfl

/-- Whether expert `b` is later than `a` and has a block. -/
theorem bit_v37 (a b : Fin 32) : (V m c main_v37 : IVec S32x32 1) (ix2 a b) = 1#1 ↔ a.val < b.val ∧ 0 < nb cn b.val := by
  have ha := a.isLt
  have hb := b.isLt
  have hn : nb cn b.val ≤ 95 := by
    have h := en_le hc b.val hb
    rcases Nat.eq_zero_or_pos b.val with h0 | h0
    · rw [h0, en_zero] at h; rw [h0]; exact h
    · obtain ⟨k, hk⟩ : ∃ k, b.val = k + 1 := ⟨b.val - 1, by omega⟩
      rw [hk, en_succ] at h; rw [hk]; omega
  rw [V_v37]
  have e1 := bcCols bcast_S32_S1x32_1 bcast_S1x32_S32x32_0_1 (iotaInDim S32 32 0) a b
  have e2 := bcRows bcast_S32_S32x1_0 bcast_S32x1_S32x32_0_1 (iotaInDim S32 32 0) a b
  have e3 : broadcastInDim S32x32 ![0, 1] bcast_S1x32_S32x32_0_1 (cmpi .sgt (broadcastInDim S1x32 ![1] bcast_S32_S1x32_1 (V m c main_v4 : IVec S32 32)) (broadcastInDim S1x32 ![] bcast_S_S1x32 (constantI S_ 32 0#32))) (ix2 a b)
      = IntOp.cmpi .sgt ((V m c main_v4 : IVec S32 32) (ix1 b)) 0#32 := by
    refine (show _ = broadcastInDim S32x32 ![0, 1] bcast_S1x32_S32x32_0_1 (broadcastInDim S1x32 ![1] bcast_S32_S1x32_1 (fun q => IntOp.cmpi .sgt ((V m c main_v4 : IVec S32 32) q) 0#32)) (ix2 a b) from rfl).trans ?_
    exact bcCols bcast_S32_S1x32_1 bcast_S1x32_S32x32_0_1 _ a b
  refine Iff.trans (Eq.to_iff (congrArg₂ (fun x y => IntOp.andi x y = 1#1) (congrArg₂ (IntOp.cmpi .sgt) (e1.trans (iota1_ap b)) (e2.trans (iota1_ap a))) (e3.trans (congrArg (fun x => IntOp.cmpi .sgt x 0#32) (word_v4 hc b))))) ?_
  show IntOp.andi (IntOp.cmpi .sgt (BitVec.ofNat 32 b.val) (BitVec.ofNat 32 a.val)) (IntOp.cmpi .sgt (BitVec.ofNat 32 (nb cn b.val)) (BitVec.ofNat 32 0)) = 1#1 ↔ _
  rw [WordCmp.cmpi_sgt_ofNat (w := 32) (by omega) (by omega), WordCmp.cmpi_sgt_ofNat (w := 32) (by omega) (by decide)]
  by_cases h1 : a.val < b.val <;> by_cases h2 : 0 < nb cn b.val <;> simp [h1, h2, IntOp.andi]

/-- The next expert with a block after `a`, or minus one. -/
theorem word_v42 (a : Fin 32) :
    (∃ n, n < 32 ∧ a.val < n ∧ 0 < nb cn n ∧ (∀ e, a.val < e → e < n → nb cn e = 0) ∧ (V m c main_v42 : IVec S32 32) (ix1 a) = BitVec.ofNat 32 n)
    ∨ ((∀ e, a.val < e → e < 32 → nb cn e = 0) ∧ (V m c main_v42 : IVec S32 32) (ix1 a) = 4294967295#32) := by
  have e38 : (V m c main_v38 : IVec S32 1) (ix1 a) = 1#1 ↔ ∃ b : Fin 32, a.val < b.val ∧ 0 < nb cn b.val := by
    have h : (V m c main_v38 : IVec S32 1) = Host.reduce IntOp.ori (V m c main_v37 : IVec S32x32 1) (constantI S_ 1 0#1) reducesTo_S32x32_S32_d1 h_S_ := by
      rw [V_v38, V_v37]
    rw [h]
    refine Iff.trans (Eq.to_iff (congrArg (fun x => x = 1#1) (reduce_row IntOp.ori _ _ _ _ a))) ?_
    refine (fold_ori _ _).trans ?_
    constructor
    · rintro ⟨q, -, hq⟩; exact ⟨q, (bit_v37 hc a q).1 hq⟩
    · rintro ⟨q, hq⟩; exact ⟨q, Finset.mem_univ _, (bit_v37 hc a q).2 hq⟩
  have e40 : ∀ b : Fin 32, (V m c main_v40 : IVec S32x32 32) (ix2 a b) = BitVec.ofNat 32 (if a.val < b.val ∧ 0 < nb cn b.val then b.val else 32) := by
    intro b
    rw [V_v40]
    have e39 : broadcastInDim S32x32 ![0, 1] bcast_S1x32_S32x32_0_1 (V m c main_v39 : IVec S1x32 32) (ix2 a b) = BitVec.ofNat 32 b.val := by
      rw [V_v39]
      exact (bcCols bcast_S32_S1x32_1 bcast_S1x32_S32x32_0_1 (iotaInDim S32 32 0) a b).trans (iota1_ap b)
    have e9 : broadcastInDim S32x32 ![] bcast_S_S32x32 (V m c main_c_9 : IVec S_ 32) (ix2 a b) = 32#32 := by rw [V_c_9]; rfl
    show Scalar.select ((V m c main_v37 : IVec S32x32 1) (ix2 a b)) (broadcastInDim S32x32 ![0, 1] bcast_S1x32_S32x32_0_1 (V m c main_v39 : IVec S1x32 32) (ix2 a b)) (broadcastInDim S32x32 ![] bcast_S_S32x32 (V m c main_c_9 : IVec S_ 32) (ix2 a b)) = _
    rw [e39, e9]
    by_cases h : a.val < b.val ∧ 0 < nb cn b.val
    · rw [if_pos h, (bit_v37 hc a b).2 h]; rfl
    · rw [if_neg h, (BitVec.eq_zero_or_eq_one _).resolve_right fun hh => h ((bit_v37 hc a b).1 hh)]; rfl
  have e41 : (V m c main_v41 : IVec S32 32) (ix1 a) = BitVec.ofNat 32 ((Finset.univ : Finset (Fin 32)).fold min 2147483647 (fun b : Fin 32 => if a.val < b.val ∧ 0 < nb cn b.val then b.val else 32)) := by
    rw [V_v41]
    refine (reduce_row IntOp.minsi _ _ _ _ a).trans ?_
    rw [show (fun q => (V m c main_v40 : IVec S32x32 32) (ix2 a q)) = fun q : Fin 32 => BitVec.ofNat 32 (if a.val < q.val ∧ 0 < nb cn q.val then q.val else 32) from funext e40]
    exact (fold_minsi _ _ (fun q => by have := q.isLt; split <;> omega) 2147483647 (by decide)).1
  have e42 : (V m c main_v42 : IVec S32 32) (ix1 a) = Scalar.select ((V m c main_v38 : IVec S32 1) (ix1 a)) ((V m c main_v41 : IVec S32 32) (ix1 a)) 4294967295#32 := by
    rw [V_v42, V_c_11]
    rfl
  by_cases h : ∃ b : Fin 32, a.val < b.val ∧ 0 < nb cn b.val
  · left
    set f : Fin 32 → ℕ := fun b => if a.val < b.val ∧ 0 < nb cn b.val then b.val else 32 with hf
    set N := (Finset.univ : Finset (Fin 32)).fold min 2147483647 f with hN
    obtain ⟨b, hb⟩ := h
    have hle : ∀ q : Fin 32, N ≤ f q := fun q => (Finset.le_fold_min (c := N) (s := Finset.univ) (f := f) (b := 2147483647)).1 (le_of_eq hN) |>.2 q (Finset.mem_univ _)
    have hNb : N ≤ b.val := by have := hle b; rw [hf] at this; simpa [hb] using this
    have hbl := b.isLt
    obtain ⟨q, hq⟩ : ∃ q : Fin 32, f q ≤ N := by
      have := (Finset.fold_min_le (c := N) (s := Finset.univ) (f := f) (b := 2147483647)).1 (le_of_eq hN.symm)
      rcases this with h | ⟨q, -, hq⟩
      · omega
      · exact ⟨q, hq⟩
    have hcond : a.val < q.val ∧ 0 < nb cn q.val := by
      by_contra hne
      have : f q = 32 := if_neg hne
      omega
    have hfq : f q = q.val := if_pos hcond
    have hqN : N = q.val := by have := hle q; omega
    refine ⟨N, by omega, by omega, by rw [hqN]; exact hcond.2, fun e he he' => ?_, ?_⟩
    · by_contra hne
      have : f ⟨e, by omega⟩ = e := if_pos ⟨he, by show 0 < nb cn e; omega⟩
      have := hle ⟨e, by omega⟩
      omega
    · rw [e42, e38.2 ⟨b, hb⟩, e41]
      rfl
  · right
    refine ⟨fun e he he' => ?_, ?_⟩
    · by_contra hne
      exact h ⟨⟨e, he'⟩, he, by show 0 < nb cn e; omega⟩
    · rw [e42, (BitVec.eq_zero_or_eq_one _).resolve_right fun hh => h (e38.1 hh)]
      rfl

/-- The next expert of a block is that of its expert. -/
theorem word_v50 (t : Fin 96) : (V m c main_v50 : IVec S96 32) (ix1 t) = (V m c main_v42 : IVec S32 32) (ix1 ⟨ex cn t.val, by have := ex_le cn t.val; omega⟩) := by
  have hx := ex_le cn t.val
  rw [V_v50]
  refine (reduce_row IntOp.addi _ _ _ _ t).trans ?_
  have e49 : ∀ q : Fin 32, (V m c main_v49 : IVec S96x32 32) (ix2 t q) = if ex cn t.val = q.val then (V m c main_v42 : IVec S32 32) (ix1 q) else 0#32 := by
    intro q
    have hq := q.isLt
    have e47 : (V m c main_v47 : IVec S96x32 1) (ix2 t q) = IntOp.cmpi .eq (BitVec.ofNat 32 (ex cn t.val)) (BitVec.ofNat 32 q.val) := by
      rw [V_v47]
      have e1 := bcRows bcast_S96_S96x1_0 bcast_S96x1_S96x32_0_1 (V m c main_v15 : IVec S96 32) t q
      have e2 := bcCols bcast_S32_S1x32_1 bcast_S1x32_S96x32_0_1 (V m c main_v27 : IVec S32 32) t q
      have e27 : (V m c main_v27 : IVec S32 32) (ix1 q) = BitVec.ofNat 32 q.val := by rw [V_v27]; rfl
      exact congrArg₂ (IntOp.cmpi .eq) (e1.trans (word_v15 hc t)) (e2.trans e27)
    have e48 : broadcastInDim S96x32 ![0, 1] bcast_S1x32_S96x32_0_1 (V m c main_v48 : IVec S1x32 32) (ix2 t q) = (V m c main_v42 : IVec S32 32) (ix1 q) := by
      rw [V_v48]
      exact bcCols bcast_S32_S1x32_1 bcast_S1x32_S96x32_0_1 _ t q
    have e12 : broadcastInDim S96x32 ![] bcast_S_S96x32 (V m c main_c_12 : IVec S_ 32) (ix2 t q) = 0#32 := by rw [V_c_12]; rfl
    rw [V_v49]
    show Scalar.select ((V m c main_v47 : IVec S96x32 1) (ix2 t q)) (broadcastInDim S96x32 ![0, 1] bcast_S1x32_S96x32_0_1 (V m c main_v48 : IVec S1x32 32) (ix2 t q)) (broadcastInDim S96x32 ![] bcast_S_S96x32 (V m c main_c_12 : IVec S_ 32) (ix2 t q)) = _
    rw [e47, e48, e12, WordCmp.cmpi_eq_ofNat (w := 32) (by omega) (by omega), WordCmp.select_decide]
  show (Finset.univ : Finset (Fin 32)).fold IntOp.addi 0#32 (fun q => (V m c main_v49 : IVec S96x32 32) (ix2 t q)) = _
  rw [show (fun q => (V m c main_v49 : IVec S96x32 32) (ix2 t q)) = fun q : Fin 32 => if ex cn t.val = q.val then (V m c main_v42 : IVec S32 32) (ix1 q) else 0#32 from funext e49]
  rw [fold_addi_one Finset.univ (⟨ex cn t.val, by omega⟩ : Fin 32) (Finset.mem_univ _) _ fun q hq => if_neg fun e => hq (Fin.ext e.symm)]
  exact if_pos rfl

/-! ## The tables describe a run of experts -/

omit hc in
theorem place_eq {t : ℕ} (ht : t < 96) : place t = ix1 (⟨t, ht⟩ : Fin 96) := by
  funext a
  match a with
  | ⟨0, _⟩ => exact Fin.ext (Nat.mod_eq_of_lt ht)

omit hc in
theorem opens_one : k0_cond2 (BitVec.ofNat 32 1) = 1#1 := by decide
omit hc in
theorem opens_zero : ¬ k0_cond2 (BitVec.ofNat 32 0) = 1#1 := by decide
omit hc in
theorem more_neg : ¬ k0_cond4 4294967295#32 = 1#1 := by decide
omit hc in
theorem more_pos : ∀ n : Fin 32, k0_cond4 (BitVec.ofNat 32 n.val) = 1#1 := by decide

omit hc in
theorem toNat_small {n : ℕ} (h : n < 96) : (BitVec.ofNat 32 n).toNat = n := by rw [BitVec.toNat_ofNat]; omega

omit hc in
/-- Counts in range make tables that describe a run of experts. -/
theorem ready {cn : ℕ → ℕ} (hc : Counted m 0 cn) : Ready (V m) := by
  obtain ⟨hu, hl⟩ := en_31 hc
  have hnu : (nu (V m)).toNat = en cn 31 := by
    rw [show nu (V m) = BitVec.ofNat 32 (en cn 31) from word_v16 hc]
    exact toNat_small (by omega)
  have hbe : ∀ t, t < 96 → be (V m) t = BitVec.ofNat 32 (ex cn t) := fun t ht => by
    have := word_v15 hc ⟨t, ht⟩
    unfold be
    rw [place_eq ht]
    exact this
  have hfs : ∀ t, t < 96 → fs (V m) t = BitVec.ofNat 32 (opn cn t) := fun t ht => by
    have := word_v22 hc ⟨t, ht⟩
    unfold fs
    rw [place_eq ht]
    exact this
  have hsl : ∀ t, t < 96 → sl (V m) t = BitVec.ofNat 32 ((opened cn t - 1) % 2) := fun t ht => by
    have := word_v26 hc ⟨t, ht⟩
    unfold sl
    rw [place_eq ht]
    exact this
  have hnx : ∀ t, (ht : t < 96) → nx (V m) t = (V m 0 main_v42 : IVec S32 32) (ix1 ⟨ex cn t, by have := ex_le cn t; omega⟩) := fun t ht => by
    have := word_v50 hc ⟨t, ht⟩
    unfold nx
    rw [place_eq ht]
    exact this
  unfold Ready
  rw [hnu]
  have hopen : ∀ t, t < 96 → k0_cond2 (fs (V m) t) = 1#1 → opn cn t = 1 := fun t ht h => by
    rw [hfs t ht] at h
    have := opn_le cn t
    by_contra hne
    rw [show opn cn t = 0 by omega] at h
    exact opens_zero h
  have hshut : ∀ t, t < 96 → ¬ k0_cond2 (fs (V m) t) = 1#1 → opn cn t = 0 := fun t ht h => by
    rw [hfs t ht] at h
    have := opn_le cn t
    by_contra hne
    rw [show opn cn t = 1 by omega] at h
    exact h opens_one
  refine ⟨by omega, fun t ht => ?_, fun t ht => ?_, fun t ht hn => ?_, fun h0 => ?_, fun h0 => ?_, fun t ht hf => ?_, fun t ht hf => ?_, fun t ht => ?_⟩
  · have := ex_le cn t
    rw [hbe t (by omega), toNat_small (by omega)]
    omega
  · rw [hsl t (by omega), toNat_small (by omega)]
    omega
  · rw [hnx t (by omega)] at hn ⊢
    rcases word_v42 hc ⟨ex cn t, by have := ex_le cn t; omega⟩ with ⟨n, h1, h2, h3, h4, h5⟩ | ⟨h1, h2⟩
    · rw [h5, toNat_small (by omega)]
      exact h1
    · rw [h2] at hn
      exact absurd hn more_neg
  · rw [hfs 0 (by omega), show opn cn 0 = 1 by simp [opn]]
    exact opens_one
  · rw [hsl 0 (by omega), opened_zero]
    rfl
  · have ho := hopen (t + 1) (by omega) hf
    have hne : ex cn (t + 1) ≠ ex cn t := by
      unfold opn at ho
      by_contra he
      rw [if_neg (by simp [he])] at ho
      omega
    obtain ⟨h1, h2, h3⟩ := ex_next cn t (by omega) hne
    have hle := ex_le cn (t + 1)
    have hn : nx (V m) t = BitVec.ofNat 32 (ex cn (t + 1)) := by
      rw [hnx t (by omega)]
      rcases word_v42 hc ⟨ex cn t, by have := ex_le cn t; omega⟩ with ⟨n, k1, k2, k3, k4, k5⟩ | ⟨k1, k2⟩
      · rw [k5]
        have k2 : ex cn t < n := k2
        rcases Nat.lt_trichotomy n (ex cn (t + 1)) with h | h | h
        · have := h3 n k2 h
          omega
        · rw [h]
        · have := k4 (ex cn (t + 1)) h1 h
          omega
      · have := k1 (ex cn (t + 1)) h1 (by omega)
        omega
    have hos := opened_succ cn t
    have hop := opened_pos cn t
    refine ⟨?_, ?_, ?_⟩
    · rw [hn]
      exact more_pos ⟨ex cn (t + 1), by omega⟩
    · rw [hn, hbe (t + 1) (by omega)]
    · rw [hsl (t + 1) (by omega), hsl t (by omega), toNat_small (by omega), toNat_small (by omega), hos, ho]
      omega
  · have ho := hshut (t + 1) (by omega) hf
    have he : ex cn (t + 1) = ex cn t := by
      unfold opn at ho
      by_contra hne
      rw [if_pos (Or.inr (by simpa using hne))] at ho
      omega
    have hos := opened_succ cn t
    refine ⟨?_, ?_, ?_⟩
    · rw [hbe (t + 1) (by omega), hbe t (by omega), he]
    · rw [hsl (t + 1) (by omega), hsl t (by omega), hos, ho]
      rfl
    · rw [hnx (t + 1) (by omega), hnx t (by omega)]
      exact congrArg (fun q => (V m 0 main_v42 : IVec S32 32) (ix1 q)) (Fin.ext he)
  · rw [hnx t (by omega)]
    rcases word_v42 hc ⟨ex cn t, by have := ex_le cn t; omega⟩ with ⟨n, h1, h2, h3, h4, h5⟩ | ⟨h1, h2⟩
    · have := ex_last cn t ht n h2 h1
      omega
    · rw [h2]
      exact more_neg

end Cert.Kernel2Ideal.Gmm

end
-- ==== Proof.GmmPre.lean ====
/- The precondition of the expert call's claims, read: if `counted` is all ones of the counts, each count is a natural
   number of at most 32768 and the counts sum to 32768. -/
module

public import proofs.«01_k».proof.Defs
public import proofs.«01_k».proof.Proof.GmmTables
public import proofs.«01_k».proof.Proof.Gen.Pre_counted
public import Idealize.ShloMosaic.Lib.WordCmp

@[expose] public section

noncomputable section

namespace Cert.Kernel2Ideal.Gmm

open Cert.Kernel2Ideal Cert.Kernel2Ideal.Gen
open Idealize.ShloMosaic hiding ix1 ix2 ix3 eq_ix1 eq_ix2
open Idealize.ShloMosaic.TcCoe
open Idealize.ShloMosaic.Routing Idealize.ShloMosaic.ValueIdx

variable {F : FTy → Type} [FloatOps F]

theorem both_ones {a b : BitVec 1} (h : IntOp.andi a b = 1#1) : a = 1#1 ∧ b = 1#1 := by
  unfold IntOp.andi at h
  revert h; revert a b; decide

theorem word_of_toNat (a : BitVec 32) : BitVec.ofNat 32 a.toNat = a := (BitVec.ofNat_toNat 32 a).trans (BitVec.setWidth_eq a)

/-- The counts a vector of words holds, as natural numbers. -/
def countsOf (a : IVec S32 32) (e : ℕ) : ℕ := if h : e < 32 then (a (ix1 (⟨e, h⟩ : Fin 32)) : BitVec 32).toNat else 0

/-- A sum of `n` naturals, each at most `b`, is at most `n * b`. -/
theorem sum_le_mul (f : ℕ → ℕ) (b : ℕ) (h : ∀ e, f e ≤ b) (n : ℕ) : ((List.range n).map f).sum ≤ n * b := by
  induction n with
  | zero => simp
  | succ n ih =>
    rw [List.range_succ, List.map_append, List.sum_append, List.map_singleton, List.sum_singleton, Nat.succ_mul]
    exact Nat.add_le_add ih (h n)

/-- The precondition, read. -/
theorem counted_of (a : IVec S32 32) (x : FVec F S393216x128 .f32) (g u : FVec F S32x1024x512 .f32) (d : FVec F S32x512x1024 .f32)
    (h : Cert.Pre_counted.fn a x g u d = fun _ => 1#1) :
    (∀ e, countsOf a e ≤ 32768) ∧ ((List.range 32).map (countsOf a)).sum = 32768 := by
  have hone : ∀ i : Fin 32, (a (ix1 i) : BitVec 32).toNat ≤ 32768 ∧
      Host.reduce IntOp.addi a (constantI shape0 32 0#32) Cert.Pre_counted.Gen.reducesTo_S32_S_d0 Cert.Pre_counted.Gen.h_S_ ValueIdx.ix0 = 32768#32 := by
    intro i
    have hi := congrFun h (ix1 i)
    unfold Cert.Pre_counted.fn at hi
    obtain ⟨h1, h2⟩ := both_ones hi
    obtain ⟨h3, h4⟩ := both_ones h1
    change IntOp.cmpi .sge (a (ix1 i)) 0#32 = 1#1 at h3
    change IntOp.cmpi .sle (a (ix1 i)) 32768#32 = 1#1 at h4
    rw [WordCmp.cmpi_sge_zero, WordCmp.ofBool_decide_eq_one_iff] at h3
    rw [WordCmp.cmpi_sle_of_lt h3 (by decide), WordCmp.ofBool_decide_eq_one_iff] at h4
    refine ⟨h4, ?_⟩
    rw [broadcastInDim_apply _ _ _ (ix1 i) ValueIdx.ix0 fun b => b.elim0] at h2
    change IntOp.cmpi .eq _ 32768#32 = 1#1 at h2
    rw [WordCmp.cmpi_eq_eq, WordCmp.ofBool_decide_eq_one_iff] at h2
    exact h2
  have hle : ∀ e, countsOf a e ≤ 32768 := by
    intro e
    unfold countsOf
    split
    · exact (hone _).1
    · exact Nat.zero_le _
  refine ⟨hle, ?_⟩
  have hs := (hone 0).2
  rw [reduce_sum a (countsOf a) (fun i => by unfold countsOf; rw [dif_pos i.isLt]; exact (word_of_toNat _).symm)] at hs
  have hb := sum_le_mul (countsOf a) 32768 hle 32
  have := congrArg BitVec.toNat hs
  rw [BitVec.toNat_ofNat] at this
  change _ = 32768 at this
  omega

/-- The counts the call is given, on a device. -/
def counts (m : (ℓ : Loc nD τ sig) → Buf (Elt F) ℓ) (c : Dev nD) : ℕ → ℕ := countsOf (m ((c : Thread nD τ).loc main_arg0))

theorem counted (m : (ℓ : Loc nD τ sig) → Buf (Elt F) ℓ) (c : Dev nD)
    (hpre : Cert.Pre_counted.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Counted m c (counts m c) := by
  obtain ⟨h1, h2⟩ := counted_of _ _ _ _ _ hpre
  refine ⟨fun e => ?_, h1, h2⟩
  unfold counts countsOf
  rw [dif_pos e.isLt]
  exact (word_of_toNat _).symm

end Cert.Kernel2Ideal.Gmm

end
-- ==== Proof.GmmBits.lean ====
/- The expert call over the words: its program is the idealized one's, host operation by host operation and body by body. -/
module

public import proofs.«01_k».proof.Proof.Gen.Kernel2.Launch
public import proofs.«01_k».proof.Proof.Gen.Kernel2Ideal.Launch

@[expose] public section

noncomputable section

namespace Cert.Proof

open Idealize.ShloMosaic

variable {F : FTy → Type} [FloatOps F]

/-! ## The host operations -/

theorem host_0 : (Cert.Kernel2.Gen.hostOps0 : List (HloOp Cert.Kernel2.τ Cert.Kernel2.sig (Elt F))) = Cert.Kernel2Ideal.Gen.hostOps0 := rfl
theorem host_1 : (Cert.Kernel2.Gen.hostOps0_1 : List (HloOp Cert.Kernel2.τ Cert.Kernel2.sig (Elt F))) = Cert.Kernel2Ideal.Gen.hostOps0_1 := rfl
theorem host_2 : (Cert.Kernel2.Gen.hostOps0_2 : List (HloOp Cert.Kernel2.τ Cert.Kernel2.sig (Elt F))) = Cert.Kernel2Ideal.Gen.hostOps0_2 := rfl
theorem host_3 : (Cert.Kernel2.Gen.hostOps0_3 : List (HloOp Cert.Kernel2.τ Cert.Kernel2.sig (Elt F))) = Cert.Kernel2Ideal.Gen.hostOps0_3 := rfl
theorem host_4 : (Cert.Kernel2.Gen.hostOps0_4 : List (HloOp Cert.Kernel2.τ Cert.Kernel2.sig (Elt F))) = Cert.Kernel2Ideal.Gen.hostOps0_4 := rfl
theorem host_5 : (Cert.Kernel2.Gen.hostOps0_5 : List (HloOp Cert.Kernel2.τ Cert.Kernel2.sig (Elt F))) = Cert.Kernel2Ideal.Gen.hostOps0_5 := rfl
theorem host_6 : (Cert.Kernel2.Gen.hostOps0_6 : List (HloOp Cert.Kernel2.τ Cert.Kernel2.sig (Elt F))) = Cert.Kernel2Ideal.Gen.hostOps0_6 := rfl
theorem host_7 : (Cert.Kernel2.Gen.hostOps0_7 : List (HloOp Cert.Kernel2.τ Cert.Kernel2.sig (Elt F))) = Cert.Kernel2Ideal.Gen.hostOps0_7 := rfl
theorem host_8 : (Cert.Kernel2.Gen.hostOps0_8 : List (HloOp Cert.Kernel2.τ Cert.Kernel2.sig (Elt F))) = Cert.Kernel2Ideal.Gen.hostOps0_8 := rfl
theorem host_9 : (Cert.Kernel2.Gen.hostOps0_9 : List (HloOp Cert.Kernel2.τ Cert.Kernel2.sig (Elt F))) = Cert.Kernel2Ideal.Gen.hostOps0_9 := rfl
theorem host_10 : (Cert.Kernel2.Gen.hostOps0_10 : List (HloOp Cert.Kernel2.τ Cert.Kernel2.sig (Elt F))) = Cert.Kernel2Ideal.Gen.hostOps0_10 := rfl
theorem host_11 : (Cert.Kernel2.Gen.hostOps0_11 : List (HloOp Cert.Kernel2.τ Cert.Kernel2.sig (Elt F))) = Cert.Kernel2Ideal.Gen.hostOps0_11 := rfl
theorem host_12 : (Cert.Kernel2.Gen.hostOps0_12 : List (HloOp Cert.Kernel2.τ Cert.Kernel2.sig (Elt F))) = Cert.Kernel2Ideal.Gen.hostOps0_12 := rfl
theorem host_13 : (Cert.Kernel2.Gen.hostOps0_13 : List (HloOp Cert.Kernel2.τ Cert.Kernel2.sig (Elt F))) = Cert.Kernel2Ideal.Gen.hostOps0_13 := rfl
theorem host_14 : (Cert.Kernel2.Gen.hostOps0_14 : List (HloOp Cert.Kernel2.τ Cert.Kernel2.sig (Elt F))) = Cert.Kernel2Ideal.Gen.hostOps0_14 := rfl
theorem host_15 : (Cert.Kernel2.Gen.hostOps0_15 : List (HloOp Cert.Kernel2.τ Cert.Kernel2.sig (Elt F))) = Cert.Kernel2Ideal.Gen.hostOps0_15 := rfl

set_option maxHeartbeats 8000000 in
theorem gmm_main_eq (c : Dev Cert.Kernel2.nD) : Cert.Kernel2.main (F := F) c = Cert.Kernel2Ideal.main (F := F) c := by
  rw [Cert.Kernel2.Gen.main_chain, Cert.Kernel2Ideal.Gen.main_chain, host_0, host_1, host_2, host_3, host_4, host_5, host_6, host_7, host_8, host_9, host_10, host_11, host_12, host_13, host_14, host_15]
  rfl

/-! ## The body -/

set_option maxHeartbeats 4000000 in
theorem part2_eq : Cert.Kernel2.k0_part2 (F := F) = Cert.Kernel2Ideal.k0_part2 (F := F) := by
  unfold Cert.Kernel2.k0_part2 Cert.Kernel2Ideal.k0_part2
  rfl

set_option maxHeartbeats 4000000 in
theorem part1_eq : Cert.Kernel2.k0_part1 (F := F) = Cert.Kernel2Ideal.k0_part1 (F := F) := by
  unfold Cert.Kernel2.k0_part1 Cert.Kernel2Ideal.k0_part1
  rfl

set_option maxHeartbeats 4000000 in
theorem body_eq : Cert.Kernel2.cc0_moe_gmm (F := F) = Cert.Kernel2Ideal.cc0_moe_gmm (F := F) := by
  unfold Cert.Kernel2.cc0_moe_gmm Cert.Kernel2Ideal.cc0_moe_gmm
  rfl

set_option maxHeartbeats 4000000 in
theorem gmm_bodies_eq : Cert.Kernel2.defs₀ (F := F) = Cert.Kernel2Ideal.defs₀ (F := F) := by
  unfold Cert.Kernel2.defs₀ Cert.Kernel2Ideal.defs₀
  refine congrArg _ (funext fun l => funext fun a => ?_)
  match l, a with
  | ⟨0, _⟩, (t, s) => rfl
  | ⟨_ + 1, h⟩, _ => exact absurd h (Nat.not_lt.2 (Nat.le_add_left _ _))

set_option maxHeartbeats 8000000 in
theorem gmm_table_eq : Cert.Kernel2.defs (F := F) = Cert.Kernel2Ideal.defs (F := F) :=
  congrArg (Pipeline.defs Cert.Kernel2Ideal.pcfgs) gmm_bodies_eq

end Cert.Proof

end
-- ==== Proof.GmmClaims.lean ====
/- The expert call's frames: one run, over any float values, read over the words and over the extended reals; and the
   reference's. -/
module

public import proofs.«01_k».proof.Proof.GmmPre
public import proofs.«01_k».proof.Proof.GmmBits
public import proofs.«01_k».proof.Proof.Gen.Reference2Ideal.Run

@[expose] public section

noncomputable section

namespace Cert.Proof

open Idealize.ShloMosaic Idealize.ShloMosaic.TcCoe Idealize.SL.Sem

section Run

variable {F : FTy → Type} [FloatOps F] [∀ e, Nonempty (Elt F e)]

open Cert.Kernel2Ideal Cert.Kernel2Ideal.Gmm in
/-- The expert call, its result the array its blocks are written to. -/
theorem gmm_run (m : (ℓ : Loc nD τ sig) → Buf (Elt F) ℓ) (ρ : Dev nD → PrngReg)
    (hpre : ∀ c : Dev nD, Cert.Pre_counted.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    θ_run defs (onTc (τ := τ) (main (F := F))) ⟨m, fun _ => 0, ρ⟩ (fun r => (∀ c : Dev nD,
        r.2.mem ((c.tc : Thread nD τ).loc main_v51) = (dats (V m) 0 c).arrAt 1 (cfg0 (adm (V m))).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun r h => ⟨fun c => ⟨(h.1 c).1, (h.1 c).2.1.trans (V_main_arg0 m c), (h.1 c).2.2.1.trans (V_main_arg1 m c),
    (h.1 c).2.2.2.1.trans (V_main_arg2 m c), (h.1 c).2.2.2.2.1.trans (V_main_arg3 m c), (h.1 c).2.2.2.2.2.trans (V_main_arg4 m c)⟩, h.2⟩)
    (run_named (V m) (ready (counted m 0 (hpre 0))) m ρ (main_run m))

end Run

/-! ## The program over the words

`Kernel2` and `Kernel2Ideal` have the same text: their tables of bodies and their programs agree. -/

set_option maxHeartbeats 8000000 in
open Cert.Kernel2 in
/-- The expert call's run over the words. -/
theorem gmm_run_bits (m : (ℓ : Loc nD τ sig) → Buf (Elt Bits) ℓ) (ρ : Dev nD → PrngReg) (hpre : Cert.Pre_Kernel2 m) :
    θ_run defs (onTc (τ := τ) (main (F := Bits))) ⟨m, fun _ => 0, ρ⟩ (fun r => (∀ c : Dev nD,
        r.2.mem ((c.tc : Thread nD τ).loc main_v51) = (Cert.Kernel2Ideal.Gmm.dats (Cert.Kernel2Ideal.Gmm.V m) 0 c).arrAt 1
            (Cert.Kernel2Ideal.cfg0 (Cert.Kernel2Ideal.Gmm.adm (Cert.Kernel2Ideal.Gmm.V m))).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  rw [gmm_table_eq, show Cert.Kernel2.main (F := Bits) = Cert.Kernel2Ideal.main (F := Bits) from funext gmm_main_eq]
  exact gmm_run (F := Bits) m ρ hpre

/-! ## The frames -/

theorem frame_kernel2 : Cert.quiescent_Kernel2 := fun m ρ hpre =>
  (θ_run Cert.Kernel2.defs _ _).mono (fun _ h => ⟨fun c => (h.1 c).2, h.2⟩) (gmm_run_bits m ρ hpre)

theorem frame_kernel2Ideal : Cert.quiescent_Kernel2Ideal := fun m ρ hpre =>
  (θ_run Cert.Kernel2Ideal.defs _ _).mono (fun _ h => ⟨fun c => (h.1 c).2, h.2⟩) (gmm_run (F := Ideal) m ρ hpre)

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.GmmProduct.lean ====
/- One entry of the experts' feed-forward, over the extended reals: a token's row through one expert's three matrices. -/
module

public import Idealize.ShloMosaic.Lib.Pointwise

@[expose] public section

noncomputable section

namespace Cert.Gmm

open Idealize.ShloMosaic

/-- The gated product: the gate's entry, its logistic, the up matrix's entry. -/
def gated (a b : EReal) : EReal := a * Ideal.div 1 (1 + Ideal.exp (-a)) * b

/-- A token's row `x` through the gate matrix `G`, the up matrix `U` and one column `D` of the down matrix. -/
def product (x : Fin 1024 → EReal) (G U : Fin 1024 → Fin 512 → EReal) (D : Fin 512 → EReal) : EReal :=
  ∑ f, gated (∑ k, x k * G k f) (∑ k, x k * U k f) * D f

theorem product_congr {x x' : Fin 1024 → EReal} {G G' U U' : Fin 1024 → Fin 512 → EReal} {D D' : Fin 512 → EReal} (hx : ∀ k, x k = x' k)
    (hG : ∀ k f, G k f = G' k f) (hU : ∀ k f, U k f = U' k f) (hD : ∀ f, D f = D' f) : product x G U D = product x' G' U' D' := by
  rw [funext hx, funext hD, show G = G' from funext fun k => funext (hG k), show U = U' from funext fun k => funext (hU k)]

end Cert.Gmm

end
-- ==== Proof.GmmTile.lean ====
/- A row block's product with one expert over the extended reals, read at one row and column. -/
module

public import proofs.«01_k».proof.Proof.GmmExpert
public import proofs.«01_k».proof.Proof.GmmProduct
public import Idealize.ShloMosaic.Lib.Pointwise

@[expose] public section

set_option maxRecDepth 16384

noncomputable section

namespace Cert.Kernel2Ideal.Gmm

open Cert.Kernel2Ideal Cert.Kernel2Ideal.Gen
open Idealize.ShloMosaic Idealize.ShloMosaic.TcCoe

/-- What follows the eight strided loads of a row block: the product with the gate and up weights, the gated rows, and their product
    with the down weights. -/
def after8 (v21 : FVec Ideal S512x1024 .f32) (v23 : FVec Ideal S1024x1024 .bf16) (v37 : FVec Ideal S512x1024 .bf16) : FVec Ideal S512x1024 .f32 :=
  have v22 : FVec Ideal S512x1024 .bf16 := truncf .bf16 v21 bitsLt_bf16_f32
  have v24 : FVec Ideal S512x1024 .f32 := matmul dot_S512x1024_S1024x1024_S512x1024_1_0_0_1_n_n none v22 v23 (constant S512x1024 .f32 0x00000000#32)
  have v25 : FVec Ideal S512x512 .f32 := extractStridedSlice S512x512 ![0, 0] v24 slices_S512x1024_o0_0_S512x512
  have v30 : FVec Ideal S512x512 .f32 := addf (broadcast S512x512 (Scalar.ofBits .f32 0x3F800000#32)) (exp (subf (broadcast S512x512 (Scalar.ofBits .f32 0x00000000#32)) v25))
  have v32 : FVec Ideal S512x512 .f32 := divf (broadcast S512x512 (Scalar.ofBits .f32 0x3F800000#32)) v30
  have v34 : FVec Ideal S512x512 .f32 := extractStridedSlice S512x512 ![0, 512] v24 slices_S512x1024_o0_512_S512x512
  have v36 : FVec Ideal S512x512 .bf16 := truncf .bf16 (mulf (mulf v25 v32) v34) bitsLt_bf16_f32
  matmul dot_S512x512_S512x1024_S512x1024_1_0_0_1_n_n none v36 v37 (constant S512x1024 .f32 0x00000000#32)

theorem after8_at (v21 : FVec Ideal S512x1024 .f32) (v23 : FVec Ideal S1024x1024 .bf16) (v37 : FVec Ideal S512x1024 .bf16) (q : Fin 512) (n : Fin 1024) :
    after8 v21 v23 v37 (ix2 q n) = Cert.Gmm.product (fun k => v21 (ix2 q k)) (fun k f => v23 (ix2 k ⟨f.val, by omega⟩))
      (fun k f => v23 (ix2 k ⟨512 + f.val, by omega⟩)) (fun f => v37 (ix2 f n)) := by
  pointwise [after8]
  unfold Cert.Gmm.product Cert.Gmm.gated
  refine Finset.sum_congr rfl fun f _ => ?_
  rw [zero_sub]

/-- The eight strided loads side by side are the row block, eight rows to a tile's row. -/
theorem rows_at (X : S4096x128.Idx → Ideal .f32) (q : Fin 512) (d : Fin 1024) :
    (concatenate S512x1024 1 [⟨S512x128, rowsOf X 0⟩, ⟨S512x128, rowsOf X 1⟩, ⟨S512x128, rowsOf X 2⟩, ⟨S512x128, rowsOf X 3⟩, ⟨S512x128, rowsOf X 4⟩, ⟨S512x128, rowsOf X 5⟩, ⟨S512x128, rowsOf X 6⟩, ⟨S512x128, rowsOf X 7⟩] concatenates_S512x128_S512x128_S512x128_S512x128_S512x128_S512x128_S512x128_S512x128_S512x1024_d1 : FVec Ideal S512x1024 .f32) (ix2 q d)
      = X (ix2 ⟨8 * q.val + d.val / 128, by omega⟩ ⟨d.val % 128, by omega⟩) := by
  have hd := d.isLt
  have hq := q.isLt
  have hr : ∀ (s : ℕ) (hs : s < 8) (l : Fin 128), d.val = 128 * s + l.val →
      rowsOf X s (ix2 q l) = X (ix2 ⟨8 * q.val + d.val / 128, by omega⟩ ⟨d.val % 128, by omega⟩) := by
    intro s hs l h
    have hl := l.isLt
    unfold rowsOf
    refine congrArg X (funext fun a => Fin.ext ?_)
    fin_cases a
    · show (s + 8 * q.val) % 4096 = 8 * q.val + d.val / 128
      omega
    · show l.val = d.val % 128
      omega
  pointwise
  by_cases h0 : d.val < 128
  · rw [dif_pos h0]; exact hr 0 (by omega) _ (by show d.val = 128 * 0 + d.val; omega)
  rw [dif_neg h0]
  by_cases h1 : d.val - 128 < 128
  · rw [dif_pos h1]; exact hr 1 (by omega) _ (by show d.val = _ + (d.val - 128); omega)
  rw [dif_neg h1]
  by_cases h2 : d.val - 128 - 128 < 128
  · rw [dif_pos h2]; exact hr 2 (by omega) _ (by show d.val = _ + (d.val - 128 - 128); omega)
  rw [dif_neg h2]
  by_cases h3 : d.val - 128 - 128 - 128 < 128
  · rw [dif_pos h3]; exact hr 3 (by omega) _ (by show d.val = _ + (d.val - 128 - 128 - 128); omega)
  rw [dif_neg h3]
  by_cases h4 : d.val - 128 - 128 - 128 - 128 < 128
  · rw [dif_pos h4]; exact hr 4 (by omega) _ (by show d.val = _ + (d.val - 128 - 128 - 128 - 128); omega)
  rw [dif_neg h4]
  by_cases h5 : d.val - 128 - 128 - 128 - 128 - 128 < 128
  · rw [dif_pos h5]; exact hr 5 (by omega) _ (by show d.val = _ + (d.val - 128 - 128 - 128 - 128 - 128); omega)
  rw [dif_neg h5]
  by_cases h6 : d.val - 128 - 128 - 128 - 128 - 128 - 128 < 128
  · rw [dif_pos h6]; exact hr 6 (by omega) _ (by show d.val = _ + (d.val - 128 - 128 - 128 - 128 - 128 - 128); omega)
  rw [dif_neg h6]
  exact hr 7 (by omega) _ (by show d.val = _ + (d.val - 128 - 128 - 128 - 128 - 128 - 128 - 128); omega)

theorem cast9_at (X : S1x1024x512.Idx → Ideal .f32) (d : Fin 1024) (f : Fin 512) : k0_pay9 (F := Ideal) X (ix2 d f) = X (ix3 0 d f) := by
  pointwise [k0_pay9]

theorem cast10_at (X : S1x1024x512.Idx → Ideal .f32) (d : Fin 1024) (f : Fin 512) : k0_pay10 (F := Ideal) X (ix2 d f) = X (ix3 0 d f) := by
  pointwise [k0_pay10]

theorem cast11_at (X : S1x512x1024.Idx → Ideal .f32) (d : Fin 512) (f : Fin 1024) : k0_pay11 (F := Ideal) X (ix2 d f) = X (ix3 0 d f) := by
  pointwise [k0_pay11]

theorem slabOf_at {P Q : ℕ} (Y : (slabs 32 P Q).Idx → Ideal .f32) (e : Fin 32) (a : Fin P) (b : Fin Q) :
    slabOf (n := 1) Y e.val (ix3 0 a b) = Y (ix3 e a b) := by
  unfold slabOf
  refine congrArg Y (funext fun i => ?_)
  fin_cases i
  · exact Fin.ext (Nat.mod_eq_of_lt e.isLt)
  · rfl
  · rfl

theorem half_eq (k : Fin 1024) (f : Fin 512) : half k f.val = ix2 k f := by
  funext i
  fin_cases i
  · rfl
  · exact Fin.ext (Nat.mod_eq_of_lt f.isLt)

section At

variable (X1 X2 : (slabs 32 1024 512).Idx → Ideal .f32) (X3 : (slabs 32 512 1024).Idx → Ideal .f32) (e : Fin 32)

theorem gate_at (k : Fin 1024) (f : Fin 512) (h : f.val < 1024) : cast14 (F := Ideal) X1 X2 e.val (ix2 k ⟨f.val, h⟩) = X1 (ix3 e k f) := by
  have e1 : cast14 (F := Ideal) X1 X2 e.val (ix2 k ⟨f.val, h⟩) = k0_pay9 (F := Ideal) (slabOf (n := 1) X1 e.val) (half k f.val) := if_pos f.isLt
  rw [e1, half_eq, cast9_at, slabOf_at]

theorem up_at (k : Fin 1024) (f : Fin 512) (h : 512 + f.val < 1024) : cast14 (F := Ideal) X1 X2 e.val (ix2 k ⟨512 + f.val, h⟩) = X2 (ix3 e k f) := by
  have e1 : cast14 (F := Ideal) X1 X2 e.val (ix2 k ⟨512 + f.val, h⟩) = k0_pay10 (F := Ideal) (slabOf (n := 1) X2 e.val) (half k (512 + f.val - 512)) :=
    if_neg (show ¬ 512 + f.val < 512 by omega)
  rw [e1, Nat.add_sub_cancel_left, half_eq, cast10_at, slabOf_at]

theorem down_at (f : Fin 512) (n : Fin 1024) : cast15 (F := Ideal) X3 e.val (ix2 f n) = X3 (ix3 e f n) := by
  unfold cast15
  rw [cast11_at, slabOf_at]

theorem tile_eq (X : S4096x128.Idx → Ideal .f32) (e : ℕ) :
    tileOf (F := Ideal) X1 X2 X3 X e = after8 (concatenate S512x1024 1 [⟨S512x128, rowsOf X 0⟩, ⟨S512x128, rowsOf X 1⟩, ⟨S512x128, rowsOf X 2⟩, ⟨S512x128, rowsOf X 3⟩, ⟨S512x128, rowsOf X 4⟩, ⟨S512x128, rowsOf X 5⟩, ⟨S512x128, rowsOf X 6⟩, ⟨S512x128, rowsOf X 7⟩] concatenates_S512x128_S512x128_S512x128_S512x128_S512x128_S512x128_S512x128_S512x128_S512x1024_d1) (cast14 (F := Ideal) X1 X2 e) (cast15 (F := Ideal) X3 e) := by
  unfold tileOf k0_pay12 after8
  rfl

/-- A row block's product with expert `e`, at row `q`, column `n`. -/
theorem tile_at (X : S4096x128.Idx → Ideal .f32) (q : Fin 512) (n : Fin 1024) :
    tileOf (F := Ideal) X1 X2 X3 X e.val (ix2 q n)
      = Cert.Gmm.product (fun k => X (ix2 ⟨8 * q.val + k.val / 128, by omega⟩ ⟨k.val % 128, by omega⟩)) (fun k f => X1 (ix3 e k f))
          (fun k f => X2 (ix3 e k f)) (fun f => X3 (ix3 e f n)) := by
  rw [tile_eq, after8_at]
  exact Cert.Gmm.product_congr (fun k => rows_at X q k) (fun k f => gate_at X1 X2 e k f _) (fun k f => up_at X1 X2 e k f _) (fun f => down_at X3 e f n)

end At

end Cert.Kernel2Ideal.Gmm

end
-- ==== Proof.GmmMine.lean ====
/- The reference of the expert call: which slots are each expert's, from the counts, and its result as one sum over the experts. -/
module

public import proofs.«01_k».proof.Proof.GmmCounts
public import proofs.«01_k».proof.Proof.Gen.Reference2Ideal.Run
public import Idealize.ShloMosaic.Lib.Routing.Ops
public import Idealize.ShloMosaic.Lib.Routing.Words
public import Idealize.ShloMosaic.Lib.WordCmp

@[expose] public section

noncomputable section

namespace Cert.Reference2Ideal.Gmm

open Cert.Reference2Ideal Cert.Reference2Ideal.Gen Cert.Reference2Ideal.Value
open Idealize.ShloMosaic
open Idealize.ShloMosaic.TcCoe
open Idealize.ShloMosaic.Routing Idealize.ShloMosaic.ValueIdx
open Cert.Kernel2Ideal.Gmm (nb en en_succ en_mono en_bounds)

variable {F : FTy → Type} [FloatOps F]

/-- Each expert's run of slots, its count rounded up to whole blocks of 512. -/
def spans (a : IVec S32 32) : IVec S32 32 :=
  muli (pyDiv bcast_S_S32 (subi (addi a (broadcastInDim S32 ![] bcast_S_S32 (constantI S_ 32 512#32))) (broadcastInDim S32 ![] bcast_S_S32 (constantI S_ 32 1#32))) (constantI S_ 32 512#32))
    (broadcastInDim S32 ![] bcast_S_S32 (constantI S_ 32 512#32))

/-- The slot past each expert's run. -/
def stops (a : IVec S32 32) : IVec S32 32 :=
  Host.reduceWindow IntOp.addi ![32] ![1] ![31] ![0] (spans a) (broadcastInDim S_ ![] bcast_S_S_ (constantI S_ 32 0#32)) reduceWindows_S32_S32_w32s1p31_0 h_S_

/-- Whether a slot is in an expert's run. -/
def mine (a : IVec S32 32) : IVec S32x49152 1 :=
  andi (cmpi .sge (broadcastInDim S32x49152 ![0, 1] bcast_S1x49152_S32x49152_0_1 (broadcastInDim S1x49152 ![1] bcast_S49152_S1x49152_1 (iotaInDim S49152 32 0))) (broadcastInDim S32x49152 ![0, 1] bcast_S32x1_S32x49152_0_1 (broadcastInDim S32x1 ![0] bcast_S32_S32x1_0 (subi (stops a) (spans a))))) (cmpi .slt (broadcastInDim S32x49152 ![0, 1] bcast_S1x49152_S32x49152_0_1 (broadcastInDim S1x49152 ![1] bcast_S49152_S1x49152_1 (iotaInDim S49152 32 0))) (broadcastInDim S32x49152 ![0, 1] bcast_S32x1_S32x49152_0_1 (broadcastInDim S32x1 ![0] bcast_S32_S32x1_0 (stops a))))

/-- The experts' products of every token row, each slot's own kept, summed. -/
def total (p : IVec S32x49152 1) (t : FVec F S49152x1024 .f32) (g u : FVec F S32x1024x512 .f32) (d : FVec F S32x512x1024 .f32) : FVec F S49152x1024 .f32 :=
  Host.reduceAdd (select (broadcastInDim S32x49152x1024 ![0, 1, 2] bcast_S32x49152x1_S32x49152x1024_0_1_2 (broadcastInDim S32x49152x1 ![0, 1] bcast_S32x49152_S32x49152x1_0_1 p)) (Host.dotGeneral dot_S32x49152x512_S32x512x1024_S32x49152x1024_2_1_1_2_0_0 none (mulf (mulf (transpose S32x49152x512 [0, 2, 1] (Host.dotGeneral dot_S32x1024x512_S49152x1024_S32x512x49152_1_1_02_0_n_n none g t) transposes_S32x512x49152_S32x49152x512_0_2_1) (Host.divf (broadcastInDim S32x49152x512 ![] bcast_S_S32x49152x512 (constant S_ .f32 0x3F800000#32)) (addf (broadcastInDim S32x49152x512 ![] bcast_S_S32x49152x512 (constant S_ .f32 0x3F800000#32)) (Host.exp (Host.negf (transpose S32x49152x512 [0, 2, 1] (Host.dotGeneral dot_S32x1024x512_S49152x1024_S32x512x49152_1_1_02_0_n_n none g t) transposes_S32x512x49152_S32x49152x512_0_2_1)))))) (transpose S32x49152x512 [0, 2, 1] (Host.dotGeneral dot_S32x1024x512_S49152x1024_S32x512x49152_1_1_02_0_n_n none u t) transposes_S32x512x49152_S32x49152x512_0_2_1)) d) (broadcastInDim S32x49152x1024 ![] bcast_S_S32x49152x1024 (id (constant S_ .f32 0x00000000#32)))) (constant S_ .f32 0x00000000#32) reducesTo_S32x49152x1024_S49152x1024_d0 h_S_

set_option maxRecDepth 8192 in
/-- The reference's result. -/
theorem res_eq (m : (ℓ : Loc nD τ sig) → Buf (Elt F) ℓ) (c : Dev nD) :
    res_main_v32 m c = shapeCast S393216x128 (total (mine (m ((c.tc : Thread nD τ).loc main_arg0)))
      (shapeCast S49152x1024 (m ((c.tc : Thread nD τ).loc main_arg1)) shapeCasts_S393216x128_S49152x1024) (m ((c.tc : Thread nD τ).loc main_arg2))
      (m ((c.tc : Thread nD τ).loc main_arg3)) (m ((c.tc : Thread nD τ).loc main_arg4))) shapeCasts_S49152x1024_S393216x128 := by
  unfold res_main_v32
  rfl

section Words

variable {a : IVec S32 32} {cn : ℕ → ℕ} (ha : ∀ e : Fin 32, a (ix1 e) = BitVec.ofNat 32 (cn e.val)) (hle : ∀ e, cn e ≤ 32768)
  (htot : ((List.range 32).map cn).sum = 32768)

include hle ha in
theorem word_spans (e : Fin 32) : spans a (ix1 e) = BitVec.ofNat 32 (512 * nb cn e.val) := by
  have h := hle e.val
  have hd := pyDiv_ap bcast_S_S32 (subi (addi a (broadcastInDim S32 ![] bcast_S_S32 (constantI S_ 32 512#32))) (broadcastInDim S32 ![] bcast_S_S32 (constantI S_ 32 1#32))) (constantI S_ 32 512#32)
    (ix1 e) (a := cn e.val + 511) (b := 512) (by
      show (show BitVec 32 from a (ix1 e)) + 512#32 - 1#32 = _
      rw [ha e, show (512#32 : BitVec 32) = BitVec.ofNat 32 512 from rfl, BitVec.ofNat_add_ofNat,
        show (1#32 : BitVec 32) = BitVec.ofNat 32 1 from rfl, ofNat32_sub (by omega)]
      rfl) rfl (by omega) (by decide) (by decide)
  unfold spans
  refine (congrArg (fun w => IntOp.muli w 512#32) hd).trans ?_
  show IntOp.muli (BitVec.ofNat 32 _) (BitVec.ofNat 32 512) = _
  rw [WordCmp.muli_ofNat, Nat.mul_comm]
  rfl

theorem sum_spans (n : ℕ) : ((List.range (n + 1)).map fun e => 512 * nb cn e).sum = 512 * en cn n := by
  rw [List.sum_map_mul_left]
  rfl

include hle ha in
theorem word_stops (e : Fin 32) : stops a (ix1 e) = BitVec.ofNat 32 (512 * en cn e.val) := by
  unfold stops
  exact (cumsum1 (N := 32) (Nm1 := 31) rfl (spans a) (fun e => 512 * nb cn e) (word_spans ha hle) _ rfl _ _ e).trans
    (congrArg (BitVec.ofNat 32) (sum_spans e.val))

theorem nb_le_en (e : ℕ) : nb cn e ≤ en cn e := by
  cases e with
  | zero => exact Nat.le_of_eq (by simp [en])
  | succ e => rw [en_succ]; exact Nat.le_add_left _ _

include hle ha htot in
theorem mine_iff (e : Fin 32) (s : Fin 49152) : mine a (ix2 e s) = 1#1 ↔ 512 * (en cn e.val - nb cn e.val) ≤ s.val ∧ s.val < 512 * en cn e.val := by
  have h31 : en cn 31 ≤ 95 := by have h := en_bounds cn 31; rw [htot] at h; omega
  have hen : en cn e.val ≤ 95 := le_trans (en_mono cn (by omega)) h31
  have hnb := nb_le_en (cn := cn) e.val
  have hs := s.isLt
  have e1 := bcCols bcast_S49152_S1x49152_1 bcast_S1x49152_S32x49152_0_1 (iotaInDim S49152 32 0) e s
  have e2 := bcRows bcast_S32_S32x1_0 bcast_S32x1_S32x49152_0_1 (subi (stops a) (spans a)) e s
  have e3 := bcRows bcast_S32_S32x1_0 bcast_S32x1_S32x49152_0_1 (stops a) e s
  have w2 : (subi (stops a) (spans a)) (ix1 e) = BitVec.ofNat 32 (512 * (en cn e.val - nb cn e.val)) := by
    show (show BitVec 32 from stops a (ix1 e)) - (show BitVec 32 from spans a (ix1 e)) = _
    rw [word_stops ha hle e, word_spans ha hle e, ofNat32_sub (by omega), ← Nat.mul_sub]
  have key : mine a (ix2 e s) = IntOp.andi (IntOp.cmpi .sge (BitVec.ofNat 32 s.val) (BitVec.ofNat 32 (512 * (en cn e.val - nb cn e.val))))
      (IntOp.cmpi .slt (BitVec.ofNat 32 s.val) (BitVec.ofNat 32 (512 * en cn e.val))) :=
    congrArg₂ IntOp.andi (congrArg₂ (fun x y => IntOp.cmpi .sge x y) (e1.trans (iota1_ap s)) (e2.trans w2))
      (congrArg₂ (fun x y => IntOp.cmpi .slt x y) (e1.trans (iota1_ap s)) (e3.trans (word_stops ha hle e)))
  rw [key, WordCmp.cmpi_sge_ofNat (w := 32) (by omega) (by omega), WordCmp.cmpi_slt_ofNat (w := 32) (by omega) (by omega)]
  by_cases h1 : 512 * (en cn e.val - nb cn e.val) ≤ s.val <;> by_cases h2 : s.val < 512 * en cn e.val <;> simp [h1, h2] <;> decide

end Words

end Cert.Reference2Ideal.Gmm

end
-- ==== Proof.GmmTotal.lean ====
/- The reference of the expert call, read at one slot and column: one sum over the experts, each expert's product kept at its own slots. -/
module

public import proofs.«01_k».proof.Proof.GmmMine
public import proofs.«01_k».proof.Proof.GmmProduct
public import Idealize.ShloMosaic.Lib.Pointwise

@[expose] public section

set_option maxRecDepth 16384

noncomputable section

namespace Cert.Reference2Ideal.Gmm

open Cert.Reference2Ideal Cert.Reference2Ideal.Gen Cert.Reference2Ideal.Value
open Idealize.ShloMosaic Idealize.ShloMosaic.TcCoe

/-- The reference at slot `s`, column `n`. -/
theorem total_at (p : IVec S32x49152 1) (t : FVec Ideal S49152x1024 .f32) (g u : FVec Ideal S32x1024x512 .f32) (d : FVec Ideal S32x512x1024 .f32)
    (s : Fin 49152) (n : Fin 1024) :
    total (F := Ideal) p t g u d (ix2 s n)
      = ∑ e : Fin 32, if p (ix2 e s) = 1#1 then
          Cert.Gmm.product (fun k => t (ix2 s k)) (fun k f => g (ix3 e k f)) (fun k f => u (ix3 e k f)) (fun f => d (ix3 e f n)) else 0 := by
  have hz : id (constant (F := Ideal) S_ FTy.f32 0#32) ix0 = (0 : EReal) := by
    show constant (F := Ideal) S_ FTy.f32 0#32 ix0 = (0 : EReal)
    pointwise
  pointwise [total]
  refine Finset.sum_congr rfl fun e _ => ?_
  rw [hz]
  unfold Scalar.select Cert.Gmm.product Cert.Gmm.gated
  refine if_congr Iff.rfl (Finset.sum_congr rfl fun f _ => ?_) rfl
  rw [Finset.sum_congr rfl fun k _ => mul_comm (g (ix3 e k f) : EReal) (t (ix2 s k)),
    Finset.sum_congr rfl fun k _ => mul_comm (u (ix3 e k f) : EReal) (t (ix2 s k))]

/-- A slot that is one expert's: that expert's product. -/
theorem total_live (p : IVec S32x49152 1) (t : FVec Ideal S49152x1024 .f32) (g u : FVec Ideal S32x1024x512 .f32) (d : FVec Ideal S32x512x1024 .f32)
    (s : Fin 49152) (n : Fin 1024) (e : Fin 32) (h : ∀ e' : Fin 32, p (ix2 e' s) = 1#1 ↔ e' = e) :
    total (F := Ideal) p t g u d (ix2 s n)
      = Cert.Gmm.product (fun k => t (ix2 s k)) (fun k f => g (ix3 e k f)) (fun k f => u (ix3 e k f)) (fun f => d (ix3 e f n)) := by
  rw [total_at, Finset.sum_eq_single e (fun e' _ hne => if_neg fun hp => hne ((h e').1 hp)) (fun hn => absurd (Finset.mem_univ e) hn)]
  exact if_pos ((h e).2 rfl)

/-- A slot that is no expert's: 0. -/
theorem total_dead (p : IVec S32x49152 1) (t : FVec Ideal S49152x1024 .f32) (g u : FVec Ideal S32x1024x512 .f32) (d : FVec Ideal S32x512x1024 .f32)
    (s : Fin 49152) (n : Fin 1024) (h : ∀ e' : Fin 32, ¬ p (ix2 e' s) = 1#1) :
    total (F := Ideal) p t g u d (ix2 s n) = (0 : EReal) := by
  rw [total_at]
  exact Finset.sum_eq_zero fun e' _ => if_neg (h e')

end Cert.Reference2Ideal.Gmm

end
-- ==== Proof.GmmBlock.lean ====
/- One block of the expert call's result against the reference: block `t` of the slots is the reference's rows `4096 t` to `4096 t + 4095`. -/
module

public import proofs.«01_k».proof.Proof.GmmPlan
public import proofs.«01_k».proof.Proof.GmmTile
public import proofs.«01_k».proof.Proof.GmmTotal

@[expose] public section

set_option maxRecDepth 16384

noncomputable section

namespace Cert.Gmm

open Idealize.ShloMosaic Idealize.ShloMosaic.TcCoe
open Cert.Kernel2Ideal.Gmm (nb en ex en_succ en_mono en_bounds ex_iff ex_le slabs blockOut outOf tileOf tileIdx tile_at)
open Cert.Reference2Ideal.Gmm (total mine mine_iff total_live total_dead nb_le_en)

abbrev Flat : Shape := ⟨2, ![393216, 128]⟩
abbrev Slots : Shape := ⟨2, ![49152, 1024]⟩
abbrev Counts : Shape := ⟨1, ![32]⟩

/-- The reference's result, of the five arguments. -/
def result (a : IVec Counts 32) (x : FVec Ideal Flat .f32) (g u : FVec Ideal (slabs 32 1024 512) .f32) (d : FVec Ideal (slabs 32 512 1024) .f32) : FVec Ideal Flat .f32 :=
  shapeCast Flat (total (mine a) (shapeCast Slots x Cert.Reference2Ideal.Gen.shapeCasts_S393216x128_S49152x1024) g u d)
    Cert.Reference2Ideal.Gen.shapeCasts_S49152x1024_S393216x128

/-- A flat row and lane of the result are a slot and a column. -/
theorem result_at (a : IVec Counts 32) (x : FVec Ideal Flat .f32) (g u : FVec Ideal (slabs 32 1024 512) .f32) (d : FVec Ideal (slabs 32 512 1024) .f32)
    (r : Fin 393216) (l : Fin 128) :
    result a x g u d (ix2 r l) = total (mine a) (shapeCast Slots x Cert.Reference2Ideal.Gen.shapeCasts_S393216x128_S49152x1024) g u d
      (ix2 ⟨r.val / 8, by omega⟩ ⟨r.val % 8 * 128 + l.val, by omega⟩) := by
  pointwise [result]

theorem slots_at (x : FVec Ideal Flat .f32) (s : Fin 49152) (k : Fin 1024) :
    shapeCast Slots x Cert.Reference2Ideal.Gen.shapeCasts_S393216x128_S49152x1024 (ix2 s k) = x (ix2 ⟨s.val * 8 + k.val / 128, by omega⟩ ⟨k.val % 128, by omega⟩) := by
  pointwise

theorem zeros_at (a : Fin 4096) (l : Fin 128) : Cert.Kernel2Ideal.Gen.k0_pay8 (F := Ideal) (ix2 a l) = (0 : EReal) := by
  pointwise [Cert.Kernel2Ideal.Gen.k0_pay8]

section Block

variable {cnt : IVec Counts 32} {cn : ℕ → ℕ} (ha : ∀ e : Fin 32, cnt (ValueIdx.ix1 e) = BitVec.ofNat 32 (cn e.val)) (hle : ∀ e, cn e ≤ 32768)
  (htot : ((List.range 32).map cn).sum = 32768)
  (x : FVec Ideal Flat .f32) (g u : FVec Ideal (slabs 32 1024 512) .f32) (d : FVec Ideal (slabs 32 512 1024) .f32)

include ha hle htot in
/-- Slot `s` is expert `e`'s when `s`'s block is a live one and `e` is that block's expert. -/
theorem mine_live (s : Fin 49152) (t : ℕ) (hst : s.val / 512 = t) (ht : t < en cn 31) (e : Fin 32) :
    mine cnt (ix2 e s) = 1#1 ↔ e = ⟨ex cn t, by have := ex_le cn t; omega⟩ := by
  rw [ix2_eq_valueIdx, mine_iff ha hle htot e s, Fin.ext_iff, eq_comm (a := e.val)]
  refine Iff.trans ?_ (ex_iff cn t e.val ht e.isLt).symm
  constructor <;> rintro ⟨h1, h2⟩ <;> constructor <;> omega

include ha hle htot in
theorem mine_dead (s : Fin 49152) (t : ℕ) (hst : s.val / 512 = t) (ht : ¬ t < en cn 31) (e : Fin 32) : ¬ mine cnt (ix2 e s) = 1#1 := by
  rw [ix2_eq_valueIdx, mine_iff ha hle htot e s]
  have he := en_mono cn (show e.val ≤ 31 by omega)
  omega

include ha hle htot in
/-- Block `t` against the reference. -/
theorem block_at (t : Fin 96) (X : FVec Ideal (⟨2, ![4096, 128]⟩ : Shape) .f32)
    (hX : t.val < en cn 31 → ∀ (a : Fin 4096) (l : Fin 128), X (ix2 a l) = x (ix2 ⟨4096 * t.val + a.val, by omega⟩ l))
    (be : ℕ → BitVec 32) (hbe : (be t.val).toNat = ex cn t.val) (a : Fin 4096) (l : Fin 128) :
    blockOut (F := Ideal) g u d X be (en cn 31) t.val (ix2 a l) = result cnt x g u d (ix2 ⟨4096 * t.val + a.val, by omega⟩ l) := by
  have hst : ((4096 * t.val + a.val) / 8) / 512 = t.val := by omega
  rw [result_at]
  unfold blockOut
  by_cases ht : t.val < en cn 31
  · rw [if_pos ht, hbe, total_live _ _ _ _ _ _ _ _ (mine_live ha hle htot _ t.val hst ht)]
    have e1 : outOf (F := Ideal) (tileOf g u d X (ex cn t.val)) (ix2 a l)
        = tileOf (F := Ideal) g u d X (ex cn t.val) (ix2 (⟨a.val / 8, by omega⟩ : Fin 512) (⟨a.val % 8 * 128 + l.val, by omega⟩ : Fin 1024)) := by
      unfold outOf
      refine congrArg (tileOf (F := Ideal) g u d X (ex cn t.val)) (funext fun i => Fin.ext ?_)
      fin_cases i
      · show a.val / 8 % 512 = a.val / 8
        omega
      · show (a.val % 8 * 128 + l.val) % 1024 = a.val % 8 * 128 + l.val
        omega
    rw [e1]
    have hn : (⟨(4096 * t.val + a.val) % 8 * 128 + l.val, by omega⟩ : Fin 1024) = ⟨a.val % 8 * 128 + l.val, by omega⟩ := Fin.ext (by
      show (4096 * t.val + a.val) % 8 * 128 + l.val = a.val % 8 * 128 + l.val
      omega)
    refine (tile_at g u d ⟨ex cn t.val, by have := ex_le cn t.val; omega⟩ X _ _).trans (product_congr (fun k => ?_) (fun _ _ => rfl) (fun _ _ => rfl) (fun f => by rw [hn]))
    rw [slots_at, hX ht]
    refine congrArg x (congrArg₂ ix2 (Fin.ext ?_) rfl)
    show 4096 * t.val + (8 * (a.val / 8) + k.val / 128) = (4096 * t.val + a.val) / 8 * 8 + k.val / 128
    omega
  · rw [if_neg ht, total_dead _ _ _ _ _ _ _ (mine_dead ha hle htot _ t.val hst ht)]
    exact zeros_at a l

end Block

end Cert.Gmm

end
-- ==== Proof.GmmValue.lean ====
/- The expert call's result array is the reference's, block by block. -/
module

public import proofs.«01_k».proof.Proof.GmmBlock
public import proofs.«01_k».proof.Proof.GmmClaims
public import Idealize.ShloMosaic.Lib.Pipeline.ValueKit.Geometry

@[expose] public section

set_option maxRecDepth 16384

noncomputable section

namespace Cert.Kernel2Ideal.Gmm

open Cert.Kernel2Ideal Cert.Kernel2Ideal.Gen
open Idealize.ShloMosaic Idealize.ShloMosaic.TcCoe
open Idealize.ShloMosaic.Pipeline (Window)

section Geometry

variable {F : FTy → Type} [FloatOps F]
variable (V : (c : Dev nD) → (b : Ref sig .tc) → Buf (Elt F) ((c : Thread nD τ).loc b))

theorem out_index_0 : ∀ t : Fin grid0.N, cc0_transform_4 (grid0.coords t) 0 = t.val := by decide +kernel
theorem out_index_1 : ∀ t : Fin grid0.N, cc0_transform_4 (grid0.coords t) 1 = 0 := by decide +kernel

/-- The block a live point fetches is its own. -/
theorem clamp_live : ∀ t U : Fin 96, t.val < U.val → (Scalar.maxsi (Scalar.minsi (BitVec.ofNat 32 t.val) (Scalar.subi (BitVec.ofNat 32 U.val) 1#32)) 0#32).toNat = t.val := by
  decide +kernel

theorem in_index_0 (U : ℕ) (hU : nu V = BitVec.ofNat 32 U) (hU' : U < 96) (t : Fin grid0.N) (ht : t.val < U) :
    cc0_transform_0 inb_S1_S1_0 numel1_S1 (tables V) (grid0.coords t) 0 = t.val := by
  have e : (tables V).at 1 (Rect.unit (s := S1) ![0] S1.size inb_S1_S1_0) numel1_S1 = nu V :=
    congrArg (V 0 main_v16 : S1.Idx → Elt F .i32) (only_eq _)
  show (Scalar.maxsi (Scalar.minsi (BitVec.ofNat 32 (grid0.coords t 0).val) (Scalar.subi ((tables V).at 1 (Rect.unit (s := S1) ![0] S1.size inb_S1_S1_0) numel1_S1) 1#32)) 0#32).toNat = _
  rw [e, hU, coord_0 t]
  exact clamp_live ⟨t.val, by omega⟩ ⟨U, hU'⟩ ht

/-- Every point writes its block back. -/
theorem flush_1 (t : Fin (cfg0 (adm V)).N) : ((cfg0 (adm V)).win 1).flush t = true := by
  have h : ∀ t : Fin grid0.N, (true && (t.val + 1 = grid0.N || decide (∃ h : t.val + 1 < grid0.N, cc0_transform_4 (grid0.coords ⟨t.val + 1, h⟩) ≠ cc0_transform_4 (grid0.coords t)))) = true := by
    decide +kernel
  exact h t

theorem out_emb (t : Fin (cfg0 (adm V)).N) (y : S4096x128.Idx) (i : S393216x128.Idx) (h0 : (i 0).val = 4096 * t.val + (y 0).val) (h1 : (i 1).val = (y 1).val) :
    (((cfg0 (adm V)).win 1).blk t).view.emb y = i := by
  funext a
  refine Fin.ext ((Window.rect_emb_val ((cfg0 (adm V)).win 1) t y a).trans ?_)
  fin_cases a
  · show cc0_transform_4 (grid0.coords t) 0 * 4096 + (y 0).val = (i 0).val
    rw [out_index_0 t, h0]; omega
  · show cc0_transform_4 (grid0.coords t) 1 * 128 + (y 1).val = (i 1).val
    rw [out_index_1 t, h1]; omega

theorem in_emb (U : ℕ) (hU : nu V = BitVec.ofNat 32 U) (hU' : U < 96) (t : Fin (cfg0 (adm V)).N) (ht : t.val < U)
    (y : S4096x128.Idx) (i : S393216x128.Idx) (h0 : (i 0).val = 4096 * t.val + (y 0).val) (h1 : (i 1).val = (y 1).val) :
    (((cfg0 (adm V)).win 0).blk t).view.emb y = i := by
  funext a
  refine Fin.ext ((Window.rect_emb_val ((cfg0 (adm V)).win 0) t y a).trans ?_)
  fin_cases a
  · show cc0_transform_0 inb_S1_S1_0 numel1_S1 (tables V) (grid0.coords t) 0 * 4096 + (y 0).val = (i 0).val
    rw [in_index_0 V U hU hU' t ht, h0]; omega
  · show 0 * 128 + (y 1).val = (i 1).val
    rw [h1]; omega

theorem out_entry (c : Dev nD) (G : S393216x128.Idx → Elt F .f32)
    (hG : ∀ (t : Fin (cfg0 (adm V)).N) (a : Fin 4096) (l : Fin 128), outBlock V c t (ix2 a l) = G (ix2 ⟨4096 * t.val + a.val, by have := t_lt V t; omega⟩ l))
    (t : Fin (cfg0 (adm V)).N) (y : S4096x128.Idx) : outBlock V c t y = G ((((cfg0 (adm V)).win 1).blk t).view.emb y) := by
  have ht := t_lt V t
  have hy0 : (y 0).val < 4096 := (y 0).isLt
  have e1 : y = ix2 (⟨(y 0).val, hy0⟩ : Fin 4096) (⟨(y 1).val, (y 1).isLt⟩ : Fin 128) := by
    funext a; fin_cases a <;> rfl
  rw [out_emb V t y (ix2 ⟨4096 * t.val + (y 0).val, by omega⟩ ⟨(y 1).val, (y 1).isLt⟩) rfl rfl]
  exact (congrArg (outBlock V c t) e1).trans (hG t ⟨(y 0).val, hy0⟩ ⟨(y 1).val, (y 1).isLt⟩)

theorem out_cover (i : S393216x128.Idx) : ∃ t : Fin (cfg0 (adm V)).N, ∃ y : S4096x128.Idx, (((cfg0 (adm V)).win 1).blk t).view.emb y = i := by
  have hi0 : (i 0).val < 393216 := (i 0).isLt
  refine ⟨⟨(i 0).val / 4096, lt_of_lt_of_eq (show (i 0).val / 4096 < 96 by omega) N_0.symm⟩, ix2 (⟨(i 0).val % 4096, by omega⟩ : Fin 4096) (⟨(i 1).val, (i 1).isLt⟩ : Fin 128), ?_⟩
  exact out_emb V _ _ i (show (i 0).val = 4096 * ((i 0).val / 4096) + (i 0).val % 4096 by omega) rfl

/-- The result array holds what the blocks hold. -/
theorem arr_eq (c : Dev nD) (G : S393216x128.Idx → Elt F .f32)
    (hG : ∀ (t : Fin (cfg0 (adm V)).N) (a : Fin 4096) (l : Fin 128), outBlock V c t (ix2 a l) = G (ix2 ⟨4096 * t.val + a.val, by have := t_lt V t; omega⟩ l)) :
    (dats V 0 c).arrAt 1 (cfg0 (adm V)).N = G := by
  refine (dats V 0 c).arrAt_eq_of_emb 1 G (fun t _ y => out_entry V c G hG t y) (fun i => ?_)
  obtain ⟨t, y, h⟩ := out_cover V i
  refine ⟨t, flush_1 V t, ?_⟩
  rw [← h]
  exact View.emb_mem_set _ _

end Geometry

/-- The call's result is the reference's of its arguments. -/
theorem arr_result (m : (ℓ : Loc nD τ sig) → Buf (Elt Ideal) ℓ) (cn : ℕ → ℕ) (hc : Counted m 0 cn) :
    (dats (V m) 0 0).arrAt 1 (cfg0 (adm (V m))).N
      = Cert.Gmm.result (m (((0 : Dev nD).tc : Thread nD τ).loc main_arg0)) (m (((0 : Dev nD).tc : Thread nD τ).loc main_arg1))
          (m (((0 : Dev nD).tc : Thread nD τ).loc main_arg2)) (m (((0 : Dev nD).tc : Thread nD τ).loc main_arg3)) (m (((0 : Dev nD).tc : Thread nD τ).loc main_arg4)) := by
  obtain ⟨hu, -⟩ := en_31 hc
  have hnu : nu (V m) = BitVec.ofNat 32 (en cn 31) := word_v16 hc
  refine arr_eq (V m) 0 _ fun t a l => ?_
  have ht := t_lt (V m) t
  have hbe : (be (V m) t.val).toNat = ex cn t.val := by
    have h := word_v15 hc ⟨t.val, ht⟩
    unfold be
    rw [place_eq ht]
    refine (congrArg BitVec.toNat h).trans (toNat_small ?_)
    show ex cn t.val < 96
    have := ex_le cn t.val
    omega
  have hU : (nu (V m)).toNat = en cn 31 := by rw [hnu]; exact toNat_small (by omega)
  unfold outBlock
  rw [hU, V_main_arg2, V_main_arg3, V_main_arg4]
  refine Cert.Gmm.block_at hc.word hc.le hc.total _ _ _ _ ⟨t.val, ht⟩ _ (fun hlt a l => ?_) (be (V m)) hbe a l
  refine (congrArg (V m 0 main_arg1) (in_emb (V m) (en cn 31) hnu (by omega) t hlt (ix2 a l) (ix2 ⟨4096 * t.val + a.val, by omega⟩ l) rfl rfl)).trans ?_
  rw [V_main_arg1]

end Cert.Kernel2Ideal.Gmm

namespace Cert.Proof

open Idealize.ShloMosaic Idealize.ShloMosaic.TcCoe Idealize.SL.Sem

open Cert.Reference2Ideal in
/-- The reference's run, its result the one sum over the experts. -/
theorem gmm_reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
        r.2.mem ((c.tc : Thread nD τ).loc main_v32) = Cert.Gmm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c => ⟨(h c).1.trans (Cert.Reference2Ideal.Gmm.res_eq m c), (h c).2⟩) (Cert.Reference2Ideal.Value.run (F := Ideal) m ρ)

open Cert.Kernel2Ideal in
theorem gmm_result (m : (ℓ : Loc nD τ sig) → Buf (Elt Ideal) ℓ) (hpre : Cert.Pre_Kernel2Ideal m) (c : Dev nD) :
    (Gmm.dats (Gmm.V m) 0 c).arrAt 1 (cfg0 (Gmm.adm (Gmm.V m))).N = Cert.Gmm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  obtain rfl : c = 0 := Subsingleton.elim _ _
  exact Gmm.arr_result m _ (Gmm.counted m 0 (hpre 0))

/-- Over the extended reals the expert call and the reference leave the same array. -/
theorem value_gmm : Cert.algebraic_Kernel2Ideal_Reference2Ideal := fun m ρ m' ρ' hpre hargs =>
  ⟨fun c => Cert.Gmm.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run Cert.Kernel2Ideal.defs _ _).mono (fun _ h c => ⟨(h.1 c).1.trans (gmm_result m hpre c), (h.1 c).2⟩) (gmm_run (F := Ideal) m ρ hpre),
    (θ_run Cert.Reference2Ideal.defs _ _).mono (fun _ h c => ⟨(h c).1.trans (by rw [(hargs c).1, (hargs c).2.1, (hargs c).2.2.1, (hargs c).2.2.2.1, (hargs c).2.2.2.2]), (h c).2⟩)
      (gmm_reference_run m' ρ')⟩

end Cert.Proof

end
-- ==== Proof.InprojPay.lean ====
/- The input projection over the extended reals: what one point of the kernel computes, and the reference's arrays, read at one row and column. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit.Basic
public import Idealize.ShloMosaic.Lib.Pipeline.ValueKit.Tiles

@[expose] public section

set_option maxRecDepth 16384

noncomputable section

namespace Cert.Inproj

open Idealize.ShloMosaic Idealize.ShloMosaic.TcCoe

/-- A token's row `x`, normed with the gains `g`, at column `k`: `x` over the root of its mean square plus the small constant, times the gain. -/
def normed (x g : Fin 1024 → EReal) (k : Fin 1024) : EReal :=
  x k * Ideal.rsqrt (Ideal.div (∑ j, x j * x j) (Ideal.ofBits FTy.f32 0x44800000#32) + Ideal.ofBits FTy.f32 0x358637BD#32) * g k

/-- The normed row times one column of the weights. -/
def entry (x g w : Fin 1024 → EReal) : EReal := ∑ k, normed x g k * w k

theorem entry_congr {x x' g g' w w' : Fin 1024 → EReal} (hx : ∀ k, x k = x' k) (hg : ∀ k, g k = g' k) (hw : ∀ k, w k = w' k) :
    entry x g w = entry x' g' w' := by
  rw [show x = x' from funext hx, show g = g' from funext hg, show w = w' from funext hw]

end Cert.Inproj

namespace Cert.Kernel3Ideal.Inproj

open Idealize.ShloMosaic Idealize.ShloMosaic.TcCoe
open Cert.Kernel3Ideal Cert.Kernel3Ideal.Gen

theorem pay1_at (x : FVec Ideal S512x1024 .f32) (g : FVec Ideal S1x1024 .f32) (r : Fin 512) (k : Fin 1024) :
    k0_pay1 (F := Ideal) x g (ix2 r k) = Cert.Inproj.normed (fun j => x (ix2 r j)) (fun j => g (ix2 0 j)) k := by
  pointwise [k0_pay1]
  rfl

/-- The first result's block, at row `r` and column `n`. -/
theorem pay2_at (x : FVec Ideal S512x1024 .f32) (g : FVec Ideal S1x1024 .f32) (w : FVec Ideal S1024x1792 .bf16) (r : Fin 512) (n : Fin 1792) :
    k0_pay2 (F := Ideal) x g w (ix2 r n) = Cert.Inproj.entry (fun j => x (ix2 r j)) (fun j => g (ix2 0 j)) (fun j => w (ix2 j n)) := by
  pointwise [k0_pay2]
  exact Finset.sum_congr rfl fun k _ => by rw [pay1_at]

/-- The second result's block, at row `r` and column `n`. -/
theorem pay3_at (x : FVec Ideal S512x1024 .f32) (g : FVec Ideal S1x1024 .f32) (w : FVec Ideal S1024x2048 .bf16) (r : Fin 512) (n : Fin 2048) :
    k0_pay3 (F := Ideal) x g w (ix2 r n) = Cert.Inproj.entry (fun j => x (ix2 r j)) (fun j => g (ix2 0 j)) (fun j => w (ix2 j n)) := by
  pointwise [k0_pay3]
  exact Finset.sum_congr rfl fun k _ => by rw [pay1_at]

/-- The block the body leaves for the first result: the payload of the first 1792 columns of the weights. -/
theorem out3_at (x : FVec Ideal S512x1024 .f32) (g : FVec Ideal S1x1024 .f32) (w : FVec Ideal S1024x3840 .bf16) (r : Fin 512) (n : Fin 1792) :
    out0_3 (F := Ideal) x g w (ix2 r n) = Cert.Inproj.entry (fun j => x (ix2 r j)) (fun j => g (ix2 0 j)) (fun j => w (ix2 j ⟨n.val, by omega⟩)) := by
  unfold out0_3
  rw [View.canon_cons_unit_lit _ _ _ (by decide), View.ld_unit_lit _ _ (by decide), View.ld_unit_lit _ _ (by decide), pay2_at]
  refine Cert.Inproj.entry_congr (fun _ => rfl) (fun _ => rfl) fun k => ?_
  refine View.ld_unit_apply_of _ _ _ _ _ _ fun a => ?_
  fin_cases a
  · show k.val = 0 + k.val
    omega
  · show n.val = 0 + n.val
    omega

/-- The block the body leaves for the second result: the payload of the last 2048 columns of the weights. -/
theorem out4_at (x : FVec Ideal S512x1024 .f32) (g : FVec Ideal S1x1024 .f32) (w : FVec Ideal S1024x3840 .bf16) (r : Fin 512) (n : Fin 2048) :
    out0_4 (F := Ideal) x g w (ix2 r n) = Cert.Inproj.entry (fun j => x (ix2 r j)) (fun j => g (ix2 0 j)) (fun j => w (ix2 j ⟨1792 + n.val, by omega⟩)) := by
  unfold out0_4
  rw [View.canon_cons_unit_lit _ _ _ (by decide), View.ld_unit_lit _ _ (by decide), View.ld_unit_lit _ _ (by decide), pay3_at]
  refine Cert.Inproj.entry_congr (fun _ => rfl) (fun _ => rfl) fun k => ?_
  refine View.ld_unit_apply_of _ _ _ _ _ _ fun a => ?_
  fin_cases a
  · show k.val = 0 + k.val
    omega
  · show 1792 + n.val = 1792 + n.val
    rfl

/-- The tokens as the call finds them: the sequences laid end to end. -/
theorem tokens_at (x : FVec Ideal S8x2048x1024 .f32) (r : Fin 16384) (k : Fin 1024) :
    shapeCast S16384x1024 x shapeCasts_S8x2048x1024_S16384x1024 (ix2 r k) = x (ix3 ⟨r.val / 2048, by omega⟩ ⟨r.val % 2048, by omega⟩ k) := by
  pointwise

theorem gains_at (g : FVec Ideal S1x1024 .f32) (k : Fin 1024) :
    shapeCast S1x1024 (shapeCast S1024 g shapeCasts_S1x1024_S1024) shapeCasts_S1024_S1x1024 (ix2 0 k) = g (ix2 0 k) := by
  pointwise

theorem weights_at (w : FVec Ideal S1x1024x3840 .f32) (k : Fin 1024) (n : Fin 3840) :
    truncf .bf16 (shapeCast S1024x3840 w shapeCasts_S1x1024x3840_S1024x3840 : FVec Ideal S1024x3840 .f32) bitsLt_bf16_f32 (ix2 k n) = w (ix3 0 k n) := by
  pointwise

end Cert.Kernel3Ideal.Inproj

namespace Cert.Reference3Ideal.Inproj

open Idealize.ShloMosaic Idealize.ShloMosaic.TcCoe
open Cert.Reference3Ideal Cert.Reference3Ideal.Gen

/-- The normed tokens. -/
def normed (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))

/-- The projected tokens, one row to a token. -/
def projected (n : FVec Ideal S8x2048x1024 .f32) (w : FVec Ideal S1x1024x3840 .f32) : FVec Ideal S16384x3840 .f32 :=
  shapeCast _ (Host.dotGeneral dot_S8x2048x1024_S1024x3840_S8x2048x3840_2_0_01_1_n_n none n (shapeCast _ w shapeCasts_S1x1024x3840_S1024x3840)) shapeCasts_S8x2048x3840_S16384x3840

/-- The first result: the first 1792 columns. -/
def result1 (x : FVec Ideal S8x2048x1024 .f32) (g : FVec Ideal S1x1024 .f32) (w : FVec Ideal S1x1024x3840 .f32) : FVec Ideal S16384x1792 .f32 :=
  extractStridedSlice S16384x1792 ![0, 0] (projected (normed x g) w) slices_S16384x3840_S16384x1792_0_0

/-- The second result: the last 2048 columns. -/
def result2 (x : FVec Ideal S8x2048x1024 .f32) (g : FVec Ideal S1x1024 .f32) (w : FVec Ideal S1x1024x3840 .f32) : FVec Ideal S16384x2048 .f32 :=
  extractStridedSlice S16384x2048 ![0, 1792] (projected (normed x g) w) slices_S16384x3840_S16384x2048_0_1792

variable (x : FVec Ideal S8x2048x1024 .f32) (g : FVec Ideal S1x1024 .f32) (w : FVec Ideal S1x1024x3840 .f32)

theorem normed_at (b : Fin 8) (s : Fin 2048) (k : Fin 1024) :
    normed x g (ix3 b s k) = Cert.Inproj.normed (fun j => x (ix3 b s j)) (fun j => g (ix2 0 j)) k := by
  pointwise [normed]
  rfl

theorem projected_at (r : Fin 16384) (n : Fin 3840) :
    projected (normed x g) w (ix2 r n)
      = Cert.Inproj.entry (fun j => x (ix3 ⟨r.val / 2048, by omega⟩ ⟨r.val % 2048, by omega⟩ j)) (fun j => g (ix2 0 j)) (fun j => w (ix3 0 j n)) := by
  pointwise [projected]
  exact Finset.sum_congr rfl fun k _ => by rw [normed_at]

theorem result1_at (r : Fin 16384) (n : Fin 1792) :
    result1 x g w (ix2 r n)
      = Cert.Inproj.entry (fun j => x (ix3 ⟨r.val / 2048, by omega⟩ ⟨r.val % 2048, by omega⟩ j)) (fun j => g (ix2 0 j)) (fun j => w (ix3 0 j ⟨n.val, by omega⟩)) := by
  refine Eq.trans ?_ (projected_at x g w r ⟨n.val, by omega⟩)
  pointwise [result1]

theorem result2_at (r : Fin 16384) (n : Fin 2048) :
    result2 x g w (ix2 r n)
      = Cert.Inproj.entry (fun j => x (ix3 ⟨r.val / 2048, by omega⟩ ⟨r.val % 2048, by omega⟩ j)) (fun j => g (ix2 0 j)) (fun j => w (ix3 0 j ⟨1792 + n.val, by omega⟩)) := by
  refine Eq.trans ?_ (projected_at x g w r ⟨1792 + n.val, by omega⟩)
  pointwise [result2]

end Cert.Reference3Ideal.Inproj

end
-- ==== Proof.InprojValue.lean ====
/- The input projection's two result arrays are the reference's, block by block. -/
module

public import proofs.«01_k».proof.Proof.InprojPay
public import Idealize.ShloMosaic.Lib.Pipeline.ValueKit.Geometry

@[expose] public section

set_option maxRecDepth 16384

noncomputable section

namespace Cert.Kernel3Ideal.Inproj

open Cert.Kernel3Ideal Cert.Kernel3Ideal.Gen
open Idealize.ShloMosaic Idealize.ShloMosaic.TcCoe
open Idealize.ShloMosaic.Pipeline (Window)

/-! ## Where the blocks lie -/

theorem index_0_0 : ∀ t : Fin grid0.N, cc0_transform_0 (grid0.coords t) 0 = t.val := by decide +kernel
theorem index_0_1 : ∀ t : Fin grid0.N, cc0_transform_0 (grid0.coords t) 1 = 0 := by decide +kernel
theorem index_3_0 : ∀ t : Fin grid0.N, cc0_transform_3 (grid0.coords t) 0 = t.val := by decide +kernel
theorem index_3_1 : ∀ t : Fin grid0.N, cc0_transform_3 (grid0.coords t) 1 = 0 := by decide +kernel
theorem index_4_0 : ∀ t : Fin grid0.N, cc0_transform_4 (grid0.coords t) 0 = t.val := by decide +kernel
theorem index_4_1 : ∀ t : Fin grid0.N, cc0_transform_4 (grid0.coords t) 1 = 0 := by decide +kernel

theorem N_0 : cfg0.N = 32 := by decide

theorem flush_3 (t : Fin cfg0.N) : (cfg0.win 3).flush t = true :=
  (by decide +kernel : ∀ t : Fin grid0.N, win0_3.flush t = true) t

theorem flush_4 (t : Fin cfg0.N) : (cfg0.win 4).flush t = true :=
  (by decide +kernel : ∀ t : Fin grid0.N, win0_4.flush t = true) t

theorem emb_0 (t : Fin cfg0.N) (y : S512x1024.Idx) (i : S16384x1024.Idx) (h0 : (i 0).val = 512 * t.val + (y 0).val) (h1 : (i 1).val = (y 1).val) :
    ((cfg0.win 0).blk t).view.emb y = i := by
  funext a
  refine Fin.ext ((Window.rect_emb_val (cfg0.win 0) t y a).trans ?_)
  fin_cases a
  · show cc0_transform_0 (grid0.coords t) 0 * 512 + (y 0).val = (i 0).val
    rw [index_0_0 t, h0]; omega
  · show cc0_transform_0 (grid0.coords t) 1 * 1024 + (y 1).val = (i 1).val
    rw [index_0_1 t, h1]; omega

theorem emb_1 (t : Fin cfg0.N) (y : S1x1024.Idx) : ((cfg0.win 1).blk t).view.emb y = y := by
  funext a
  refine Fin.ext ((Window.rect_emb_val (cfg0.win 1) t y a).trans ?_)
  fin_cases a
  · show 0 * 1 + (y 0).val = (y 0).val
    omega
  · show 0 * 1024 + (y 1).val = (y 1).val
    omega

theorem emb_2 (t : Fin cfg0.N) (y : S1024x3840.Idx) : ((cfg0.win 2).blk t).view.emb y = y := by
  funext a
  refine Fin.ext ((Window.rect_emb_val (cfg0.win 2) t y a).trans ?_)
  fin_cases a
  · show 0 * 1024 + (y 0).val = (y 0).val
    omega
  · show 0 * 3840 + (y 1).val = (y 1).val
    omega

theorem emb_3 (t : Fin cfg0.N) (y : S512x1792.Idx) (i : S16384x1792.Idx) (h0 : (i 0).val = 512 * t.val + (y 0).val) (h1 : (i 1).val = (y 1).val) :
    ((cfg0.win 3).blk t).view.emb y = i := by
  funext a
  refine Fin.ext ((Window.rect_emb_val (cfg0.win 3) t y a).trans ?_)
  fin_cases a
  · show cc0_transform_3 (grid0.coords t) 0 * 512 + (y 0).val = (i 0).val
    rw [index_3_0 t, h0]; omega
  · show cc0_transform_3 (grid0.coords t) 1 * 1792 + (y 1).val = (i 1).val
    rw [index_3_1 t, h1]; omega

theorem emb_4 (t : Fin cfg0.N) (y : S512x2048.Idx) (i : S16384x2048.Idx) (h0 : (i 0).val = 512 * t.val + (y 0).val) (h1 : (i 1).val = (y 1).val) :
    ((cfg0.win 4).blk t).view.emb y = i := by
  funext a
  refine Fin.ext ((Window.rect_emb_val (cfg0.win 4) t y a).trans ?_)
  fin_cases a
  · show cc0_transform_4 (grid0.coords t) 0 * 512 + (y 0).val = (i 0).val
    rw [index_4_0 t, h0]; omega
  · show cc0_transform_4 (grid0.coords t) 1 * 2048 + (y 1).val = (i 1).val
    rw [index_4_1 t, h1]; omega

theorem cover_3 (i : S16384x1792.Idx) : ∃ t : Fin cfg0.N, ∃ y : S512x1792.Idx, ((cfg0.win 3).blk t).view.emb y = i := by
  have hi0 : (i 0).val < 16384 := (i 0).isLt
  refine ⟨⟨(i 0).val / 512, lt_of_lt_of_eq (show (i 0).val / 512 < 32 by omega) N_0.symm⟩, ix2 (⟨(i 0).val % 512, by omega⟩ : Fin 512) (⟨(i 1).val, (i 1).isLt⟩ : Fin 1792), ?_⟩
  exact emb_3 _ _ i (show (i 0).val = 512 * ((i 0).val / 512) + (i 0).val % 512 by omega) rfl

theorem cover_4 (i : S16384x2048.Idx) : ∃ t : Fin cfg0.N, ∃ y : S512x2048.Idx, ((cfg0.win 4).blk t).view.emb y = i := by
  have hi0 : (i 0).val < 16384 := (i 0).isLt
  refine ⟨⟨(i 0).val / 512, lt_of_lt_of_eq (show (i 0).val / 512 < 32 by omega) N_0.symm⟩, ix2 (⟨(i 0).val % 512, by omega⟩ : Fin 512) (⟨(i 1).val, (i 1).isLt⟩ : Fin 2048), ?_⟩
  exact emb_4 _ _ i (show (i 0).val = 512 * ((i 0).val / 512) + (i 0).val % 512 by omega) rfl

/-! ## What the blocks hold -/

section Arrays

variable (m : (ℓ : Loc nD τ sig) → Buf (Elt Ideal) ℓ)

theorem V_tokens (c : Dev nD) : V m c main_v0 = shapeCast S16384x1024 (m ((c.tc : Thread nD τ).loc main_arg0)) shapeCasts_S8x2048x1024_S16384x1024 := by
  unfold V
  after_results <;> rfl

theorem V_gains (c : Dev nD) : V m c main_v2 = shapeCast S1x1024 (shapeCast S1024 (m ((c.tc : Thread nD τ).loc main_arg1)) shapeCasts_S1x1024_S1024) shapeCasts_S1024_S1x1024 := by
  unfold V
  after_results <;> rfl

theorem V_weights (c : Dev nD) : V m c main_v4 = truncf .bf16 (shapeCast S1024x3840 (m ((c.tc : Thread nD τ).loc main_arg2)) shapeCasts_S1x1024x3840_S1024x3840 : FVec Ideal S1024x3840 .f32) bitsLt_bf16_f32 := by
  unfold V
  after_results <;> rfl

theorem t_lt (t : Fin cfg0.N) : t.val < 32 := lt_of_lt_of_eq t.isLt N_0

theorem block_0 (c : Dev nD) (t : Fin cfg0.N) (a : Fin 512) (k : Fin 1024) :
    (iblk m c 0 t : FVec Ideal S512x1024 .f32) (ix2 a k)
      = (m ((c.tc : Thread nD τ).loc main_arg0) : FVec Ideal S8x2048x1024 .f32)
          (ix3 ⟨(512 * t.val + a.val) / 2048, by have := t_lt t; omega⟩ ⟨(512 * t.val + a.val) % 2048, by omega⟩ k) := by
  have ht := t_lt t
  refine (congrArg (V m c main_v0) (emb_0 t (ix2 a k) (ix2 ⟨512 * t.val + a.val, by omega⟩ k) rfl rfl)).trans ?_
  rw [V_tokens]
  exact tokens_at _ _ _

theorem block_1 (c : Dev nD) (t : Fin cfg0.N) (k : Fin 1024) :
    (iblk m c 1 t : FVec Ideal S1x1024 .f32) (ix2 0 k) = (m ((c.tc : Thread nD τ).loc main_arg1) : FVec Ideal S1x1024 .f32) (ix2 0 k) := by
  refine (congrArg (V m c main_v2) (emb_1 t (ix2 0 k))).trans ?_
  rw [V_gains]
  exact gains_at _ _

theorem block_2 (c : Dev nD) (t : Fin cfg0.N) (k : Fin 1024) (n : Fin 3840) :
    (iblk m c 2 t : FVec Ideal S1024x3840 .bf16) (ix2 k n) = (m ((c.tc : Thread nD τ).loc main_arg2) : FVec Ideal S1x1024x3840 .f32) (ix3 0 k n) := by
  refine (congrArg (V m c main_v4) (emb_2 t (ix2 k n))).trans ?_
  rw [V_weights]
  exact weights_at _ _ _

/-- The first result of a core's arguments. -/
abbrev result1 (c : Dev nD) : S16384x1792.Idx → EReal :=
  Cert.Reference3Ideal.Inproj.result1 (m ((c.tc : Thread nD τ).loc main_arg0)) (m ((c.tc : Thread nD τ).loc main_arg1)) (m ((c.tc : Thread nD τ).loc main_arg2))

/-- The second result of a core's arguments. -/
abbrev result2 (c : Dev nD) : S16384x2048.Idx → EReal :=
  Cert.Reference3Ideal.Inproj.result2 (m ((c.tc : Thread nD τ).loc main_arg0)) (m ((c.tc : Thread nD τ).loc main_arg1)) (m ((c.tc : Thread nD τ).loc main_arg2))

theorem left3_at (c : Dev nD) (t : Fin cfg0.N) (a : Fin 512) (n : Fin 1792) :
    out0_3 (F := Ideal) (iblk m c 0 t) (iblk m c 1 t) (iblk m c 2 t) (ix2 a n) = result1 m c (ix2 ⟨512 * t.val + a.val, by have := t_lt t; omega⟩ n) := by
  refine (out3_at _ _ _ a n).trans (Eq.trans ?_ (Cert.Reference3Ideal.Inproj.result1_at _ _ _ _ _).symm)
  exact Cert.Inproj.entry_congr (fun k => block_0 m c t a k) (fun k => block_1 m c t k) (fun k => block_2 m c t k _)

theorem left4_at (c : Dev nD) (t : Fin cfg0.N) (a : Fin 512) (n : Fin 2048) :
    out0_4 (F := Ideal) (iblk m c 0 t) (iblk m c 1 t) (iblk m c 2 t) (ix2 a n) = result2 m c (ix2 ⟨512 * t.val + a.val, by have := t_lt t; omega⟩ n) := by
  refine (out4_at _ _ _ a n).trans (Eq.trans ?_ (Cert.Reference3Ideal.Inproj.result2_at _ _ _ _ _).symm)
  exact Cert.Inproj.entry_congr (fun k => block_0 m c t a k) (fun k => block_1 m c t k) (fun k => block_2 m c t k _)

theorem left3 (c : Dev nD) (t : Fin cfg0.N) (y : S512x1792.Idx) :
    out0_3 (F := Ideal) (iblk m c 0 t) (iblk m c 1 t) (iblk m c 2 t) y = result1 m c (((cfg0.win 3).blk t).view.emb y) := by
  have ht := t_lt t
  have hy0 : (y 0).val < 512 := (y 0).isLt
  have e1 : y = ix2 (⟨(y 0).val, hy0⟩ : Fin 512) (⟨(y 1).val, (y 1).isLt⟩ : Fin 1792) := by
    funext a; fin_cases a <;> rfl
  rw [emb_3 t y (ix2 ⟨512 * t.val + (y 0).val, by omega⟩ ⟨(y 1).val, (y 1).isLt⟩) rfl rfl]
  exact (congrArg (out0_3 (F := Ideal) (iblk m c 0 t) (iblk m c 1 t) (iblk m c 2 t)) e1).trans (left3_at m c t ⟨(y 0).val, hy0⟩ ⟨(y 1).val, (y 1).isLt⟩)

theorem left4 (c : Dev nD) (t : Fin cfg0.N) (y : S512x2048.Idx) :
    out0_4 (F := Ideal) (iblk m c 0 t) (iblk m c 1 t) (iblk m c 2 t) y = result2 m c (((cfg0.win 4).blk t).view.emb y) := by
  have ht := t_lt t
  have hy0 : (y 0).val < 512 := (y 0).isLt
  have e1 : y = ix2 (⟨(y 0).val, hy0⟩ : Fin 512) (⟨(y 1).val, (y 1).isLt⟩ : Fin 2048) := by
    funext a; fin_cases a <;> rfl
  rw [emb_4 t y (ix2 ⟨512 * t.val + (y 0).val, by omega⟩ ⟨(y 1).val, (y 1).isLt⟩) rfl rfl]
  exact (congrArg (out0_4 (F := Ideal) (iblk m c 0 t) (iblk m c 1 t) (iblk m c 2 t)) e1).trans (left4_at m c t ⟨(y 0).val, hy0⟩ ⟨(y 1).val, (y 1).isLt⟩)

/-- The first result array is the reference's first result. -/
theorem arr_3 (c : Dev nD) : (dats m 0 c).arrAt 3 cfg0.N = result1 m c := by
  refine (dats m 0 c).arrAt_eq_of_emb 3 (result1 m c) (fun t _ y => ?_) (fun i => ?_)
  · exact (congrFun (after0_3 m c t) y).trans (left3 m c t y)
  · obtain ⟨t, y, h⟩ := cover_3 i
    refine ⟨t, flush_3 t, ?_⟩
    rw [← h]
    exact View.emb_mem_set _ _

/-- The second result array is the reference's second result. -/
theorem arr_4 (c : Dev nD) : (dats m 0 c).arrAt 4 cfg0.N = result2 m c := by
  refine (dats m 0 c).arrAt_eq_of_emb 4 (result2 m c) (fun t _ y => ?_) (fun i => ?_)
  · exact (congrFun (after0_4 m c t) y).trans (left4 m c t y)
  · obtain ⟨t, y, h⟩ := cover_4 i
    refine ⟨t, flush_4 t, ?_⟩
    rw [← h]
    exact View.emb_mem_set _ _

end Arrays

end Cert.Kernel3Ideal.Inproj

end
-- ==== Proof.InprojClaims.lean ====
/- The input projection's frames, and its value against the reference over the extended reals. -/
module

public import proofs.«01_k».proof.Proof.InprojValue
public import proofs.«01_k».proof.Proof.Gen.Kernel3.Frame
public import proofs.«01_k».proof.Proof.Gen.Kernel3
public import proofs.«01_k».proof.Proof.Gen.Kernel3Ideal
public import proofs.«01_k».proof.Proof.Gen.Reference3Ideal
public import proofs.«01_k».proof.Defs

@[expose] public section

noncomputable section

namespace Cert.Proof

open Idealize.ShloMosaic Idealize.ShloMosaic.TcCoe Idealize.SL.Sem

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

open Cert.Reference3Ideal in
/-- The reference's run, its results the two column ranges of the projected tokens. -/
theorem inproj_reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
        r.2.mem ((c.tc : Thread nD τ).loc main_v17) = Inproj.result1 (m ((c.tc : Thread nD τ).loc main_arg0)) (m ((c.tc : Thread nD τ).loc main_arg1)) (m ((c.tc : Thread nD τ).loc main_arg2))
        ∧ r.2.mem ((c.tc : Thread nD τ).loc main_v18) = Inproj.result2 (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  Cert.Reference3Ideal.Value.run (F := Ideal) m ρ

/-- Over the extended reals the input projection and the reference leave the same two arrays. -/
theorem value_inproj : Cert.algebraic_Kernel3Ideal_Reference3Ideal := fun m ρ m' ρ' _ hargs =>
  ⟨Cert.Kernel3Ideal.Inproj.result1 m, Cert.Kernel3Ideal.Inproj.result2 m,
    (θ_run Cert.Kernel3Ideal.defs _ _).mono (fun _ h c => ⟨(h c).1.trans (Cert.Kernel3Ideal.Inproj.arr_3 m c), (h c).2.1.trans (Cert.Kernel3Ideal.Inproj.arr_4 m c), (h c).2.2⟩)
      (Cert.Kernel3Ideal.Value.run_blocks (F := Ideal) m ρ),
    (θ_run Cert.Reference3Ideal.defs _ _).mono (fun _ h c => ⟨(h c).1.trans (by rw [(hargs c).1, (hargs c).2.1, (hargs c).2.2]),
        (h c).2.1.trans (by rw [(hargs c).1, (hargs c).2.1, (hargs c).2.2]), (h c).2.2⟩)
      (inproj_reference_run m' ρ')⟩

end Cert.Proof

end
-- ==== Proof.CombineCopies.lean ====
/- The copies of the combine call.

   For one grid point's 512 tokens the call brings 1024 slots of the expert buffer into one of two staging slots: copy `q`
   takes the eight rows of the slot that word `q` names to tile `q % 2`, rows `8 * (q / 2)` to `8 * (q / 2) + 7`. All 1024 are
   on the staging slot's semaphore. Several words may name one slot, so each copy reads through a share of its own. -/
module

public import proofs.«01_k».proof.Proof.Gen.Kernel4Ideal
public import proofs.«01_k».proof.Proof.Gen.Kernel4Ideal.Skeleton
public import Idealize.ShloMosaic.Lib.Pipeline.Routed
public import Idealize.ShloMosaic.Lib.Batch
public import Idealize.ShloMosaic.Lib.Ring
public import Idealize.ShloMosaic.Lib.Tactic
public import Idealize.ShloMosaic.Lib.ShareLeaves
public import Idealize.ShloMosaic.Lib.ValueLayout

@[expose] public section

noncomputable section

namespace Cert.Kernel4Ideal.Combine

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))

/-- The staging slots and the expert buffer. -/
abbrev bufs : Memref sig .tc .vmem S2x2x4096x128 .f32 := Memref.whole cc0_scratch0
abbrev ys : Memref sig .tc .hbm S393216x128 .f32 := Memref.whole main_arg4

/-! ## Words -/

/-- A slot's first row, as the body computes it: eight times the word, which does not wrap. -/
theorem row_toNat (w : BitVec 32) (h : w.toNat < 49152) : (w * 8#32).toNat = 8 * w.toNat := by
  rw [BitVec.toNat_mul]
  simp only [BitVec.toNat_ofNat]
  omega

theorem from_eq (w : BitVec 32) (h : w.toNat < 49152) : k0_off3 w = ![8 * w.toNat, 0] := by
  have e : k0_off3 w = ![(w * 8#32).toNat, 0] := rfl
  rw [e, row_toNat w h]

theorem fits (w : BitVec 32) (h : w.toNat < 49152) : 8 ∣ (w * 8#32).toNat ∧ ∀ a, k0_off3 w a + S8x128.size a ≤ S393216x128.size a := by
  refine ⟨row_toNat w h ▸ Nat.dvd_mul_right 8 _, fun a => ?_⟩
  rw [from_eq w h]
  fin_cases a
  · show 8 * w.toNat + 8 ≤ 393216; omega
  · show 0 + 128 ≤ 128; omega

theorem chk1_of (i : grid0.Coords) (w : BitVec 32) (h : w.toNat < 49152) : k0_chk1 i w := ⟨fun _ => (fits w h).1, fun _ => (fits w h).2⟩
theorem chk2_of (i : grid0.Coords) (w : BitVec 32) (h : w.toNat < 49152) : k0_chk2 i w := ⟨fun _ => (fits w h).1, fun _ => (fits w h).2⟩
theorem chk3_of (i : grid0.Coords) (w : BitVec 32) (h : w.toNat < 49152) : k0_chk3 i w := ⟨fun _ => (fits w h).1, fun _ => (fits w h).2⟩
theorem chk4_of (i : grid0.Coords) (w : BitVec 32) (h : w.toNat < 49152) : k0_chk4 i w := ⟨fun _ => (fits w h).1, fun _ => (fits w h).2⟩

/-! ## Rows -/

/-- Element `l` of row `r` of tile `j` of staging slot `s`, and of row `r` of the expert buffer. -/
def at4 (s j r l : ℕ) : S2x2x4096x128.Idx := fun a => match a with
  | ⟨0, _⟩ => ⟨s % 2, Nat.mod_lt _ (by decide)⟩
  | ⟨1, _⟩ => ⟨j % 2, Nat.mod_lt _ (by decide)⟩
  | ⟨2, _⟩ => ⟨r % 4096, Nat.mod_lt _ (by decide)⟩
  | ⟨3, _⟩ => ⟨l % 128, Nat.mod_lt _ (by decide)⟩
def at2 (r l : ℕ) : S393216x128.Idx := fun a => match a with
  | ⟨0, _⟩ => ⟨r % 393216, Nat.mod_lt _ (by decide)⟩
  | ⟨1, _⟩ => ⟨l % 128, Nat.mod_lt _ (by decide)⟩

/-- The elements of slot `w` of the expert buffer, of staging slot `s`, and those copy `q` brings to it. -/
def slotRows (w : BitVec 32) : Finset S393216x128.Idx := Finset.univ.filter fun i => (i 0).val / 8 = w.toNat
def slotSet (s : ℕ) : Finset S2x2x4096x128.Idx := Finset.univ.filter fun i => (i 0).val = s
def part (s q : ℕ) : Finset S2x2x4096x128.Idx :=
  Finset.univ.filter fun i => (i 0).val = s ∧ (i 1).val = q % 2 ∧ (i 2).val / 8 = q / 2

theorem mem_slotRows {w : BitVec 32} {i : S393216x128.Idx} : i ∈ slotRows w ↔ (i 0).val / 8 = w.toNat := by simp [slotRows]
theorem mem_slotSet {s : ℕ} {i : S2x2x4096x128.Idx} : i ∈ slotSet s ↔ (i 0).val = s := by simp [slotSet]
theorem mem_part {s q : ℕ} {i : S2x2x4096x128.Idx} : i ∈ part s q ↔ (i 0).val = s ∧ (i 1).val = q % 2 ∧ (i 2).val / 8 = q / 2 := by
  simp [part]

theorem part_disjoint (s : ℕ) {q q' : ℕ} (h : q ≠ q') : Disjoint (part s q) (part s q') := by
  rw [Finset.disjoint_left]; intro i hi hi'
  rw [mem_part] at hi hi'
  omega

/-- A staging slot is what its 1024 copies write. -/
theorem slot_parts (s : ℕ) : (Finset.range 1024).biUnion (part s) = slotSet s := by
  ext i
  have b1 : (i 1).val < 2 := (i 1).isLt
  have b2 : (i 2).val < 4096 := (i 2).isLt
  simp only [Finset.mem_biUnion, Finset.mem_range, mem_part, mem_slotSet]
  constructor
  · rintro ⟨q, -, h, -⟩; exact h
  · intro h; exact ⟨2 * ((i 2).val / 8) + (i 1).val, by omega, h, by omega, by omega⟩

/-- The two staging slots are the buffer. -/
theorem slots_all : slotSet 0 ∪ slotSet 1 = Finset.univ := by
  ext i
  have b0 : (i 0).val < 2 := (i 0).isLt
  simp only [Finset.mem_union, mem_slotSet, Finset.mem_univ, iff_true]; omega
theorem slots_disjoint : Disjoint (slotSet 0) (slotSet 1) := by
  rw [Finset.disjoint_left]; intro i hi hi'
  rw [mem_slotSet] at hi hi'; omega

/-- The tile at offsets `o`. -/
abbrev tile (o : Fin 4 → ℕ) (h : ∀ a, o a + S1x1x4096x128.size a ≤ S2x2x4096x128.size a) : Memref sig .tc .vmem S4096x128 .f32 :=
  (bufs.slice (Rect.unit (s := S2x2x4096x128) o S1x1x4096x128.size h) (fun _ => rfl)).squeeze S4096x128 squeezes_S1x1x4096x128_S4096x128

theorem tile_emb {s j : ℕ} (hs : s < 2) (hj : j < 2) {o : Fin 4 → ℕ} (e : o = ![s, j, 0, 0]) (h : ∀ a, o a + S1x1x4096x128.size a ≤ S2x2x4096x128.size a)
    (y : S4096x128.Idx) : (tile o h).view.emb y = at4 s j (y 0).val (y 1).val := by
  subst e
  have ey : y = ix2 (n0 := 4096) (n1 := 128) (y 0) (y 1) := by funext a; fin_cases a <;> rfl
  have b0 : (y 0).val < 4096 := (y 0).isLt
  have b1 : (y 1).val < 128 := (y 1).isLt
  have e2 : (tile ![s, j, 0, 0] h).view.emb y
      = (Rect.unit (s := S2x2x4096x128) ![s, j, 0, 0] S1x1x4096x128.size h).emb
          (ix4 (⟨0, Nat.one_pos⟩ : Fin 1) (⟨0, Nat.one_pos⟩ : Fin 1) (y 0) (y 1)) := by
    refine congrArg (Rect.unit (s := S2x2x4096x128) ![s, j, 0, 0] S1x1x4096x128.size h).emb ?_
    conv_lhs => rw [ey]
    exact reshapeEquiv_ix2_11ab _ (y 0) (y 1)
  rw [e2]
  funext a
  apply Fin.ext
  fin_cases a
  · show s + 1 * 0 = s % 2; omega
  · show j + 1 * 0 = j % 2; omega
  · show 0 + 1 * (y 0).val = (y 0).val % 4096; omega
  · show 0 + 1 * (y 1).val = (y 1).val % 128; omega

/-- Where copy `q` writes, element by element; -/
theorem into_emb {s q : ℕ} (hs : s < 2) (hq : q < 1024) {o : Fin 4 → ℕ} (e : o = ![s, q % 2, 0, 0])
    (h : ∀ a, o a + S1x1x4096x128.size a ≤ S2x2x4096x128.size a) {o' : Fin 2 → ℕ} (e' : o' = ![8 * (q / 2), 0])
    (h' : ∀ a, o' a + S8x128.size a ≤ S4096x128.size a) (x : S8x128.Idx) :
    ((tile o h).slice (Rect.unit (s := S4096x128) o' S8x128.size h') (fun _ => rfl)).view.emb x = at4 s (q % 2) (8 * (q / 2) + (x 0).val) (x 1).val := by
  subst e'
  refine (tile_emb hs (Nat.mod_lt _ (by decide)) e h _).trans ?_
  congr 1
  · show 8 * (q / 2) + 1 * (x 0).val = _; omega
  · show 0 + 1 * (x 1).val = _; omega

/-- and as a set. -/
theorem into_set {s q : ℕ} (hs : s < 2) (hq : q < 1024) {o : Fin 4 → ℕ} (e : o = ![s, q % 2, 0, 0])
    (h : ∀ a, o a + S1x1x4096x128.size a ≤ S2x2x4096x128.size a) {o' : Fin 2 → ℕ} (e' : o' = ![8 * (q / 2), 0])
    (h' : ∀ a, o' a + S8x128.size a ≤ S4096x128.size a) :
    ((tile o h).slice (Rect.unit (s := S4096x128) o' S8x128.size h') (fun _ => rfl)).view.set = part s q := by
  refine Finset.ext fun (i : S2x2x4096x128.Idx) => ?_
  rw [mem_part]
  constructor
  · intro hi
    obtain ⟨x, -, rfl⟩ := Finset.mem_map.mp hi
    have b0 : (x 0).val < 8 := (x 0).isLt
    rw [into_emb hs hq e h e' h' x]
    refine ⟨?_, ?_, ?_⟩
    · show s % 2 = s; omega
    · show q % 2 % 2 = q % 2; omega
    · show (8 * (q / 2) + (x 0).val) % 4096 / 8 = q / 2; omega
  · rintro ⟨h0, h1, h2⟩
    have b3 : (i 3).val < 128 := (i 3).isLt
    refine Finset.mem_map.mpr ⟨ix2 (n0 := 8) (n1 := 128) ⟨(i 2).val % 8, Nat.mod_lt _ (by decide)⟩ ⟨(i 3).val, b3⟩, Finset.mem_univ _, ?_⟩
    refine (into_emb hs hq e h e' h' _).trans ?_
    funext a
    apply Fin.ext
    fin_cases a
    · show s % 2 = (i 0).val; omega
    · show q % 2 % 2 = (i 1).val; omega
    · show (8 * (q / 2) + (i 2).val % 8) % 4096 = (i 2).val; omega
    · show (i 3).val % 128 = (i 3).val; omega

/-- Where it reads. -/
theorem from_set (w : BitVec 32) (hw : w.toNat < 49152) (h : ∀ a, k0_off3 w a + S8x128.size a ≤ S393216x128.size a) :
    (ys.slice (Rect.unit (s := S393216x128) (k0_off3 w) S8x128.size h) (fun _ => rfl)).view.set = slotRows w := by
  refine (View.set_slice_whole main_arg4 _).trans (Finset.ext fun (i : S393216x128.Idx) => ?_)
  rw [Rect.mem_set_unit, mem_slotRows, from_eq w hw]
  have b1 : (i 1).val < 128 := (i 1).isLt
  constructor
  · intro H; have a0 : 8 * w.toNat ≤ (i 0).val ∧ (i 0).val < 8 * w.toNat + 8 := H 0; omega
  · intro H a; fin_cases a
    · show 8 * w.toNat ≤ (i 0).val ∧ (i 0).val < 8 * w.toNat + 8; omega
    · show 0 ≤ (i 1).val ∧ (i 1).val < 0 + 128; omega

/-- What a staging slot holds once the slots that the words `w` name are in it. -/
def gath {c : Dev nD} (w : ℕ → BitVec 32) (Y : Bf (F := F) c ys) : Bf (F := F) c bufs := fun (i : S2x2x4096x128.Idx) =>
  Y (at2 (8 * (w (2 * ((i 2).val / 8) + (i 1).val)).toNat + (i 2).val % 8) (i 3).val)

omit [FloatOps F] in
/-- Copy `q` as it lands. -/
theorem landed {c : Dev nD} {w : ℕ → BitVec 32} {Y : Bf (F := F) c ys} {f : Bf (F := F) c bufs} {s q : ℕ} (hs : s < 2) (hq : q < 1024)
    {o : Fin 4 → ℕ} (e : o = ![s, q % 2, 0, 0])
    (h : ∀ a, o a + S1x1x4096x128.size a ≤ S2x2x4096x128.size a) {o' : Fin 2 → ℕ} (e' : o' = ![8 * (q / 2), 0])
    (h' : ∀ a, o' a + S8x128.size a ≤ S4096x128.size a) (hw : (w q).toNat < 49152)
    (h3 : ∀ a, k0_off3 (w q) a + S8x128.size a ≤ S393216x128.size a) (i : S2x2x4096x128.Idx) (hi : i ∈ part s q) :
    ((tile o h).slice (Rect.unit (s := S4096x128) o' S8x128.size h') (fun _ => rfl)).view.write (Elt F) f
      (ReadAs.same.apply ((ys.slice (Rect.unit (s := S393216x128) (k0_off3 (w q)) S8x128.size h3) (fun _ => rfl)).view.read (Elt F) Y)) Finset.univ i
      = gath w Y i := by
  rw [← into_set hs hq e h e' h'] at hi
  obtain ⟨x, -, rfl⟩ := Finset.mem_map.mp hi
  refine (View.write_emb_of_mem (v := ((tile o h).slice (Rect.unit (s := S4096x128) o' S8x128.size h') (fun _ => rfl)).view)
    f _ (Finset.mem_univ x)).trans ?_
  rw [into_emb hs hq e h e' h' x]
  have b0 : (x 0).val < 8 := (x 0).isLt
  have b1 : (x 1).val < 128 := (x 1).isLt
  refine congrArg Y ?_
  have eq : 2 * ((8 * (q / 2) + (x 0).val) % 4096 / 8) + q % 2 % 2 = q := by omega
  funext a
  apply Fin.ext
  fin_cases a
  · show k0_off3 (w q) 0 + 1 * (x 0).val
      = (8 * (w (2 * ((8 * (q / 2) + (x 0).val) % 4096 / 8) + q % 2 % 2)).toNat + (8 * (q / 2) + (x 0).val) % 4096 % 8) % 393216
    rw [eq, from_eq _ hw]
    show 8 * (w q).toNat + 1 * (x 0).val = _
    omega
  · show k0_off3 (w q) 1 + 1 * (x 1).val = (x 1).val % 128 % 128
    rw [from_eq _ hw]
    show 0 + 1 * (x 1).val = _
    omega

/-! ## The batch -/

/-- The share of copy `q` among 1024 that `p` is cut into. -/
def lf (p : PosShare TreeShare) (q : ℕ) : PosShare TreeShare := ShareLeaves.leaf 10 p ⟨q % 2 ^ 10, Nat.mod_lt _ (by decide)⟩

section Batches

variable (c : Dev nD) (s : ℕ) (p : PosShare TreeShare) (w : ℕ → BitVec 32) (Y : Bf (F := F) c ys)

/-- The elements copy `q` writes, at `f`; what it reads, at its share; and the rest of the expert buffer at that share. -/
def partAt (f : Bf (F := F) c bufs) (q : ℕ) : sProp 𝕄 := bufs.view.loc (c : Thread nD τ) ↦[part s q]{fullShare} f
def readAt (q : ℕ) : sProp 𝕄 := ys.view.loc (c : Thread nD τ) ↦[slotRows (w q)]{lf p q} Y
def restAt (q : ℕ) : sProp 𝕄 := ys.view.loc (c : Thread nD τ) ↦[Finset.univ \ slotRows (w q)]{lf p q} Y
def leafAt (q : ℕ) : sProp 𝕄 := ys.view.loc (c : Thread nD τ) ↦[Finset.univ]{lf p q} Y

/-- What copy `q` gives back. -/
def back (q : ℕ) : sProp 𝕄 := iprop(partAt c s (gath w Y) q ∗ readAt c p w Y q)

instance back_storable (q : ℕ) : BI.Storable (upEmb : UEmb _ 𝕄) (back c s p w Y q) := by
  unfold back partAt readAt; infer_instance

/-- The semaphore of staging slot `s`. -/
def cell (s : ℕ) : DmaSem sig := ((cc0_scratch1.slice (Rect.unit (s := S2) ![s % 2] S1.size (by
    intro a; fin_cases a; show s % 2 + 1 ≤ 2; omega))).squeeze S_ squeezes_S1_S_).sem

/-- The credit of one copy. -/
abbrev NN : ℕ := 128

/-- The 1024 copies into slot `s`, `j` started and `u` credits taken. -/
abbrev batch (j u : ℕ) : sProp 𝕄 :=
  Transfers.Batch countersEmb (c : Thread nD τ) (.dma (cell s)) () NN (fun q : Fin 1024 => back c s p w Y q.val) j u

variable {c s p w Y}

theorem sem_cell {s : ℕ} {o : Fin 1 → ℕ} (e : o = ![s]) (hs : s < 2) (h : ∀ a, o a + S1.size a ≤ S2.size a) :
    ((cc0_scratch1.slice (Rect.unit (s := S2) o S1.size h)).squeeze S_ squeezes_S1_S_).sem = cell s := by
  subst e
  have a : s % 2 = s := Nat.mod_eq_of_lt hs
  have g : ∀ s' (h' : ∀ a, (![s'] : Fin 1 → ℕ) a + S1.size a ≤ S2.size a), s' = s →
      ((cc0_scratch1.slice (Rect.unit (s := S2) ![s'] S1.size h')).squeeze S_ squeezes_S1_S_).sem
        = ((cc0_scratch1.slice (Rect.unit (s := S2) ![s] S1.size h)).squeeze S_ squeezes_S1_S_).sem := by
    intro s' h' es; subst es; rfl
  exact (g _ _ a).symm

omit [FloatOps F] in
theorem leaf_split (q : ℕ) : (leafAt c p Y q : sProp 𝕄) = iprop(readAt c p w Y q ∗ restAt c p w Y q) :=
  BI.equiv_iff.mp ⟨(pointsTo_split_subset (Finset.subset_univ _)).1, (pointsTo_split_subset (Finset.subset_univ _)).2⟩

theorem credit_copy {o : Fin 4 → ℕ} (h : ∀ a, o a + S1x1x4096x128.size a ≤ S2x2x4096x128.size a) {o' : Fin 2 → ℕ}
    (h' : ∀ a, o' a + S8x128.size a ≤ S4096x128.size a) (sm : DmaSem sig) :
    ((tile o h).slice (Rect.unit (s := S4096x128) o' S8x128.size h') (fun _ => rfl)).view.amount (SemLoc.dma (sig := sig) sm) = NN := by
  show sig.dmaCredit Kind.tc _ _ S8x128 EltTy.f32 = 128
  rfl

/-- Copy `q` started. -/
theorem start_copy {f : Bf (F := F) c bufs} {q : ℕ} (hs : s < 2) (hq : q < 1024)
    {o : Fin 4 → ℕ} (e : o = ![s, q % 2, 0, 0])
    (h : ∀ a, o a + S1x1x4096x128.size a ≤ S2x2x4096x128.size a) {o' : Fin 2 → ℕ} (e' : o' = ![8 * (q / 2), 0])
    (h' : ∀ a, o' a + S8x128.size a ≤ S4096x128.size a) (hw : (w q).toNat < 49152) {v : BitVec 32} (hv : v = w q)
    (h3 : ∀ a, k0_off3 v a + S8x128.size a ≤ S393216x128.size a) {sm : DmaSem sig} (hsm : sm = cell s)
    {hsrc : (ys.slice (Rect.unit (s := S393216x128) (k0_off3 v) S8x128.size h3) (fun _ => rfl)).view.WordExact}
    {hdst : ((tile o h).slice (Rect.unit (s := S4096x128) o' S8x128.size h') (fun _ => rfl)).view.WordExact}
    {hsem : DmaTarget.Typed (nD := nD) Space.hbm (SemLoc.dma sm) (.here (p := (Proc.tc : Proc τ)) ((tile o h).slice (Rect.unit (s := S4096x128) o' S8x128.size h') (fun _ => rfl)))}
    {K : PUnit → Prog (TpuEff nD τ sig (Elt F) Λ₀ .tc) Unit} {Q : Unit → sProp 𝕄} :
    iprop(partAt c s f q ∗ leafAt c p Y q ∗ batch c s p w Y q 0)
      ⊢ iprop((iprop(batch c s p w Y (q + 1) 0 ∗ restAt c p w Y q) -∗ wp frame (wpE (defs₀ (F := F)) Variants.none (c : Thread nD τ) none) Set.univ (K ⟨⟩) Q)
        -∗ wp frame (wpE (defs₀ (F := F)) Variants.none (c : Thread nD τ) none) Set.univ
            (.op (.enqueueDmaAs (ys.slice (Rect.unit (s := S393216x128) (k0_off3 v) S8x128.size h3) (fun _ => rfl))
              (.here ((tile o h).slice (Rect.unit (s := S4096x128) o' S8x128.size h') (fun _ => rfl))) ReadAs.same
              (SemLoc.dma sm) hsrc hdst hsem) K) Q) := by
  subst hv; subst hsm
  rw [leaf_split (w := w)]
  iintro ⟨HR, ⟨HT, HX⟩, HB⟩ Hk
  unfold partAt readAt
  rw [← from_set (w q) hw h3]
  iapply (Transfers.wp_dmaBatch countersEmb Variants.none (c : Thread nD τ) none
    (src := ys.slice (Rect.unit (s := S393216x128) (k0_off3 (w q)) S8x128.size h3) (fun _ => rfl))
    (dst := (tile o h).slice (Rect.unit (s := S4096x128) o' S8x128.size h') (fun _ => rfl))
    (q := lf p q) (fs := Y) (Sd := part s q) (fd := f) (sm := .dma (cell s))
    (D := fun q : Fin 1024 => back c s p w Y q.val) (j := q) (u := 0)
    () NN (credit_copy h h' _) (into_set hs hq e h e' h').le hq (Nat.zero_le _) ?_) $$ [HR HT HB]
  · show _ ⊢ back c s p w Y q
    unfold back partAt readAt
    rw [← from_set (w q) hw h3]
    exact sep_mono (Entails.of_eq (pointsTo_congr fun i hi => landed hs hq e h e' h' hw h3 i hi)) .rfl
  · isplitl [HT]; · iexact HT
    isplitl [HR]; · iexact HR
    iexact HB
  iintro HB
  iapply Hk
  isplitl [HB]; · iexact HB
  iexact HX

end Batches

end Cert.Kernel4Ideal.Combine

end
-- ==== Proof.CombineIssue.lean ====
/- The combine call's staging slots, filled and emptied.

   A staging slot is free (nothing in flight), busy (the 1024 copies of a point all started) or full (they have all landed).
   The expert buffer is only read; slot 0's copies read it through one half, slot 1's through the other. Here: a free slot's
   holdings dealt to the copies; one trip of either loop; every copy's return put together. -/
module

public import proofs.«01_k».proof.Proof.CombineCopies

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- Place `q` of a staged block of words. -/
def place (q : ℕ) : S1024.Idx := fun a => match a with | ⟨0, _⟩ => ⟨q % 1024, Nat.mod_lt q (show 0 < 1024 by decide)⟩

/-- Word `q` of a staged block of words. -/
def word (M : Memref sig .tc .smem S1024 .i32) {c : Dev nD} (f : Bf (F := F) c M) (q : ℕ) : BitVec 32 :=
  M.view.read (Elt F) f (place q)

abbrev only : S1.Idx := Shape.Idx.first (s := S1) (numel1_S1.symm ▸ Nat.one_pos)

omit [FloatOps F] in
theorem word_read (M : Memref sig .tc .smem S1024 .i32) {c : Dev nD} (f : Bf (F := F) c M) {o : Fin 1 → ℕ} {q : ℕ} (hq : q < 1024) (e : o = ![q])
    (h : ∀ a, o a + S1.size a ≤ S1024.size a) :
    M.view.readAt (Elt F) (Rect.unit (s := S1024) o S1.size h).toLoadRect f only = word M f q := by
  subst e
  refine congrArg (M.view.read (Elt F) f) (funext fun a => Fin.ext ?_)
  fin_cases a
  show q + 1 * (only 0).val = q % 1024
  have b : (only 0).val < 1 := (only 0).isLt
  omega

theorem trips1 : k0_t1_loop.trips = 512 := by decide
theorem trips2 : k0_t2_loop.trips = 512 := by decide

/-- What slot `s`'s copies read through. -/
def half (s : ℕ) : PosShare TreeShare := if s = 0 then fullShare.left else fullShare.right

section States

variable (c : Dev nD) (s : ℕ) (w : ℕ → BitVec 32) (Y : Bf (F := F) c ys)

/-- Slot `s` with nothing in flight; -/
def Free : sProp 𝕄 :=
  iprop((∃ f, bufs.view.loc (c : Thread nD τ) ↦[slotSet s]{fullShare} f) ∗ semVal ((c : Thread nD τ), SemLoc.dma (cell s)) 0
    ∗ ys.view.loc (c : Thread nD τ) ↦{half s} Y)
/-- with all its copies started; -/
def Busy : sProp 𝕄 :=
  iprop(batch c s (half s) w Y 1024 0 ∗ bigSep (Finset.range 1024) fun q => restAt c (half s) w Y q)
/-- with all of them landed. -/
def Full : sProp 𝕄 :=
  iprop((bufs.view.loc (c : Thread nD τ) ↦[slotSet s]{fullShare} gath w Y) ∗ semVal ((c : Thread nD τ), SemLoc.dma (cell s)) 0
    ∗ ys.view.loc (c : Thread nD τ) ↦{half s} Y)

/-- Before trip `k`: the first `2k` copies started, what the others need still in hand. -/
def issuing (f : Bf (F := F) c bufs) (M : Memref sig .tc .smem S1024 .i32) (g : Bf (F := F) c M) (k : ℕ) (_ : Unit) : sProp 𝕄 :=
  iprop(batch c s (half s) (word M g) Y (2 * k) 0
    ∗ (bigSep (Finset.Ico (2 * k) 1024) fun q => partAt c s f q)
    ∗ (bigSep (Finset.Ico (2 * k) 1024) fun q => leafAt c (half s) Y q)
    ∗ (bigSep (Finset.range (2 * k)) fun q => restAt c (half s) (word M g) Y q)
    ∗ M.view.loc (c : Thread nD τ) ↦{fullShare} g)

variable {c s w Y}

theorem full_free : (Full c s w Y : sProp 𝕄) ⊢ Free c s Y := by
  unfold Full Free
  iintro ⟨A, B, C⟩
  isplitl [A]; · iexists _; iexact A
  isplitl [B]; · iexact B
  iexact C

omit [FloatOps F] in
theorem take_first (Φ : ℕ → sProp 𝕄) {k n : ℕ} (h : k < n) :
    bigSep (Finset.Ico k n) Φ = iprop(Φ k ∗ bigSep (Finset.Ico (k + 1) n) Φ) := by
  rw [Ring.Ico_eq_insert h, bigSep_insert (by simp)]; rfl

omit [FloatOps F] in
theorem put_last (Φ : ℕ → sProp 𝕄) (k : ℕ) :
    bigSep (Finset.range (k + 1)) Φ = iprop(Φ k ∗ bigSep (Finset.range k) Φ) := by
  rw [Finset.range_add_one, bigSep_insert (by simp)]; rfl

omit [FloatOps F] in
/-- The expert buffer at a share is 1024 of it at the shares the copies read through. -/
theorem leaves (p : PosShare TreeShare) :
    (ys.view.loc (c : Thread nD τ) ↦{p} Y : sProp 𝕄) = bigSep (Finset.range 1024) fun q => leafAt c p Y q := by
  refine (ShareLeaves.pointsTo_leaves (ℓ := ys.view.loc (c : Thread nD τ)) Finset.univ Y 10 p).trans ?_
  refine Ring.bigSep_fin_eq_range 1024 _ (fun q => leafAt c p Y q) fun t h => ?_
  unfold leafAt lf
  have e : (⟨t % 2 ^ 10, Nat.mod_lt _ (by decide)⟩ : Fin (2 ^ 10)) = ⟨t, h⟩ := Fin.ext (Nat.mod_eq_of_lt h)
  rw [e]

omit [FloatOps F] in
/-- A staging slot is the parts its copies write. -/
theorem parts (f : Bf (F := F) c bufs) :
    (bufs.view.loc (c : Thread nD τ) ↦[slotSet s]{fullShare} f : sProp 𝕄) = bigSep (Finset.range 1024) fun q => partAt c s f q := by
  rw [← slot_parts s]
  exact pointsTo_biUnion (ℓ := bufs.view.loc (c : Thread nD τ)) (Finset.range 1024) (part s) (fun q _ q' _ hne => part_disjoint s hne)

/-- A free slot, dealt to the copies about to start. -/
theorem deal (M : Memref sig .tc .smem S1024 .i32) (g : Bf (F := F) c M) :
    iprop(Free c s Y ∗ M.view.loc (c : Thread nD τ) ↦{fullShare} g) ⊢ (|={Set.univ}=> iprop(∃ f, issuing c s Y f M g 0 ()) : sProp 𝕄) := by
  unfold Free issuing
  rw [leaves]
  iintro ⟨⟨⟨%f, A⟩, B, C⟩, D⟩
  ihave A := (Entails.of_eq (parts f)) $$ A
  imod (Transfers.batch_alloc' (Lvl := ℕ) countersEmb (c : Thread nD τ) () NN
    (fun q : Fin 1024 => back c s (half s) (word M g) Y q.val) (sm := .dma (cell s)) (E := Set.univ)) $$ B with HB
  imodintro
  iexists f
  isplitl [HB]; · iexact HB
  isplitl [A]; · rw [← Finset.range_eq_Ico]; iexact A
  isplitl [C]; · rw [← Finset.range_eq_Ico]; iexact C
  isplitr; · rw [Finset.range_zero, bigSep_empty]; iempintro
  iexact D

/-- After the last trip. -/
theorem dealt {f : Bf (F := F) c bufs} (M : Memref sig .tc .smem S1024 .i32) (g : Bf (F := F) c M) {k : ℕ} (hk : k = 512) (acc : Unit) :
    (issuing c s Y f M g k acc : sProp 𝕄) ⊢ iprop(Busy c s (word M g) Y ∗ M.view.loc (c : Thread nD τ) ↦{fullShare} g) := by
  subst hk
  unfold issuing Busy
  iintro ⟨A, -, -, B, C⟩
  isplitr [C]; swap; · iexact C
  isplitl [A]; · iexact A
  iexact B

/-- Every copy's return put together. -/
theorem collect :
    (iprop((bigSep Finset.univ fun q : Fin 1024 => back c s (half s) w Y q.val) ∗ bigSep (Finset.range 1024) fun q => restAt c (half s) w Y q) : sProp 𝕄)
      ⊢ iprop((bufs.view.loc (c : Thread nD τ) ↦[slotSet s]{fullShare} gath w Y) ∗ ys.view.loc (c : Thread nD τ) ↦{half s} Y) := by
  rw [Ring.bigSep_fin_eq_range 1024 _ (fun q => back c s (half s) w Y q) fun _ _ => rfl, parts, leaves]
  have e1 : (bigSep (Finset.range 1024) fun q => back c s (half s) w Y q : sProp 𝕄)
      = iprop((bigSep (Finset.range 1024) fun q => partAt c s (gath w Y) q) ∗ bigSep (Finset.range 1024) fun q => readAt c (half s) w Y q) :=
    BI.bigSep_sep _ _ _
  have e2 : (bigSep (Finset.range 1024) fun q => leafAt c (half s) Y q : sProp 𝕄)
      = iprop((bigSep (Finset.range 1024) fun q => readAt c (half s) w Y q) ∗ bigSep (Finset.range 1024) fun q => restAt c (half s) w Y q) := by
    exact (bigSep_congr fun q _ => leaf_split q).trans (BI.bigSep_sep _ _ _)
  rw [e1, e2]
  iintro ⟨⟨A, B⟩, C⟩
  isplitl [A]; · iexact A
  isplitl [B]; · iexact B
  iexact C

/-! ## The trips -/

set_option maxRecDepth 16384 in
set_option maxHeartbeats 1000000 in
/-- A trip of the loop that starts point 0's copies. -/
theorem trip1 [∀ e, Nonempty (Elt F e)] (i : grid0.Coords) (M1 : Memref sig .tc .smem S1024 .i32) (h1 : M1.IsWhole) (M2 : Memref sig .tc .smem S1024 .i32) (h2 : M2.IsWhole)
    (M3 : Memref sig .tc .vmem S512x128 .f32) (h3 : M3.IsWhole) (M4 : Memref sig .tc .vmem S512x1024 .f32) (h4 : M4.IsWhole) (M5 : Memref sig .tc .vmem S1x1024 .f32) (h5 : M5.IsWhole)
    (h6 : ys.IsWhole) (M7 : Memref sig .tc .vmem S512x1024 .f32) (h7 : M7.IsWhole) (h8 : bufs.IsWhole) (k1 : k0_cond1 i = 1#1)
    {f : Bf (F := F) c bufs} (g : Bf (F := F) c M1) (hw : ∀ q, q < 1024 → (word M1 g q).toNat < 49152) (k : Fin k0_t1_loop.trips) (acc : Unit) :
    (issuing c 0 Y f M1 g k.val acc : sProp 𝕄)
      ⊢ wp frame (wpE (defs₀ (F := F)) Variants.none (c : Thread nD τ) none) Set.univ
          (k0_t1_body i M1 h1 M2 h2 M3 h3 M4 h4 M5 h5 ys h6 M7 h7 bufs h8 cc0_scratch1 k1 k acc)
          (issuing c 0 Y f M1 g (k.val + 1)) := by
  have hk : k.val < 512 := trips1 ▸ k.isLt
  have r1 := word_read M1 g (by omega) (k0_off1_eq k) (k0_off1_inb i k k1)
  have r2 := word_read M1 g (by omega) (k0_off4_eq k) (k0_off4_inb i k k1)
  unfold issuing
  rw [take_first _ (show 2 * k.val < 1024 by omega), take_first _ (show 2 * k.val + 1 < 1024 by omega), take_first _ (show 2 * k.val < 1024 by omega), take_first _ (show 2 * k.val + 1 < 1024 by omega),
    show 2 * (k.val + 1) = 2 * k.val + 1 + 1 from by omega, put_last, put_last]
  iintro ⟨HB, ⟨HP0, HP1, HPs⟩, ⟨HL0, HL1, HLs⟩, HR, H1⟩
  dsimp only [k0_t1_body]
  have c1 : k0_chk1 i (M1.view.readAt (Elt F) (Rect.unit (s := S1024) (k0_off1 k) S1.size (k0_off1_inb i k k1)).toLoadRect g only) :=
    chk1_of i _ (r1 ▸ hw _ (by omega))
  have c2 : k0_chk2 i (M1.view.readAt (Elt F) (Rect.unit (s := S1024) (k0_off4 k) S1.size (k0_off4_inb i k k1)).toLoadRect g only) :=
    chk2_of i _ (r2 ▸ hw _ (by omega))
  sl_exec (disch := first | exact c1 | exact c2)
  iapply (start_copy (w := word M1 g) (s := 0) (q := 2 * k.val) (by omega) (by omega) (o := ![0, 0, 0, 0]) ?e _ (o' := k0_off2 k) ?e' _ (hw _ (by omega)) r1 _ ?hsm) $$ [HP0 HL0 HB]
  case e => rw [show 2 * k.val % 2 = 0 from by omega]
  case e' => rw [k0_off2_eq k, show 2 * k.val / 2 = k.val from by omega]
  case hsm => exact sem_cell rfl (by omega) _
  · isplitl [HP0]; · iexact HP0
    isplitl [HL0]; · iexact HL0
    iexact HB
  iintro ⟨HB, HX0⟩
  sl_exec (disch := first | exact c1 | exact c2)
  iapply (start_copy (w := word M1 g) (s := 0) (q := 2 * k.val + 1) (by omega) (by omega) (o := ![0, 1, 0, 0]) ?e _ (o' := k0_off5 k) ?e' _ (hw _ (by omega)) r2 _ ?hsm) $$ [HP1 HL1 HB]
  case e => rw [show (2 * k.val + 1) % 2 = 1 from by omega]
  case e' => rw [k0_off5_eq k, show (2 * k.val + 1) / 2 = k.val from by omega]
  case hsm => exact sem_cell rfl (by omega) _
  · isplitl [HP1]; · iexact HP1
    isplitl [HL1]; · iexact HL1
    iexact HB
  iintro ⟨HB, HX1⟩
  sl_step
  isplitl [HB]; · iexact HB
  isplitl [HPs]; · iexact HPs
  isplitl [HLs]; · iexact HLs
  isplitl [HX0 HX1 HR]
  · isplitl [HX1]; · iexact HX1
    isplitl [HX0]; · iexact HX0
    iexact HR
  iexact H1

set_option maxRecDepth 16384 in
set_option maxHeartbeats 1000000 in
/-- A trip of the loop that starts the next point's copies, into the other slot. -/
theorem trip2 [∀ e, Nonempty (Elt F e)] (i : grid0.Coords) (M1 : Memref sig .tc .smem S1024 .i32) (h1 : M1.IsWhole) (M2 : Memref sig .tc .smem S1024 .i32) (h2 : M2.IsWhole)
    (M3 : Memref sig .tc .vmem S512x128 .f32) (h3 : M3.IsWhole) (M4 : Memref sig .tc .vmem S512x1024 .f32) (h4 : M4.IsWhole) (M5 : Memref sig .tc .vmem S1x1024 .f32) (h5 : M5.IsWhole)
    (h6 : ys.IsWhole) (M7 : Memref sig .tc .vmem S512x1024 .f32) (h7 : M7.IsWhole) (h8 : bufs.IsWhole) (k2 : k0_cond2 i = 1#1)
    {f : Bf (F := F) c bufs} (g : Bf (F := F) c M2) (hw : ∀ q, q < 1024 → (word M2 g q).toNat < 49152) (k : Fin k0_t2_loop.trips) (acc : Unit) :
    (issuing c (1 - (i 0).val % 2) Y f M2 g k.val acc : sProp 𝕄)
      ⊢ wp frame (wpE (defs₀ (F := F)) Variants.none (c : Thread nD τ) none) Set.univ
          (k0_t2_body i M1 h1 M2 h2 M3 h3 M4 h4 M5 h5 ys h6 M7 h7 bufs h8 cc0_scratch1 k2 k acc)
          (issuing c (1 - (i 0).val % 2) Y f M2 g (k.val + 1)) := by
  have hk : k.val < 512 := trips2 ▸ k.isLt
  have hs : 1 - (i 0).val % 2 < 2 := by omega
  have r1 := word_read M2 g (by omega) (k0_off7_eq k) (k0_off7_inb i k k2)
  have r2 := word_read M2 g (by omega) (k0_off12_eq k) (k0_off12_inb i k k2)
  unfold issuing
  rw [take_first _ (show 2 * k.val < 1024 by omega), take_first _ (show 2 * k.val + 1 < 1024 by omega), take_first _ (show 2 * k.val < 1024 by omega), take_first _ (show 2 * k.val + 1 < 1024 by omega),
    show 2 * (k.val + 1) = 2 * k.val + 1 + 1 from by omega, put_last, put_last]
  iintro ⟨HB, ⟨HP0, HP1, HPs⟩, ⟨HL0, HL1, HLs⟩, HR, H1⟩
  dsimp only [k0_t2_body]
  have c1 : k0_chk3 i (M2.view.readAt (Elt F) (Rect.unit (s := S1024) (k0_off7 k) S1.size (k0_off7_inb i k k2)).toLoadRect g only) :=
    chk3_of i _ (r1 ▸ hw _ (by omega))
  have c2 : k0_chk4 i (M2.view.readAt (Elt F) (Rect.unit (s := S1024) (k0_off12 k) S1.size (k0_off12_inb i k k2)).toLoadRect g only) :=
    chk4_of i _ (r2 ▸ hw _ (by omega))
  sl_exec (disch := first | exact c1 | exact c2)
  iapply (start_copy (w := word M2 g) (s := 1 - (i 0).val % 2) (q := 2 * k.val) hs (by omega) (o := k0_off9 i) ?e _ (o' := k0_off10 k) ?e' _ (hw _ (by omega)) r1 _ ?hsm) $$ [HP0 HL0 HB]
  case e => rw [show 2 * k.val % 2 = 0 from by omega]; exact k0_off9_eq i
  case e' => rw [k0_off10_eq k, show 2 * k.val / 2 = k.val from by omega]
  case hsm => exact sem_cell (k0_off8_eq i) hs _
  · isplitl [HP0]; · iexact HP0
    isplitl [HL0]; · iexact HL0
    iexact HB
  iintro ⟨HB, HX0⟩
  sl_exec (disch := first | exact c1 | exact c2)
  iapply (start_copy (w := word M2 g) (s := 1 - (i 0).val % 2) (q := 2 * k.val + 1) hs (by omega) (o := k0_off14 i) ?e _ (o' := k0_off15 k) ?e' _ (hw _ (by omega)) r2 _ ?hsm) $$ [HP1 HL1 HB]
  case e => rw [show (2 * k.val + 1) % 2 = 1 from by omega]; exact k0_off14_eq i
  case e' => rw [k0_off15_eq k, show (2 * k.val + 1) / 2 = k.val from by omega]
  case hsm => exact sem_cell (k0_off13_eq i) hs _
  · isplitl [HP1]; · iexact HP1
    isplitl [HL1]; · iexact HL1
    iexact HB
  iintro ⟨HB, HX1⟩
  sl_step
  isplitl [HB]; · iexact HB
  isplitl [HPs]; · iexact HPs
  isplitl [HLs]; · iexact HLs
  isplitl [HX0 HX1 HR]
  · isplitl [HX1]; · iexact HX1
    isplitl [HX0]; · iexact HX0
    iexact HR
  iexact H1

end States

end Cert.Kernel4Ideal.Combine

end
-- ==== Proof.CombineBody.lean ====
/- One point of the combine call.

   At the first point the words of the point are copied into slot 0; at every point but the last, those of the next point
   into the other slot. Then the point's own copies are waited for, and its block computed from what they brought. -/
module

public import proofs.«01_k».proof.Proof.CombineIssue

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## What a point reads -/

/-- Lane group `a` of the slots the `j`-th words of the tokens name. -/
def lanes {c : Dev nD} (w : ℕ → BitVec 32) (Y : Bf (F := F) c ys) (j a : ℕ) : Vec F S512x128 .f32 := fun x =>
  Y (at2 (8 * (w (2 * (x 0).val + j)).toNat + a) (x 1).val)

/-- One strided load of a full slot. -/
theorem load_lanes {α : Type} {c : Dev nD} {w : ℕ → BitVec 32} {Y : Bf (F := F) c ys} {s j a : ℕ} (hs : s < 2) (hj : j < 2) (ha : a < 8)
    {o : Fin 4 → ℕ} (e : o = ![s, j, 0, 0]) (h : ∀ a, o a + S1x1x4096x128.size a ≤ S2x2x4096x128.size a) (hin) {hl} {K} {Q : α → sProp 𝕄} :
    (bufs.view.loc (c : Thread nD τ) ↦[slotSet s]{fullShare} gath w Y : sProp 𝕄)
      ⊢ iprop(((bufs.view.loc (c : Thread nD τ) ↦[slotSet s]{fullShare} gath w Y)
          -∗ wp frame (wpE (defs₀ (F := F)) Variants.none (c : Thread nD τ) none) Set.univ (K (lanes w Y j a)) Q)
        -∗ wp frame (wpE (defs₀ (F := F)) Variants.none (c : Thread nD τ) none) Set.univ
            (.op (.load (tile o h) (⟨![a, 0], S512x128.size, ![8, 1], hin⟩ : LoadRect S4096x128) hl) K) Q) := by
  have hv : (tile o h).view.readAt (Elt F) (⟨![a, 0], S512x128.size, ![8, 1], hin⟩ : LoadRect S4096x128) (gath w Y) = lanes w Y j a := by
    funext x
    have b0 : (x 0).val < 512 := (x 0).isLt
    have b1 : (x 1).val < 128 := (x 1).isLt
    have hi : (tile o h).view.emb ((⟨![a, 0], S512x128.size, ![8, 1], hin⟩ : LoadRect S4096x128).idx x) = at4 s j (a + 8 * (x 0).val) (0 + 1 * (x 1).val) := tile_emb hs hj e h _
    refine (congrArg (gath w Y) hi).trans ?_
    have e1 : (a + 8 * (x 0).val) % 4096 / 8 = (x 0).val := by omega
    have e2 : (a + 8 * (x 0).val) % 4096 % 8 = a := by omega
    have e3 : j % 2 = j := by omega
    have e4 : (0 + 1 * (x 1).val) % 128 = (x 1).val := by omega
    unfold gath lanes
    show Y (at2 (8 * (w (2 * ((at4 s j (a + 8 * (x 0).val) (0 + 1 * (x 1).val) 2).val / 8) + (at4 s j (a + 8 * (x 0).val) (0 + 1 * (x 1).val) 1).val)).toNat + (at4 s j (a + 8 * (x 0).val) (0 + 1 * (x 1).val) 2).val % 8) (at4 s j (a + 8 * (x 0).val) (0 + 1 * (x 1).val) 3).val) = _
    rw [show (at4 s j (a + 8 * (x 0).val) (0 + 1 * (x 1).val) 2).val = (a + 8 * (x 0).val) % 4096 from rfl,
      show (at4 s j (a + 8 * (x 0).val) (0 + 1 * (x 1).val) 1).val = j % 2 from rfl,
      show (at4 s j (a + 8 * (x 0).val) (0 + 1 * (x 1).val) 3).val = (0 + 1 * (x 1).val) % 128 from rfl, e1, e2, e3, e4]
  have hsub : (tile o h).view.setOn (⟨![a, 0], S512x128.size, ![8, 1], hin⟩ : LoadRect S4096x128).set ⊆ slotSet s := fun y hy => by
    obtain ⟨z, -, hz⟩ := Finset.mem_map.mp hy
    rw [← hz, tile_emb hs hj e h, mem_slotSet]
    exact Nat.mod_eq_of_lt hs
  rw [← hv]
  exact wp_load (defs := defs₀ (F := F)) Variants.none (c : Thread nD τ) none Set.univ (m := tile o h) (r := (⟨![a, 0], S512x128.size, ![8, 1], hin⟩ : LoadRect S4096x128))
    (hl := hl) (k := K) (S := slotSet s) (q := fullShare) (f := gath w Y) (Q := Q) hsub

/-- After a statement the next one runs at its value. -/
theorem next {E : Type → Type} {α β : Type} (a : α) (k : α → Prog E β) : (Prog.ret a).bind k = k a := rfl

/-- A wait takes the credit of 512 copies. -/
theorem credit_wait {o : Fin 4 → ℕ} (h : ∀ a, o a + S1x1x4096x128.size a ≤ S2x2x4096x128.size a) : (tile o h).view.dmaCredit = 512 * NN := by
  show sig.dmaCredit Kind.tc _ _ S4096x128 EltTy.f32 = 65536
  rfl

section Point

variable [∀ e, Nonempty (Elt F e)] {c : Dev nD} {Y : Bf (F := F) c ys}
  (i : grid0.Coords) (M1 : Memref sig .tc .smem S1024 .i32) (h1 : M1.IsWhole) (M2 : Memref sig .tc .smem S1024 .i32) (h2 : M2.IsWhole)
  (M3 : Memref sig .tc .vmem S512x128 .f32) (h3 : M3.IsWhole) (M4 : Memref sig .tc .vmem S512x1024 .f32) (h4 : M4.IsWhole) (M5 : Memref sig .tc .vmem S1x1024 .f32) (h5 : M5.IsWhole)
  (h6 : ys.IsWhole) (M7 : Memref sig .tc .vmem S512x1024 .f32) (h7 : M7.IsWhole) (h8 : bufs.IsWhole)

/-! ## The first part: copies started, the point's own awaited -/

omit [∀ e, Nonempty (Elt F e)] in
theorem cond1_iff : ∀ i : grid0.Coords, k0_cond1 i = 1#1 ↔ (i 0).val = 0 := by decide +kernel
omit [∀ e, Nonempty (Elt F e)] in
theorem cond2_iff : ∀ i : grid0.Coords, k0_cond2 i = 1#1 ↔ (i 0).val + 1 < 32 := by decide +kernel

omit [∀ e, Nonempty (Elt F e)] in
/-- A whole block loaded. -/
theorem read_all {sp : Space} {S : Shape} {e : EltTy} (M : Memref sig .tc sp S e) (f : Bf (F := F) c M) (o : Fin S.rank → ℕ) (ho : ∀ a, o a = 0) (h) :
    M.view.readAt (Elt F) (Rect.unit (s := S) o S.size h).toLoadRect f = M.view.read (Elt F) f := by
  funext x
  refine congrArg (M.view.read (Elt F) f) (funext fun a => Fin.ext ?_)
  show o a + 1 * (x a).val = _
  rw [ho]; omega

/-- What follows the two loops of the first part: both waits and the first loads. -/
def await : Prog (TpuEff nD τ sig (Elt F) Λ₀ .tc) (Σ' (v21 : FVec F S512x1 .f32) (v22 : FVec F S512x1 .f32), Vec F S512x128 .f32) := do
  let v9 : DmaSems sig S1 := cc0_scratch1.slice (Rect.unit (s := S2) (k0_off17 i) S1.size (k0_off17_inb i))
  let v10 : DmaSems sig S_ := v9.squeeze S_ squeezes_S1_S_
  let v11 : Memref sig .tc .vmem S1x1x4096x128 .f32 := bufs.slice (Rect.unit (s := S2x2x4096x128) (k0_off18 i) S1x1x4096x128.size (k0_off18_inb i)) (fun _ => rfl)
  let v12 : Memref sig .tc .vmem S4096x128 .f32 := v11.squeeze S4096x128 squeezes_S1x1x4096x128_S4096x128
  let v13 : Memref sig .tc .hbm S4096x128 .f32 := ys.slice (Rect.unit (s := S393216x128) ![0, 0] S4096x128.size inb_S393216x128_S4096x128_0_0) (fun _ => rfl)
  Prog.lift (.waitDma2 v10.sem v13 v12 (View.wordExact_bits rfl) ((View.wordExact_bits rfl).reshape _ _))
  let v15 : DmaSems sig S1 := cc0_scratch1.slice (Rect.unit (s := S2) (k0_off17 i) S1.size (k0_off17_inb i))
  let v16 : DmaSems sig S_ := v15.squeeze S_ squeezes_S1_S_
  let v17 : Memref sig .tc .vmem S1x1x4096x128 .f32 := bufs.slice (Rect.unit (s := S2x2x4096x128) (k0_off19 i) S1x1x4096x128.size (k0_off19_inb i)) (fun _ => rfl)
  let v18 : Memref sig .tc .vmem S4096x128 .f32 := v17.squeeze S4096x128 squeezes_S1x1x4096x128_S4096x128
  let v19 : Memref sig .tc .hbm S4096x128 .f32 := ys.slice (Rect.unit (s := S393216x128) ![0, 0] S4096x128.size inb_S393216x128_S4096x128_0_0) (fun _ => rfl)
  Prog.lift (.waitDma2 v16.sem v19 v18 (View.wordExact_bits rfl) ((View.wordExact_bits rfl).reshape _ _))
  let v20 : Vec F S512x128 .f32 ← Prog.lift (.load M3 (Rect.unit (s := S512x128) ![0, 0] S512x128.size inb_S512x128_S512x128_0_0).toLoadRect (View.loadsAt_vmem h_S512x128))
  let v23 : Memref sig .tc .vmem S1x1x4096x128 .f32 := bufs.slice (Rect.unit (s := S2x2x4096x128) (k0_off18 i) S1x1x4096x128.size (k0_off18_inb i)) (fun _ => rfl)
  let v24 : Memref sig .tc .vmem S4096x128 .f32 := v23.squeeze S4096x128 squeezes_S1x1x4096x128_S4096x128
  let v25 : Vec F S512x128 .f32 ← Prog.lift (.load v24 (⟨![0, 0], S512x128.size, ![8, 1], inb_S4096x128_S512x128_0_0_s_8_1⟩ : LoadRect S4096x128) (View.loadsAt_vmem h_S512x128))
  pure ⟨k0_pay2 v20, k0_pay3 v20, v25⟩

/-- The copies of the next point started, then the rest. -/
def second : Prog (TpuEff nD τ sig (Elt F) Λ₀ .tc) (Σ' (v21 : FVec F S512x1 .f32) (v22 : FVec F S512x1 .f32), Vec F S512x128 .f32) :=
  if k : k0_cond2 i = 1#1 then
    Scf.Loop.for k0_t2_loop (k0_t2_ok i k) ⟨⟩ (k0_t2_body i M1 h1 M2 h2 M3 h3 M4 h4 M5 h5 ys h6 M7 h7 bufs h8 cc0_scratch1 k) >>= fun _ => await i M3
  else await i M3

/-- The first point's own copies started, then the rest. -/
def first : Prog (TpuEff nD τ sig (Elt F) Λ₀ .tc) (Σ' (v21 : FVec F S512x1 .f32) (v22 : FVec F S512x1 .f32), Vec F S512x128 .f32) :=
  if k : k0_cond1 i = 1#1 then
    Scf.Loop.for k0_t1_loop (k0_t1_ok i k) ⟨⟩ (k0_t1_body i M1 h1 M2 h2 M3 h3 M4 h4 M5 h5 ys h6 M7 h7 bufs h8 cc0_scratch1 k)
      >>= fun _ => second i M1 h1 M2 h2 M3 h3 M4 h4 M5 h5 h6 M7 h7 h8
  else second i M1 h1 M2 h2 M3 h3 M4 h4 M5 h5 h6 M7 h7 h8

omit [∀ e, Nonempty (Elt F e)] in
theorem part1_eq : k0_part1 (F := F) i M1 h1 M2 h2 M3 h3 M4 h4 M5 h5 ys h6 M7 h7 bufs h8 cc0_scratch1 = first i M1 h1 M2 h2 M3 h3 M4 h4 M5 h5 h6 M7 h7 h8 := by
  rw [k0_part1_eq_skeleton]; rfl

/-- Slot `s` of point `t` before the point: busy, or free at the first. -/
def St (c : Dev nD) (s t : ℕ) (w : ℕ → BitVec 32) (Y : Bf (F := F) c ys) : sProp 𝕄 :=
  if t = 0 ∨ 32 ≤ t then Free c s Y else Busy c s w Y

set_option maxRecDepth 16384 in
set_option maxHeartbeats 4000000 in
theorem first_spec (f1 : Bf (F := F) c M1) (hw : ∀ q, q < 1024 → (word M1 f1 q).toNat < 49152) (Q : _ → sProp 𝕄) :
    iprop(St c ((i 0).val % 2) (i 0).val (word M1 f1) Y ∗ (M1.view.loc (c : Thread nD τ) ↦{fullShare} f1)
        ∗ (iprop(Busy c ((i 0).val % 2) (word M1 f1) Y ∗ M1.view.loc (c : Thread nD τ) ↦{fullShare} f1)
          -∗ wp frame (wpE (defs₀ (F := F)) Variants.none (c : Thread nD τ) none) Set.univ (second i M1 h1 M2 h2 M3 h3 M4 h4 M5 h5 h6 M7 h7 h8) Q))
      ⊢ wp frame (wpE (defs₀ (F := F)) Variants.none (c : Thread nD τ) none) Set.univ (first i M1 h1 M2 h2 M3 h3 M4 h4 M5 h5 h6 M7 h7 h8) Q := by
  have hi : (i 0).val < 32 := (i 0).isLt
  unfold first St
  by_cases k : k0_cond1 i = 1#1
  · have h0 : (i 0).val = 0 := (cond1_iff i).mp k
    rw [dif_pos k, if_pos (Or.inl h0), show (i 0).val % 2 = 0 by omega]
    iintro ⟨A, B, Hk⟩
    imod (deal M1 f1) $$ [A B] with HI
    · isplitl [A] <;> iassumption
    icases HI with ⟨%f, HI⟩
    sl_for (issuing c 0 Y f M1 f1) $$ [HI]
    · intro k' acc; exact trip1 i M1 h1 M2 h2 M3 h3 M4 h4 M5 h5 h6 M7 h7 h8 k f1 hw k' acc
    · iexact HI
    iintro %acc HL
    ihave HL' := (dealt M1 f1 trips1 acc) $$ HL
    iapply Hk
    iexact HL'
  · have h0 : ¬ ((i 0).val = 0 ∨ 32 ≤ (i 0).val) := fun h => by
      rcases h with h | h
      · exact k ((cond1_iff i).mpr h)
      · omega
    rw [dif_neg k, if_neg h0]
    iintro ⟨A, B, Hk⟩
    iapply Hk
    isplitl [A] <;> iassumption

set_option maxRecDepth 16384 in
set_option maxHeartbeats 4000000 in
theorem second_spec (f2 : Bf (F := F) c M2) (hw : ∀ q, q < 1024 → (word M2 f2 q).toNat < 49152) (Q : _ → sProp 𝕄) :
    iprop(Free c (1 - (i 0).val % 2) Y ∗ (M2.view.loc (c : Thread nD τ) ↦{fullShare} f2)
        ∗ (iprop(St c (1 - (i 0).val % 2) ((i 0).val + 1) (word M2 f2) Y ∗ M2.view.loc (c : Thread nD τ) ↦{fullShare} f2)
          -∗ wp frame (wpE (defs₀ (F := F)) Variants.none (c : Thread nD τ) none) Set.univ (await i M3) Q))
      ⊢ wp frame (wpE (defs₀ (F := F)) Variants.none (c : Thread nD τ) none) Set.univ (second i M1 h1 M2 h2 M3 h3 M4 h4 M5 h5 h6 M7 h7 h8) Q := by
  unfold second St
  by_cases k : k0_cond2 i = 1#1
  · have h0 : ¬ ((i 0).val + 1 = 0 ∨ 32 ≤ (i 0).val + 1) := by have := (cond2_iff i).mp k; omega
    rw [dif_pos k, if_neg h0]
    iintro ⟨A, B, Hk⟩
    imod (deal M2 f2) $$ [A B] with HI
    · isplitl [A] <;> iassumption
    icases HI with ⟨%f, HI⟩
    sl_for (issuing c (1 - (i 0).val % 2) Y f M2 f2) $$ [HI]
    · intro k' acc; exact trip2 i M1 h1 M2 h2 M3 h3 M4 h4 M5 h5 h6 M7 h7 h8 k f2 hw k' acc
    · iexact HI
    iintro %acc HL
    ihave HL' := (dealt M2 f2 trips2 acc) $$ HL
    iapply Hk
    iexact HL'
  · have h0 : (i 0).val + 1 = 0 ∨ 32 ≤ (i 0).val + 1 := Or.inr (by
      have := mt (cond2_iff i).mpr k; omega)
    rw [dif_neg k, if_pos h0]
    iintro ⟨A, B, Hk⟩
    iapply Hk
    isplitl [A] <;> iassumption

set_option maxRecDepth 16384 in
set_option maxHeartbeats 4000000 in
theorem await_spec {w : ℕ → BitVec 32} (f3 : Bf (F := F) c M3) (W : Waits sig Unit) (Q : _ → sProp 𝕄) :
    iprop(Busy c ((i 0).val % 2) w Y ∗ (M3.view.loc (c : Thread nD τ) ↦{fullShare} f3) ∗ owes (c : Thread nD τ) 0 W
        ∗ (iprop(Full c ((i 0).val % 2) w Y ∗ (M3.view.loc (c : Thread nD τ) ↦{fullShare} f3) ∗ ∃ W, owes (c : Thread nD τ) 0 W)
          -∗ Q ⟨k0_pay2 (M3.view.read (Elt F) f3), k0_pay3 (M3.view.read (Elt F) f3), lanes w Y 0 0⟩))
      ⊢ wp frame (wpE (defs₀ (F := F)) Variants.none (c : Thread nD τ) none) Set.univ (await i M3) Q := by
  have hs : (i 0).val % 2 < 2 := Nat.mod_lt _ (by decide)
  have hc := sem_cell (k0_off17_eq i) hs (k0_off17_inb i)
  unfold await Busy
  iintro ⟨⟨HB, HR⟩, H3, HO, Hk⟩
  dsimp only
  rw [hc]
  iapply (Transfers.wp_waitBatchMul countersEmb Variants.none (c : Thread nD τ) none () (N := NN) 512 (credit_wait _)
    (D := fun q : Fin 1024 => back c ((i 0).val % 2) (half ((i 0).val % 2)) w Y q.val) (j := 2 * 512) (u := 0) (by decide)) $$ [HB HO]
  · isplitl [HB] <;> iassumption
  iintro ⟨HB, HO⟩
  simp only [next]
  iapply (Transfers.wp_waitBatchAll countersEmb Variants.none (c : Thread nD τ) none () (N := NN) (J := 512 * NN) (credit_wait _) (by decide)
    (D := fun q : Fin 1024 => back c ((i 0).val % 2) (half ((i 0).val % 2)) w Y q.val) (u := 0 + 512 * NN) (by decide)) $$ [HB HO]
  · isplitl [HB] <;> iassumption
  iintro ⟨HD, Hc, HO⟩
  simp only [next]
  ihave HF := collect $$ [HD HR]
  · isplitl [HD] <;> iassumption
  icases HF with ⟨HF, HY⟩
  sl_exec
  iapply (load_lanes hs (j := 0) (by decide) (by decide) (k0_off18_eq i) _ _) $$ HF
  iintro HF
  simp only [next]
  sl_step
  rw [read_all M3 f3 ![0, 0] (by intro a; fin_cases a <;> rfl)]
  iapply Hk
  isplitl [HF Hc HY]
  · unfold Full
    isplitl [HF]; · iexact HF
    isplitl [Hc] <;> iassumption
  isplitl [H3]; · iexact H3
  iexists _; iexact HO

/-! ## The other two parts: the remaining lane groups -/

set_option maxRecDepth 16384 in
set_option maxHeartbeats 4000000 in
theorem part2_spec {w : ℕ → BitVec 32} (g : FVec F S512x1 .f32) (l : Vec F S512x128 .f32) (Q : _ → sProp 𝕄) :
    iprop((bufs.view.loc (c : Thread nD τ) ↦[slotSet ((i 0).val % 2)]{fullShare} gath w Y)
        ∗ (iprop(bufs.view.loc (c : Thread nD τ) ↦[slotSet ((i 0).val % 2)]{fullShare} gath w Y)
          -∗ Q (k0_pay4 g l (lanes w Y 0 1) (lanes w Y 0 2) (lanes w Y 0 3) (lanes w Y 0 4) (lanes w Y 0 5) (lanes w Y 0 6) (lanes w Y 0 7))))
      ⊢ wp frame (wpE (defs₀ (F := F)) Variants.none (c : Thread nD τ) none) Set.univ
          (k0_part2 i M1 h1 M2 h2 M3 h3 M4 h4 M5 h5 ys h6 M7 h7 bufs h8 cc0_scratch1 g l) Q := by
  have hs : (i 0).val % 2 < 2 := Nat.mod_lt _ (by decide)
  rw [k0_part2_eq_skeleton]; unfold k0_part2_skel
  iintro ⟨HF, Hk⟩
  dsimp only
  iterate 7
    iapply (load_lanes hs (j := 0) (by decide) (by decide) (k0_off18_eq i) _ _) $$ HF
    iintro HF
    try simp only [next]
  sl_step
  iapply Hk
  iexact HF

set_option maxRecDepth 16384 in
set_option maxHeartbeats 4000000 in
theorem part3_spec {w : ℕ → BitVec 32} (g : FVec F S512x1 .f32) (Q : _ → sProp 𝕄) :
    iprop((bufs.view.loc (c : Thread nD τ) ↦[slotSet ((i 0).val % 2)]{fullShare} gath w Y)
        ∗ (iprop(bufs.view.loc (c : Thread nD τ) ↦[slotSet ((i 0).val % 2)]{fullShare} gath w Y)
          -∗ Q (k0_pay5 g (lanes w Y 1 0) (lanes w Y 1 1) (lanes w Y 1 2) (lanes w Y 1 3) (lanes w Y 1 4) (lanes w Y 1 5) (lanes w Y 1 6) (lanes w Y 1 7))))
      ⊢ wp frame (wpE (defs₀ (F := F)) Variants.none (c : Thread nD τ) none) Set.univ
          (k0_part3 i M1 h1 M2 h2 M3 h3 M4 h4 M5 h5 ys h6 M7 h7 bufs h8 cc0_scratch1 g) Q := by
  have hs : (i 0).val % 2 < 2 := Nat.mod_lt _ (by decide)
  rw [k0_part3_eq_skeleton]; unfold k0_part3_skel
  iintro ⟨HF, Hk⟩
  dsimp only
  iterate 8
    iapply (load_lanes hs (j := 1) (by decide) (by decide) (k0_off19_eq i) _ _) $$ HF
    iintro HF
    try simp only [next]
  sl_step
  iapply Hk
  iexact HF

/-! ## The whole point -/

omit [∀ e, Nonempty (Elt F e)] in
/-- A whole block stored. -/
theorem read_store {sp : Space} {S : Shape} {e : EltTy} (M : Memref sig .tc sp S e) (f : Bf (F := F) c M) (o : Fin S.rank → ℕ) (ho : ∀ a, o a = 0) (h) (w : S.Idx → Elt F e) :
    M.view.read (Elt F) (M.view.writes (Elt F) f [⟨Rect.unit (s := S) o S.size h, w⟩]) = w := by
  funext z
  have hz : (Rect.unit (s := S) o S.size h).emb z = z := by
    funext a; apply Fin.ext
    show o a + 1 * (z a).val = _
    rw [ho]; omega
  conv_lhs => rw [← hz]
  exact View.read_slice_write_emb (v := M.view) (Rect.unit (s := S) o S.size h) _ _ (Finset.mem_univ _)

/-- The block of a point: from the words of its tokens, the expert buffer, and the staged gates, rows and gains. -/
def outOf {c : Dev nD} (w : ℕ → BitVec 32) (Y : Bf (F := F) c ys) (m : Vec F S512x128 .f32) (x : Vec F S512x1024 .f32) (g : Vec F S1x1024 .f32) : FVec F S512x1024 .f32 :=
  k0_pay1 (k0_pay4 (k0_pay2 m) (lanes w Y 0 0) (lanes w Y 0 1) (lanes w Y 0 2) (lanes w Y 0 3) (lanes w Y 0 4) (lanes w Y 0 5) (lanes w Y 0 6) (lanes w Y 0 7))
    (k0_pay5 (k0_pay3 m) (lanes w Y 1 0) (lanes w Y 1 1) (lanes w Y 1 2) (lanes w Y 1 3) (lanes w Y 1 4) (lanes w Y 1 5) (lanes w Y 1 6) (lanes w Y 1 7)) x g

set_option maxRecDepth 16384 in
set_option maxHeartbeats 4000000 in
/-- A point, from the words of its tokens (`M1`) and of the next point's (`M2`). -/
theorem run_point (f1 : Bf (F := F) c M1) (f2 : Bf (F := F) c M2) (f3 : Bf (F := F) c M3) (f4 : Bf (F := F) c M4) (f5 : Bf (F := F) c M5) (f7 : Bf (F := F) c M7)
    (hw1 : ∀ q, q < 1024 → (word M1 f1 q).toNat < 49152) (hw2 : ∀ q, q < 1024 → (word M2 f2 q).toNat < 49152) (W : Waits sig Unit) (Q : PUnit → sProp 𝕄) :
    iprop(St c ((i 0).val % 2) (i 0).val (word M1 f1) Y ∗ Free c (1 - (i 0).val % 2) Y
        ∗ (M1.view.loc (c : Thread nD τ) ↦{fullShare} f1) ∗ (M2.view.loc (c : Thread nD τ) ↦{fullShare} f2) ∗ (M3.view.loc (c : Thread nD τ) ↦{fullShare} f3)
        ∗ (M4.view.loc (c : Thread nD τ) ↦{fullShare} f4) ∗ (M5.view.loc (c : Thread nD τ) ↦{fullShare} f5) ∗ (M7.view.loc (c : Thread nD τ) ↦{fullShare} f7)
        ∗ owes (c : Thread nD τ) 0 W
        ∗ (iprop(St c (1 - (i 0).val % 2) ((i 0).val + 1) (word M2 f2) Y ∗ Free c ((i 0).val % 2) Y
            ∗ (M1.view.loc (c : Thread nD τ) ↦{fullShare} f1) ∗ (M2.view.loc (c : Thread nD τ) ↦{fullShare} f2) ∗ (M3.view.loc (c : Thread nD τ) ↦{fullShare} f3)
            ∗ (M4.view.loc (c : Thread nD τ) ↦{fullShare} f4) ∗ (M5.view.loc (c : Thread nD τ) ↦{fullShare} f5)
            ∗ (∃ f : Bf (F := F) c M7, ⌜M7.view.read (Elt F) f = outOf (word M1 f1) Y (M3.view.read (Elt F) f3) (M4.view.read (Elt F) f4) (M5.view.read (Elt F) f5)⌝ ∗ M7.view.loc (c : Thread nD τ) ↦{fullShare} f)
            ∗ ∃ W, owes (c : Thread nD τ) 0 W) -∗ Q ⟨⟩))
      ⊢ wp frame (wpE (defs₀ (F := F)) Variants.none (c : Thread nD τ) none) Set.univ
          (cc0_moe_combine i M1 h1 M2 h2 M3 h3 M4 h4 M5 h5 ys h6 M7 h7 bufs h8 cc0_scratch1) Q := by
  rw [cc0_moe_combine_eq_skeleton]; unfold cc0_moe_combine_skel
  iintro ⟨HS, HN, H1, H2, H3, H4, H5, H7, HO, Hk⟩
  rw [part1_eq, Sem.wp_bind]
  iapply (first_spec i M1 h1 M2 h2 M3 h3 M4 h4 M5 h5 h6 M7 h7 h8 f1 hw1)
  isplitl [HS]; · iexact HS
  isplitl [H1]; · iexact H1
  iintro ⟨HB, H1⟩
  iapply (second_spec i M1 h1 M2 h2 M3 h3 M4 h4 M5 h5 h6 M7 h7 h8 f2 hw2)
  isplitl [HN]; · iexact HN
  isplitl [H2]; · iexact H2
  iintro ⟨HN, H2⟩
  iapply (await_spec i M3 f3 W)
  isplitl [HB]; · iexact HB
  isplitl [H3]; · iexact H3
  isplitl [HO]; · iexact HO
  iintro ⟨HF, H3, HO⟩
  unfold Full
  icases HF with ⟨HF, Hc, HY⟩
  dsimp only
  rw [Sem.wp_bind]
  iapply (part2_spec i M1 h1 M2 h2 M3 h3 M4 h4 M5 h5 h6 M7 h7 h8)
  isplitl [HF]; · iexact HF
  iintro HF
  dsimp only
  rw [Sem.wp_bind]
  iapply (part3_spec i M1 h1 M2 h2 M3 h3 M4 h4 M5 h5 h6 M7 h7 h8)
  isplitl [HF]; · iexact HF
  iintro HF
  dsimp only
  sl_exec
  sl_step
  iapply Hk
  isplitl [HN]; · iexact HN
  isplitl [HF Hc HY]
  · iapply full_free
    unfold Full
    isplitl [HF]; · iexact HF
    isplitl [Hc] <;> iassumption
  isplitl [H1]; · iexact H1
  isplitl [H2]; · iexact H2
  isplitl [H3]; · iexact H3
  isplitl [H4]; · iexact H4
  isplitl [H5]; · iexact H5
  isplitl [H7]
  · iexists _
    isplitr; swap; · iexact H7
    ipureintro
    refine (read_store M7 f7 ![0, 0] (by intro a; fin_cases a <;> rfl) _ _).trans ?_
    exact congrArg₂ (k0_pay1 _ _) (read_all M4 f4 ![0, 0] (by intro a; fin_cases a <;> rfl) _) (read_all M5 f5 ![0, 0] (by intro a; fin_cases a <;> rfl) _)
  iexact HO

end Point

end Cert.Kernel4Ideal.Combine

end
-- ==== Proof.CombineLaunch.lean ====
/- The combine call's run: 32 grid points over the point's run.

   Between points the slot of the next point is busy with its copies, the other free; before the first and after the last
   both are free. -/
module

public import proofs.«01_k».proof.Proof.CombineBody
public import proofs.«01_k».proof.Proof.Gen.Kernel4Ideal.Frame
public import Idealize.ShloMosaic.Lib.Pipeline.Frame
public import Idealize.ShloMosaic.Lib.Pipeline.FrameBody

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Pipeline (Dat BodyObligation)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The arrays the call finds -/

/-- Place `q` of the word array. -/
def wordIdx (q : ℕ) : S32768.Idx := fun a => match a with | ⟨0, _⟩ => ⟨q % 32768, Nat.mod_lt q (show 0 < 32768 by decide)⟩

/-- The call's words, those of point `t`, and the expert buffer. -/
def pos (c : Dev nD) (q : ℕ) : BitVec 32 := (V m c main_v0 : S32768.Idx → Elt F .i32) (wordIdx q)
def wordsAt (c : Dev nD) (t q : ℕ) : BitVec 32 := pos m c (1024 * t + q % 1024)
abbrev buffer (c : Dev nD) : Bf (F := F) c ys := V m c main_arg4

/-- On every core every word names a slot. -/
def AllOK : Prop := ∀ c q, (pos m c q).toNat < 49152

/-! ## The staged words -/

theorem start0 : ∀ t : Fin cfg0.N, cc0_transform_0 (grid0.coords t) 0 = t.val :=
  (by decide +kernel : ∀ t : Fin grid0.N, cc0_transform_0 (grid0.coords t) 0 = t.val)
theorem start1 : ∀ t : Fin cfg0.N, cc0_transform_1 (grid0.coords t) 0 = min (t.val + 1) 31 :=
  (by decide +kernel : ∀ t : Fin grid0.N, cc0_transform_1 (grid0.coords t) 0 = min (t.val + 1) 31)
theorem coord_0 : ∀ t : Fin grid0.N, (grid0.coords t 0).val = t.val := by decide +kernel

theorem t_lt (t : Fin cfg0.N) : t.val < 32 := lt_of_lt_of_eq t.isLt N_0

theorem word_block0 (c : Dev nD) (t : Fin cfg0.N) (q : ℕ) :
    (iblk m c 0 t : S1024.Idx → Elt F .i32) (place q) = wordsAt m c t.val q := by
  have ht := t_lt t
  refine congrArg (V m c main_v0 : S32768.Idx → Elt F .i32) (funext fun a => Fin.ext ?_)
  fin_cases a
  show cc0_transform_0 (grid0.coords t) 0 * 1024 + 1 * (q % 1024) = (1024 * t.val + q % 1024) % 32768
  rw [start0 t]; omega

theorem word_block1 (c : Dev nD) (t : Fin cfg0.N) (q : ℕ) :
    (iblk m c 1 t : S1024.Idx → Elt F .i32) (place q) = wordsAt m c (min (t.val + 1) 31) q := by
  have ht := t_lt t
  refine congrArg (V m c main_v0 : S32768.Idx → Elt F .i32) (funext fun a => Fin.ext ?_)
  fin_cases a
  show cc0_transform_1 (grid0.coords t) 0 * 1024 + 1 * (q % 1024) = (1024 * (min (t.val + 1) 31) + q % 1024) % 32768
  rw [start1 t]; omega

/-! ## The proof data -/

/-- The block point `t` leaves. -/
def outBlock (c : Dev nD) (t : Fin cfg0.N) : S512x1024.Idx → Elt F .f32 :=
  outOf (wordsAt m c t.val) (buffer m c) (iblk m c 2 t) (iblk m c 3 t) (iblk m c 4 t)

/-- What passes from point to point. -/
def Inv (c : Dev nD) (t : ℕ) : sProp 𝕄 :=
  iprop(St c (t % 2) t (wordsAt m c t) (buffer m c) ∗ Free c (1 - t % 2) (buffer m c) ∗ ∃ r, prngReg c r)

def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ t := Inv m c t.val
  q w := Pipeline.shareOf spec0 w
  owed _ := 0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl

omit [FloatOps F] in
/-- A whole memref owned at contents `X`: its buffer whole, at contents that read `X`. -/
theorem owned_whole (c : Dev nD) {sp : Space} {S : Shape} {e : EltTy} (M : Memref sig .tc sp S e) (h : M.IsWhole) (X : S.Idx → Elt F e) :
    (owns (c : Thread nD τ) M fullShare X : sProp 𝕄)
      = iprop(∃ f, ⌜M.view.read (Elt F) f = X⌝ ∗ (M.view.loc (c : Thread nD τ) ↦{fullShare} f)) := by
  unfold owns; rw [h.set_eq_univ]

/-- After the last point a slot's words do not matter. -/
theorem st_next (c : Dev nD) (s : ℕ) {t : ℕ} (Y : Bf (F := F) c ys) :
    (St c s (t + 1) (wordsAt m c (min (t + 1) 31)) Y : sProp 𝕄) = St c s (t + 1) (wordsAt m c (t + 1)) Y := by
  unfold St
  by_cases h : 32 ≤ t + 1
  · rw [if_pos (Or.inr h), if_pos (Or.inr h)]
  · rw [show min (t + 1) 31 = t + 1 by omega]

set_option maxRecDepth 16384 in
set_option maxHeartbeats 1000000 in
/-- One grid point against the invariant, its staged blocks named. -/
theorem point_step [∀ e, Nonempty (Elt F e)] (hok : AllOK m) (c : Dev nD) (t : Fin cfg0.N)
    (M1 : Memref sig .tc .smem S1024 .i32) (h1 : M1.IsWhole) (M2 : Memref sig .tc .smem S1024 .i32) (h2 : M2.IsWhole)
    (M3 : Memref sig .tc .vmem S512x128 .f32) (h3 : M3.IsWhole) (M4 : Memref sig .tc .vmem S512x1024 .f32) (h4 : M4.IsWhole) (M5 : Memref sig .tc .vmem S1x1024 .f32) (h5 : M5.IsWhole)
    (M7 : Memref sig .tc .vmem S512x1024 .f32) (h7 : M7.IsWhole)
    {T1 T2 T3 T4 T5 T7 : Type} (X1 : T1 → S1024.Idx → Elt F .i32) (e1 : ∀ d, X1 d = iblk m c 0 t) (X2 : T2 → S1024.Idx → Elt F .i32) (e2 : ∀ d, X2 d = iblk m c 1 t)
    (X3 : T3 → S512x128.Idx → Elt F .f32) (e3 : ∀ d, X3 d = iblk m c 2 t) (X4 : T4 → S512x1024.Idx → Elt F .f32) (e4 : ∀ d, X4 d = iblk m c 3 t)
    (X5 : T5 → S1x1024.Idx → Elt F .f32) (e5 : ∀ d, X5 d = iblk m c 4 t) (X7 : T7 → S512x1024.Idx → Elt F .f32) :
    iprop(Inv m c t.val ∗ (dats m 0 c).owesAt () t.castSucc ∗ (∃ d, owns (c : Thread nD τ) M1 fullShare (X1 d)) ∗ (∃ d, owns (c : Thread nD τ) M2 fullShare (X2 d))
        ∗ (∃ d, owns (c : Thread nD τ) M3 fullShare (X3 d)) ∗ (∃ d, owns (c : Thread nD τ) M4 fullShare (X4 d)) ∗ (∃ d, owns (c : Thread nD τ) M5 fullShare (X5 d))
        ∗ (∃ d, owns (c : Thread nD τ) M7 fullShare (X7 d)))
      ⊢ wp frame (wpE (defs₀ (F := F)) Variants.none (c : Thread nD τ) none) Set.univ
          (cc0_moe_combine (grid0.coords t) M1 h1 M2 h2 M3 h3 M4 h4 M5 h5 ys (Memref.isWhole_whole _) M7 h7 bufs (Memref.isWhole_whole _) cc0_scratch1)
          fun _ => iprop(Inv m c (t.val + 1) ∗ (dats m 0 c).owesAt () t.succ ∗ owns (c : Thread nD τ) M1 fullShare (iblk m c 0 t) ∗ owns (c : Thread nD τ) M2 fullShare (iblk m c 1 t)
            ∗ owns (c : Thread nD τ) M3 fullShare (iblk m c 2 t) ∗ owns (c : Thread nD τ) M4 fullShare (iblk m c 3 t) ∗ owns (c : Thread nD τ) M5 fullShare (iblk m c 4 t)
            ∗ owns (c : Thread nD τ) M7 fullShare (outBlock m c t)) := by
  have ht := t_lt t
  unfold Dat.owesAt Pipeline.owesWithin Inv
  rw [show (dats m 0 c).owed t.castSucc = 0 from rfl, show (dats m 0 c).owed t.succ = 0 from rfl]
  simp only [owned_whole _ _ h1, owned_whole _ _ h2, owned_whole _ _ h3, owned_whole _ _ h4, owned_whole _ _ h5, owned_whole _ _ h7]
  iintro ⟨⟨HS, HN, Hp⟩, ⟨%W, %hW, HO⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d7, %f7, %hf7, H7⟩⟩
  rw [e1] at hf1
  rw [e2] at hf2
  rw [e3] at hf3
  rw [e4] at hf4
  rw [e5] at hf5
  have w1 : word M1 (c := c) f1 = wordsAt m c t.val := funext fun q => by unfold word; rw [hf1]; exact word_block0 m c t q
  have w2 : word M2 (c := c) f2 = wordsAt m c (min (t.val + 1) 31) := funext fun q => by unfold word; rw [hf2]; exact word_block1 m c t q
  have hp := run_point (c := c) (Y := buffer m c) (grid0.coords t) M1 h1 M2 h2 M3 h3 M4 h4 M5 h5 (Memref.isWhole_whole _) M7 h7 (Memref.isWhole_whole _) f1 f2 f3 f4 f5 f7
    (fun q _ => by rw [w1]; exact hok c _) (fun q _ => by rw [w2]; exact hok c _) W
  rw [coord_0 t, w1, w2, st_next, hf3, hf4, hf5, show 1 - t.val % 2 = (t.val + 1) % 2 by omega] at hp
  rw [show 1 - (t.val + 1) % 2 = t.val % 2 by omega, show 1 - t.val % 2 = (t.val + 1) % 2 by omega]
  iapply (hp _)
  isplitl [HS]; · iexact HS
  isplitl [HN]; · iexact HN
  isplitl [H1]; · iexact H1
  isplitl [H2]; · iexact H2
  isplitl [H3]; · iexact H3
  isplitl [H4]; · iexact H4
  isplitl [H5]; · iexact H5
  isplitl [H7]; · iexact H7
  isplitl [HO]; · iexact HO
  iintro ⟨HS, HN, H1, H2, H3, H4, H5, ⟨%f', %hf', H7⟩, ⟨%W', HO⟩⟩
  isplitl [HS HN Hp]
  · isplitl [HS]; · iexact HS
    isplitl [HN]; · iexact HN
    iexact Hp
  isplitl [HO]
  · iexists W'; isplitr; · ipureintro; exact fun _ _ => Or.inl trivial
    iexact HO
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  iexists f'; isplitr; swap; (· iexact H7); ipureintro; exact hf'

set_option maxRecDepth 16384 in
/-- Every grid point against the invariant. -/
theorem body_obligation [∀ e, Nonempty (Elt F e)] (hok : AllOK m) (c : Dev nD) :
    BodyObligation (dats m 0 c) (defs₀ (F := F)) Variants.none () Set.univ := fun t => by
  rw [bigSep_W0, bigSep_W0]
  exact point_step m hok c t _ (stage_whole0 0 _) _ (stage_whole0 1 _) _ (stage_whole0 2 _) _ (stage_whole0 3 _) _ (stage_whole0 4 _) _ (stage_whole0 5 _)
    _ (before_0 m c t) _ (before_1 m c t) _ (before_2 m c t) _ (before_3 m c t) _ (before_4 m c t) _

/-! ## The invariant's ends -/

/-- The call's own semaphores. -/
def osem : Fin 2 → SemLoc sig := fun k => SemLoc.dma (cell k.val)

theorem ownSemFacts : Pipeline.OwnSemFacts spec0 osem := by decide

omit [FloatOps F] in
theorem sems_eq (c : Dev nD) :
    (Pipeline.ownSems0 (Ix := Unit) (Name := ℕ) (U := UD sig nD τ) (Lvl := ℕ) (Val := Elt F) (τ := τ) osem c : sProp 𝕄)
      = iprop(semVal ((c : Thread nD τ), SemLoc.dma (cell 0)) 0 ∗ semVal ((c : Thread nD τ), SemLoc.dma (cell 1)) 0) :=
  Pipeline.ownSems0_eq_of_list c osem [0, 1] (by decide) (by decide)

omit [FloatOps F] in
theorem held_one (c : Dev nD) (W : (c : Dev nD) → (b : Ref sig .tc) → Buf (Elt F) ((c : Thread nD τ).loc b)) :
    (bigSep ({main_arg4} : Finset (Ref sig .tc)) (fun b => ((c : Thread nD τ).loc b) ↦{fullShare} W c b) : sProp 𝕄)
      = (((c : Thread nD τ).loc main_arg4) ↦{fullShare} W c main_arg4) :=
  bigSep_eq_bigSepL_of_eq [main_arg4] (by decide) (by decide) _

omit [FloatOps F] in
theorem halves (c : Dev nD) (Y : Bf (F := F) c ys) :
    (ys.view.loc (c : Thread nD τ) ↦{fullShare} Y : sProp 𝕄) ⊣⊢ iprop((ys.view.loc (c : Thread nD τ) ↦{half 0} Y) ∗ ys.view.loc (c : Thread nD τ) ↦{half 1} Y) :=
  pointsTo_share (PosShare.mem_left_op_right fullShare)

omit [FloatOps F] in
theorem slots_open (c : Dev nD) : (iprop(∃ f : Bf (F := F) c bufs, bufs.view.loc (c : Thread nD τ) ↦{fullShare} f) : sProp 𝕄)
    ⊢ iprop((∃ f, bufs.view.loc (c : Thread nD τ) ↦[slotSet 0]{fullShare} f) ∗ ∃ f, bufs.view.loc (c : Thread nD τ) ↦[slotSet 1]{fullShare} f) := by
  iintro ⟨%f, H⟩
  have e : (bufs.view.loc (c : Thread nD τ) ↦{fullShare} f : sProp 𝕄)
      ⊢ iprop((bufs.view.loc (c : Thread nD τ) ↦[slotSet 0]{fullShare} f) ∗ bufs.view.loc (c : Thread nD τ) ↦[slotSet 1]{fullShare} f) := by
    rw [← slots_all]
    exact (pointsTo_union slots_disjoint).1
  ihave H := e $$ H
  icases H with ⟨H0, H1⟩
  isplitl [H0]
  · iexists f; iexact H0
  · iexists f; iexact H1

omit [FloatOps F] in
theorem slots_close (c : Dev nD) : (iprop((∃ f, bufs.view.loc (c : Thread nD τ) ↦[slotSet 0]{fullShare} f) ∗ ∃ f, bufs.view.loc (c : Thread nD τ) ↦[slotSet 1]{fullShare} f) : sProp 𝕄)
    ⊢ iprop(∃ f : Bf (F := F) c bufs, bufs.view.loc (c : Thread nD τ) ↦{fullShare} f) := by
  iintro ⟨⟨%f, H0⟩, ⟨%g, H1⟩⟩
  iexists ((slotSet 1).piecewise g f)
  have e : (iprop((bufs.view.loc (c : Thread nD τ) ↦[slotSet 0]{fullShare} f) ∗ bufs.view.loc (c : Thread nD τ) ↦[slotSet 1]{fullShare} g) : sProp 𝕄)
      ⊢ bufs.view.loc (c : Thread nD τ) ↦{fullShare} ((slotSet 1).piecewise g f) := by
    rw [← slots_all]
    exact pointsTo_join slots_disjoint
  iapply e
  isplitl [H0]; · iexact H0
  iexact H1

theorem inv_first (c : Dev nD) : Pipeline.ΦD osem spec0 {main_arg4} (V m) c ⊢ (Inv m c 0 : sProp 𝕄) := by
  unfold Inv
  rw [show (St c (0 % 2) 0 (wordsAt m c 0) (buffer m c) : sProp 𝕄) = Free c 0 (buffer m c) from if_pos (Or.inl rfl), show 1 - 0 % 2 = 1 from rfl,
    Pipeline.ΦD_eq, scopedRest0_eq, sems_eq, held_one]
  unfold Free
  iintro ⟨HB, Hp, ⟨S0, S1⟩, HY⟩
  ihave HB := (slots_open c) $$ HB
  ihave HY := (halves c (buffer m c)).1 $$ HY
  icases HB with ⟨B0, B1⟩
  icases HY with ⟨Y0, Y1⟩
  isplitl [B0 S0 Y0]
  · isplitl [B0]; · iexact B0
    isplitl [S0] <;> iassumption
  isplitl [B1 S1 Y1]
  · isplitl [B1]; · iexact B1
    isplitl [S1] <;> iassumption
  iexact Hp

theorem inv_last (c : Dev nD) : (Inv m c 32 : sProp 𝕄) ⊢ Pipeline.ΦD osem spec0 {main_arg4} (V m) c := by
  unfold Inv
  rw [show (St c (32 % 2) 32 (wordsAt m c 32) (buffer m c) : sProp 𝕄) = Free c 0 (buffer m c) from if_pos (Or.inr le_rfl), show 1 - 32 % 2 = 1 from rfl,
    Pipeline.ΦD_eq, scopedRest0_eq, sems_eq, held_one]
  unfold Free
  iintro ⟨⟨B0, S0, Y0⟩, ⟨B1, S1, Y1⟩, Hp⟩
  isplitl [B0 B1]
  · iapply (slots_close c)
    isplitl [B0] <;> iassumption
  isplitl [Hp]; · iexact Hp
  isplitl [S0 S1]
  · isplitl [S0] <;> iassumption
  iapply (halves c (buffer m c)).2
  isplitl [Y0] <;> iassumption

/-! ## The launch -/

theorem read_rest : ({main_arg4} : Finset (Ref sig .tc)) ⊆ Pipeline.restRefs sig spec0 := by decide

/-- From any memory with zero counters whose words name slots: every weakly fair execution terminates, the result at its
    blocks, the rest as the call found it, every counter at zero. -/
theorem run_call [∀ e, Nonempty (Elt F e)] (hok : AllOK m) :
    θ_run defs (onTc (τ := τ) (main (F := F))) (s₀ m ρ)
      (fun r => Pipeline.FramePost cfgs (dats m) 0 (V m) r ∧ r.2.sem = fun _ => 0) :=
  Pipeline.θ_run_frame_dma_shared cfgs (dats m) 0 launch₀0 osem defs₀ Variants.none ownSemFacts {main_arg4} read_rest m ρ main
    (hbody := fun c => (body_obligation m hok c).loose) (hq := fun _ _ _ => rfl)
    (howed := fun _ _ => rfl) (V := V m)
    (hmain := Pipeline.hmain_prefix cfgs 0 defs₀ Variants.none m main hostOps0 hostOps0_sub hostOps0_fresh main_chain)
    (hA := fun _ _ => rfl) (hin := fun c => inv_first m c) (hout := fun c => inv_last m c) (Q' := _)

theorem rest_of (b : Ref sig .tc) (hs : b.isScoped = false) (h : ∀ w : Fin 6, (spec0 w).arr.view.ref ≠ b) : b ∈ Pipeline.restRefs sig spec0 :=
  Pipeline.mem_restRefs_of b hs h

/-- The call's run at the buffers a reader names. -/
theorem run_main [∀ e, Nonempty (Elt F e)] (hok : AllOK m) :
    θ_run defs (onTc (τ := τ) (main (F := F))) ⟨m, fun _ => 0, ρ⟩ (fun r => (∀ c : Dev nD,
        r.2.mem ((c : Thread nD τ).loc main_v2) = (dats m 0 c).arrAt 5 cfg0.N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) := by
  refine (θ_run defs _ _).mono (fun r h => ⟨fun c => ⟨?_, ?_, ?_, ?_, ?_, ?_⟩, h.2⟩) (run_call m ρ hok)
  · exact (h.1 c).1 5
  · exact ((h.1 c).2 main_arg0 (rest_of main_arg0 (by decide) (by decide))).trans (V_main_arg0 m c)
  · exact ((h.1 c).1 2).trans (((dats m 0 c).arrAt_in 2 rfl _).trans (V_main_arg1 m c))
  · exact ((h.1 c).1 3).trans (((dats m 0 c).arrAt_in 3 rfl _).trans (V_main_arg2 m c))
  · exact ((h.1 c).2 main_arg3 (rest_of main_arg3 (by decide) (by decide))).trans (V_main_arg3 m c)
  · exact ((h.1 c).2 main_arg4 (rest_of main_arg4 (by decide) (by decide))).trans (V_main_arg4 m c)

end Cert.Kernel4Ideal.Combine

end
-- ==== Proof.CombinePay.lean ====
/- The combine call over the extended reals: what one point of the kernel computes, and the reference's array, read at one row and column. -/
module

public import proofs.«01_k».proof.Proof.CombineBody
public import proofs.«01_k».proof.Proof.InprojPay
public import proofs.«01_k».proof.Proof.Gen.Reference4Ideal.Run
public import Idealize.ShloMosaic.Lib.Pointwise
public import Idealize.ShloMosaic.Lib.WordCmp
public import Idealize.ShloMosaic.Lib.Routing.Ops

@[expose] public section

set_option maxRecDepth 16384

noncomputable section

namespace Cert.Combine

open Idealize.ShloMosaic Idealize.ShloMosaic.TcCoe

/-- Entry `j` of a slot `p` of the expert buffer: eight rows of 128 to a slot. -/
def slotAt (y : FVec Ideal Kernel4Ideal.S393216x128 .f32) (p : ℕ) (j : Fin 1024) : EReal :=
  y (Kernel4Ideal.Combine.at2 (8 * p + j.val / 128) (j.val % 128))

/-- A token's row plus its two experts' rows, each times its gate. -/
def mixed (x : Fin 1024 → EReal) (u : EReal) (a : Fin 1024 → EReal) (v : EReal) (b : Fin 1024 → EReal) (j : Fin 1024) : EReal :=
  x j + (u * a j + v * b j)

end Cert.Combine

namespace Cert.Kernel4Ideal.Combine

open Idealize.ShloMosaic Idealize.ShloMosaic.TcCoe
open Cert.Kernel4Ideal Cert.Kernel4Ideal.Gen

theorem pay1_at (a b x : FVec Ideal S512x1024 .f32) (g : FVec Ideal S1x1024 .f32) (r : Fin 512) (k : Fin 1024) :
    k0_pay1 (F := Ideal) a b x g (ix2 r k)
      = Cert.Inproj.normed (fun j => x (ix2 r j) + (a (ix2 r j) + b (ix2 r j))) (fun j => g (ix2 0 j)) k := by
  pointwise [k0_pay1]
  rfl

theorem pay2_at (m : FVec Ideal S512x128 .f32) (r : Fin 512) : k0_pay2 (F := Ideal) m (ix2 r 0) = m (ix2 r 2) := by
  pointwise [k0_pay2]

theorem pay3_at (m : FVec Ideal S512x128 .f32) (r : Fin 512) : k0_pay3 (F := Ideal) m (ix2 r 0) = m (ix2 r 3) := by
  pointwise [k0_pay3]

/-- The eight lane groups of the slots the `i`-th words name, side by side: the slots' rows. -/
theorem pay4_at {c : Dev nD} (u : FVec Ideal S512x1 .f32) (w : ℕ → BitVec 32) (Y : Bf (F := Ideal) c ys) (i : ℕ) (r : Fin 512) (k : Fin 1024) :
    k0_pay4 (F := Ideal) u (lanes w Y i 0) (lanes w Y i 1) (lanes w Y i 2) (lanes w Y i 3) (lanes w Y i 4) (lanes w Y i 5) (lanes w Y i 6) (lanes w Y i 7) (ix2 r k)
      = u (ix2 r 0) * Cert.Combine.slotAt Y (w (2 * r.val + i)).toNat k := by
  have hk := k.isLt
  have hl : ∀ (g : ℕ) (l : Fin 128), k.val = 128 * g + l.val → lanes w Y i g (ix2 r l) = Cert.Combine.slotAt Y (w (2 * r.val + i)).toNat k := fun g l e =>
    congrArg Y (congrArg₂ at2 (show 8 * (w (2 * r.val + i)).toNat + g = 8 * (w (2 * r.val + i)).toNat + k.val / 128 by omega) (show l.val = k.val % 128 by omega))
  pointwise [k0_pay4]
  refine congrArg (u (ix2 r 0) * ·) ?_
  by_cases h0 : k.val < 128
  · rw [dif_pos h0]; exact hl 0 _ (show k.val = 128 * 0 + k.val by omega)
  rw [dif_neg h0]
  by_cases h1 : k.val - 128 < 128
  · rw [dif_pos h1]; exact hl 1 _ (show k.val = 128 * 1 + (k.val - 128) by omega)
  rw [dif_neg h1]
  by_cases h2 : k.val - 128 - 128 < 128
  · rw [dif_pos h2]; exact hl 2 _ (show k.val = 128 * 2 + (k.val - 128 - 128) by omega)
  rw [dif_neg h2]
  by_cases h3 : k.val - 128 - 128 - 128 < 128
  · rw [dif_pos h3]; exact hl 3 _ (show k.val = 128 * 3 + (k.val - 128 - 128 - 128) by omega)
  rw [dif_neg h3]
  by_cases h4 : k.val - 128 - 128 - 128 - 128 < 128
  · rw [dif_pos h4]; exact hl 4 _ (show k.val = 128 * 4 + (k.val - 128 - 128 - 128 - 128) by omega)
  rw [dif_neg h4]
  by_cases h5 : k.val - 128 - 128 - 128 - 128 - 128 < 128
  · rw [dif_pos h5]; exact hl 5 _ (show k.val = 128 * 5 + (k.val - 128 - 128 - 128 - 128 - 128) by omega)
  rw [dif_neg h5]
  by_cases h6 : k.val - 128 - 128 - 128 - 128 - 128 - 128 < 128
  · rw [dif_pos h6]; exact hl 6 _ (show k.val = 128 * 6 + (k.val - 128 - 128 - 128 - 128 - 128 - 128) by omega)
  rw [dif_neg h6]
  exact hl 7 _ (show k.val = 128 * 7 + (k.val - 128 - 128 - 128 - 128 - 128 - 128 - 128) by omega)

theorem pay5_eq (u : FVec Ideal S512x1 .f32) (l0 l1 l2 l3 l4 l5 l6 l7 : FVec Ideal S512x128 .f32) :
    k0_pay5 (F := Ideal) u l0 l1 l2 l3 l4 l5 l6 l7 = k0_pay4 u l0 l1 l2 l3 l4 l5 l6 l7 := rfl

/-- The block of a point, at row `r` and column `k`. -/
theorem outOf_at {c : Dev nD} (w : ℕ → BitVec 32) (Y : Bf (F := Ideal) c ys) (m : FVec Ideal S512x128 .f32) (x : FVec Ideal S512x1024 .f32) (g : FVec Ideal S1x1024 .f32)
    (r : Fin 512) (k : Fin 1024) :
    outOf (F := Ideal) w Y m x g (ix2 r k)
      = Cert.Inproj.normed (Cert.Combine.mixed (fun j => x (ix2 r j)) (m (ix2 r 2)) (Cert.Combine.slotAt Y (w (2 * r.val + 0)).toNat)
          (m (ix2 r 3)) (Cert.Combine.slotAt Y (w (2 * r.val + 1)).toNat)) (fun j => g (ix2 0 j)) k := by
  unfold outOf
  rw [pay1_at, pay5_eq]
  congr 1
  funext j
  rw [pay4_at, pay4_at, pay2_at, pay3_at]
  rfl

end Cert.Kernel4Ideal.Combine

namespace Cert.Reference4Ideal.Combine

open Idealize.ShloMosaic Idealize.ShloMosaic.TcCoe
open Cert.Reference4Ideal Cert.Reference4Ideal.Gen

/-- The words of one column, each below zero counted from the end. -/
def wrapped (v : IVec S16384 32) : IVec S16384x1 32 :=
  broadcastInDim S16384x1 ![0] bcast_S16384_S16384x1_0 (select (cmpi .slt v (broadcastInDim S16384 ![] bcast_S_S16384 (constantI S_ 32 0#32))) (addi v (broadcastInDim S16384 ![] bcast_S_S16384 (constantI S_ 32 49152#32))) v)

/-- The tokens' first words, and their second ones. -/
def first (a : IVec S16384x2 32) : IVec S16384 32 :=
  shapeCast _ (extractStridedSlice S16384x1 ![0, 0] a slices_S16384x2_S16384x1_0_0) shapeCasts_S16384x1_S16384
def second (a : IVec S16384x2 32) : IVec S16384 32 :=
  shapeCast _ (extractStridedSlice S16384x1 ![0, 1] a slices_S16384x2_S16384x1_0_1) shapeCasts_S16384x1_S16384

/-- The slots that one column of words names. -/
def taken (y : FVec Ideal S393216x128 .f32) (v : IVec S16384 32) : FVec Ideal S16384x1024 .f32 :=
  Host.gather gather_S49152x1024_S16384x1_S16384x1024_1_0_n_n_0_1_11024 (shapeCast _ y shapeCasts_S393216x128_S49152x1024) (wrapped v)

/-- The rows before the norm. -/
def mixed (a : IVec S16384x2 32) (m : FVec Ideal S16384x128 .f32) (h : FVec Ideal S16384x1024 .f32) (y : FVec Ideal S393216x128 .f32) : FVec Ideal S16384x1024 .f32 :=
  addf h (addf (mulf (broadcastInDim S16384x1024 ![0, 1] bcast_S16384x1_S16384x1024_0_1 (extractStridedSlice S16384x1 ![0, 2] m slices_S16384x128_S16384x1_0_2)) (taken y (first a)))
    (mulf (broadcastInDim S16384x1024 ![0, 1] bcast_S16384x1_S16384x1024_0_1 (extractStridedSlice S16384x1 ![0, 3] m slices_S16384x128_S16384x1_0_3)) (taken y (second a))))

/-- The norm. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The result. -/
def result (a : IVec S16384x2 32) (m : FVec Ideal S16384x128 .f32) (h : FVec Ideal S16384x1024 .f32) (g : FVec Ideal S1024 .f32) (y : FVec Ideal S393216x128 .f32) : FVec Ideal S16384x1024 .f32 :=
  normed (mixed a m h y) g

theorem first_at (a : IVec S16384x2 32) (r : Fin 16384) : first a (ix1 r) = a (ix2 r 0) := by
  pointwise [first]

theorem second_at (a : IVec S16384x2 32) (r : Fin 16384) : second a (ix1 r) = a (ix2 r 1) := by
  pointwise [second]

/-- A word that names a slot is read as it stands. -/
theorem wrapped_at (v : IVec S16384 32) (r : Fin 16384) (h : (v (ix1 r)).toNat < 49152) : wrapped v (ix2 r 0) = v (ix1 r) := by
  pointwise [wrapped]
  rw [WordCmp.cmpi_slt_zero, show decide (2 ^ (32 - 1) ≤ (v (ix1 r)).toNat) = false from decide_eq_false (by omega)]
  exact ValueIdx.select_zero _ _

/-- The expert buffer with a slot to a row. -/
theorem row_at (y : FVec Ideal S393216x128 .f32) (p : Fin 49152) (k : Fin 1024) :
    shapeCast S49152x1024 y shapeCasts_S393216x128_S49152x1024 (ix2 p k)
      = y (ix2 ⟨p.val * 8 + k.val / 128, by omega⟩ ⟨k.val % 128, by omega⟩) := by
  pointwise

theorem taken_at (y : FVec Ideal S393216x128 .f32) (v : IVec S16384 32) (r : Fin 16384) (k : Fin 1024) (h : (v (ix1 r)).toNat < 49152) :
    taken y v (ix2 r k) = Cert.Combine.slotAt y (v (ix1 r)).toNat k := by
  have hk := k.isLt
  unfold taken
  refine (Routing.gather_row (nb := 49152) (B := 1024) (n := 16384) gather_S49152x1024_S16384x1_S16384x1024_1_0_n_n_0_1_11024 rfl rfl rfl rfl rfl
    (shapeCast S49152x1024 y shapeCasts_S393216x128_S49152x1024) (wrapped v) r k ⟨(v (ix1 r)).toNat, h⟩
    ((wrapped_at v r h).trans (BitVec.eq_of_toNat_eq (by rw [BitVec.toNat_ofNat, Nat.mod_eq_of_lt (by omega)]))) (by decide)).trans ?_
  generalize (v (ix1 r)).toNat = p at h
  refine (row_at y ⟨p, h⟩ k).trans ?_
  exact congrArg y (funext fun a => Fin.ext (by
    fin_cases a
    · show p * 8 + k.val / 128 = (8 * p + k.val / 128) % 393216
      omega
    · show k.val % 128 = k.val % 128 % 128
      omega))

theorem mixed_at (a : IVec S16384x2 32) (m : FVec Ideal S16384x128 .f32) (h : FVec Ideal S16384x1024 .f32) (y : FVec Ideal S393216x128 .f32) (r : Fin 16384) (k : Fin 1024)
    (h0 : (a (ix2 r 0)).toNat < 49152) (h1 : (a (ix2 r 1)).toNat < 49152) :
    mixed a m h y (ix2 r k) = Cert.Combine.mixed (fun j => h (ix2 r j)) (m (ix2 r 2)) (Cert.Combine.slotAt y (a (ix2 r 0)).toNat)
      (m (ix2 r 3)) (Cert.Combine.slotAt y (a (ix2 r 1)).toNat) k := by
  pointwise [mixed]
  rw [taken_at _ _ _ _ (by rw [first_at]; exact h0), taken_at _ _ _ _ (by rw [second_at]; exact h1), first_at, second_at]
  rfl

theorem normed_at (x : FVec Ideal S16384x1024 .f32) (g : FVec Ideal S1024 .f32) (r : Fin 16384) (k : Fin 1024) :
    normed x g (ix2 r k) = Cert.Inproj.normed (fun j => x (ix2 r j)) (fun j => g (ix1 j)) k := by
  pointwise [normed]
  rfl

theorem result_at (a : IVec S16384x2 32) (m : FVec Ideal S16384x128 .f32) (h : FVec Ideal S16384x1024 .f32) (g : FVec Ideal S1024 .f32) (y : FVec Ideal S393216x128 .f32)
    (r : Fin 16384) (k : Fin 1024) (h0 : (a (ix2 r 0)).toNat < 49152) (h1 : (a (ix2 r 1)).toNat < 49152) :
    result a m h g y (ix2 r k) = Cert.Inproj.normed (Cert.Combine.mixed (fun j => h (ix2 r j)) (m (ix2 r 2)) (Cert.Combine.slotAt y (a (ix2 r 0)).toNat)
      (m (ix2 r 3)) (Cert.Combine.slotAt y (a (ix2 r 1)).toNat)) (fun j => g (ix1 j)) k := by
  unfold result
  rw [normed_at, show (fun j => mixed a m h y (ix2 r j)) = _ from funext fun j => mixed_at a m h y r j h0 h1]

end Cert.Reference4Ideal.Combine

end
-- ==== Proof.CombineValue.lean ====
/- The combine call's result array is the reference's, block by block. -/
module

public import proofs.«01_k».proof.Defs
public import proofs.«01_k».proof.Proof.CombineLaunch
public import proofs.«01_k».proof.Proof.CombinePay
public import proofs.«01_k».proof.Proof.Gen.Pre_slots_named
public import Idealize.ShloMosaic.Lib.Pipeline.ValueKit.Geometry
public import Idealize.ShloMosaic.Lib.WordCmp

@[expose] public section

set_option maxRecDepth 16384

noncomputable section

namespace Cert.Pre_slots_named

open Idealize.ShloMosaic

variable {F : FTy → Type} [FloatOps F]

/-- The precondition, read: every word names a slot. -/
theorem named (a : IVec S16384x2 32) (x : FVec F S16384x128 .f32) (h : FVec F S16384x1024 .f32) (g : FVec F S1024 .f32) (y : FVec F S393216x128 .f32)
    (e : fn a x h g y = fun _ => 1#1) (i : S16384x2.Idx) : (a i).toNat < 49152 := by
  have hi := congrFun e i
  have and_ones : ∀ {a b : BitVec 1}, IntOp.andi a b = 1#1 → a = 1#1 ∧ b = 1#1 := by
    intro a b; unfold IntOp.andi; revert a b; decide
  obtain ⟨h1, h2⟩ := and_ones (show IntOp.andi (IntOp.cmpi .sge (a i) 0#32) (IntOp.cmpi .slt (a i) 49152#32) = 1#1 from hi)
  rw [WordCmp.cmpi_sge_zero, WordCmp.ofBool_decide_eq_one_iff] at h1
  rw [WordCmp.cmpi_slt_of_lt h1 (by decide), WordCmp.ofBool_decide_eq_one_iff] at h2
  exact h2

end Cert.Pre_slots_named

namespace Cert.Kernel4Ideal.Combine

open Cert.Kernel4Ideal Cert.Kernel4Ideal.Gen
open Idealize.ShloMosaic Idealize.ShloMosaic.TcCoe Idealize.ShloMosaic.Tactic
open Idealize.ShloMosaic.Pipeline (Window)

/-! ## The words -/

section Words

variable {F : FTy → Type} [FloatOps F]
variable (m : (ℓ : Loc nD τ sig) → Buf (Elt F) ℓ)

/-- The call's words are the word table's entries in row order. -/
theorem pos_eq (c : Dev nD) (q : ℕ) :
    pos m c q = (shapeCast S32768 (m ((c : Thread nD τ).loc main_arg0) : S16384x2.Idx → BitVec 32) shapeCasts_S16384x2_S32768) (wordIdx q) := by
  unfold pos V; after_results; rfl

/-- From the precondition: on every core the words name slots. -/
theorem allOK_of (h : ∀ c : Dev nD, Cert.Pre_slots_named.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : AllOK m := fun c q => by
  rw [pos_eq]
  exact Cert.Pre_slots_named.named _ _ _ _ _ (h c) _

/-- Word `j` of token `r`, in row order. -/
theorem table_at (a : IVec S16384x2 32) (r : Fin 16384) (j : Fin 2) :
    shapeCast S32768 a shapeCasts_S16384x2_S32768 (ix1 ⟨2 * r.val + j.val, by omega⟩) = a (ix2 r j) := by
  pointwise

/-- The words of a point's token. -/
theorem wordsAt_at (c : Dev nD) (t : Fin 32) (r : Fin 512) (j : Fin 2) :
    wordsAt m c t.val (2 * r.val + j.val) = (m ((c : Thread nD τ).loc main_arg0) : IVec S16384x2 32) (ix2 ⟨512 * t.val + r.val, by omega⟩ j) := by
  unfold wordsAt
  rw [pos_eq]
  refine Eq.trans ?_ (table_at _ _ _)
  refine congrArg _ (funext fun b => Fin.ext ?_)
  fin_cases b
  show (1024 * t.val + (2 * r.val + j.val) % 1024) % 32768 = 2 * (512 * t.val + r.val) + j.val
  omega

end Words

/-! ## Where the blocks lie -/

theorem index_2_0 : ∀ t : Fin grid0.N, cc0_transform_2 (grid0.coords t) 0 = t.val := by decide +kernel
theorem index_2_1 : ∀ t : Fin grid0.N, cc0_transform_2 (grid0.coords t) 1 = 0 := by decide +kernel
theorem index_3_0 : ∀ t : Fin grid0.N, cc0_transform_3 (grid0.coords t) 0 = t.val := by decide +kernel
theorem index_3_1 : ∀ t : Fin grid0.N, cc0_transform_3 (grid0.coords t) 1 = 0 := by decide +kernel
theorem index_6_0 : ∀ t : Fin grid0.N, cc0_transform_6 (grid0.coords t) 0 = t.val := by decide +kernel
theorem index_6_1 : ∀ t : Fin grid0.N, cc0_transform_6 (grid0.coords t) 1 = 0 := by decide +kernel

theorem emb_2 (t : Fin cfg0.N) (y : S512x128.Idx) (i : S16384x128.Idx) (h0 : (i 0).val = 512 * t.val + (y 0).val) (h1 : (i 1).val = (y 1).val) :
    ((cfg0.win 2).blk t).view.emb y = i := by
  funext a
  refine Fin.ext ((Window.rect_emb_val (cfg0.win 2) t y a).trans ?_)
  fin_cases a
  · show cc0_transform_2 (grid0.coords t) 0 * 512 + (y 0).val = (i 0).val
    rw [index_2_0 t, h0]; omega
  · show cc0_transform_2 (grid0.coords t) 1 * 128 + (y 1).val = (i 1).val
    rw [index_2_1 t, h1]; omega

theorem emb_3 (t : Fin cfg0.N) (y : S512x1024.Idx) (i : S16384x1024.Idx) (h0 : (i 0).val = 512 * t.val + (y 0).val) (h1 : (i 1).val = (y 1).val) :
    ((cfg0.win 3).blk t).view.emb y = i := by
  funext a
  refine Fin.ext ((Window.rect_emb_val (cfg0.win 3) t y a).trans ?_)
  fin_cases a
  · show cc0_transform_3 (grid0.coords t) 0 * 512 + (y 0).val = (i 0).val
    rw [index_3_0 t, h0]; omega
  · show cc0_transform_3 (grid0.coords t) 1 * 1024 + (y 1).val = (i 1).val
    rw [index_3_1 t, h1]; omega

theorem emb_4 (t : Fin cfg0.N) (y : S1x1024.Idx) : ((cfg0.win 4).blk t).view.emb y = y := by
  funext a
  refine Fin.ext ((Window.rect_emb_val (cfg0.win 4) t y a).trans ?_)
  fin_cases a
  · show 0 * 1 + (y 0).val = (y 0).val
    omega
  · show 0 * 1024 + (y 1).val = (y 1).val
    omega

theorem emb_5 (t : Fin cfg0.N) (y : S512x1024.Idx) (i : S16384x1024.Idx) (h0 : (i 0).val = 512 * t.val + (y 0).val) (h1 : (i 1).val = (y 1).val) :
    ((cfg0.win 5).blk t).view.emb y = i := by
  funext a
  refine Fin.ext ((Window.rect_emb_val (cfg0.win 5) t y a).trans ?_)
  fin_cases a
  · show cc0_transform_6 (grid0.coords t) 0 * 512 + (y 0).val = (i 0).val
    rw [index_6_0 t, h0]; omega
  · show cc0_transform_6 (grid0.coords t) 1 * 1024 + (y 1).val = (i 1).val
    rw [index_6_1 t, h1]; omega

theorem cover_5 (i : S16384x1024.Idx) : ∃ t : Fin cfg0.N, ∃ y : S512x1024.Idx, ((cfg0.win 5).blk t).view.emb y = i := by
  have hi0 : (i 0).val < 16384 := (i 0).isLt
  refine ⟨⟨(i 0).val / 512, lt_of_lt_of_eq (show (i 0).val / 512 < 32 by omega) N_0.symm⟩, ix2 (⟨(i 0).val % 512, by omega⟩ : Fin 512) (⟨(i 1).val, (i 1).isLt⟩ : Fin 1024), ?_⟩
  exact emb_5 _ _ i (show (i 0).val = 512 * ((i 0).val / 512) + (i 0).val % 512 by omega) rfl

/-! ## What the blocks hold -/

section Arrays

variable (m : (ℓ : Loc nD τ sig) → Buf (Elt Ideal) ℓ)

theorem V_gains (c : Dev nD) : V m c main_v1 = shapeCast S1x1024 (m ((c.tc : Thread nD τ).loc main_arg3)) shapeCasts_S1024_S1x1024 := by
  unfold V
  after_results <;> rfl

theorem gains_at (g : FVec Ideal S1024 .f32) (k : Fin 1024) : shapeCast S1x1024 g shapeCasts_S1024_S1x1024 (ix2 0 k) = g (ix1 k) := by
  pointwise

theorem block_2 (c : Dev nD) (t : Fin cfg0.N) (a : Fin 512) (k : Fin 128) :
    (iblk m c 2 t : FVec Ideal S512x128 .f32) (ix2 a k)
      = (m ((c.tc : Thread nD τ).loc main_arg1) : FVec Ideal S16384x128 .f32) (ix2 ⟨512 * t.val + a.val, by have := t_lt t; omega⟩ k) := by
  have ht := t_lt t
  refine (congrArg (V m c main_arg1) (emb_2 t (ix2 a k) (ix2 ⟨512 * t.val + a.val, by omega⟩ k) rfl rfl)).trans ?_
  rw [V_main_arg1]

theorem block_3 (c : Dev nD) (t : Fin cfg0.N) (a : Fin 512) (k : Fin 1024) :
    (iblk m c 3 t : FVec Ideal S512x1024 .f32) (ix2 a k)
      = (m ((c.tc : Thread nD τ).loc main_arg2) : FVec Ideal S16384x1024 .f32) (ix2 ⟨512 * t.val + a.val, by have := t_lt t; omega⟩ k) := by
  have ht := t_lt t
  refine (congrArg (V m c main_arg2) (emb_3 t (ix2 a k) (ix2 ⟨512 * t.val + a.val, by omega⟩ k) rfl rfl)).trans ?_
  rw [V_main_arg2]

theorem block_4 (c : Dev nD) (t : Fin cfg0.N) (k : Fin 1024) :
    (iblk m c 4 t : FVec Ideal S1x1024 .f32) (ix2 0 k) = (m ((c.tc : Thread nD τ).loc main_arg3) : FVec Ideal S1024 .f32) (ix1 k) := by
  refine (congrArg (V m c main_v1) (emb_4 t (ix2 0 k))).trans ?_
  rw [V_gains]
  exact gains_at _ _

/-- The result of a core's arguments. -/
abbrev result (c : Dev nD) : S16384x1024.Idx → EReal :=
  Cert.Reference4Ideal.Combine.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable (hin : ∀ (c : Dev nD) (i : S16384x2.Idx), ((m ((c.tc : Thread nD τ).loc main_arg0) : IVec S16384x2 32) i).toNat < 49152)

include hin in
theorem left_at (c : Dev nD) (t : Fin cfg0.N) (a : Fin 512) (n : Fin 1024) :
    outBlock m c t (ix2 a n) = result m c (ix2 ⟨512 * t.val + a.val, by have := t_lt t; omega⟩ n) := by
  have ht := t_lt t
  unfold outBlock
  refine (outOf_at _ _ _ _ _ a n).trans (Eq.trans ?_ (Cert.Reference4Ideal.Combine.result_at _ _ _ _ _ _ _ (hin c _) (hin c _)).symm)
  have w0 := wordsAt_at m c ⟨t.val, ht⟩ a 0
  have w1 := wordsAt_at m c ⟨t.val, ht⟩ a 1
  rw [show wordsAt m c t.val (2 * a.val + 0) = _ from w0, show wordsAt m c t.val (2 * a.val + 1) = _ from w1, block_2, block_2,
    show (fun j => (iblk m c 3 t : FVec Ideal S512x1024 .f32) (ix2 a j)) = _ from funext fun j => block_3 m c t a j,
    show (fun j => (iblk m c 4 t : FVec Ideal S1x1024 .f32) (ix2 0 j)) = _ from funext fun j => block_4 m c t j,
    show (buffer m c) = m ((c.tc : Thread nD τ).loc main_arg4) from V_main_arg4 m c]

include hin in
theorem left (c : Dev nD) (t : Fin cfg0.N) (y : S512x1024.Idx) : outBlock m c t y = result m c (((cfg0.win 5).blk t).view.emb y) := by
  have ht := t_lt t
  have hy0 : (y 0).val < 512 := (y 0).isLt
  have e1 : y = ix2 (⟨(y 0).val, hy0⟩ : Fin 512) (⟨(y 1).val, (y 1).isLt⟩ : Fin 1024) := by
    funext a; fin_cases a <;> rfl
  rw [emb_5 t y (ix2 ⟨512 * t.val + (y 0).val, by omega⟩ ⟨(y 1).val, (y 1).isLt⟩) rfl rfl]
  exact (congrArg (outBlock m c t) e1).trans (left_at m hin c t ⟨(y 0).val, hy0⟩ ⟨(y 1).val, (y 1).isLt⟩)

include hin in
/-- The result array is the reference's. -/
theorem arr_5 (c : Dev nD) : (dats m 0 c).arrAt 5 cfg0.N = result m c := by
  refine (dats m 0 c).arrAt_eq_of_emb 5 (result m c) (fun t _ y => ?_) (fun i => ?_)
  · exact left m hin c t y
  · obtain ⟨t, y, h⟩ := cover_5 i
    refine ⟨t, flush0_5 t, ?_⟩
    rw [← h]
    exact View.emb_mem_set _ _

end Arrays

end Cert.Kernel4Ideal.Combine

end
-- ==== Proof.CombineClaims.lean ====
/- The combine call's claims: both frames from one run, the reference's frame, and its value over the extended reals. -/
module

public import proofs.«01_k».proof.Proof.CombineValue
public import proofs.«01_k».proof.Proof.Gen.Kernel4

@[expose] public section

noncomputable section

namespace Cert.Proof

open Idealize.ShloMosaic Idealize.ShloMosaic.TcCoe Idealize.SL.Sem

/-! ## The program over the words

`Kernel4` and `Kernel4Ideal` have the same text; their tables of bodies agree label by label. -/

set_option maxHeartbeats 8000000 in
theorem combine_bodies_eq : Cert.Kernel4.defs₀ (F := Bits) = Cert.Kernel4Ideal.defs₀ (F := Bits) := by
  unfold Cert.Kernel4.defs₀ Cert.Kernel4Ideal.defs₀
  refine congrArg _ (funext fun l => funext fun a => ?_)
  match l, a with
  | ⟨0, _⟩, (t, s) => rfl
  | ⟨_ + 1, h⟩, _ => exact absurd h (Nat.not_lt.2 (Nat.le_add_left _ _))

theorem combine_table_eq : Cert.Kernel4.defs (F := Bits) = Cert.Kernel4Ideal.defs (F := Bits) :=
  congrArg (Pipeline.defs Cert.Kernel4Ideal.pcfgs) combine_bodies_eq

/-! ## The frames -/

theorem frame_kernel4 : Cert.quiescent_Kernel4 := fun m ρ hpre => by
  rw [combine_table_eq]
  exact (θ_run Cert.Kernel4Ideal.defs _ _).mono (fun _ h => ⟨fun c => (h.1 c).2, h.2⟩)
    (Cert.Kernel4Ideal.Combine.run_main (F := Bits) m ρ (Cert.Kernel4Ideal.Combine.allOK_of (F := Bits) m hpre))

theorem frame_kernel4Ideal : Cert.quiescent_Kernel4Ideal := fun m ρ hpre =>
  (θ_run Cert.Kernel4Ideal.defs _ _).mono (fun _ h => ⟨fun c => (h.1 c).2, h.2⟩)
    (Cert.Kernel4Ideal.Combine.run_main (F := Ideal) m ρ (Cert.Kernel4Ideal.Combine.allOK_of (F := Ideal) m hpre))

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-! ## The value -/

set_option maxRecDepth 16384 in
open Cert.Reference4Ideal in
/-- The reference's run, its result named. -/
theorem combine_reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
        r.2.mem ((c.tc : Thread nD τ).loc main_v39) = Combine.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c => ⟨(h c).1.trans (by unfold Value.res_main_v39; rfl), (h c).2⟩) (Value.run (F := Ideal) m ρ)

/-- Over the extended reals the combine call and the reference leave the same array. -/
theorem value_combine : Cert.algebraic_Kernel4Ideal_Reference4Ideal := fun m ρ m' ρ' hpre hargs =>
  ⟨Cert.Kernel4Ideal.Combine.result m,
    (θ_run Cert.Kernel4Ideal.defs _ _).mono
      (fun _ h c => ⟨(h.1 c).1.trans (Cert.Kernel4Ideal.Combine.arr_5 m (fun c' => Cert.Pre_slots_named.named _ _ _ _ _ (hpre c')) c), (h.1 c).2⟩)
      (Cert.Kernel4Ideal.Combine.run_main (F := Ideal) m ρ (Cert.Kernel4Ideal.Combine.allOK_of (F := Ideal) m hpre)),
    (θ_run Cert.Reference4Ideal.defs _ _).mono
      (fun _ h c => ⟨(h c).1.trans (by rw [(hargs c).1, (hargs c).2.1, (hargs c).2.2.1, (hargs c).2.2.2.1, (hargs c).2.2.2.2]), (h c).2⟩)
      (combine_reference_run m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_counted
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Kernel4Ideal.Loops
public import proofs.«01_k».proof.Proof.Gen.Pre_slots_named
public import proofs.«01_k».proof.Proof.Gen.Kernel4.Frame
public import proofs.«01_k».proof.Proof.Gen.Reference4Ideal.Run
public import proofs.«01_k».proof.Proof.Gen.Reference4Ideal
public import proofs.«01_k».proof.Proof.DispatchClaims
public import proofs.«01_k».proof.Proof.GmmClaims
public import proofs.«01_k».proof.Proof.GmmValue
public import proofs.«01_k».proof.Proof.InprojClaims
public import proofs.«01_k».proof.Proof.CombineClaims

@[expose] public section

noncomputable section

namespace Cert.Proof

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_slots_apart.sides, Cert.Pre_counted.Gen.facts, Cert.Pre_slots_named.Gen.facts,
    frame_kernel, frame_kernelIdeal, frame_referenceIdeal, frame_reference, frame_kernel2, frame_kernel2Ideal, frame_reference2Ideal,
    frame_kernel3, frame_kernel3Ideal, frame_reference3Ideal,
    frame_kernel4, frame_kernel4Ideal, frame_reference4Ideal,
    trivial, value_ideal, value_bits, trivial, value_gmm, trivial, value_inproj, trivial, value_combine⟩

end Cert.Proof

end
